-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2.2.2.2.1 = (fun _ => 1#1)
    ∧ (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))).2.2.2.2.2 = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2.2.2.2.1 = (fun _ => 1#1)
    ∧ (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11)
      ∧ r.2.mem ((c.tc : Thread Cert.Kernel28.nD Cert.Kernel28.τ).loc Cert.Kernel28.main_arg12) = m ((c.tc : Thread Cert.Kernel28.nD Cert.Kernel28.τ).loc Cert.Kernel28.main_arg12)
      ∧ r.2.mem ((c.tc : Thread Cert.Kernel28.nD Cert.Kernel28.τ).loc Cert.Kernel28.main_arg13) = m ((c.tc : Thread Cert.Kernel28.nD Cert.Kernel28.τ).loc Cert.Kernel28.main_arg13)
      ∧ r.2.mem ((c.tc : Thread Cert.Kernel28.nD Cert.Kernel28.τ).loc Cert.Kernel28.main_arg14) = m ((c.tc : Thread Cert.Kernel28.nD Cert.Kernel28.τ).loc Cert.Kernel28.main_arg14)
      ∧ r.2.mem ((c.tc : Thread Cert.Kernel28.nD Cert.Kernel28.τ).loc Cert.Kernel28.main_arg15) = m ((c.tc : Thread Cert.Kernel28.nD Cert.Kernel28.τ).loc Cert.Kernel28.main_arg15)
      ∧ r.2.mem ((c.tc : Thread Cert.Kernel28.nD Cert.Kernel28.τ).loc Cert.Kernel28.main_arg16) = m ((c.tc : Thread Cert.Kernel28.nD Cert.Kernel28.τ).loc Cert.Kernel28.main_arg16)
      ∧ r.2.mem ((c.tc : Thread Cert.Kernel28.nD Cert.Kernel28.τ).loc Cert.Kernel28.main_arg17) = m ((c.tc : Thread Cert.Kernel28.nD Cert.Kernel28.τ).loc Cert.Kernel28.main_arg17)
      ∧ r.2.mem ((c.tc : Thread Cert.Kernel28.nD Cert.Kernel28.τ).loc Cert.Kernel28.main_arg18) = m ((c.tc : Thread Cert.Kernel28.nD Cert.Kernel28.τ).loc Cert.Kernel28.main_arg18)
      ∧ r.2.mem ((c.tc : Thread Cert.Kernel28.nD Cert.Kernel28.τ).loc Cert.Kernel28.main_arg19) = m ((c.tc : Thread Cert.Kernel28.nD Cert.Kernel28.τ).loc Cert.Kernel28.main_arg19)
      ∧ r.2.mem ((c.tc : Thread Cert.Kernel28.nD Cert.Kernel28.τ).loc Cert.Kernel28.main_arg20) = m ((c.tc : Thread Cert.Kernel28.nD Cert.Kernel28.τ).loc Cert.Kernel28.main_arg20)
      ∧ r.2.mem ((c.tc : Thread Cert.Kernel28.nD Cert.Kernel28.τ).loc Cert.Kernel28.main_arg21) = m ((c.tc : Thread Cert.Kernel28.nD Cert.Kernel28.τ).loc Cert.Kernel28.main_arg21)
      ∧ r.2.mem ((c.tc : Thread Cert.Kernel28.nD Cert.Kernel28.τ).loc Cert.Kernel28.main_arg22) = m ((c.tc : Thread Cert.Kernel28.nD Cert.Kernel28.τ).loc Cert.Kernel28.main_arg22)
      ∧ r.2.mem ((c.tc : Thread Cert.Kernel28.nD Cert.Kernel28.τ).loc Cert.Kernel28.main_arg23) = m ((c.tc : Thread Cert.Kernel28.nD Cert.Kernel28.τ).loc Cert.Kernel28.main_arg23)
      ∧ r.2.mem ((c.tc : Thread Cert.Kernel28.nD Cert.Kernel28.τ).loc Cert.Kernel28.main_arg24) = m ((c.tc : Thread Cert.Kernel28.nD Cert.Kernel28.τ).loc Cert.Kernel28.main_arg24)
      ∧ r.2.mem ((c.tc : Thread Cert.Kernel28.nD Cert.Kernel28.τ).loc Cert.Kernel28.main_arg25) = m ((c.tc : Thread Cert.Kernel28.nD Cert.Kernel28.τ).loc Cert.Kernel28.main_arg25)
      ∧ r.2.mem ((c.tc : Thread Cert.Kernel28.nD Cert.Kernel28.τ).loc Cert.Kernel28.main_arg26) = m ((c.tc : Thread Cert.Kernel28.nD Cert.Kernel28.τ).loc Cert.Kernel28.main_arg26)
      ∧ r.2.mem ((c.tc : Thread Cert.Kernel28.nD Cert.Kernel28.τ).loc Cert.Kernel28.main_arg27) = m ((c.tc : Thread Cert.Kernel28.nD Cert.Kernel28.τ).loc Cert.Kernel28.main_arg27)
      ∧ r.2.mem ((c.tc : Thread Cert.Kernel28.nD Cert.Kernel28.τ).loc Cert.Kernel28.main_arg28) = m ((c.tc : Thread Cert.Kernel28.nD Cert.Kernel28.τ).loc Cert.Kernel28.main_arg28)
      ∧ r.2.mem ((c.tc : Thread Cert.Kernel28.nD Cert.Kernel28.τ).loc Cert.Kernel28.main_arg29) = m ((c.tc : Thread Cert.Kernel28.nD Cert.Kernel28.τ).loc Cert.Kernel28.main_arg29)
      ∧ r.2.mem ((c.tc : Thread Cert.Kernel28.nD Cert.Kernel28.τ).loc Cert.Kernel28.main_arg30) = m ((c.tc : Thread Cert.Kernel28.nD Cert.Kernel28.τ).loc Cert.Kernel28.main_arg30)
      ∧ r.2.mem ((c.tc : Thread Cert.Kernel28.nD Cert.Kernel28.τ).loc Cert.Kernel28.main_arg31) = m ((c.tc : Thread Cert.Kernel28.nD Cert.Kernel28.τ).loc Cert.Kernel28.main_arg31)
      ∧ r.2.mem ((c.tc : Thread Cert.Kernel28.nD Cert.Kernel28.τ).loc Cert.Kernel28.main_arg32) = m ((c.tc : Thread Cert.Kernel28.nD Cert.Kernel28.τ).loc Cert.Kernel28.main_arg32)
      ∧ r.2.mem ((c.tc : Thread Cert.Kernel28.nD Cert.Kernel28.τ).loc Cert.Kernel28.main_arg33) = m ((c.tc : Thread Cert.Kernel28.nD Cert.Kernel28.τ).loc Cert.Kernel28.main_arg33)
      ∧ r.2.mem ((c.tc : Thread Cert.Kernel28.nD Cert.Kernel28.τ).loc Cert.Kernel28.main_arg34) = m ((c.tc : Thread Cert.Kernel28.nD Cert.Kernel28.τ).loc Cert.Kernel28.main_arg34)
      ∧ r.2.mem ((c.tc : Thread Cert.Kernel28.nD Cert.Kernel28.τ).loc Cert.Kernel28.main_arg35) = m ((c.tc : Thread Cert.Kernel28.nD Cert.Kernel28.τ).loc Cert.Kernel28.main_arg35)
      ∧ r.2.mem ((c.tc : Thread Cert.Kernel28.nD Cert.Kernel28.τ).loc Cert.Kernel28.main_arg36) = m ((c.tc : Thread Cert.Kernel28.nD Cert.Kernel28.τ).loc Cert.Kernel28.main_arg36)
      ∧ r.2.mem ((c.tc : Thread Cert.Kernel28.nD Cert.Kernel28.τ).loc Cert.Kernel28.main_arg37) = m ((c.tc : Thread Cert.Kernel28.nD Cert.Kernel28.τ).loc Cert.Kernel28.main_arg37)
      ∧ r.2.mem ((c.tc : Thread Cert.Kernel28.nD Cert.Kernel28.τ).loc Cert.Kernel28.main_arg38) = m ((c.tc : Thread Cert.Kernel28.nD Cert.Kernel28.τ).loc Cert.Kernel28.main_arg38)
      ∧ r.2.mem ((c.tc : Thread Cert.Kernel28.nD Cert.Kernel28.τ).loc Cert.Kernel28.main_arg39) = m ((c.tc : Thread Cert.Kernel28.nD Cert.Kernel28.τ).loc Cert.Kernel28.main_arg39)
      ∧ r.2.mem ((c.tc : Thread Cert.Kernel28.nD Cert.Kernel28.τ).loc Cert.Kernel28.main_arg40) = m ((c.tc : Thread Cert.Kernel28.nD Cert.Kernel28.τ).loc Cert.Kernel28.main_arg40)
      ∧ r.2.mem ((c.tc : Thread Cert.Kernel28.nD Cert.Kernel28.τ).loc Cert.Kernel28.main_arg41) = m ((c.tc : Thread Cert.Kernel28.nD Cert.Kernel28.τ).loc Cert.Kernel28.main_arg41)
      ∧ r.2.mem ((c.tc : Thread Cert.Kernel28.nD Cert.Kernel28.τ).loc Cert.Kernel28.main_arg42) = m ((c.tc : Thread Cert.Kernel28.nD Cert.Kernel28.τ).loc Cert.Kernel28.main_arg42)
      ∧ r.2.mem ((c.tc : Thread Cert.Kernel28.nD Cert.Kernel28.τ).loc Cert.Kernel28.main_arg43) = m ((c.tc : Thread Cert.Kernel28.nD Cert.Kernel28.τ).loc Cert.Kernel28.main_arg43)
      ∧ r.2.mem ((c.tc : Thread Cert.Kernel28.nD Cert.Kernel28.τ).loc Cert.Kernel28.main_arg44) = m ((c.tc : Thread Cert.Kernel28.nD Cert.Kernel28.τ).loc Cert.Kernel28.main_arg44)
      ∧ r.2.mem ((c.tc : Thread Cert.Kernel28.nD Cert.Kernel28.τ).loc Cert.Kernel28.main_arg45) = m ((c.tc : Thread Cert.Kernel28.nD Cert.Kernel28.τ).loc Cert.Kernel28.main_arg45)
      ∧ r.2.mem ((c.tc : Thread Cert.Kernel28.nD Cert.Kernel28.τ).loc Cert.Kernel28.main_arg46) = m ((c.tc : Thread Cert.Kernel28.nD Cert.Kernel28.τ).loc Cert.Kernel28.main_arg46)
      ∧ r.2.mem ((c.tc : Thread Cert.Kernel28.nD Cert.Kernel28.τ).loc Cert.Kernel28.main_arg47) = m ((c.tc : Thread Cert.Kernel28.nD Cert.Kernel28.τ).loc Cert.Kernel28.main_arg47)
      ∧ r.2.mem ((c.tc : Thread Cert.Kernel28.nD Cert.Kernel28.τ).loc Cert.Kernel28.main_arg48) = m ((c.tc : Thread Cert.Kernel28.nD Cert.Kernel28.τ).loc Cert.Kernel28.main_arg48)
      ∧ r.2.mem ((c.tc : Thread Cert.Kernel28.nD Cert.Kernel28.τ).loc Cert.Kernel28.main_arg49) = m ((c.tc : Thread Cert.Kernel28.nD Cert.Kernel28.τ).loc Cert.Kernel28.main_arg49)
      ∧ r.2.mem ((c.tc : Thread Cert.Kernel28.nD Cert.Kernel28.τ).loc Cert.Kernel28.main_arg50) = m ((c.tc : Thread Cert.Kernel28.nD Cert.Kernel28.τ).loc Cert.Kernel28.main_arg50)
      ∧ r.2.mem ((c.tc : Thread Cert.Kernel28.nD Cert.Kernel28.τ).loc Cert.Kernel28.main_arg51) = m ((c.tc : Thread Cert.Kernel28.nD Cert.Kernel28.τ).loc Cert.Kernel28.main_arg51)
      ∧ r.2.mem ((c.tc : Thread Cert.Kernel28.nD Cert.Kernel28.τ).loc Cert.Kernel28.main_arg52) = m ((c.tc : Thread Cert.Kernel28.nD Cert.Kernel28.τ).loc Cert.Kernel28.main_arg52)
      ∧ r.2.mem ((c.tc : Thread Cert.Kernel28.nD Cert.Kernel28.τ).loc Cert.Kernel28.main_arg53) = m ((c.tc : Thread Cert.Kernel28.nD Cert.Kernel28.τ).loc Cert.Kernel28.main_arg53)
      ∧ r.2.mem ((c.tc : Thread Cert.Kernel28.nD Cert.Kernel28.τ).loc Cert.Kernel28.main_arg54) = m ((c.tc : Thread Cert.Kernel28.nD Cert.Kernel28.τ).loc Cert.Kernel28.main_arg54)
      ∧ r.2.mem ((c.tc : Thread Cert.Kernel28.nD Cert.Kernel28.τ).loc Cert.Kernel28.main_arg55) = m ((c.tc : Thread Cert.Kernel28.nD Cert.Kernel28.τ).loc Cert.Kernel28.main_arg55)
      ∧ r.2.mem ((c.tc : Thread Cert.Kernel28.nD Cert.Kernel28.τ).loc Cert.Kernel28.main_arg56) = m ((c.tc : Thread Cert.Kernel28.nD Cert.Kernel28.τ).loc Cert.Kernel28.main_arg56)
      ∧ r.2.mem ((c.tc : Thread Cert.Kernel28.nD Cert.Kernel28.τ).loc Cert.Kernel28.main_arg57) = m ((c.tc : Thread Cert.Kernel28.nD Cert.Kernel28.τ).loc Cert.Kernel28.main_arg57)
      ∧ r.2.mem ((c.tc : Thread Cert.Kernel28.nD Cert.Kernel28.τ).loc Cert.Kernel28.main_arg58) = m ((c.tc : Thread Cert.Kernel28.nD Cert.Kernel28.τ).loc Cert.Kernel28.main_arg58)
      ∧ r.2.mem ((c.tc : Thread Cert.Kernel28.nD Cert.Kernel28.τ).loc Cert.Kernel28.main_arg59) = m ((c.tc : Thread Cert.Kernel28.nD Cert.Kernel28.τ).loc Cert.Kernel28.main_arg59))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
      ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
      ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
      ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
      ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
      ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
      ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
      ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
      ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
      ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
      ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
      ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
      ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
      ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
      ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
      ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
      ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
      ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
      ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
      ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
      ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
      ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
      ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
      ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
      ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
      ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
      ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
      ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
      ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39)
      ∧ r.2.mem ((c.tc : Thread Cert.Kernel28Ideal.nD Cert.Kernel28Ideal.τ).loc Cert.Kernel28Ideal.main_arg40) = m ((c.tc : Thread Cert.Kernel28Ideal.nD Cert.Kernel28Ideal.τ).loc Cert.Kernel28Ideal.main_arg40)
      ∧ r.2.mem ((c.tc : Thread Cert.Kernel28Ideal.nD Cert.Kernel28Ideal.τ).loc Cert.Kernel28Ideal.main_arg41) = m ((c.tc : Thread Cert.Kernel28Ideal.nD Cert.Kernel28Ideal.τ).loc Cert.Kernel28Ideal.main_arg41)
      ∧ r.2.mem ((c.tc : Thread Cert.Kernel28Ideal.nD Cert.Kernel28Ideal.τ).loc Cert.Kernel28Ideal.main_arg42) = m ((c.tc : Thread Cert.Kernel28Ideal.nD Cert.Kernel28Ideal.τ).loc Cert.Kernel28Ideal.main_arg42)
      ∧ r.2.mem ((c.tc : Thread Cert.Kernel28Ideal.nD Cert.Kernel28Ideal.τ).loc Cert.Kernel28Ideal.main_arg43) = m ((c.tc : Thread Cert.Kernel28Ideal.nD Cert.Kernel28Ideal.τ).loc Cert.Kernel28Ideal.main_arg43)
      ∧ r.2.mem ((c.tc : Thread Cert.Kernel28Ideal.nD Cert.Kernel28Ideal.τ).loc Cert.Kernel28Ideal.main_arg44) = m ((c.tc : Thread Cert.Kernel28Ideal.nD Cert.Kernel28Ideal.τ).loc Cert.Kernel28Ideal.main_arg44)
      ∧ r.2.mem ((c.tc : Thread Cert.Kernel28Ideal.nD Cert.Kernel28Ideal.τ).loc Cert.Kernel28Ideal.main_arg45) = m ((c.tc : Thread Cert.Kernel28Ideal.nD Cert.Kernel28Ideal.τ).loc Cert.Kernel28Ideal.main_arg45)
      ∧ r.2.mem ((c.tc : Thread Cert.Kernel28Ideal.nD Cert.Kernel28Ideal.τ).loc Cert.Kernel28Ideal.main_arg46) = m ((c.tc : Thread Cert.Kernel28Ideal.nD Cert.Kernel28Ideal.τ).loc Cert.Kernel28Ideal.main_arg46)
      ∧ r.2.mem ((c.tc : Thread Cert.Kernel28Ideal.nD Cert.Kernel28Ideal.τ).loc Cert.Kernel28Ideal.main_arg47) = m ((c.tc : Thread Cert.Kernel28Ideal.nD Cert.Kernel28Ideal.τ).loc Cert.Kernel28Ideal.main_arg47)
      ∧ r.2.mem ((c.tc : Thread Cert.Kernel28Ideal.nD Cert.Kernel28Ideal.τ).loc Cert.Kernel28Ideal.main_arg48) = m ((c.tc : Thread Cert.Kernel28Ideal.nD Cert.Kernel28Ideal.τ).loc Cert.Kernel28Ideal.main_arg48)
      ∧ r.2.mem ((c.tc : Thread Cert.Kernel28Ideal.nD Cert.Kernel28Ideal.τ).loc Cert.Kernel28Ideal.main_arg49) = m ((c.tc : Thread Cert.Kernel28Ideal.nD Cert.Kernel28Ideal.τ).loc Cert.Kernel28Ideal.main_arg49)
      ∧ r.2.mem ((c.tc : Thread Cert.Kernel28Ideal.nD Cert.Kernel28Ideal.τ).loc Cert.Kernel28Ideal.main_arg50) = m ((c.tc : Thread Cert.Kernel28Ideal.nD Cert.Kernel28Ideal.τ).loc Cert.Kernel28Ideal.main_arg50)
      ∧ r.2.mem ((c.tc : Thread Cert.Kernel28Ideal.nD Cert.Kernel28Ideal.τ).loc Cert.Kernel28Ideal.main_arg51) = m ((c.tc : Thread Cert.Kernel28Ideal.nD Cert.Kernel28Ideal.τ).loc Cert.Kernel28Ideal.main_arg51)
      ∧ r.2.mem ((c.tc : Thread Cert.Kernel28Ideal.nD Cert.Kernel28Ideal.τ).loc Cert.Kernel28Ideal.main_arg52) = m ((c.tc : Thread Cert.Kernel28Ideal.nD Cert.Kernel28Ideal.τ).loc Cert.Kernel28Ideal.main_arg52)
      ∧ r.2.mem ((c.tc : Thread Cert.Kernel28Ideal.nD Cert.Kernel28Ideal.τ).loc Cert.Kernel28Ideal.main_arg53) = m ((c.tc : Thread Cert.Kernel28Ideal.nD Cert.Kernel28Ideal.τ).loc Cert.Kernel28Ideal.main_arg53)
      ∧ r.2.mem ((c.tc : Thread Cert.Kernel28Ideal.nD Cert.Kernel28Ideal.τ).loc Cert.Kernel28Ideal.main_arg54) = m ((c.tc : Thread Cert.Kernel28Ideal.nD Cert.Kernel28Ideal.τ).loc Cert.Kernel28Ideal.main_arg54)
      ∧ r.2.mem ((c.tc : Thread Cert.Kernel28Ideal.nD Cert.Kernel28Ideal.τ).loc Cert.Kernel28Ideal.main_arg55) = m ((c.tc : Thread Cert.Kernel28Ideal.nD Cert.Kernel28Ideal.τ).loc Cert.Kernel28Ideal.main_arg55)
      ∧ r.2.mem ((c.tc : Thread Cert.Kernel28Ideal.nD Cert.Kernel28Ideal.τ).loc Cert.Kernel28Ideal.main_arg56) = m ((c.tc : Thread Cert.Kernel28Ideal.nD Cert.Kernel28Ideal.τ).loc Cert.Kernel28Ideal.main_arg56)
      ∧ r.2.mem ((c.tc : Thread Cert.Kernel28Ideal.nD Cert.Kernel28Ideal.τ).loc Cert.Kernel28Ideal.main_arg57) = m ((c.tc : Thread Cert.Kernel28Ideal.nD Cert.Kernel28Ideal.τ).loc Cert.Kernel28Ideal.main_arg57)
      ∧ r.2.mem ((c.tc : Thread Cert.Kernel28Ideal.nD Cert.Kernel28Ideal.τ).loc Cert.Kernel28Ideal.main_arg58) = m ((c.tc : Thread Cert.Kernel28Ideal.nD Cert.Kernel28Ideal.τ).loc Cert.Kernel28Ideal.main_arg58)
      ∧ r.2.mem ((c.tc : Thread Cert.Kernel28Ideal.nD Cert.Kernel28Ideal.τ).loc Cert.Kernel28Ideal.main_arg59) = m ((c.tc : Thread Cert.Kernel28Ideal.nD Cert.Kernel28Ideal.τ).loc Cert.Kernel28Ideal.main_arg59))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11)
      ∧ r.2.mem ((c.tc : Thread Cert.Reference28Ideal.nD Cert.Reference28Ideal.τ).loc Cert.Reference28Ideal.main_arg12) = m ((c.tc : Thread Cert.Reference28Ideal.nD Cert.Reference28Ideal.τ).loc Cert.Reference28Ideal.main_arg12)
      ∧ r.2.mem ((c.tc : Thread Cert.Reference28Ideal.nD Cert.Reference28Ideal.τ).loc Cert.Reference28Ideal.main_arg13) = m ((c.tc : Thread Cert.Reference28Ideal.nD Cert.Reference28Ideal.τ).loc Cert.Reference28Ideal.main_arg13)
      ∧ r.2.mem ((c.tc : Thread Cert.Reference28Ideal.nD Cert.Reference28Ideal.τ).loc Cert.Reference28Ideal.main_arg14) = m ((c.tc : Thread Cert.Reference28Ideal.nD Cert.Reference28Ideal.τ).loc Cert.Reference28Ideal.main_arg14)
      ∧ r.2.mem ((c.tc : Thread Cert.Reference28Ideal.nD Cert.Reference28Ideal.τ).loc Cert.Reference28Ideal.main_arg15) = m ((c.tc : Thread Cert.Reference28Ideal.nD Cert.Reference28Ideal.τ).loc Cert.Reference28Ideal.main_arg15)
      ∧ r.2.mem ((c.tc : Thread Cert.Reference28Ideal.nD Cert.Reference28Ideal.τ).loc Cert.Reference28Ideal.main_arg16) = m ((c.tc : Thread Cert.Reference28Ideal.nD Cert.Reference28Ideal.τ).loc Cert.Reference28Ideal.main_arg16)
      ∧ r.2.mem ((c.tc : Thread Cert.Reference28Ideal.nD Cert.Reference28Ideal.τ).loc Cert.Reference28Ideal.main_arg17) = m ((c.tc : Thread Cert.Reference28Ideal.nD Cert.Reference28Ideal.τ).loc Cert.Reference28Ideal.main_arg17)
      ∧ r.2.mem ((c.tc : Thread Cert.Reference28Ideal.nD Cert.Reference28Ideal.τ).loc Cert.Reference28Ideal.main_arg18) = m ((c.tc : Thread Cert.Reference28Ideal.nD Cert.Reference28Ideal.τ).loc Cert.Reference28Ideal.main_arg18)
      ∧ r.2.mem ((c.tc : Thread Cert.Reference28Ideal.nD Cert.Reference28Ideal.τ).loc Cert.Reference28Ideal.main_arg19) = m ((c.tc : Thread Cert.Reference28Ideal.nD Cert.Reference28Ideal.τ).loc Cert.Reference28Ideal.main_arg19)
      ∧ r.2.mem ((c.tc : Thread Cert.Reference28Ideal.nD Cert.Reference28Ideal.τ).loc Cert.Reference28Ideal.main_arg20) = m ((c.tc : Thread Cert.Reference28Ideal.nD Cert.Reference28Ideal.τ).loc Cert.Reference28Ideal.main_arg20)
      ∧ r.2.mem ((c.tc : Thread Cert.Reference28Ideal.nD Cert.Reference28Ideal.τ).loc Cert.Reference28Ideal.main_arg21) = m ((c.tc : Thread Cert.Reference28Ideal.nD Cert.Reference28Ideal.τ).loc Cert.Reference28Ideal.main_arg21)
      ∧ r.2.mem ((c.tc : Thread Cert.Reference28Ideal.nD Cert.Reference28Ideal.τ).loc Cert.Reference28Ideal.main_arg22) = m ((c.tc : Thread Cert.Reference28Ideal.nD Cert.Reference28Ideal.τ).loc Cert.Reference28Ideal.main_arg22)
      ∧ r.2.mem ((c.tc : Thread Cert.Reference28Ideal.nD Cert.Reference28Ideal.τ).loc Cert.Reference28Ideal.main_arg23) = m ((c.tc : Thread Cert.Reference28Ideal.nD Cert.Reference28Ideal.τ).loc Cert.Reference28Ideal.main_arg23)
      ∧ r.2.mem ((c.tc : Thread Cert.Reference28Ideal.nD Cert.Reference28Ideal.τ).loc Cert.Reference28Ideal.main_arg24) = m ((c.tc : Thread Cert.Reference28Ideal.nD Cert.Reference28Ideal.τ).loc Cert.Reference28Ideal.main_arg24)
      ∧ r.2.mem ((c.tc : Thread Cert.Reference28Ideal.nD Cert.Reference28Ideal.τ).loc Cert.Reference28Ideal.main_arg25) = m ((c.tc : Thread Cert.Reference28Ideal.nD Cert.Reference28Ideal.τ).loc Cert.Reference28Ideal.main_arg25)
      ∧ r.2.mem ((c.tc : Thread Cert.Reference28Ideal.nD Cert.Reference28Ideal.τ).loc Cert.Reference28Ideal.main_arg26) = m ((c.tc : Thread Cert.Reference28Ideal.nD Cert.Reference28Ideal.τ).loc Cert.Reference28Ideal.main_arg26)
      ∧ r.2.mem ((c.tc : Thread Cert.Reference28Ideal.nD Cert.Reference28Ideal.τ).loc Cert.Reference28Ideal.main_arg27) = m ((c.tc : Thread Cert.Reference28Ideal.nD Cert.Reference28Ideal.τ).loc Cert.Reference28Ideal.main_arg27)
      ∧ r.2.mem ((c.tc : Thread Cert.Reference28Ideal.nD Cert.Reference28Ideal.τ).loc Cert.Reference28Ideal.main_arg28) = m ((c.tc : Thread Cert.Reference28Ideal.nD Cert.Reference28Ideal.τ).loc Cert.Reference28Ideal.main_arg28)
      ∧ r.2.mem ((c.tc : Thread Cert.Reference28Ideal.nD Cert.Reference28Ideal.τ).loc Cert.Reference28Ideal.main_arg29) = m ((c.tc : Thread Cert.Reference28Ideal.nD Cert.Reference28Ideal.τ).loc Cert.Reference28Ideal.main_arg29)
      ∧ r.2.mem ((c.tc : Thread Cert.Reference28Ideal.nD Cert.Reference28Ideal.τ).loc Cert.Reference28Ideal.main_arg30) = m ((c.tc : Thread Cert.Reference28Ideal.nD Cert.Reference28Ideal.τ).loc Cert.Reference28Ideal.main_arg30)
      ∧ r.2.mem ((c.tc : Thread Cert.Reference28Ideal.nD Cert.Reference28Ideal.τ).loc Cert.Reference28Ideal.main_arg31) = m ((c.tc : Thread Cert.Reference28Ideal.nD Cert.Reference28Ideal.τ).loc Cert.Reference28Ideal.main_arg31)
      ∧ r.2.mem ((c.tc : Thread Cert.Reference28Ideal.nD Cert.Reference28Ideal.τ).loc Cert.Reference28Ideal.main_arg32) = m ((c.tc : Thread Cert.Reference28Ideal.nD Cert.Reference28Ideal.τ).loc Cert.Reference28Ideal.main_arg32)
      ∧ r.2.mem ((c.tc : Thread Cert.Reference28Ideal.nD Cert.Reference28Ideal.τ).loc Cert.Reference28Ideal.main_arg33) = m ((c.tc : Thread Cert.Reference28Ideal.nD Cert.Reference28Ideal.τ).loc Cert.Reference28Ideal.main_arg33)
      ∧ r.2.mem ((c.tc : Thread Cert.Reference28Ideal.nD Cert.Reference28Ideal.τ).loc Cert.Reference28Ideal.main_arg34) = m ((c.tc : Thread Cert.Reference28Ideal.nD Cert.Reference28Ideal.τ).loc Cert.Reference28Ideal.main_arg34)
      ∧ r.2.mem ((c.tc : Thread Cert.Reference28Ideal.nD Cert.Reference28Ideal.τ).loc Cert.Reference28Ideal.main_arg35) = m ((c.tc : Thread Cert.Reference28Ideal.nD Cert.Reference28Ideal.τ).loc Cert.Reference28Ideal.main_arg35)
      ∧ r.2.mem ((c.tc : Thread Cert.Reference28Ideal.nD Cert.Reference28Ideal.τ).loc Cert.Reference28Ideal.main_arg36) = m ((c.tc : Thread Cert.Reference28Ideal.nD Cert.Reference28Ideal.τ).loc Cert.Reference28Ideal.main_arg36)
      ∧ r.2.mem ((c.tc : Thread Cert.Reference28Ideal.nD Cert.Reference28Ideal.τ).loc Cert.Reference28Ideal.main_arg37) = m ((c.tc : Thread Cert.Reference28Ideal.nD Cert.Reference28Ideal.τ).loc Cert.Reference28Ideal.main_arg37)
      ∧ r.2.mem ((c.tc : Thread Cert.Reference28Ideal.nD Cert.Reference28Ideal.τ).loc Cert.Reference28Ideal.main_arg38) = m ((c.tc : Thread Cert.Reference28Ideal.nD Cert.Reference28Ideal.τ).loc Cert.Reference28Ideal.main_arg38)
      ∧ r.2.mem ((c.tc : Thread Cert.Reference28Ideal.nD Cert.Reference28Ideal.τ).loc Cert.Reference28Ideal.main_arg39) = m ((c.tc : Thread Cert.Reference28Ideal.nD Cert.Reference28Ideal.τ).loc Cert.Reference28Ideal.main_arg39)
      ∧ r.2.mem ((c.tc : Thread Cert.Reference28Ideal.nD Cert.Reference28Ideal.τ).loc Cert.Reference28Ideal.main_arg40) = m ((c.tc : Thread Cert.Reference28Ideal.nD Cert.Reference28Ideal.τ).loc Cert.Reference28Ideal.main_arg40)
      ∧ r.2.mem ((c.tc : Thread Cert.Reference28Ideal.nD Cert.Reference28Ideal.τ).loc Cert.Reference28Ideal.main_arg41) = m ((c.tc : Thread Cert.Reference28Ideal.nD Cert.Reference28Ideal.τ).loc Cert.Reference28Ideal.main_arg41)
      ∧ r.2.mem ((c.tc : Thread Cert.Reference28Ideal.nD Cert.Reference28Ideal.τ).loc Cert.Reference28Ideal.main_arg42) = m ((c.tc : Thread Cert.Reference28Ideal.nD Cert.Reference28Ideal.τ).loc Cert.Reference28Ideal.main_arg42)
      ∧ r.2.mem ((c.tc : Thread Cert.Reference28Ideal.nD Cert.Reference28Ideal.τ).loc Cert.Reference28Ideal.main_arg43) = m ((c.tc : Thread Cert.Reference28Ideal.nD Cert.Reference28Ideal.τ).loc Cert.Reference28Ideal.main_arg43)
      ∧ r.2.mem ((c.tc : Thread Cert.Reference28Ideal.nD Cert.Reference28Ideal.τ).loc Cert.Reference28Ideal.main_arg44) = m ((c.tc : Thread Cert.Reference28Ideal.nD Cert.Reference28Ideal.τ).loc Cert.Reference28Ideal.main_arg44)
      ∧ r.2.mem ((c.tc : Thread Cert.Reference28Ideal.nD Cert.Reference28Ideal.τ).loc Cert.Reference28Ideal.main_arg45) = m ((c.tc : Thread Cert.Reference28Ideal.nD Cert.Reference28Ideal.τ).loc Cert.Reference28Ideal.main_arg45)
      ∧ r.2.mem ((c.tc : Thread Cert.Reference28Ideal.nD Cert.Reference28Ideal.τ).loc Cert.Reference28Ideal.main_arg46) = m ((c.tc : Thread Cert.Reference28Ideal.nD Cert.Reference28Ideal.τ).loc Cert.Reference28Ideal.main_arg46)
      ∧ r.2.mem ((c.tc : Thread Cert.Reference28Ideal.nD Cert.Reference28Ideal.τ).loc Cert.Reference28Ideal.main_arg47) = m ((c.tc : Thread Cert.Reference28Ideal.nD Cert.Reference28Ideal.τ).loc Cert.Reference28Ideal.main_arg47)
      ∧ r.2.mem ((c.tc : Thread Cert.Reference28Ideal.nD Cert.Reference28Ideal.τ).loc Cert.Reference28Ideal.main_arg48) = m ((c.tc : Thread Cert.Reference28Ideal.nD Cert.Reference28Ideal.τ).loc Cert.Reference28Ideal.main_arg48)
      ∧ r.2.mem ((c.tc : Thread Cert.Reference28Ideal.nD Cert.Reference28Ideal.τ).loc Cert.Reference28Ideal.main_arg49) = m ((c.tc : Thread Cert.Reference28Ideal.nD Cert.Reference28Ideal.τ).loc Cert.Reference28Ideal.main_arg49)
      ∧ r.2.mem ((c.tc : Thread Cert.Reference28Ideal.nD Cert.Reference28Ideal.τ).loc Cert.Reference28Ideal.main_arg50) = m ((c.tc : Thread Cert.Reference28Ideal.nD Cert.Reference28Ideal.τ).loc Cert.Reference28Ideal.main_arg50)
      ∧ r.2.mem ((c.tc : Thread Cert.Reference28Ideal.nD Cert.Reference28Ideal.τ).loc Cert.Reference28Ideal.main_arg51) = m ((c.tc : Thread Cert.Reference28Ideal.nD Cert.Reference28Ideal.τ).loc Cert.Reference28Ideal.main_arg51)
      ∧ r.2.mem ((c.tc : Thread Cert.Reference28Ideal.nD Cert.Reference28Ideal.τ).loc Cert.Reference28Ideal.main_arg52) = m ((c.tc : Thread Cert.Reference28Ideal.nD Cert.Reference28Ideal.τ).loc Cert.Reference28Ideal.main_arg52)
      ∧ r.2.mem ((c.tc : Thread Cert.Reference28Ideal.nD Cert.Reference28Ideal.τ).loc Cert.Reference28Ideal.main_arg53) = m ((c.tc : Thread Cert.Reference28Ideal.nD Cert.Reference28Ideal.τ).loc Cert.Reference28Ideal.main_arg53)
      ∧ r.2.mem ((c.tc : Thread Cert.Reference28Ideal.nD Cert.Reference28Ideal.τ).loc Cert.Reference28Ideal.main_arg54) = m ((c.tc : Thread Cert.Reference28Ideal.nD Cert.Reference28Ideal.τ).loc Cert.Reference28Ideal.main_arg54)
      ∧ r.2.mem ((c.tc : Thread Cert.Reference28Ideal.nD Cert.Reference28Ideal.τ).loc Cert.Reference28Ideal.main_arg55) = m ((c.tc : Thread Cert.Reference28Ideal.nD Cert.Reference28Ideal.τ).loc Cert.Reference28Ideal.main_arg55)
      ∧ r.2.mem ((c.tc : Thread Cert.Reference28Ideal.nD Cert.Reference28Ideal.τ).loc Cert.Reference28Ideal.main_arg56) = m ((c.tc : Thread Cert.Reference28Ideal.nD Cert.Reference28Ideal.τ).loc Cert.Reference28Ideal.main_arg56)
      ∧ r.2.mem ((c.tc : Thread Cert.Reference28Ideal.nD Cert.Reference28Ideal.τ).loc Cert.Reference28Ideal.main_arg57) = m ((c.tc : Thread Cert.Reference28Ideal.nD Cert.Reference28Ideal.τ).loc Cert.Reference28Ideal.main_arg57)
      ∧ r.2.mem ((c.tc : Thread Cert.Reference28Ideal.nD Cert.Reference28Ideal.τ).loc Cert.Reference28Ideal.main_arg58) = m ((c.tc : Thread Cert.Reference28Ideal.nD Cert.Reference28Ideal.τ).loc Cert.Reference28Ideal.main_arg58)
      ∧ r.2.mem ((c.tc : Thread Cert.Reference28Ideal.nD Cert.Reference28Ideal.τ).loc Cert.Reference28Ideal.main_arg59) = m ((c.tc : Thread Cert.Reference28Ideal.nD Cert.Reference28Ideal.τ).loc Cert.Reference28Ideal.main_arg59))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)
      ∧ m' ((c.tc : Thread Cert.Reference28Ideal.nD Cert.Reference28Ideal.τ).loc Cert.Reference28Ideal.main_arg12) = m ((c.tc : Thread Cert.Kernel28Ideal.nD Cert.Kernel28Ideal.τ).loc Cert.Kernel28Ideal.main_arg12)
      ∧ m' ((c.tc : Thread Cert.Reference28Ideal.nD Cert.Reference28Ideal.τ).loc Cert.Reference28Ideal.main_arg13) = m ((c.tc : Thread Cert.Kernel28Ideal.nD Cert.Kernel28Ideal.τ).loc Cert.Kernel28Ideal.main_arg13)
      ∧ m' ((c.tc : Thread Cert.Reference28Ideal.nD Cert.Reference28Ideal.τ).loc Cert.Reference28Ideal.main_arg14) = m ((c.tc : Thread Cert.Kernel28Ideal.nD Cert.Kernel28Ideal.τ).loc Cert.Kernel28Ideal.main_arg14)
      ∧ m' ((c.tc : Thread Cert.Reference28Ideal.nD Cert.Reference28Ideal.τ).loc Cert.Reference28Ideal.main_arg15) = m ((c.tc : Thread Cert.Kernel28Ideal.nD Cert.Kernel28Ideal.τ).loc Cert.Kernel28Ideal.main_arg15)
      ∧ m' ((c.tc : Thread Cert.Reference28Ideal.nD Cert.Reference28Ideal.τ).loc Cert.Reference28Ideal.main_arg16) = m ((c.tc : Thread Cert.Kernel28Ideal.nD Cert.Kernel28Ideal.τ).loc Cert.Kernel28Ideal.main_arg16)
      ∧ m' ((c.tc : Thread Cert.Reference28Ideal.nD Cert.Reference28Ideal.τ).loc Cert.Reference28Ideal.main_arg17) = m ((c.tc : Thread Cert.Kernel28Ideal.nD Cert.Kernel28Ideal.τ).loc Cert.Kernel28Ideal.main_arg17)
      ∧ m' ((c.tc : Thread Cert.Reference28Ideal.nD Cert.Reference28Ideal.τ).loc Cert.Reference28Ideal.main_arg18) = m ((c.tc : Thread Cert.Kernel28Ideal.nD Cert.Kernel28Ideal.τ).loc Cert.Kernel28Ideal.main_arg18)
      ∧ m' ((c.tc : Thread Cert.Reference28Ideal.nD Cert.Reference28Ideal.τ).loc Cert.Reference28Ideal.main_arg19) = m ((c.tc : Thread Cert.Kernel28Ideal.nD Cert.Kernel28Ideal.τ).loc Cert.Kernel28Ideal.main_arg19)
      ∧ m' ((c.tc : Thread Cert.Reference28Ideal.nD Cert.Reference28Ideal.τ).loc Cert.Reference28Ideal.main_arg20) = m ((c.tc : Thread Cert.Kernel28Ideal.nD Cert.Kernel28Ideal.τ).loc Cert.Kernel28Ideal.main_arg20)
      ∧ m' ((c.tc : Thread Cert.Reference28Ideal.nD Cert.Reference28Ideal.τ).loc Cert.Reference28Ideal.main_arg21) = m ((c.tc : Thread Cert.Kernel28Ideal.nD Cert.Kernel28Ideal.τ).loc Cert.Kernel28Ideal.main_arg21)
      ∧ m' ((c.tc : Thread Cert.Reference28Ideal.nD Cert.Reference28Ideal.τ).loc Cert.Reference28Ideal.main_arg22) = m ((c.tc : Thread Cert.Kernel28Ideal.nD Cert.Kernel28Ideal.τ).loc Cert.Kernel28Ideal.main_arg22)
      ∧ m' ((c.tc : Thread Cert.Reference28Ideal.nD Cert.Reference28Ideal.τ).loc Cert.Reference28Ideal.main_arg23) = m ((c.tc : Thread Cert.Kernel28Ideal.nD Cert.Kernel28Ideal.τ).loc Cert.Kernel28Ideal.main_arg23)
      ∧ m' ((c.tc : Thread Cert.Reference28Ideal.nD Cert.Reference28Ideal.τ).loc Cert.Reference28Ideal.main_arg24) = m ((c.tc : Thread Cert.Kernel28Ideal.nD Cert.Kernel28Ideal.τ).loc Cert.Kernel28Ideal.main_arg24)
      ∧ m' ((c.tc : Thread Cert.Reference28Ideal.nD Cert.Reference28Ideal.τ).loc Cert.Reference28Ideal.main_arg25) = m ((c.tc : Thread Cert.Kernel28Ideal.nD Cert.Kernel28Ideal.τ).loc Cert.Kernel28Ideal.main_arg25)
      ∧ m' ((c.tc : Thread Cert.Reference28Ideal.nD Cert.Reference28Ideal.τ).loc Cert.Reference28Ideal.main_arg26) = m ((c.tc : Thread Cert.Kernel28Ideal.nD Cert.Kernel28Ideal.τ).loc Cert.Kernel28Ideal.main_arg26)
      ∧ m' ((c.tc : Thread Cert.Reference28Ideal.nD Cert.Reference28Ideal.τ).loc Cert.Reference28Ideal.main_arg27) = m ((c.tc : Thread Cert.Kernel28Ideal.nD Cert.Kernel28Ideal.τ).loc Cert.Kernel28Ideal.main_arg27)
      ∧ m' ((c.tc : Thread Cert.Reference28Ideal.nD Cert.Reference28Ideal.τ).loc Cert.Reference28Ideal.main_arg28) = m ((c.tc : Thread Cert.Kernel28Ideal.nD Cert.Kernel28Ideal.τ).loc Cert.Kernel28Ideal.main_arg28)
      ∧ m' ((c.tc : Thread Cert.Reference28Ideal.nD Cert.Reference28Ideal.τ).loc Cert.Reference28Ideal.main_arg29) = m ((c.tc : Thread Cert.Kernel28Ideal.nD Cert.Kernel28Ideal.τ).loc Cert.Kernel28Ideal.main_arg29)
      ∧ m' ((c.tc : Thread Cert.Reference28Ideal.nD Cert.Reference28Ideal.τ).loc Cert.Reference28Ideal.main_arg30) = m ((c.tc : Thread Cert.Kernel28Ideal.nD Cert.Kernel28Ideal.τ).loc Cert.Kernel28Ideal.main_arg30)
      ∧ m' ((c.tc : Thread Cert.Reference28Ideal.nD Cert.Reference28Ideal.τ).loc Cert.Reference28Ideal.main_arg31) = m ((c.tc : Thread Cert.Kernel28Ideal.nD Cert.Kernel28Ideal.τ).loc Cert.Kernel28Ideal.main_arg31)
      ∧ m' ((c.tc : Thread Cert.Reference28Ideal.nD Cert.Reference28Ideal.τ).loc Cert.Reference28Ideal.main_arg32) = m ((c.tc : Thread Cert.Kernel28Ideal.nD Cert.Kernel28Ideal.τ).loc Cert.Kernel28Ideal.main_arg32)
      ∧ m' ((c.tc : Thread Cert.Reference28Ideal.nD Cert.Reference28Ideal.τ).loc Cert.Reference28Ideal.main_arg33) = m ((c.tc : Thread Cert.Kernel28Ideal.nD Cert.Kernel28Ideal.τ).loc Cert.Kernel28Ideal.main_arg33)
      ∧ m' ((c.tc : Thread Cert.Reference28Ideal.nD Cert.Reference28Ideal.τ).loc Cert.Reference28Ideal.main_arg34) = m ((c.tc : Thread Cert.Kernel28Ideal.nD Cert.Kernel28Ideal.τ).loc Cert.Kernel28Ideal.main_arg34)
      ∧ m' ((c.tc : Thread Cert.Reference28Ideal.nD Cert.Reference28Ideal.τ).loc Cert.Reference28Ideal.main_arg35) = m ((c.tc : Thread Cert.Kernel28Ideal.nD Cert.Kernel28Ideal.τ).loc Cert.Kernel28Ideal.main_arg35)
      ∧ m' ((c.tc : Thread Cert.Reference28Ideal.nD Cert.Reference28Ideal.τ).loc Cert.Reference28Ideal.main_arg36) = m ((c.tc : Thread Cert.Kernel28Ideal.nD Cert.Kernel28Ideal.τ).loc Cert.Kernel28Ideal.main_arg36)
      ∧ m' ((c.tc : Thread Cert.Reference28Ideal.nD Cert.Reference28Ideal.τ).loc Cert.Reference28Ideal.main_arg37) = m ((c.tc : Thread Cert.Kernel28Ideal.nD Cert.Kernel28Ideal.τ).loc Cert.Kernel28Ideal.main_arg37)
      ∧ m' ((c.tc : Thread Cert.Reference28Ideal.nD Cert.Reference28Ideal.τ).loc Cert.Reference28Ideal.main_arg38) = m ((c.tc : Thread Cert.Kernel28Ideal.nD Cert.Kernel28Ideal.τ).loc Cert.Kernel28Ideal.main_arg38)
      ∧ m' ((c.tc : Thread Cert.Reference28Ideal.nD Cert.Reference28Ideal.τ).loc Cert.Reference28Ideal.main_arg39) = m ((c.tc : Thread Cert.Kernel28Ideal.nD Cert.Kernel28Ideal.τ).loc Cert.Kernel28Ideal.main_arg39)
      ∧ m' ((c.tc : Thread Cert.Reference28Ideal.nD Cert.Reference28Ideal.τ).loc Cert.Reference28Ideal.main_arg40) = m ((c.tc : Thread Cert.Kernel28Ideal.nD Cert.Kernel28Ideal.τ).loc Cert.Kernel28Ideal.main_arg40)
      ∧ m' ((c.tc : Thread Cert.Reference28Ideal.nD Cert.Reference28Ideal.τ).loc Cert.Reference28Ideal.main_arg41) = m ((c.tc : Thread Cert.Kernel28Ideal.nD Cert.Kernel28Ideal.τ).loc Cert.Kernel28Ideal.main_arg41)
      ∧ m' ((c.tc : Thread Cert.Reference28Ideal.nD Cert.Reference28Ideal.τ).loc Cert.Reference28Ideal.main_arg42) = m ((c.tc : Thread Cert.Kernel28Ideal.nD Cert.Kernel28Ideal.τ).loc Cert.Kernel28Ideal.main_arg42)
      ∧ m' ((c.tc : Thread Cert.Reference28Ideal.nD Cert.Reference28Ideal.τ).loc Cert.Reference28Ideal.main_arg43) = m ((c.tc : Thread Cert.Kernel28Ideal.nD Cert.Kernel28Ideal.τ).loc Cert.Kernel28Ideal.main_arg43)
      ∧ m' ((c.tc : Thread Cert.Reference28Ideal.nD Cert.Reference28Ideal.τ).loc Cert.Reference28Ideal.main_arg44) = m ((c.tc : Thread Cert.Kernel28Ideal.nD Cert.Kernel28Ideal.τ).loc Cert.Kernel28Ideal.main_arg44)
      ∧ m' ((c.tc : Thread Cert.Reference28Ideal.nD Cert.Reference28Ideal.τ).loc Cert.Reference28Ideal.main_arg45) = m ((c.tc : Thread Cert.Kernel28Ideal.nD Cert.Kernel28Ideal.τ).loc Cert.Kernel28Ideal.main_arg45)
      ∧ m' ((c.tc : Thread Cert.Reference28Ideal.nD Cert.Reference28Ideal.τ).loc Cert.Reference28Ideal.main_arg46) = m ((c.tc : Thread Cert.Kernel28Ideal.nD Cert.Kernel28Ideal.τ).loc Cert.Kernel28Ideal.main_arg46)
      ∧ m' ((c.tc : Thread Cert.Reference28Ideal.nD Cert.Reference28Ideal.τ).loc Cert.Reference28Ideal.main_arg47) = m ((c.tc : Thread Cert.Kernel28Ideal.nD Cert.Kernel28Ideal.τ).loc Cert.Kernel28Ideal.main_arg47)
      ∧ m' ((c.tc : Thread Cert.Reference28Ideal.nD Cert.Reference28Ideal.τ).loc Cert.Reference28Ideal.main_arg48) = m ((c.tc : Thread Cert.Kernel28Ideal.nD Cert.Kernel28Ideal.τ).loc Cert.Kernel28Ideal.main_arg48)
      ∧ m' ((c.tc : Thread Cert.Reference28Ideal.nD Cert.Reference28Ideal.τ).loc Cert.Reference28Ideal.main_arg49) = m ((c.tc : Thread Cert.Kernel28Ideal.nD Cert.Kernel28Ideal.τ).loc Cert.Kernel28Ideal.main_arg49)
      ∧ m' ((c.tc : Thread Cert.Reference28Ideal.nD Cert.Reference28Ideal.τ).loc Cert.Reference28Ideal.main_arg50) = m ((c.tc : Thread Cert.Kernel28Ideal.nD Cert.Kernel28Ideal.τ).loc Cert.Kernel28Ideal.main_arg50)
      ∧ m' ((c.tc : Thread Cert.Reference28Ideal.nD Cert.Reference28Ideal.τ).loc Cert.Reference28Ideal.main_arg51) = m ((c.tc : Thread Cert.Kernel28Ideal.nD Cert.Kernel28Ideal.τ).loc Cert.Kernel28Ideal.main_arg51)
      ∧ m' ((c.tc : Thread Cert.Reference28Ideal.nD Cert.Reference28Ideal.τ).loc Cert.Reference28Ideal.main_arg52) = m ((c.tc : Thread Cert.Kernel28Ideal.nD Cert.Kernel28Ideal.τ).loc Cert.Kernel28Ideal.main_arg52)
      ∧ m' ((c.tc : Thread Cert.Reference28Ideal.nD Cert.Reference28Ideal.τ).loc Cert.Reference28Ideal.main_arg53) = m ((c.tc : Thread Cert.Kernel28Ideal.nD Cert.Kernel28Ideal.τ).loc Cert.Kernel28Ideal.main_arg53)
      ∧ m' ((c.tc : Thread Cert.Reference28Ideal.nD Cert.Reference28Ideal.τ).loc Cert.Reference28Ideal.main_arg54) = m ((c.tc : Thread Cert.Kernel28Ideal.nD Cert.Kernel28Ideal.τ).loc Cert.Kernel28Ideal.main_arg54)
      ∧ m' ((c.tc : Thread Cert.Reference28Ideal.nD Cert.Reference28Ideal.τ).loc Cert.Reference28Ideal.main_arg55) = m ((c.tc : Thread Cert.Kernel28Ideal.nD Cert.Kernel28Ideal.τ).loc Cert.Kernel28Ideal.main_arg55)
      ∧ m' ((c.tc : Thread Cert.Reference28Ideal.nD Cert.Reference28Ideal.τ).loc Cert.Reference28Ideal.main_arg56) = m ((c.tc : Thread Cert.Kernel28Ideal.nD Cert.Kernel28Ideal.τ).loc Cert.Kernel28Ideal.main_arg56)
      ∧ m' ((c.tc : Thread Cert.Reference28Ideal.nD Cert.Reference28Ideal.τ).loc Cert.Reference28Ideal.main_arg57) = m ((c.tc : Thread Cert.Kernel28Ideal.nD Cert.Kernel28Ideal.τ).loc Cert.Kernel28Ideal.main_arg57)
      ∧ m' ((c.tc : Thread Cert.Reference28Ideal.nD Cert.Reference28Ideal.τ).loc Cert.Reference28Ideal.main_arg58) = m ((c.tc : Thread Cert.Kernel28Ideal.nD Cert.Kernel28Ideal.τ).loc Cert.Kernel28Ideal.main_arg58)
      ∧ m' ((c.tc : Thread Cert.Reference28Ideal.nD Cert.Reference28Ideal.τ).loc Cert.Reference28Ideal.main_arg59) = m ((c.tc : Thread Cert.Kernel28Ideal.nD Cert.Kernel28Ideal.τ).loc Cert.Kernel28Ideal.main_arg59)) →
    ∃ (v0 : (c : Dev Cert.Kernel28Ideal.nD) → Buf (Elt Ideal) ((c.tc : Thread Cert.Kernel28Ideal.nD Cert.Kernel28Ideal.τ).loc Cert.Kernel28Ideal.main_v68_0)) (v1 : (c : Dev Cert.Kernel28Ideal.nD) → Buf (Elt Ideal) ((c.tc : Thread Cert.Kernel28Ideal.nD Cert.Kernel28Ideal.τ).loc Cert.Kernel28Ideal.main_v68_1)) (v2 : (c : Dev Cert.Kernel28Ideal.nD) → Buf (Elt Ideal) ((c.tc : Thread Cert.Kernel28Ideal.nD Cert.Kernel28Ideal.τ).loc Cert.Kernel28Ideal.main_v68_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v68_0) = v0 c
          ∧ r.2.mem ((c.tc : Thread Cert.Kernel28Ideal.nD Cert.Kernel28Ideal.τ).loc Cert.Kernel28Ideal.main_v68_1) = v1 c
          ∧ r.2.mem ((c.tc : Thread Cert.Kernel28Ideal.nD Cert.Kernel28Ideal.τ).loc Cert.Kernel28Ideal.main_v68_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
          ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
          ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
          ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
          ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
          ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
          ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
          ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
          ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
          ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
          ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
          ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
          ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
          ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
          ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
          ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
          ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
          ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
          ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
          ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
          ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
          ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
          ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
          ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
          ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
          ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
          ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
          ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
          ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39)
          ∧ r.2.mem ((c.tc : Thread Cert.Kernel28Ideal.nD Cert.Kernel28Ideal.τ).loc Cert.Kernel28Ideal.main_arg40) = m ((c.tc : Thread Cert.Kernel28Ideal.nD Cert.Kernel28Ideal.τ).loc Cert.Kernel28Ideal.main_arg40)
          ∧ r.2.mem ((c.tc : Thread Cert.Kernel28Ideal.nD Cert.Kernel28Ideal.τ).loc Cert.Kernel28Ideal.main_arg41) = m ((c.tc : Thread Cert.Kernel28Ideal.nD Cert.Kernel28Ideal.τ).loc Cert.Kernel28Ideal.main_arg41)
          ∧ r.2.mem ((c.tc : Thread Cert.Kernel28Ideal.nD Cert.Kernel28Ideal.τ).loc Cert.Kernel28Ideal.main_arg42) = m ((c.tc : Thread Cert.Kernel28Ideal.nD Cert.Kernel28Ideal.τ).loc Cert.Kernel28Ideal.main_arg42)
          ∧ r.2.mem ((c.tc : Thread Cert.Kernel28Ideal.nD Cert.Kernel28Ideal.τ).loc Cert.Kernel28Ideal.main_arg43) = m ((c.tc : Thread Cert.Kernel28Ideal.nD Cert.Kernel28Ideal.τ).loc Cert.Kernel28Ideal.main_arg43)
          ∧ r.2.mem ((c.tc : Thread Cert.Kernel28Ideal.nD Cert.Kernel28Ideal.τ).loc Cert.Kernel28Ideal.main_arg44) = m ((c.tc : Thread Cert.Kernel28Ideal.nD Cert.Kernel28Ideal.τ).loc Cert.Kernel28Ideal.main_arg44)
          ∧ r.2.mem ((c.tc : Thread Cert.Kernel28Ideal.nD Cert.Kernel28Ideal.τ).loc Cert.Kernel28Ideal.main_arg45) = m ((c.tc : Thread Cert.Kernel28Ideal.nD Cert.Kernel28Ideal.τ).loc Cert.Kernel28Ideal.main_arg45)
          ∧ r.2.mem ((c.tc : Thread Cert.Kernel28Ideal.nD Cert.Kernel28Ideal.τ).loc Cert.Kernel28Ideal.main_arg46) = m ((c.tc : Thread Cert.Kernel28Ideal.nD Cert.Kernel28Ideal.τ).loc Cert.Kernel28Ideal.main_arg46)
          ∧ r.2.mem ((c.tc : Thread Cert.Kernel28Ideal.nD Cert.Kernel28Ideal.τ).loc Cert.Kernel28Ideal.main_arg47) = m ((c.tc : Thread Cert.Kernel28Ideal.nD Cert.Kernel28Ideal.τ).loc Cert.Kernel28Ideal.main_arg47)
          ∧ r.2.mem ((c.tc : Thread Cert.Kernel28Ideal.nD Cert.Kernel28Ideal.τ).loc Cert.Kernel28Ideal.main_arg48) = m ((c.tc : Thread Cert.Kernel28Ideal.nD Cert.Kernel28Ideal.τ).loc Cert.Kernel28Ideal.main_arg48)
          ∧ r.2.mem ((c.tc : Thread Cert.Kernel28Ideal.nD Cert.Kernel28Ideal.τ).loc Cert.Kernel28Ideal.main_arg49) = m ((c.tc : Thread Cert.Kernel28Ideal.nD Cert.Kernel28Ideal.τ).loc Cert.Kernel28Ideal.main_arg49)
          ∧ r.2.mem ((c.tc : Thread Cert.Kernel28Ideal.nD Cert.Kernel28Ideal.τ).loc Cert.Kernel28Ideal.main_arg50) = m ((c.tc : Thread Cert.Kernel28Ideal.nD Cert.Kernel28Ideal.τ).loc Cert.Kernel28Ideal.main_arg50)
          ∧ r.2.mem ((c.tc : Thread Cert.Kernel28Ideal.nD Cert.Kernel28Ideal.τ).loc Cert.Kernel28Ideal.main_arg51) = m ((c.tc : Thread Cert.Kernel28Ideal.nD Cert.Kernel28Ideal.τ).loc Cert.Kernel28Ideal.main_arg51)
          ∧ r.2.mem ((c.tc : Thread Cert.Kernel28Ideal.nD Cert.Kernel28Ideal.τ).loc Cert.Kernel28Ideal.main_arg52) = m ((c.tc : Thread Cert.Kernel28Ideal.nD Cert.Kernel28Ideal.τ).loc Cert.Kernel28Ideal.main_arg52)
          ∧ r.2.mem ((c.tc : Thread Cert.Kernel28Ideal.nD Cert.Kernel28Ideal.τ).loc Cert.Kernel28Ideal.main_arg53) = m ((c.tc : Thread Cert.Kernel28Ideal.nD Cert.Kernel28Ideal.τ).loc Cert.Kernel28Ideal.main_arg53)
          ∧ r.2.mem ((c.tc : Thread Cert.Kernel28Ideal.nD Cert.Kernel28Ideal.τ).loc Cert.Kernel28Ideal.main_arg54) = m ((c.tc : Thread Cert.Kernel28Ideal.nD Cert.Kernel28Ideal.τ).loc Cert.Kernel28Ideal.main_arg54)
          ∧ r.2.mem ((c.tc : Thread Cert.Kernel28Ideal.nD Cert.Kernel28Ideal.τ).loc Cert.Kernel28Ideal.main_arg55) = m ((c.tc : Thread Cert.Kernel28Ideal.nD Cert.Kernel28Ideal.τ).loc Cert.Kernel28Ideal.main_arg55)
          ∧ r.2.mem ((c.tc : Thread Cert.Kernel28Ideal.nD Cert.Kernel28Ideal.τ).loc Cert.Kernel28Ideal.main_arg56) = m ((c.tc : Thread Cert.Kernel28Ideal.nD Cert.Kernel28Ideal.τ).loc Cert.Kernel28Ideal.main_arg56)
          ∧ r.2.mem ((c.tc : Thread Cert.Kernel28Ideal.nD Cert.Kernel28Ideal.τ).loc Cert.Kernel28Ideal.main_arg57) = m ((c.tc : Thread Cert.Kernel28Ideal.nD Cert.Kernel28Ideal.τ).loc Cert.Kernel28Ideal.main_arg57)
          ∧ r.2.mem ((c.tc : Thread Cert.Kernel28Ideal.nD Cert.Kernel28Ideal.τ).loc Cert.Kernel28Ideal.main_arg58) = m ((c.tc : Thread Cert.Kernel28Ideal.nD Cert.Kernel28Ideal.τ).loc Cert.Kernel28Ideal.main_arg58)
          ∧ r.2.mem ((c.tc : Thread Cert.Kernel28Ideal.nD Cert.Kernel28Ideal.τ).loc Cert.Kernel28Ideal.main_arg59) = m ((c.tc : Thread Cert.Kernel28Ideal.nD Cert.Kernel28Ideal.τ).loc Cert.Kernel28Ideal.main_arg59))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v376) = v0 c
          ∧ r.2.mem ((c.tc : Thread Cert.Reference28Ideal.nD Cert.Reference28Ideal.τ).loc Cert.Reference28Ideal.main_v393) = v1 c
          ∧ r.2.mem ((c.tc : Thread Cert.Reference28Ideal.nD Cert.Reference28Ideal.τ).loc Cert.Reference28Ideal.main_v410) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11)
          ∧ r.2.mem ((c.tc : Thread Cert.Reference28Ideal.nD Cert.Reference28Ideal.τ).loc Cert.Reference28Ideal.main_arg12) = m' ((c.tc : Thread Cert.Reference28Ideal.nD Cert.Reference28Ideal.τ).loc Cert.Reference28Ideal.main_arg12)
          ∧ r.2.mem ((c.tc : Thread Cert.Reference28Ideal.nD Cert.Reference28Ideal.τ).loc Cert.Reference28Ideal.main_arg13) = m' ((c.tc : Thread Cert.Reference28Ideal.nD Cert.Reference28Ideal.τ).loc Cert.Reference28Ideal.main_arg13)
          ∧ r.2.mem ((c.tc : Thread Cert.Reference28Ideal.nD Cert.Reference28Ideal.τ).loc Cert.Reference28Ideal.main_arg14) = m' ((c.tc : Thread Cert.Reference28Ideal.nD Cert.Reference28Ideal.τ).loc Cert.Reference28Ideal.main_arg14)
          ∧ r.2.mem ((c.tc : Thread Cert.Reference28Ideal.nD Cert.Reference28Ideal.τ).loc Cert.Reference28Ideal.main_arg15) = m' ((c.tc : Thread Cert.Reference28Ideal.nD Cert.Reference28Ideal.τ).loc Cert.Reference28Ideal.main_arg15)
          ∧ r.2.mem ((c.tc : Thread Cert.Reference28Ideal.nD Cert.Reference28Ideal.τ).loc Cert.Reference28Ideal.main_arg16) = m' ((c.tc : Thread Cert.Reference28Ideal.nD Cert.Reference28Ideal.τ).loc Cert.Reference28Ideal.main_arg16)
          ∧ r.2.mem ((c.tc : Thread Cert.Reference28Ideal.nD Cert.Reference28Ideal.τ).loc Cert.Reference28Ideal.main_arg17) = m' ((c.tc : Thread Cert.Reference28Ideal.nD Cert.Reference28Ideal.τ).loc Cert.Reference28Ideal.main_arg17)
          ∧ r.2.mem ((c.tc : Thread Cert.Reference28Ideal.nD Cert.Reference28Ideal.τ).loc Cert.Reference28Ideal.main_arg18) = m' ((c.tc : Thread Cert.Reference28Ideal.nD Cert.Reference28Ideal.τ).loc Cert.Reference28Ideal.main_arg18)
          ∧ r.2.mem ((c.tc : Thread Cert.Reference28Ideal.nD Cert.Reference28Ideal.τ).loc Cert.Reference28Ideal.main_arg19) = m' ((c.tc : Thread Cert.Reference28Ideal.nD Cert.Reference28Ideal.τ).loc Cert.Reference28Ideal.main_arg19)
          ∧ r.2.mem ((c.tc : Thread Cert.Reference28Ideal.nD Cert.Reference28Ideal.τ).loc Cert.Reference28Ideal.main_arg20) = m' ((c.tc : Thread Cert.Reference28Ideal.nD Cert.Reference28Ideal.τ).loc Cert.Reference28Ideal.main_arg20)
          ∧ r.2.mem ((c.tc : Thread Cert.Reference28Ideal.nD Cert.Reference28Ideal.τ).loc Cert.Reference28Ideal.main_arg21) = m' ((c.tc : Thread Cert.Reference28Ideal.nD Cert.Reference28Ideal.τ).loc Cert.Reference28Ideal.main_arg21)
          ∧ r.2.mem ((c.tc : Thread Cert.Reference28Ideal.nD Cert.Reference28Ideal.τ).loc Cert.Reference28Ideal.main_arg22) = m' ((c.tc : Thread Cert.Reference28Ideal.nD Cert.Reference28Ideal.τ).loc Cert.Reference28Ideal.main_arg22)
          ∧ r.2.mem ((c.tc : Thread Cert.Reference28Ideal.nD Cert.Reference28Ideal.τ).loc Cert.Reference28Ideal.main_arg23) = m' ((c.tc : Thread Cert.Reference28Ideal.nD Cert.Reference28Ideal.τ).loc Cert.Reference28Ideal.main_arg23)
          ∧ r.2.mem ((c.tc : Thread Cert.Reference28Ideal.nD Cert.Reference28Ideal.τ).loc Cert.Reference28Ideal.main_arg24) = m' ((c.tc : Thread Cert.Reference28Ideal.nD Cert.Reference28Ideal.τ).loc Cert.Reference28Ideal.main_arg24)
          ∧ r.2.mem ((c.tc : Thread Cert.Reference28Ideal.nD Cert.Reference28Ideal.τ).loc Cert.Reference28Ideal.main_arg25) = m' ((c.tc : Thread Cert.Reference28Ideal.nD Cert.Reference28Ideal.τ).loc Cert.Reference28Ideal.main_arg25)
          ∧ r.2.mem ((c.tc : Thread Cert.Reference28Ideal.nD Cert.Reference28Ideal.τ).loc Cert.Reference28Ideal.main_arg26) = m' ((c.tc : Thread Cert.Reference28Ideal.nD Cert.Reference28Ideal.τ).loc Cert.Reference28Ideal.main_arg26)
          ∧ r.2.mem ((c.tc : Thread Cert.Reference28Ideal.nD Cert.Reference28Ideal.τ).loc Cert.Reference28Ideal.main_arg27) = m' ((c.tc : Thread Cert.Reference28Ideal.nD Cert.Reference28Ideal.τ).loc Cert.Reference28Ideal.main_arg27)
          ∧ r.2.mem ((c.tc : Thread Cert.Reference28Ideal.nD Cert.Reference28Ideal.τ).loc Cert.Reference28Ideal.main_arg28) = m' ((c.tc : Thread Cert.Reference28Ideal.nD Cert.Reference28Ideal.τ).loc Cert.Reference28Ideal.main_arg28)
          ∧ r.2.mem ((c.tc : Thread Cert.Reference28Ideal.nD Cert.Reference28Ideal.τ).loc Cert.Reference28Ideal.main_arg29) = m' ((c.tc : Thread Cert.Reference28Ideal.nD Cert.Reference28Ideal.τ).loc Cert.Reference28Ideal.main_arg29)
          ∧ r.2.mem ((c.tc : Thread Cert.Reference28Ideal.nD Cert.Reference28Ideal.τ).loc Cert.Reference28Ideal.main_arg30) = m' ((c.tc : Thread Cert.Reference28Ideal.nD Cert.Reference28Ideal.τ).loc Cert.Reference28Ideal.main_arg30)
          ∧ r.2.mem ((c.tc : Thread Cert.Reference28Ideal.nD Cert.Reference28Ideal.τ).loc Cert.Reference28Ideal.main_arg31) = m' ((c.tc : Thread Cert.Reference28Ideal.nD Cert.Reference28Ideal.τ).loc Cert.Reference28Ideal.main_arg31)
          ∧ r.2.mem ((c.tc : Thread Cert.Reference28Ideal.nD Cert.Reference28Ideal.τ).loc Cert.Reference28Ideal.main_arg32) = m' ((c.tc : Thread Cert.Reference28Ideal.nD Cert.Reference28Ideal.τ).loc Cert.Reference28Ideal.main_arg32)
          ∧ r.2.mem ((c.tc : Thread Cert.Reference28Ideal.nD Cert.Reference28Ideal.τ).loc Cert.Reference28Ideal.main_arg33) = m' ((c.tc : Thread Cert.Reference28Ideal.nD Cert.Reference28Ideal.τ).loc Cert.Reference28Ideal.main_arg33)
          ∧ r.2.mem ((c.tc : Thread Cert.Reference28Ideal.nD Cert.Reference28Ideal.τ).loc Cert.Reference28Ideal.main_arg34) = m' ((c.tc : Thread Cert.Reference28Ideal.nD Cert.Reference28Ideal.τ).loc Cert.Reference28Ideal.main_arg34)
          ∧ r.2.mem ((c.tc : Thread Cert.Reference28Ideal.nD Cert.Reference28Ideal.τ).loc Cert.Reference28Ideal.main_arg35) = m' ((c.tc : Thread Cert.Reference28Ideal.nD Cert.Reference28Ideal.τ).loc Cert.Reference28Ideal.main_arg35)
          ∧ r.2.mem ((c.tc : Thread Cert.Reference28Ideal.nD Cert.Reference28Ideal.τ).loc Cert.Reference28Ideal.main_arg36) = m' ((c.tc : Thread Cert.Reference28Ideal.nD Cert.Reference28Ideal.τ).loc Cert.Reference28Ideal.main_arg36)
          ∧ r.2.mem ((c.tc : Thread Cert.Reference28Ideal.nD Cert.Reference28Ideal.τ).loc Cert.Reference28Ideal.main_arg37) = m' ((c.tc : Thread Cert.Reference28Ideal.nD Cert.Reference28Ideal.τ).loc Cert.Reference28Ideal.main_arg37)
          ∧ r.2.mem ((c.tc : Thread Cert.Reference28Ideal.nD Cert.Reference28Ideal.τ).loc Cert.Reference28Ideal.main_arg38) = m' ((c.tc : Thread Cert.Reference28Ideal.nD Cert.Reference28Ideal.τ).loc Cert.Reference28Ideal.main_arg38)
          ∧ r.2.mem ((c.tc : Thread Cert.Reference28Ideal.nD Cert.Reference28Ideal.τ).loc Cert.Reference28Ideal.main_arg39) = m' ((c.tc : Thread Cert.Reference28Ideal.nD Cert.Reference28Ideal.τ).loc Cert.Reference28Ideal.main_arg39)
          ∧ r.2.mem ((c.tc : Thread Cert.Reference28Ideal.nD Cert.Reference28Ideal.τ).loc Cert.Reference28Ideal.main_arg40) = m' ((c.tc : Thread Cert.Reference28Ideal.nD Cert.Reference28Ideal.τ).loc Cert.Reference28Ideal.main_arg40)
          ∧ r.2.mem ((c.tc : Thread Cert.Reference28Ideal.nD Cert.Reference28Ideal.τ).loc Cert.Reference28Ideal.main_arg41) = m' ((c.tc : Thread Cert.Reference28Ideal.nD Cert.Reference28Ideal.τ).loc Cert.Reference28Ideal.main_arg41)
          ∧ r.2.mem ((c.tc : Thread Cert.Reference28Ideal.nD Cert.Reference28Ideal.τ).loc Cert.Reference28Ideal.main_arg42) = m' ((c.tc : Thread Cert.Reference28Ideal.nD Cert.Reference28Ideal.τ).loc Cert.Reference28Ideal.main_arg42)
          ∧ r.2.mem ((c.tc : Thread Cert.Reference28Ideal.nD Cert.Reference28Ideal.τ).loc Cert.Reference28Ideal.main_arg43) = m' ((c.tc : Thread Cert.Reference28Ideal.nD Cert.Reference28Ideal.τ).loc Cert.Reference28Ideal.main_arg43)
          ∧ r.2.mem ((c.tc : Thread Cert.Reference28Ideal.nD Cert.Reference28Ideal.τ).loc Cert.Reference28Ideal.main_arg44) = m' ((c.tc : Thread Cert.Reference28Ideal.nD Cert.Reference28Ideal.τ).loc Cert.Reference28Ideal.main_arg44)
          ∧ r.2.mem ((c.tc : Thread Cert.Reference28Ideal.nD Cert.Reference28Ideal.τ).loc Cert.Reference28Ideal.main_arg45) = m' ((c.tc : Thread Cert.Reference28Ideal.nD Cert.Reference28Ideal.τ).loc Cert.Reference28Ideal.main_arg45)
          ∧ r.2.mem ((c.tc : Thread Cert.Reference28Ideal.nD Cert.Reference28Ideal.τ).loc Cert.Reference28Ideal.main_arg46) = m' ((c.tc : Thread Cert.Reference28Ideal.nD Cert.Reference28Ideal.τ).loc Cert.Reference28Ideal.main_arg46)
          ∧ r.2.mem ((c.tc : Thread Cert.Reference28Ideal.nD Cert.Reference28Ideal.τ).loc Cert.Reference28Ideal.main_arg47) = m' ((c.tc : Thread Cert.Reference28Ideal.nD Cert.Reference28Ideal.τ).loc Cert.Reference28Ideal.main_arg47)
          ∧ r.2.mem ((c.tc : Thread Cert.Reference28Ideal.nD Cert.Reference28Ideal.τ).loc Cert.Reference28Ideal.main_arg48) = m' ((c.tc : Thread Cert.Reference28Ideal.nD Cert.Reference28Ideal.τ).loc Cert.Reference28Ideal.main_arg48)
          ∧ r.2.mem ((c.tc : Thread Cert.Reference28Ideal.nD Cert.Reference28Ideal.τ).loc Cert.Reference28Ideal.main_arg49) = m' ((c.tc : Thread Cert.Reference28Ideal.nD Cert.Reference28Ideal.τ).loc Cert.Reference28Ideal.main_arg49)
          ∧ r.2.mem ((c.tc : Thread Cert.Reference28Ideal.nD Cert.Reference28Ideal.τ).loc Cert.Reference28Ideal.main_arg50) = m' ((c.tc : Thread Cert.Reference28Ideal.nD Cert.Reference28Ideal.τ).loc Cert.Reference28Ideal.main_arg50)
          ∧ r.2.mem ((c.tc : Thread Cert.Reference28Ideal.nD Cert.Reference28Ideal.τ).loc Cert.Reference28Ideal.main_arg51) = m' ((c.tc : Thread Cert.Reference28Ideal.nD Cert.Reference28Ideal.τ).loc Cert.Reference28Ideal.main_arg51)
          ∧ r.2.mem ((c.tc : Thread Cert.Reference28Ideal.nD Cert.Reference28Ideal.τ).loc Cert.Reference28Ideal.main_arg52) = m' ((c.tc : Thread Cert.Reference28Ideal.nD Cert.Reference28Ideal.τ).loc Cert.Reference28Ideal.main_arg52)
          ∧ r.2.mem ((c.tc : Thread Cert.Reference28Ideal.nD Cert.Reference28Ideal.τ).loc Cert.Reference28Ideal.main_arg53) = m' ((c.tc : Thread Cert.Reference28Ideal.nD Cert.Reference28Ideal.τ).loc Cert.Reference28Ideal.main_arg53)
          ∧ r.2.mem ((c.tc : Thread Cert.Reference28Ideal.nD Cert.Reference28Ideal.τ).loc Cert.Reference28Ideal.main_arg54) = m' ((c.tc : Thread Cert.Reference28Ideal.nD Cert.Reference28Ideal.τ).loc Cert.Reference28Ideal.main_arg54)
          ∧ r.2.mem ((c.tc : Thread Cert.Reference28Ideal.nD Cert.Reference28Ideal.τ).loc Cert.Reference28Ideal.main_arg55) = m' ((c.tc : Thread Cert.Reference28Ideal.nD Cert.Reference28Ideal.τ).loc Cert.Reference28Ideal.main_arg55)
          ∧ r.2.mem ((c.tc : Thread Cert.Reference28Ideal.nD Cert.Reference28Ideal.τ).loc Cert.Reference28Ideal.main_arg56) = m' ((c.tc : Thread Cert.Reference28Ideal.nD Cert.Reference28Ideal.τ).loc Cert.Reference28Ideal.main_arg56)
          ∧ r.2.mem ((c.tc : Thread Cert.Reference28Ideal.nD Cert.Reference28Ideal.τ).loc Cert.Reference28Ideal.main_arg57) = m' ((c.tc : Thread Cert.Reference28Ideal.nD Cert.Reference28Ideal.τ).loc Cert.Reference28Ideal.main_arg57)
          ∧ r.2.mem ((c.tc : Thread Cert.Reference28Ideal.nD Cert.Reference28Ideal.τ).loc Cert.Reference28Ideal.main_arg58) = m' ((c.tc : Thread Cert.Reference28Ideal.nD Cert.Reference28Ideal.τ).loc Cert.Reference28Ideal.main_arg58)
          ∧ r.2.mem ((c.tc : Thread Cert.Reference28Ideal.nD Cert.Reference28Ideal.τ).loc Cert.Reference28Ideal.main_arg59) = m' ((c.tc : Thread Cert.Reference28Ideal.nD Cert.Reference28Ideal.τ).loc Cert.Reference28Ideal.main_arg59))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v51) = v0 c
          ∧ r.2.mem ((c.tc : Thread Cert.Reference29Ideal.nD Cert.Reference29Ideal.τ).loc Cert.Reference29Ideal.main_v54) = v1 c
          ∧ r.2.mem ((c.tc : Thread Cert.Reference29Ideal.nD Cert.Reference29Ideal.τ).loc Cert.Reference29Ideal.main_v50) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite2 : Cert.Pre_finite2.Facts) (hPre_finite3 : Cert.Pre_finite3.Facts) (hPre_finite4 : Cert.Pre_finite4.Facts) (hPre_finite29 : Cert.Pre_finite29.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
-- ==== Pre_finite2.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S2816x1024 .bf16) (main_arg2 : FVec F S8192x5632 .bf16) : IVec S8192x1024 1 × IVec S8192x1024 1 × IVec S2816x1024 1 × IVec S2816x1024 1 × IVec S8192x5632 1 × IVec S8192x5632 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_cst_1 : FVec F S_ .bf16 := constant S_ .bf16 0x7F80#16
  let main_v4 : FVec F S2816x1024 .bf16 := broadcastInDim S2816x1024 ![] bcast_S_S2816x1024 main_cst_1
  let main_v5 : IVec S2816x1024 1 := cmpf .olt main_arg1 main_v4
  let main_cst_2 : FVec F S_ .bf16 := constant S_ .bf16 0xFF80#16
  let main_v6 : FVec F S2816x1024 .bf16 := broadcastInDim S2816x1024 ![] bcast_S_S2816x1024 main_cst_2
  let main_v7 : IVec S2816x1024 1 := cmpf .ogt main_arg1 main_v6
  let main_cst_3 : FVec F S_ .bf16 := constant S_ .bf16 0x7F80#16
  let main_v8 : FVec F S8192x5632 .bf16 := broadcastInDim S8192x5632 ![] bcast_S_S8192x5632 main_cst_3
  let main_v9 : IVec S8192x5632 1 := cmpf .olt main_arg2 main_v8
  let main_cst_4 : FVec F S_ .bf16 := constant S_ .bf16 0xFF80#16
  let main_v10 : FVec F S8192x5632 .bf16 := broadcastInDim S8192x5632 ![] bcast_S_S8192x5632 main_cst_4
  let main_v11 : IVec S8192x5632 1 := cmpf .ogt main_arg2 main_v10
  (main_v1, main_v3, main_v5, main_v7, main_v9, main_v11)
-- ==== Pre_finite29.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S8192x1024 1 × IVec S1024 1 × IVec S1024 1 × IVec S8192x1024 1 × IVec S8192x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_cst_1 : FVec F S_ .f32 := constant S_ .f32 0x7F800000#32
  let main_v4 : FVec F S1024 .f32 := broadcastInDim S1024 ![] bcast_S_S1024 main_cst_1
  let main_v5 : IVec S1024 1 := cmpf .olt main_arg1 main_v4
  let main_cst_2 : FVec F S_ .f32 := constant S_ .f32 0xFF800000#32
  let main_v6 : FVec F S1024 .f32 := broadcastInDim S1024 ![] bcast_S_S1024 main_cst_2
  let main_v7 : IVec S1024 1 := cmpf .ogt main_arg1 main_v6
  let main_cst_3 : FVec F S_ .f32 := constant S_ .f32 0x7F800000#32
  let main_v8 : FVec F S8192x1024 .f32 := broadcastInDim S8192x1024 ![] bcast_S_S8192x1024 main_cst_3
  let main_v9 : IVec S8192x1024 1 := cmpf .olt main_arg2 main_v8
  let main_cst_4 : FVec F S_ .f32 := constant S_ .f32 0xFF800000#32
  let main_v10 : FVec F S8192x1024 .f32 := broadcastInDim S8192x1024 ![] bcast_S_S8192x1024 main_cst_4
  let main_v11 : IVec S8192x1024 1 := cmpf .ogt main_arg2 main_v10
  (main_v1, main_v3, main_v5, main_v7, main_v9, main_v11)
-- ==== Pre_finite3.lean ====
abbrev S8192x1024 : Shape := ⟨2, ![8192, 1024]⟩
abbrev S8192x9216 : Shape := ⟨2, ![8192, 9216]⟩
abbrev S8192x128 : Shape := ⟨2, ![8192, 128]⟩
abbrev S1024 : Shape := ⟨1, ![1024]⟩
abbrev S1024x9216 : Shape := ⟨2, ![1024, 9216]⟩
abbrev S1024x128 : Shape := ⟨2, ![1024, 128]⟩
abbrev S_ : Shape := ⟨0, ![]⟩

class Facts : Prop where
  bcast_S_S8192x1024 : S_.BroadcastsInDim S8192x1024 (![] : Fin 0 → Fin S8192x1024.rank)
  bcast_S_S8192x9216 : S_.BroadcastsInDim S8192x9216 (![] : Fin 0 → Fin S8192x9216.rank)
  bcast_S_S8192x128 : S_.BroadcastsInDim S8192x128 (![] : Fin 0 → Fin S8192x128.rank)
  bcast_S_S1024 : S_.BroadcastsInDim S1024 (![] : Fin 0 → Fin S1024.rank)
  bcast_S_S1024x9216 : S_.BroadcastsInDim S1024x9216 (![] : Fin 0 → Fin S1024x9216.rank)
  bcast_S_S1024x128 : S_.BroadcastsInDim S1024x128 (![] : Fin 0 → Fin S1024x128.rank)

variable [Facts]

def fn_part1 {F : FTy → Type} [FloatOps F] (main_arg4 : FVec F S1024 .f32) (main_arg5 : FVec F S1024x9216 .bf16) (main_arg6 : FVec F S1024x128 .bf16) (main_v1 : IVec S8192x1024 1) (main_v3 : IVec S8192x1024 1) (main_v5 : IVec S8192x9216 1) (main_v7 : IVec S8192x9216 1) (main_v9 : IVec S8192x128 1) (main_v11 : IVec S8192x128 1) (main_v13 : IVec S8192x1024 1) (main_v15 : IVec S8192x1024 1) : IVec S8192x1024 1 × IVec S8192x1024 1 × IVec S8192x9216 1 × IVec S8192x9216 1 × IVec S8192x128 1 × IVec S8192x128 1 × IVec S8192x1024 1 × IVec S8192x1024 1 × IVec S1024 1 × IVec S1024 1 × IVec S1024x9216 1 × IVec S1024x9216 1 × IVec S1024x128 1 × IVec S1024x128 1 :=
  let main_cst_7 : FVec F S_ .f32 := constant S_ .f32 0x7F800000#32
  let main_v16 : FVec F S1024 .f32 := broadcastInDim S1024 ![] bcast_S_S1024 main_cst_7
  let main_v17 : IVec S1024 1 := cmpf .olt main_arg4 main_v16
  let main_cst_8 : FVec F S_ .f32 := constant S_ .f32 0xFF800000#32
  let main_v18 : FVec F S1024 .f32 := broadcastInDim S1024 ![] bcast_S_S1024 main_cst_8
  let main_v19 : IVec S1024 1 := cmpf .ogt main_arg4 main_v18
  let main_cst_9 : FVec F S_ .bf16 := constant S_ .bf16 0x7F80#16
  let main_v20 : FVec F S1024x9216 .bf16 := broadcastInDim S1024x9216 ![] bcast_S_S1024x9216 main_cst_9
  let main_v21 : IVec S1024x9216 1 := cmpf .olt main_arg5 main_v20
  let main_cst_10 : FVec F S_ .bf16 := constant S_ .bf16 0xFF80#16
  let main_v22 : FVec F S1024x9216 .bf16 := broadcastInDim S1024x9216 ![] bcast_S_S1024x9216 main_cst_10
  let main_v23 : IVec S1024x9216 1 := cmpf .ogt main_arg5 main_v22
  let main_cst_11 : FVec F S_ .bf16 := constant S_ .bf16 0x7F80#16
  let main_v24 : FVec F S1024x128 .bf16 := broadcastInDim S1024x128 ![] bcast_S_S1024x128 main_cst_11
  let main_v25 : IVec S1024x128 1 := cmpf .olt main_arg6 main_v24
  let main_cst_12 : FVec F S_ .bf16 := constant S_ .bf16 0xFF80#16
  let main_v26 : FVec F S1024x128 .bf16 := broadcastInDim S1024x128 ![] bcast_S_S1024x128 main_cst_12
  let main_v27 : IVec S1024x128 1 := cmpf .ogt main_arg6 main_v26
  (main_v1, main_v3, main_v5, main_v7, main_v9, main_v11, main_v13, main_v15, main_v17, main_v19, main_v21, main_v23, main_v25, main_v27)

def fn {F : FTy → Type} [FloatOps F] (main_arg0 : FVec F S8192x1024 .f32) (main_arg1 : FVec F S8192x9216 .bf16) (main_arg2 : FVec F S8192x128 .bf16) (main_arg3 : FVec F S8192x1024 .f32) (main_arg4 : FVec F S1024 .f32) (main_arg5 : FVec F S1024x9216 .bf16) (main_arg6 : FVec F S1024x128 .bf16) : IVec S8192x1024 1 × IVec S8192x1024 1 × IVec S8192x9216 1 × IVec S8192x9216 1 × IVec S8192x128 1 × IVec S8192x128 1 × IVec S8192x1024 1 × IVec S8192x1024 1 × IVec S1024 1 × IVec S1024 1 × IVec S1024x9216 1 × IVec S1024x9216 1 × IVec S1024x128 1 × IVec S1024x128 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_cst_1 : FVec F S_ .bf16 := constant S_ .bf16 0x7F80#16
  let main_v4 : FVec F S8192x9216 .bf16 := broadcastInDim S8192x9216 ![] bcast_S_S8192x9216 main_cst_1
  let main_v5 : IVec S8192x9216 1 := cmpf .olt main_arg1 main_v4
  let main_cst_2 : FVec F S_ .bf16 := constant S_ .bf16 0xFF80#16
  let main_v6 : FVec F S8192x9216 .bf16 := broadcastInDim S8192x9216 ![] bcast_S_S8192x9216 main_cst_2
  let main_v7 : IVec S8192x9216 1 := cmpf .ogt main_arg1 main_v6
  let main_cst_3 : FVec F S_ .bf16 := constant S_ .bf16 0x7F80#16
  let main_v8 : FVec F S8192x128 .bf16 := broadcastInDim S8192x128 ![] bcast_S_S8192x128 main_cst_3
  let main_v9 : IVec S8192x128 1 := cmpf .olt main_arg2 main_v8
  let main_cst_4 : FVec F S_ .bf16 := constant S_ .bf16 0xFF80#16
  let main_v10 : FVec F S8192x128 .bf16 := broadcastInDim S8192x128 ![] bcast_S_S8192x128 main_cst_4
  let main_v11 : IVec S8192x128 1 := cmpf .ogt main_arg2 main_v10
  let main_cst_5 : FVec F S_ .f32 := constant S_ .f32 0x7F800000#32
  let main_v12 : FVec F S8192x1024 .f32 := broadcastInDim S8192x1024 ![] bcast_S_S8192x1024 main_cst_5
  let main_v13 : IVec S8192x1024 1 := cmpf .olt main_arg3 main_v12
  let main_cst_6 : FVec F S_ .f32 := constant S_ .f32 0xFF800000#32
  let main_v14 : FVec F S8192x1024 .f32 := broadcastInDim S8192x1024 ![] bcast_S_S8192x1024 main_cst_6
  let main_v15 : IVec S8192x1024 1 := cmpf .ogt main_arg3 main_v14
  fn_part1 (F := F) main_arg4 main_arg5 main_arg6 main_v1 main_v3 main_v5 main_v7 main_v9 main_v11 main_v13 main_v15
-- ==== Pre_finite4.lean ====
abbrev S8192x1024 : Shape := ⟨2, ![8192, 1024]⟩
abbrev S8192x5632 : Shape := ⟨2, ![8192, 5632]⟩
abbrev S1024 : Shape := ⟨1, ![1024]⟩
abbrev S4x1024x1408 : Shape := ⟨3, ![4, 1024, 1408]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S1024 : S_.BroadcastsInDim S1024 (![] : Fin 0 → Fin S1024.rank)
  bcast_S_S4x1024x1408 : S_.BroadcastsInDim S4x1024x1408 (![] : Fin 0 → Fin S4x1024x1408.rank)

variable [Facts]

def fn_part1 {F : FTy → Type} [FloatOps F] (main_arg4 : FVec F S4x1024x1408 .bf16) (main_v1 : IVec S8192x1024 1) (main_v3 : IVec S8192x1024 1) (main_v5 : IVec S8192x5632 1) (main_v7 : IVec S8192x5632 1) (main_v9 : IVec S8192x1024 1) (main_v11 : IVec S8192x1024 1) (main_v13 : IVec S1024 1) (main_v15 : IVec S1024 1) : IVec S8192x1024 1 × IVec S8192x1024 1 × IVec S8192x5632 1 × IVec S8192x5632 1 × IVec S8192x1024 1 × IVec S8192x1024 1 × IVec S1024 1 × IVec S1024 1 × IVec S4x1024x1408 1 × IVec S4x1024x1408 1 :=
  let main_cst_7 : FVec F S_ .bf16 := constant S_ .bf16 0x7F80#16
  let main_v16 : FVec F S4x1024x1408 .bf16 := broadcastInDim S4x1024x1408 ![] bcast_S_S4x1024x1408 main_cst_7
  let main_v17 : IVec S4x1024x1408 1 := cmpf .olt main_arg4 main_v16
  let main_cst_8 : FVec F S_ .bf16 := constant S_ .bf16 0xFF80#16
  let main_v18 : FVec F S4x1024x1408 .bf16 := broadcastInDim S4x1024x1408 ![] bcast_S_S4x1024x1408 main_cst_8
  let main_v19 : IVec S4x1024x1408 1 := cmpf .ogt main_arg4 main_v18
  (main_v1, main_v3, main_v5, main_v7, main_v9, main_v11, main_v13, main_v15, main_v17, main_v19)

def fn {F : FTy → Type} [FloatOps F] (main_arg0 : FVec F S8192x1024 .f32) (main_arg1 : FVec F S8192x5632 .bf16) (main_arg2 : FVec F S8192x1024 .f32) (main_arg3 : FVec F S1024 .f32) (main_arg4 : FVec F S4x1024x1408 .bf16) : IVec S8192x1024 1 × IVec S8192x1024 1 × IVec S8192x5632 1 × IVec S8192x5632 1 × IVec S8192x1024 1 × IVec S8192x1024 1 × IVec S1024 1 × IVec S1024 1 × IVec S4x1024x1408 1 × IVec S4x1024x1408 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_cst_1 : FVec F S_ .bf16 := constant S_ .bf16 0x7F80#16
  let main_v4 : FVec F S8192x5632 .bf16 := broadcastInDim S8192x5632 ![] bcast_S_S8192x5632 main_cst_1
  let main_v5 : IVec S8192x5632 1 := cmpf .olt main_arg1 main_v4
  let main_cst_2 : FVec F S_ .bf16 := constant S_ .bf16 0xFF80#16
  let main_v6 : FVec F S8192x5632 .bf16 := broadcastInDim S8192x5632 ![] bcast_S_S8192x5632 main_cst_2
  let main_v7 : IVec S8192x5632 1 := cmpf .ogt main_arg1 main_v6
  let main_cst_3 : FVec F S_ .f32 := constant S_ .f32 0x7F800000#32
  let main_v8 : FVec F S8192x1024 .f32 := broadcastInDim S8192x1024 ![] bcast_S_S8192x1024 main_cst_3
  let main_v9 : IVec S8192x1024 1 := cmpf .olt main_arg2 main_v8
  let main_cst_4 : FVec F S_ .f32 := constant S_ .f32 0xFF800000#32
  let main_v10 : FVec F S8192x1024 .f32 := broadcastInDim S8192x1024 ![] bcast_S_S8192x1024 main_cst_4
  let main_v11 : IVec S8192x1024 1 := cmpf .ogt main_arg2 main_v10
  let main_cst_5 : FVec F S_ .f32 := constant S_ .f32 0x7F800000#32
  let main_v12 : FVec F S1024 .f32 := broadcastInDim S1024 ![] bcast_S_S1024 main_cst_5
  let main_v13 : IVec S1024 1 := cmpf .olt main_arg3 main_v12
  let main_cst_6 : FVec F S_ .f32 := constant S_ .f32 0xFF800000#32
  let main_v14 : FVec F S1024 .f32 := broadcastInDim S1024 ![] bcast_S_S1024 main_cst_6
  let main_v15 : IVec S1024 1 := cmpf .ogt main_arg3 main_v14
  fn_part1 (F := F) main_arg4 main_v1 main_v3 main_v5 main_v7 main_v9 main_v11 main_v13 main_v15
-- ==== Kernel.lean ====
abbrev S8192x1024 : Shape := ⟨2, ![8192, 1024]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S8192x16x64 : Shape := ⟨3, ![8192, 16, 64]⟩
abbrev S16x64x8192 : Shape := ⟨3, ![16, 64, 8192]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S1x1x1024 : Shape := ⟨3, ![1, 1, 1024]⟩
abbrev S1x2x1024 : Shape := ⟨3, ![1, 2, 1024]⟩
abbrev S2x1x1024 : Shape := ⟨3, ![2, 1, 1024]⟩
abbrev S2x2x1024 : Shape := ⟨3, ![2, 2, 1024]⟩
abbrev S4x1x1024 : Shape := ⟨3, ![4, 1, 1024]⟩
abbrev S4x2x1024 : Shape := ⟨3, ![4, 2, 1024]⟩
abbrev S7x1024 : Shape := ⟨2, ![7, 1024]⟩
abbrev S8x1x1024 : Shape := ⟨3, ![8, 1, 1024]⟩
abbrev S8x2x1024 : Shape := ⟨3, ![8, 2, 1024]⟩
abbrev S15x1024 : Shape := ⟨2, ![15, 1024]⟩
abbrev S16x1x1024 : Shape := ⟨3, ![16, 1, 1024]⟩
abbrev S16x2x1024 : Shape := ⟨3, ![16, 2, 1024]⟩
abbrev S31x1024 : Shape := ⟨2, ![31, 1024]⟩
abbrev S32x1x1024 : Shape := ⟨3, ![32, 1, 1024]⟩
abbrev S32x2x1024 : Shape := ⟨3, ![32, 2, 1024]⟩
abbrev S63x1024 : Shape := ⟨2, ![63, 1024]⟩
abbrev S64x1x1024 : Shape := ⟨3, ![64, 1, 1024]⟩
abbrev S64x2x1024 : Shape := ⟨3, ![64, 2, 1024]⟩
abbrev S127x1024 : Shape := ⟨2, ![127, 1024]⟩
abbrev S128x1x1024 : Shape := ⟨3, ![128, 1, 1024]⟩
abbrev S128x2x1024 : Shape := ⟨3, ![128, 2, 1024]⟩
abbrev S255x1024 : Shape := ⟨2, ![255, 1024]⟩
abbrev S256x1x1024 : Shape := ⟨3, ![256, 1, 1024]⟩
abbrev S256x2x1024 : Shape := ⟨3, ![256, 2, 1024]⟩
abbrev S511x1024 : Shape := ⟨2, ![511, 1024]⟩
abbrev S512x1x1024 : Shape := ⟨3, ![512, 1, 1024]⟩
abbrev S512x2x1024 : Shape := ⟨3, ![512, 2, 1024]⟩
abbrev S1023x1024 : Shape := ⟨2, ![1023, 1024]⟩
abbrev S1024x1x1024 : Shape := ⟨3, ![1024, 1, 1024]⟩
abbrev S1024x2x1024 : Shape := ⟨3, ![1024, 2, 1024]⟩
abbrev S2047x1024 : Shape := ⟨2, ![2047, 1024]⟩
abbrev S2048x1x1024 : Shape := ⟨3, ![2048, 1, 1024]⟩
abbrev S2048x2x1024 : Shape := ⟨3, ![2048, 2, 1024]⟩
abbrev S4095x1024 : Shape := ⟨2, ![4095, 1024]⟩
abbrev S4096x1x1024 : Shape := ⟨3, ![4096, 1, 1024]⟩
abbrev S4096x2x1024 : Shape := ⟨3, ![4096, 2, 1024]⟩
abbrev S8192x5120 : Shape := ⟨2, ![8192, 5120]⟩
abbrev S8192x256 : Shape := ⟨2, ![8192, 256]⟩
abbrev S8192x2048 : Shape := ⟨2, ![8192, 2048]⟩
abbrev S8192x9216 : Shape := ⟨2, ![8192, 9216]⟩
abbrev S4x4x64x64 : Shape := ⟨4, ![4, 4, 64, 64]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S1x8192x1024 : Shape := ⟨3, ![1, 8192, 1024]⟩
abbrev S5x8192x1024 : Shape := ⟨3, ![5, 8192, 1024]⟩
abbrev S256x512 : Shape := ⟨2, ![256, 512]⟩
abbrev S256x256 : Shape := ⟨2, ![256, 256]⟩
abbrev S8x256 : Shape := ⟨2, ![8, 256]⟩
abbrev S5x256x256 : Shape := ⟨3, ![5, 256, 256]⟩
abbrev S4x256 : Shape := ⟨2, ![4, 256]⟩
abbrev S1x256x256 : Shape := ⟨3, ![1, 256, 256]⟩
abbrev S1x256 : Shape := ⟨2, ![1, 256]⟩
abbrev S64x256 : Shape := ⟨2, ![64, 256]⟩
abbrev S16x256 : Shape := ⟨2, ![16, 256]⟩
abbrev S248x256 : Shape := ⟨2, ![248, 256]⟩
abbrev S8x8x1024 : Shape := ⟨3, ![8, 8, 1024]⟩
abbrev S4x1x64x1x64 : Shape := ⟨5, ![4, 1, 64, 1, 64]⟩
abbrev S4x64x64 : Shape := ⟨3, ![4, 64, 64]⟩
abbrev S4x1x64x64 : Shape := ⟨4, ![4, 1, 64, 64]⟩

abbrev nBuf : Space → Nat
  | .hbm => 426
  | .vmem => 29
  | .smem => 0
  | _ => 0

abbrev hbmTy0_0 (i : Nat) : BufTy := match i % 128 with
  | 0 => ⟨S8192x1024, .f32⟩
  | 1 => ⟨S8192x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S8192x1024, .f32⟩
  | 10 => ⟨S_, .f32⟩
  | 11 => ⟨S3x1024, .f32⟩
  | 12 => ⟨S8195x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x16x64, .f32⟩
  | 44 => ⟨S16x64x8192, .f32⟩
  | 45 => ⟨S8192x16x64, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S16x64x8192, .f32⟩
  | 59 => ⟨S8192x16x64, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S1024, .f32⟩
  | 76 => ⟨S1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S1024x1024, .f32⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S512x1024, .f32⟩
  | 112 => ⟨S512x1024, .f32⟩
  | 113 => ⟨S512x1024, .f32⟩
  | 114 => ⟨S512x1024, .f32⟩
  | 115 => ⟨S512x1024, .f32⟩
  | 116 => ⟨S512x1024, .f32⟩
  | 117 => ⟨S512x1024, .f32⟩
  | 118 => ⟨S256x1024, .f32⟩
  | 119 => ⟨S256x1024, .f32⟩
  | 120 => ⟨S256x1024, .f32⟩
  | 121 => ⟨S256x1024, .f32⟩
  | 122 => ⟨S256x1024, .f32⟩
  | 123 => ⟨S256x1024, .f32⟩
  | 124 => ⟨S256x1024, .f32⟩
  | 125 => ⟨S128x1024, .f32⟩
  | 126 => ⟨S128x1024, .f32⟩
  | 127 => ⟨S128x1024, .f32⟩
  | _ => ⟨S8192x1024, .f32⟩

abbrev hbmTy0_1 (i : Nat) : BufTy := match i % 128 with
  | 0 => ⟨S128x1024, .f32⟩
  | 1 => ⟨S128x1024, .f32⟩
  | 2 => ⟨S128x1024, .f32⟩
  | 3 => ⟨S128x1024, .f32⟩
  | 4 => ⟨S64x1024, .f32⟩
  | 5 => ⟨S64x1024, .f32⟩
  | 6 => ⟨S64x1024, .f32⟩
  | 7 => ⟨S64x1024, .f32⟩
  | 8 => ⟨S64x1024, .f32⟩
  | 9 => ⟨S64x1024, .f32⟩
  | 10 => ⟨S64x1024, .f32⟩
  | 11 => ⟨S32x1024, .f32⟩
  | 12 => ⟨S32x1024, .f32⟩
  | 13 => ⟨S32x1024, .f32⟩
  | 14 => ⟨S32x1024, .f32⟩
  | 15 => ⟨S32x1024, .f32⟩
  | 16 => ⟨S32x1024, .f32⟩
  | 17 => ⟨S32x1024, .f32⟩
  | 18 => ⟨S16x1024, .f32⟩
  | 19 => ⟨S16x1024, .f32⟩
  | 20 => ⟨S16x1024, .f32⟩
  | 21 => ⟨S16x1024, .f32⟩
  | 22 => ⟨S16x1024, .f32⟩
  | 23 => ⟨S16x1024, .f32⟩
  | 24 => ⟨S16x1024, .f32⟩
  | 25 => ⟨S8x1024, .f32⟩
  | 26 => ⟨S8x1024, .f32⟩
  | 27 => ⟨S8x1024, .f32⟩
  | 28 => ⟨S8x1024, .f32⟩
  | 29 => ⟨S8x1024, .f32⟩
  | 30 => ⟨S8x1024, .f32⟩
  | 31 => ⟨S8x1024, .f32⟩
  | 32 => ⟨S4x1024, .f32⟩
  | 33 => ⟨S4x1024, .f32⟩
  | 34 => ⟨S4x1024, .f32⟩
  | 35 => ⟨S4x1024, .f32⟩
  | 36 => ⟨S4x1024, .f32⟩
  | 37 => ⟨S4x1024, .f32⟩
  | 38 => ⟨S4x1024, .f32⟩
  | 39 => ⟨S2x1024, .f32⟩
  | 40 => ⟨S2x1024, .f32⟩
  | 41 => ⟨S2x1024, .f32⟩
  | 42 => ⟨S2x1024, .f32⟩
  | 43 => ⟨S2x1024, .f32⟩
  | 44 => ⟨S2x1024, .f32⟩
  | 45 => ⟨S2x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1x1024, .f32⟩
  | 54 => ⟨S1x1x1024, .f32⟩
  | 55 => ⟨S1x2x1024, .f32⟩
  | 56 => ⟨S2x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S2x1024, .f32⟩
  | 64 => ⟨S2x1x1024, .f32⟩
  | 65 => ⟨S2x1x1024, .f32⟩
  | 66 => ⟨S2x2x1024, .f32⟩
  | 67 => ⟨S4x1024, .f32⟩
  | 68 => ⟨S1x1024, .f32⟩
  | 69 => ⟨S3x1024, .f32⟩
  | 70 => ⟨S3x1024, .f32⟩
  | 71 => ⟨S3x1024, .f32⟩
  | 72 => ⟨S3x1024, .f32⟩
  | 73 => ⟨S3x1024, .f32⟩
  | 74 => ⟨S4x1024, .f32⟩
  | 75 => ⟨S4x1x1024, .f32⟩
  | 76 => ⟨S4x1x1024, .f32⟩
  | 77 => ⟨S4x2x1024, .f32⟩
  | 78 => ⟨S8x1024, .f32⟩
  | 79 => ⟨S1x1024, .f32⟩
  | 80 => ⟨S7x1024, .f32⟩
  | 81 => ⟨S7x1024, .f32⟩
  | 82 => ⟨S7x1024, .f32⟩
  | 83 => ⟨S7x1024, .f32⟩
  | 84 => ⟨S7x1024, .f32⟩
  | 85 => ⟨S8x1024, .f32⟩
  | 86 => ⟨S8x1x1024, .f32⟩
  | 87 => ⟨S8x1x1024, .f32⟩
  | 88 => ⟨S8x2x1024, .f32⟩
  | 89 => ⟨S16x1024, .f32⟩
  | 90 => ⟨S1x1024, .f32⟩
  | 91 => ⟨S15x1024, .f32⟩
  | 92 => ⟨S15x1024, .f32⟩
  | 93 => ⟨S15x1024, .f32⟩
  | 94 => ⟨S15x1024, .f32⟩
  | 95 => ⟨S15x1024, .f32⟩
  | 96 => ⟨S16x1024, .f32⟩
  | 97 => ⟨S16x1x1024, .f32⟩
  | 98 => ⟨S16x1x1024, .f32⟩
  | 99 => ⟨S16x2x1024, .f32⟩
  | 100 => ⟨S32x1024, .f32⟩
  | 101 => ⟨S1x1024, .f32⟩
  | 102 => ⟨S31x1024, .f32⟩
  | 103 => ⟨S31x1024, .f32⟩
  | 104 => ⟨S31x1024, .f32⟩
  | 105 => ⟨S31x1024, .f32⟩
  | 106 => ⟨S31x1024, .f32⟩
  | 107 => ⟨S32x1024, .f32⟩
  | 108 => ⟨S32x1x1024, .f32⟩
  | 109 => ⟨S32x1x1024, .f32⟩
  | 110 => ⟨S32x2x1024, .f32⟩
  | 111 => ⟨S64x1024, .f32⟩
  | 112 => ⟨S1x1024, .f32⟩
  | 113 => ⟨S63x1024, .f32⟩
  | 114 => ⟨S63x1024, .f32⟩
  | 115 => ⟨S63x1024, .f32⟩
  | 116 => ⟨S63x1024, .f32⟩
  | 117 => ⟨S63x1024, .f32⟩
  | 118 => ⟨S64x1024, .f32⟩
  | 119 => ⟨S64x1x1024, .f32⟩
  | 120 => ⟨S64x1x1024, .f32⟩
  | 121 => ⟨S64x2x1024, .f32⟩
  | 122 => ⟨S128x1024, .f32⟩
  | 123 => ⟨S1x1024, .f32⟩
  | 124 => ⟨S127x1024, .f32⟩
  | 125 => ⟨S127x1024, .f32⟩
  | 126 => ⟨S127x1024, .f32⟩
  | 127 => ⟨S127x1024, .f32⟩
  | _ => ⟨S8192x1024, .f32⟩

abbrev hbmTy0_2 (i : Nat) : BufTy := match i % 128 with
  | 0 => ⟨S127x1024, .f32⟩
  | 1 => ⟨S128x1024, .f32⟩
  | 2 => ⟨S128x1x1024, .f32⟩
  | 3 => ⟨S128x1x1024, .f32⟩
  | 4 => ⟨S128x2x1024, .f32⟩
  | 5 => ⟨S256x1024, .f32⟩
  | 6 => ⟨S1x1024, .f32⟩
  | 7 => ⟨S255x1024, .f32⟩
  | 8 => ⟨S255x1024, .f32⟩
  | 9 => ⟨S255x1024, .f32⟩
  | 10 => ⟨S255x1024, .f32⟩
  | 11 => ⟨S255x1024, .f32⟩
  | 12 => ⟨S256x1024, .f32⟩
  | 13 => ⟨S256x1x1024, .f32⟩
  | 14 => ⟨S256x1x1024, .f32⟩
  | 15 => ⟨S256x2x1024, .f32⟩
  | 16 => ⟨S512x1024, .f32⟩
  | 17 => ⟨S1x1024, .f32⟩
  | 18 => ⟨S511x1024, .f32⟩
  | 19 => ⟨S511x1024, .f32⟩
  | 20 => ⟨S511x1024, .f32⟩
  | 21 => ⟨S511x1024, .f32⟩
  | 22 => ⟨S511x1024, .f32⟩
  | 23 => ⟨S512x1024, .f32⟩
  | 24 => ⟨S512x1x1024, .f32⟩
  | 25 => ⟨S512x1x1024, .f32⟩
  | 26 => ⟨S512x2x1024, .f32⟩
  | 27 => ⟨S1024x1024, .f32⟩
  | 28 => ⟨S1x1024, .f32⟩
  | 29 => ⟨S1023x1024, .f32⟩
  | 30 => ⟨S1023x1024, .f32⟩
  | 31 => ⟨S1023x1024, .f32⟩
  | 32 => ⟨S1023x1024, .f32⟩
  | 33 => ⟨S1023x1024, .f32⟩
  | 34 => ⟨S1024x1024, .f32⟩
  | 35 => ⟨S1024x1x1024, .f32⟩
  | 36 => ⟨S1024x1x1024, .f32⟩
  | 37 => ⟨S1024x2x1024, .f32⟩
  | 38 => ⟨S2048x1024, .f32⟩
  | 39 => ⟨S1x1024, .f32⟩
  | 40 => ⟨S2047x1024, .f32⟩
  | 41 => ⟨S2047x1024, .f32⟩
  | 42 => ⟨S2047x1024, .f32⟩
  | 43 => ⟨S2047x1024, .f32⟩
  | 44 => ⟨S2047x1024, .f32⟩
  | 45 => ⟨S2048x1024, .f32⟩
  | 46 => ⟨S2048x1x1024, .f32⟩
  | 47 => ⟨S2048x1x1024, .f32⟩
  | 48 => ⟨S2048x2x1024, .f32⟩
  | 49 => ⟨S4096x1024, .f32⟩
  | 50 => ⟨S1x1024, .f32⟩
  | 51 => ⟨S4095x1024, .f32⟩
  | 52 => ⟨S4095x1024, .f32⟩
  | 53 => ⟨S4095x1024, .f32⟩
  | 54 => ⟨S4095x1024, .f32⟩
  | 55 => ⟨S4095x1024, .f32⟩
  | 56 => ⟨S4096x1024, .f32⟩
  | 57 => ⟨S4096x1x1024, .f32⟩
  | 58 => ⟨S4096x1x1024, .f32⟩
  | 59 => ⟨S4096x2x1024, .f32⟩
  | 60 => ⟨S8192x1024, .f32⟩
  | 61 => ⟨S_, .f32⟩
  | 62 => ⟨S8192x5120, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S8192x2048, .f32⟩
  | 69 => ⟨S8192x256, .f32⟩
  | 70 => ⟨S8192x256, .f32⟩
  | 71 => ⟨S8192x256, .f32⟩
  | 72 => ⟨S8192x256, .f32⟩
  | 73 => ⟨S8192x9216, .f32⟩
  | 74 => ⟨S4x4x64x64, .f32⟩
  | 75 => ⟨S4x4, .i32⟩
  | 76 => ⟨S4x4, .i32⟩
  | 77 => ⟨S_, .i32⟩
  | 78 => ⟨S4x4, .i32⟩
  | 79 => ⟨S4x4, .i32⟩
  | 80 => ⟨S4x4, .i1⟩
  | 81 => ⟨S4x4, .f32⟩
  | 82 => ⟨S4x4x64x1x64, .f32⟩
  | 83 => ⟨S1x4x1x4x1, .f32⟩
  | 84 => ⟨S4x4x64x4x64, .f32⟩
  | 85 => ⟨S4x4x64x4x64, .f32⟩
  | 86 => ⟨S4x4x64x4x64, .f32⟩
  | 87 => ⟨S4x256x256, .f32⟩
  | 88 => ⟨S4x256x256, .bf16⟩
  | 89 => ⟨S4x4x64x64, .f32⟩
  | 90 => ⟨S4x4, .i32⟩
  | 91 => ⟨S4x4, .i32⟩
  | 92 => ⟨S_, .i32⟩
  | 93 => ⟨S4x4, .i32⟩
  | 94 => ⟨S4x4, .i32⟩
  | 95 => ⟨S4x4, .i1⟩
  | 96 => ⟨S4x4, .f32⟩
  | 97 => ⟨S4x4x64x1x64, .f32⟩
  | 98 => ⟨S1x4x1x4x1, .f32⟩
  | 99 => ⟨S4x4x64x4x64, .f32⟩
  | 100 => ⟨S4x4x64x4x64, .f32⟩
  | 101 => ⟨S4x4x64x4x64, .f32⟩
  | 102 => ⟨S4x256x256, .f32⟩
  | 103 => ⟨S4x256x256, .bf16⟩
  | 104 => ⟨S1x1024, .f32⟩
  | 105 => ⟨S8192x1024, .f32⟩
  | 106 => ⟨S1x8192x1024, .f32⟩
  | 107 => ⟨S1x8192x1024, .f32⟩
  | 108 => ⟨S1x8192x1024, .f32⟩
  | 109 => ⟨S1x8192x1024, .f32⟩
  | 110 => ⟨S1x8192x1024, .f32⟩
  | 111 => ⟨S5x8192x1024, .f32⟩
  | 112 => ⟨S_, .bf16⟩
  | 113 => ⟨S8192x9216, .bf16⟩
  | 114 => ⟨S8192x9216, .bf16⟩
  | 115 => ⟨S64x1024, .f32⟩
  | 116 => ⟨S4x256x256, .f32⟩
  | 117 => ⟨S4x256x256, .f32⟩
  | 118 => ⟨S8x8x1024, .f32⟩
  | 119 => ⟨S_, .f32⟩
  | 120 => ⟨S8x1024, .f32⟩
  | 121 => ⟨S8192x256, .bf16⟩
  | 122 => ⟨S8192x256, .bf16⟩
  | 123 => ⟨S8192x256, .bf16⟩
  | 124 => ⟨S8192x256, .bf16⟩
  | 125 => ⟨S8192x1024, .bf16⟩
  | 126 => ⟨S8192x256, .bf16⟩
  | 127 => ⟨S8192x256, .bf16⟩
  | _ => ⟨S8192x1024, .f32⟩

abbrev hbmTy0_3 (i : Nat) : BufTy := match i % 128 with
  | 0 => ⟨S8192x256, .bf16⟩
  | 1 => ⟨S8192x256, .bf16⟩
  | 2 => ⟨S8192x1024, .bf16⟩
  | 3 => ⟨S4x1024, .f32⟩
  | 4 => ⟨S1x1024, .f32⟩
  | 5 => ⟨S1024, .f32⟩
  | 6 => ⟨S4x4x64x4x64, .f32⟩
  | 7 => ⟨S4x1x64x1x64, .f32⟩
  | 8 => ⟨S4x64x64, .f32⟩
  | 9 => ⟨S4x1x64x1x64, .f32⟩
  | 10 => ⟨S4x64x64, .f32⟩
  | 11 => ⟨S4x1x64x1x64, .f32⟩
  | 12 => ⟨S4x64x64, .f32⟩
  | 13 => ⟨S4x1x64x1x64, .f32⟩
  | 14 => ⟨S4x64x64, .f32⟩
  | 15 => ⟨S4x1x64x64, .f32⟩
  | 16 => ⟨S4x1x64x64, .f32⟩
  | 17 => ⟨S4x1x64x64, .f32⟩
  | 18 => ⟨S4x1x64x64, .f32⟩
  | 19 => ⟨S4x4x64x64, .f32⟩
  | 20 => ⟨S16x64x64, .f32⟩
  | 21 => ⟨S1x1024, .f32⟩
  | 22 => ⟨S1024, .f32⟩
  | 23 => ⟨S4x4x64x4x64, .f32⟩
  | 24 => ⟨S4x1x64x1x64, .f32⟩
  | 25 => ⟨S4x64x64, .f32⟩
  | 26 => ⟨S4x1x64x1x64, .f32⟩
  | 27 => ⟨S4x64x64, .f32⟩
  | 28 => ⟨S4x1x64x1x64, .f32⟩
  | 29 => ⟨S4x64x64, .f32⟩
  | 30 => ⟨S4x1x64x1x64, .f32⟩
  | 31 => ⟨S4x64x64, .f32⟩
  | 32 => ⟨S4x1x64x64, .f32⟩
  | 33 => ⟨S4x1x64x64, .f32⟩
  | 34 => ⟨S4x1x64x64, .f32⟩
  | 35 => ⟨S4x1x64x64, .f32⟩
  | 36 => ⟨S4x4x64x64, .f32⟩
  | 37 => ⟨S16x64x64, .f32⟩
  | 38 => ⟨S1x1024, .f32⟩
  | 39 => ⟨S1024, .f32⟩
  | 40 => ⟨S1x1024, .f32⟩
  | 41 => ⟨S1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S8x256, .f32⟩
  | .local _ .vmem, ⟨5, _⟩ => ⟨S8x256, .f32⟩
  | .local _ .vmem, ⟨6, _⟩ => ⟨S5x256x256, .f32⟩
  | .local _ .vmem, ⟨7, _⟩ => ⟨S5x256x256, .f32⟩
  | .local _ .vmem, ⟨8, _⟩ => ⟨S256x256, .f32⟩
  | .local _ .vmem, ⟨9, _⟩ => ⟨S256x256, .f32⟩
  | .local _ .vmem, ⟨10, _⟩ => ⟨S4x256, .f32⟩
  | .local _ .vmem, ⟨11, _⟩ => ⟨S4x256, .f32⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256, .f32⟩
  | .local _ .vmem, ⟨17, _⟩ => ⟨S1x256, .f32⟩
  | .local _ .vmem, ⟨18, _⟩ => ⟨S256x512, .bf16⟩
  | .local _ .vmem, ⟨19, _⟩ => ⟨S256x512, .bf16⟩
  | .local _ .vmem, ⟨20, _⟩ => ⟨S64x256, .f32⟩
  | .local _ .vmem, ⟨21, _⟩ => ⟨S64x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S8x256, .f32⟩
  | .local _ .vmem, ⟨27, _⟩ => ⟨S8x256, .f32⟩
  | .local _ .vmem, ⟨28, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_cst_6 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev main_v304 : Ref sig .tc := ⟨.hbm, 322, rfl⟩
abbrev main_cst_7 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_c : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_c_8 : Ref sig .tc := ⟨.hbm, 348, rfl⟩
abbrev main_v328 : Ref sig .tc := ⟨.hbm, 349, rfl⟩
abbrev main_v329 : Ref sig .tc := ⟨.hbm, 350, rfl⟩
abbrev main_v330 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_cst_9 : Ref sig .tc := ⟨.hbm, 368, rfl⟩
abbrev main_v347 : Ref sig .tc := ⟨.hbm, 369, rfl⟩
abbrev main_v348_0 : Ref sig .tc := ⟨.hbm, 370, rfl⟩
abbrev main_v348_1 : Ref sig .tc := ⟨.hbm, 371, rfl⟩
abbrev main_v348_2 : Ref sig .tc := ⟨.hbm, 372, rfl⟩
abbrev main_v348_3 : Ref sig .tc := ⟨.hbm, 373, rfl⟩
abbrev main_v349 : Ref sig .tc := ⟨.hbm, 374, rfl⟩
abbrev main_cst_10 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_v354 : Ref sig .tc := ⟨.hbm, 380, rfl⟩
abbrev main_v355 : Ref sig .tc := ⟨.hbm, 381, rfl⟩
abbrev main_v356 : Ref sig .tc := ⟨.hbm, 382, rfl⟩
abbrev main_v357 : Ref sig .tc := ⟨.hbm, 383, rfl⟩
abbrev main_v358 : Ref sig .tc := ⟨.hbm, 384, rfl⟩
abbrev main_v359 : Ref sig .tc := ⟨.hbm, 385, rfl⟩
abbrev main_v360 : Ref sig .tc := ⟨.hbm, 386, rfl⟩
abbrev main_v361 : Ref sig .tc := ⟨.hbm, 387, rfl⟩
abbrev main_v362 : Ref sig .tc := ⟨.hbm, 388, rfl⟩
abbrev main_v363 : Ref sig .tc := ⟨.hbm, 389, rfl⟩
abbrev main_v364 : Ref sig .tc := ⟨.hbm, 390, rfl⟩
abbrev main_v365 : Ref sig .tc := ⟨.hbm, 391, rfl⟩
abbrev main_v366 : Ref sig .tc := ⟨.hbm, 392, rfl⟩
abbrev main_v367 : Ref sig .tc := ⟨.hbm, 393, rfl⟩
abbrev main_v368 : Ref sig .tc := ⟨.hbm, 394, rfl⟩
abbrev main_v369 : Ref sig .tc := ⟨.hbm, 395, rfl⟩
abbrev main_v370 : Ref sig .tc := ⟨.hbm, 396, rfl⟩
abbrev main_v371 : Ref sig .tc := ⟨.hbm, 397, rfl⟩
abbrev main_v372 : Ref sig .tc := ⟨.hbm, 398, rfl⟩
abbrev main_v373 : Ref sig .tc := ⟨.hbm, 399, rfl⟩
abbrev main_v374 : Ref sig .tc := ⟨.hbm, 400, rfl⟩
abbrev main_v375 : Ref sig .tc := ⟨.hbm, 401, rfl⟩
abbrev main_v376 : Ref sig .tc := ⟨.hbm, 402, rfl⟩
abbrev main_v377 : Ref sig .tc := ⟨.hbm, 403, rfl⟩
abbrev main_v378 : Ref sig .tc := ⟨.hbm, 404, rfl⟩
abbrev main_v379 : Ref sig .tc := ⟨.hbm, 405, rfl⟩
abbrev main_v380 : Ref sig .tc := ⟨.hbm, 406, rfl⟩
abbrev main_v381 : Ref sig .tc := ⟨.hbm, 407, rfl⟩
abbrev main_v382 : Ref sig .tc := ⟨.hbm, 408, rfl⟩
abbrev main_v383 : Ref sig .tc := ⟨.hbm, 409, rfl⟩
abbrev main_v384 : Ref sig .tc := ⟨.hbm, 410, rfl⟩
abbrev main_v385 : Ref sig .tc := ⟨.hbm, 411, rfl⟩
abbrev main_v386 : Ref sig .tc := ⟨.hbm, 412, rfl⟩
abbrev main_v387 : Ref sig .tc := ⟨.hbm, 413, rfl⟩
abbrev main_v388 : Ref sig .tc := ⟨.hbm, 414, rfl⟩
abbrev main_v389 : Ref sig .tc := ⟨.hbm, 415, rfl⟩
abbrev main_v390 : Ref sig .tc := ⟨.hbm, 416, rfl⟩
abbrev main_v391 : Ref sig .tc := ⟨.hbm, 417, rfl⟩
abbrev main_v392 : Ref sig .tc := ⟨.hbm, 418, rfl⟩
abbrev main_v393 : Ref sig .tc := ⟨.hbm, 419, rfl⟩
abbrev main_v394 : Ref sig .tc := ⟨.hbm, 420, rfl⟩
abbrev main_v395 : Ref sig .tc := ⟨.hbm, 421, rfl⟩
abbrev main_v396 : Ref sig .tc := ⟨.hbm, 422, rfl⟩
abbrev main_v397 : Ref sig .tc := ⟨.hbm, 423, rfl⟩
abbrev main_v398 : Ref sig .tc := ⟨.hbm, 424, rfl⟩
abbrev main_v399 : Ref sig .tc := ⟨.hbm, 425, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c10_i32 : BitVec 32 := 10#32
  let v1 : BitVec 32 := Scalar.addi c10_i32 arg0
  let c2_i32 : BitVec 32 := 2#32
  let v2 : BitVec 32 := Scalar.divsi arg0 c2_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg0 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.muli c4_i32 v18
  let v20 : BitVec 32 := Scalar.addi v1 v19
  let c0_i32_4 : BitVec 32 := 0#32
  ![v0.toNat, v20.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 1 := Scalar.cmpi .eq v0 c0_i32
  let c31_i32_0 : BitVec 32 := 31#32
  let v2 : BitVec 32 := Scalar.subi c31_i32_0 arg1
  let c32_i32 : BitVec 32 := 32#32
  let v3 : BitVec 32 := Scalar.muli v2 c32_i32
  let c1_i32 : BitVec 32 := 1#32
  let v4 : BitVec 32 := Scalar.subi v3 c1_i32
  let c0_i32_1 : BitVec 32 := 0#32
  let v5 : BitVec 32 := Scalar.select v1 c0_i32_1 v4
  let c0_i32_2 : BitVec 32 := 0#32
  ![v5.toNat, arg0.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c10_i32 : BitVec 32 := 10#32
  let v1 : BitVec 32 := Scalar.addi c10_i32 arg0
  let c2_i32 : BitVec 32 := 2#32
  let v2 : BitVec 32 := Scalar.divsi arg0 c2_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg0 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.muli c4_i32 v18
  let v20 : BitVec 32 := Scalar.addi v1 v19
  let c0_i32_4 : BitVec 32 := 0#32
  ![v0.toNat, v20.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x1024 : Shape := ⟨2, ![8192, 1024]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S8192x16x64 : Shape := ⟨3, ![8192, 16, 64]⟩
abbrev S16x64x8192 : Shape := ⟨3, ![16, 64, 8192]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S1x1x1024 : Shape := ⟨3, ![1, 1, 1024]⟩
abbrev S1x2x1024 : Shape := ⟨3, ![1, 2, 1024]⟩
abbrev S2x1x1024 : Shape := ⟨3, ![2, 1, 1024]⟩
abbrev S2x2x1024 : Shape := ⟨3, ![2, 2, 1024]⟩
abbrev S4x1x1024 : Shape := ⟨3, ![4, 1, 1024]⟩
abbrev S4x2x1024 : Shape := ⟨3, ![4, 2, 1024]⟩
abbrev S7x1024 : Shape := ⟨2, ![7, 1024]⟩
abbrev S8x1x1024 : Shape := ⟨3, ![8, 1, 1024]⟩
abbrev S8x2x1024 : Shape := ⟨3, ![8, 2, 1024]⟩
abbrev S15x1024 : Shape := ⟨2, ![15, 1024]⟩
abbrev S16x1x1024 : Shape := ⟨3, ![16, 1, 1024]⟩
abbrev S16x2x1024 : Shape := ⟨3, ![16, 2, 1024]⟩
abbrev S31x1024 : Shape := ⟨2, ![31, 1024]⟩
abbrev S32x1x1024 : Shape := ⟨3, ![32, 1, 1024]⟩
abbrev S32x2x1024 : Shape := ⟨3, ![32, 2, 1024]⟩
abbrev S63x1024 : Shape := ⟨2, ![63, 1024]⟩
abbrev S64x1x1024 : Shape := ⟨3, ![64, 1, 1024]⟩
abbrev S64x2x1024 : Shape := ⟨3, ![64, 2, 1024]⟩
abbrev S127x1024 : Shape := ⟨2, ![127, 1024]⟩
abbrev S128x1x1024 : Shape := ⟨3, ![128, 1, 1024]⟩
abbrev S128x2x1024 : Shape := ⟨3, ![128, 2, 1024]⟩
abbrev S255x1024 : Shape := ⟨2, ![255, 1024]⟩
abbrev S256x1x1024 : Shape := ⟨3, ![256, 1, 1024]⟩
abbrev S256x2x1024 : Shape := ⟨3, ![256, 2, 1024]⟩
abbrev S511x1024 : Shape := ⟨2, ![511, 1024]⟩
abbrev S512x1x1024 : Shape := ⟨3, ![512, 1, 1024]⟩
abbrev S512x2x1024 : Shape := ⟨3, ![512, 2, 1024]⟩
abbrev S1023x1024 : Shape := ⟨2, ![1023, 1024]⟩
abbrev S1024x1x1024 : Shape := ⟨3, ![1024, 1, 1024]⟩
abbrev S1024x2x1024 : Shape := ⟨3, ![1024, 2, 1024]⟩
abbrev S2047x1024 : Shape := ⟨2, ![2047, 1024]⟩
abbrev S2048x1x1024 : Shape := ⟨3, ![2048, 1, 1024]⟩
abbrev S2048x2x1024 : Shape := ⟨3, ![2048, 2, 1024]⟩
abbrev S4095x1024 : Shape := ⟨2, ![4095, 1024]⟩
abbrev S4096x1x1024 : Shape := ⟨3, ![4096, 1, 1024]⟩
abbrev S4096x2x1024 : Shape := ⟨3, ![4096, 2, 1024]⟩
abbrev S16x8192x64 : Shape := ⟨3, ![16, 8192, 64]⟩

abbrev nBuf : Space → Nat
  | .hbm => 947
  | .vmem => 0
  | .smem => 0
  | _ => 0

abbrev hbmTy0_0 (i : Nat) : BufTy := match i % 128 with
  | 0 => ⟨S8192x1024, .f32⟩
  | 1 => ⟨S8192x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S8192x1024, .f32⟩
  | 10 => ⟨S_, .f32⟩
  | 11 => ⟨S3x1024, .f32⟩
  | 12 => ⟨S8195x1024, .f32⟩
  | 13 => ⟨S_, .f32⟩
  | 14 => ⟨S3x1024, .f32⟩
  | 15 => ⟨S8192x1024, .f32⟩
  | 16 => ⟨S1x1024, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x16x64, .f32⟩
  | 46 => ⟨S16x64x8192, .f32⟩
  | 47 => ⟨S8192x16x64, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S16x64x8192, .f32⟩
  | 65 => ⟨S8192x16x64, .f32⟩
  | 66 => ⟨S8192x1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S512x1024, .f32⟩
  | 29 => ⟨S512x1024, .f32⟩
  | 30 => ⟨S512x1024, .f32⟩
  | 31 => ⟨S512x1024, .f32⟩
  | 32 => ⟨S512x1024, .f32⟩
  | 33 => ⟨S512x1024, .f32⟩
  | 34 => ⟨S512x1024, .f32⟩
  | 35 => ⟨S256x1024, .f32⟩
  | 36 => ⟨S256x1024, .f32⟩
  | 37 => ⟨S256x1024, .f32⟩
  | 38 => ⟨S256x1024, .f32⟩
  | 39 => ⟨S256x1024, .f32⟩
  | 40 => ⟨S256x1024, .f32⟩
  | 41 => ⟨S256x1024, .f32⟩
  | 42 => ⟨S128x1024, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S128x1024, .f32⟩
  | 49 => ⟨S64x1024, .f32⟩
  | 50 => ⟨S64x1024, .f32⟩
  | 51 => ⟨S64x1024, .f32⟩
  | 52 => ⟨S64x1024, .f32⟩
  | 53 => ⟨S64x1024, .f32⟩
  | 54 => ⟨S64x1024, .f32⟩
  | 55 => ⟨S64x1024, .f32⟩
  | 56 => ⟨S32x1024, .f32⟩
  | 57 => ⟨S32x1024, .f32⟩
  | 58 => ⟨S32x1024, .f32⟩
  | 59 => ⟨S32x1024, .f32⟩
  | 60 => ⟨S32x1024, .f32⟩
  | 61 => ⟨S32x1024, .f32⟩
  | 62 => ⟨S32x1024, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S16x1024, .f32⟩
  | 70 => ⟨S8x1024, .f32⟩
  | 71 => ⟨S8x1024, .f32⟩
  | 72 => ⟨S8x1024, .f32⟩
  | 73 => ⟨S8x1024, .f32⟩
  | 74 => ⟨S8x1024, .f32⟩
  | 75 => ⟨S8x1024, .f32⟩
  | 76 => ⟨S8x1024, .f32⟩
  | 77 => ⟨S4x1024, .f32⟩
  | 78 => ⟨S4x1024, .f32⟩
  | 79 => ⟨S4x1024, .f32⟩
  | 80 => ⟨S4x1024, .f32⟩
  | 81 => ⟨S4x1024, .f32⟩
  | 82 => ⟨S4x1024, .f32⟩
  | 83 => ⟨S4x1024, .f32⟩
  | 84 => ⟨S2x1024, .f32⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S2x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1x1024, .f32⟩
  | 99 => ⟨S1x1x1024, .f32⟩
  | 100 => ⟨S1x2x1024, .f32⟩
  | 101 => ⟨S2x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S2x1024, .f32⟩
  | 109 => ⟨S2x1x1024, .f32⟩
  | 110 => ⟨S2x1x1024, .f32⟩
  | 111 => ⟨S2x2x1024, .f32⟩
  | 112 => ⟨S4x1024, .f32⟩
  | 113 => ⟨S1x1024, .f32⟩
  | 114 => ⟨S3x1024, .f32⟩
  | 115 => ⟨S3x1024, .f32⟩
  | 116 => ⟨S3x1024, .f32⟩
  | 117 => ⟨S3x1024, .f32⟩
  | 118 => ⟨S3x1024, .f32⟩
  | 119 => ⟨S4x1024, .f32⟩
  | 120 => ⟨S4x1x1024, .f32⟩
  | 121 => ⟨S4x1x1024, .f32⟩
  | 122 => ⟨S4x2x1024, .f32⟩
  | 123 => ⟨S8x1024, .f32⟩
  | 124 => ⟨S1x1024, .f32⟩
  | 125 => ⟨S7x1024, .f32⟩
  | 126 => ⟨S7x1024, .f32⟩
  | 127 => ⟨S7x1024, .f32⟩
  | _ => ⟨S8192x1024, .f32⟩

abbrev hbmTy0_2 (i : Nat) : BufTy := match i % 128 with
  | 0 => ⟨S7x1024, .f32⟩
  | 1 => ⟨S7x1024, .f32⟩
  | 2 => ⟨S8x1024, .f32⟩
  | 3 => ⟨S8x1x1024, .f32⟩
  | 4 => ⟨S8x1x1024, .f32⟩
  | 5 => ⟨S8x2x1024, .f32⟩
  | 6 => ⟨S16x1024, .f32⟩
  | 7 => ⟨S1x1024, .f32⟩
  | 8 => ⟨S15x1024, .f32⟩
  | 9 => ⟨S15x1024, .f32⟩
  | 10 => ⟨S15x1024, .f32⟩
  | 11 => ⟨S15x1024, .f32⟩
  | 12 => ⟨S15x1024, .f32⟩
  | 13 => ⟨S16x1024, .f32⟩
  | 14 => ⟨S16x1x1024, .f32⟩
  | 15 => ⟨S16x1x1024, .f32⟩
  | 16 => ⟨S16x2x1024, .f32⟩
  | 17 => ⟨S32x1024, .f32⟩
  | 18 => ⟨S1x1024, .f32⟩
  | 19 => ⟨S31x1024, .f32⟩
  | 20 => ⟨S31x1024, .f32⟩
  | 21 => ⟨S31x1024, .f32⟩
  | 22 => ⟨S31x1024, .f32⟩
  | 23 => ⟨S31x1024, .f32⟩
  | 24 => ⟨S32x1024, .f32⟩
  | 25 => ⟨S32x1x1024, .f32⟩
  | 26 => ⟨S32x1x1024, .f32⟩
  | 27 => ⟨S32x2x1024, .f32⟩
  | 28 => ⟨S64x1024, .f32⟩
  | 29 => ⟨S1x1024, .f32⟩
  | 30 => ⟨S63x1024, .f32⟩
  | 31 => ⟨S63x1024, .f32⟩
  | 32 => ⟨S63x1024, .f32⟩
  | 33 => ⟨S63x1024, .f32⟩
  | 34 => ⟨S63x1024, .f32⟩
  | 35 => ⟨S64x1024, .f32⟩
  | 36 => ⟨S64x1x1024, .f32⟩
  | 37 => ⟨S64x1x1024, .f32⟩
  | 38 => ⟨S64x2x1024, .f32⟩
  | 39 => ⟨S128x1024, .f32⟩
  | 40 => ⟨S1x1024, .f32⟩
  | 41 => ⟨S127x1024, .f32⟩
  | 42 => ⟨S127x1024, .f32⟩
  | 43 => ⟨S127x1024, .f32⟩
  | 44 => ⟨S127x1024, .f32⟩
  | 45 => ⟨S127x1024, .f32⟩
  | 46 => ⟨S128x1024, .f32⟩
  | 47 => ⟨S128x1x1024, .f32⟩
  | 48 => ⟨S128x1x1024, .f32⟩
  | 49 => ⟨S128x2x1024, .f32⟩
  | 50 => ⟨S256x1024, .f32⟩
  | 51 => ⟨S1x1024, .f32⟩
  | 52 => ⟨S255x1024, .f32⟩
  | 53 => ⟨S255x1024, .f32⟩
  | 54 => ⟨S255x1024, .f32⟩
  | 55 => ⟨S255x1024, .f32⟩
  | 56 => ⟨S255x1024, .f32⟩
  | 57 => ⟨S256x1024, .f32⟩
  | 58 => ⟨S256x1x1024, .f32⟩
  | 59 => ⟨S256x1x1024, .f32⟩
  | 60 => ⟨S256x2x1024, .f32⟩
  | 61 => ⟨S512x1024, .f32⟩
  | 62 => ⟨S1x1024, .f32⟩
  | 63 => ⟨S511x1024, .f32⟩
  | 64 => ⟨S511x1024, .f32⟩
  | 65 => ⟨S511x1024, .f32⟩
  | 66 => ⟨S511x1024, .f32⟩
  | 67 => ⟨S511x1024, .f32⟩
  | 68 => ⟨S512x1024, .f32⟩
  | 69 => ⟨S512x1x1024, .f32⟩
  | 70 => ⟨S512x1x1024, .f32⟩
  | 71 => ⟨S512x2x1024, .f32⟩
  | 72 => ⟨S1024x1024, .f32⟩
  | 73 => ⟨S1x1024, .f32⟩
  | 74 => ⟨S1023x1024, .f32⟩
  | 75 => ⟨S1023x1024, .f32⟩
  | 76 => ⟨S1023x1024, .f32⟩
  | 77 => ⟨S1023x1024, .f32⟩
  | 78 => ⟨S1023x1024, .f32⟩
  | 79 => ⟨S1024x1024, .f32⟩
  | 80 => ⟨S1024x1x1024, .f32⟩
  | 81 => ⟨S1024x1x1024, .f32⟩
  | 82 => ⟨S1024x2x1024, .f32⟩
  | 83 => ⟨S2048x1024, .f32⟩
  | 84 => ⟨S1x1024, .f32⟩
  | 85 => ⟨S2047x1024, .f32⟩
  | 86 => ⟨S2047x1024, .f32⟩
  | 87 => ⟨S2047x1024, .f32⟩
  | 88 => ⟨S2047x1024, .f32⟩
  | 89 => ⟨S2047x1024, .f32⟩
  | 90 => ⟨S2048x1024, .f32⟩
  | 91 => ⟨S2048x1x1024, .f32⟩
  | 92 => ⟨S2048x1x1024, .f32⟩
  | 93 => ⟨S2048x2x1024, .f32⟩
  | 94 => ⟨S4096x1024, .f32⟩
  | 95 => ⟨S1x1024, .f32⟩
  | 96 => ⟨S4095x1024, .f32⟩
  | 97 => ⟨S4095x1024, .f32⟩
  | 98 => ⟨S4095x1024, .f32⟩
  | 99 => ⟨S4095x1024, .f32⟩
  | 100 => ⟨S4095x1024, .f32⟩
  | 101 => ⟨S4096x1024, .f32⟩
  | 102 => ⟨S4096x1x1024, .f32⟩
  | 103 => ⟨S4096x1x1024, .f32⟩
  | 104 => ⟨S4096x2x1024, .f32⟩
  | 105 => ⟨S8192x1024, .f32⟩
  | 106 => ⟨S8192x1024, .f32⟩
  | 107 => ⟨S8192x1024, .f32⟩
  | 108 => ⟨S8192x1024, .f32⟩
  | 109 => ⟨S4096x2x1024, .f32⟩
  | 110 => ⟨S4096x1x1024, .f32⟩
  | 111 => ⟨S4096x1024, .f32⟩
  | 112 => ⟨S4096x1x1024, .f32⟩
  | 113 => ⟨S4096x1024, .f32⟩
  | 114 => ⟨S1x1024, .f32⟩
  | 115 => ⟨S4095x1024, .f32⟩
  | 116 => ⟨S_, .f32⟩
  | 117 => ⟨S8192x1024, .f32⟩
  | 118 => ⟨S4095x1024, .f32⟩
  | 119 => ⟨S4095x1024, .f32⟩
  | 120 => ⟨S_, .f32⟩
  | 121 => ⟨S4096x1024, .f32⟩
  | 122 => ⟨S4096x1024, .f32⟩
  | 123 => ⟨S_, .f32⟩
  | 124 => ⟨S8192x1024, .f32⟩
  | 125 => ⟨S_, .f32⟩
  | 126 => ⟨S8192x1024, .f32⟩
  | 127 => ⟨S8192x1024, .f32⟩
  | _ => ⟨S8192x1024, .f32⟩

abbrev hbmTy0_3 (i : Nat) : BufTy := match i % 128 with
  | 0 => ⟨S2048x2x1024, .f32⟩
  | 1 => ⟨S2048x1x1024, .f32⟩
  | 2 => ⟨S2048x1024, .f32⟩
  | 3 => ⟨S2048x1x1024, .f32⟩
  | 4 => ⟨S2048x1024, .f32⟩
  | 5 => ⟨S1x1024, .f32⟩
  | 6 => ⟨S2047x1024, .f32⟩
  | 7 => ⟨S_, .f32⟩
  | 8 => ⟨S4096x1024, .f32⟩
  | 9 => ⟨S2047x1024, .f32⟩
  | 10 => ⟨S2047x1024, .f32⟩
  | 11 => ⟨S_, .f32⟩
  | 12 => ⟨S2048x1024, .f32⟩
  | 13 => ⟨S2048x1024, .f32⟩
  | 14 => ⟨S_, .f32⟩
  | 15 => ⟨S4096x1024, .f32⟩
  | 16 => ⟨S_, .f32⟩
  | 17 => ⟨S4096x1024, .f32⟩
  | 18 => ⟨S4096x1024, .f32⟩
  | 19 => ⟨S1024x2x1024, .f32⟩
  | 20 => ⟨S1024x1x1024, .f32⟩
  | 21 => ⟨S1024x1024, .f32⟩
  | 22 => ⟨S1024x1x1024, .f32⟩
  | 23 => ⟨S1024x1024, .f32⟩
  | 24 => ⟨S1x1024, .f32⟩
  | 25 => ⟨S1023x1024, .f32⟩
  | 26 => ⟨S_, .f32⟩
  | 27 => ⟨S2048x1024, .f32⟩
  | 28 => ⟨S1023x1024, .f32⟩
  | 29 => ⟨S1023x1024, .f32⟩
  | 30 => ⟨S_, .f32⟩
  | 31 => ⟨S1024x1024, .f32⟩
  | 32 => ⟨S1024x1024, .f32⟩
  | 33 => ⟨S_, .f32⟩
  | 34 => ⟨S2048x1024, .f32⟩
  | 35 => ⟨S_, .f32⟩
  | 36 => ⟨S2048x1024, .f32⟩
  | 37 => ⟨S2048x1024, .f32⟩
  | 38 => ⟨S512x2x1024, .f32⟩
  | 39 => ⟨S512x1x1024, .f32⟩
  | 40 => ⟨S512x1024, .f32⟩
  | 41 => ⟨S512x1x1024, .f32⟩
  | 42 => ⟨S512x1024, .f32⟩
  | 43 => ⟨S1x1024, .f32⟩
  | 44 => ⟨S511x1024, .f32⟩
  | 45 => ⟨S_, .f32⟩
  | 46 => ⟨S1024x1024, .f32⟩
  | 47 => ⟨S511x1024, .f32⟩
  | 48 => ⟨S511x1024, .f32⟩
  | 49 => ⟨S_, .f32⟩
  | 50 => ⟨S512x1024, .f32⟩
  | 51 => ⟨S512x1024, .f32⟩
  | 52 => ⟨S_, .f32⟩
  | 53 => ⟨S1024x1024, .f32⟩
  | 54 => ⟨S_, .f32⟩
  | 55 => ⟨S1024x1024, .f32⟩
  | 56 => ⟨S1024x1024, .f32⟩
  | 57 => ⟨S256x2x1024, .f32⟩
  | 58 => ⟨S256x1x1024, .f32⟩
  | 59 => ⟨S256x1024, .f32⟩
  | 60 => ⟨S256x1x1024, .f32⟩
  | 61 => ⟨S256x1024, .f32⟩
  | 62 => ⟨S1x1024, .f32⟩
  | 63 => ⟨S255x1024, .f32⟩
  | 64 => ⟨S_, .f32⟩
  | 65 => ⟨S512x1024, .f32⟩
  | 66 => ⟨S255x1024, .f32⟩
  | 67 => ⟨S255x1024, .f32⟩
  | 68 => ⟨S_, .f32⟩
  | 69 => ⟨S256x1024, .f32⟩
  | 70 => ⟨S256x1024, .f32⟩
  | 71 => ⟨S_, .f32⟩
  | 72 => ⟨S512x1024, .f32⟩
  | 73 => ⟨S_, .f32⟩
  | 74 => ⟨S512x1024, .f32⟩
  | 75 => ⟨S512x1024, .f32⟩
  | 76 => ⟨S128x2x1024, .f32⟩
  | 77 => ⟨S128x1x1024, .f32⟩
  | 78 => ⟨S128x1024, .f32⟩
  | 79 => ⟨S128x1x1024, .f32⟩
  | 80 => ⟨S128x1024, .f32⟩
  | 81 => ⟨S1x1024, .f32⟩
  | 82 => ⟨S127x1024, .f32⟩
  | 83 => ⟨S_, .f32⟩
  | 84 => ⟨S256x1024, .f32⟩
  | 85 => ⟨S127x1024, .f32⟩
  | 86 => ⟨S127x1024, .f32⟩
  | 87 => ⟨S_, .f32⟩
  | 88 => ⟨S128x1024, .f32⟩
  | 89 => ⟨S128x1024, .f32⟩
  | 90 => ⟨S_, .f32⟩
  | 91 => ⟨S256x1024, .f32⟩
  | 92 => ⟨S_, .f32⟩
  | 93 => ⟨S256x1024, .f32⟩
  | 94 => ⟨S256x1024, .f32⟩
  | 95 => ⟨S64x2x1024, .f32⟩
  | 96 => ⟨S64x1x1024, .f32⟩
  | 97 => ⟨S64x1024, .f32⟩
  | 98 => ⟨S64x1x1024, .f32⟩
  | 99 => ⟨S64x1024, .f32⟩
  | 100 => ⟨S1x1024, .f32⟩
  | 101 => ⟨S63x1024, .f32⟩
  | 102 => ⟨S_, .f32⟩
  | 103 => ⟨S128x1024, .f32⟩
  | 104 => ⟨S63x1024, .f32⟩
  | 105 => ⟨S63x1024, .f32⟩
  | 106 => ⟨S_, .f32⟩
  | 107 => ⟨S64x1024, .f32⟩
  | 108 => ⟨S64x1024, .f32⟩
  | 109 => ⟨S_, .f32⟩
  | 110 => ⟨S128x1024, .f32⟩
  | 111 => ⟨S_, .f32⟩
  | 112 => ⟨S128x1024, .f32⟩
  | 113 => ⟨S128x1024, .f32⟩
  | 114 => ⟨S32x2x1024, .f32⟩
  | 115 => ⟨S32x1x1024, .f32⟩
  | 116 => ⟨S32x1024, .f32⟩
  | 117 => ⟨S32x1x1024, .f32⟩
  | 118 => ⟨S32x1024, .f32⟩
  | 119 => ⟨S1x1024, .f32⟩
  | 120 => ⟨S31x1024, .f32⟩
  | 121 => ⟨S_, .f32⟩
  | 122 => ⟨S64x1024, .f32⟩
  | 123 => ⟨S31x1024, .f32⟩
  | 124 => ⟨S31x1024, .f32⟩
  | 125 => ⟨S_, .f32⟩
  | 126 => ⟨S32x1024, .f32⟩
  | 127 => ⟨S32x1024, .f32⟩
  | _ => ⟨S8192x1024, .f32⟩

abbrev hbmTy0_4 (i : Nat) : BufTy := match i % 128 with
  | 0 => ⟨S_, .f32⟩
  | 1 => ⟨S64x1024, .f32⟩
  | 2 => ⟨S_, .f32⟩
  | 3 => ⟨S64x1024, .f32⟩
  | 4 => ⟨S64x1024, .f32⟩
  | 5 => ⟨S16x2x1024, .f32⟩
  | 6 => ⟨S16x1x1024, .f32⟩
  | 7 => ⟨S16x1024, .f32⟩
  | 8 => ⟨S16x1x1024, .f32⟩
  | 9 => ⟨S16x1024, .f32⟩
  | 10 => ⟨S1x1024, .f32⟩
  | 11 => ⟨S15x1024, .f32⟩
  | 12 => ⟨S_, .f32⟩
  | 13 => ⟨S32x1024, .f32⟩
  | 14 => ⟨S15x1024, .f32⟩
  | 15 => ⟨S15x1024, .f32⟩
  | 16 => ⟨S_, .f32⟩
  | 17 => ⟨S16x1024, .f32⟩
  | 18 => ⟨S16x1024, .f32⟩
  | 19 => ⟨S_, .f32⟩
  | 20 => ⟨S32x1024, .f32⟩
  | 21 => ⟨S_, .f32⟩
  | 22 => ⟨S32x1024, .f32⟩
  | 23 => ⟨S32x1024, .f32⟩
  | 24 => ⟨S8x2x1024, .f32⟩
  | 25 => ⟨S8x1x1024, .f32⟩
  | 26 => ⟨S8x1024, .f32⟩
  | 27 => ⟨S8x1x1024, .f32⟩
  | 28 => ⟨S8x1024, .f32⟩
  | 29 => ⟨S1x1024, .f32⟩
  | 30 => ⟨S7x1024, .f32⟩
  | 31 => ⟨S_, .f32⟩
  | 32 => ⟨S16x1024, .f32⟩
  | 33 => ⟨S7x1024, .f32⟩
  | 34 => ⟨S7x1024, .f32⟩
  | 35 => ⟨S_, .f32⟩
  | 36 => ⟨S8x1024, .f32⟩
  | 37 => ⟨S8x1024, .f32⟩
  | 38 => ⟨S_, .f32⟩
  | 39 => ⟨S16x1024, .f32⟩
  | 40 => ⟨S_, .f32⟩
  | 41 => ⟨S16x1024, .f32⟩
  | 42 => ⟨S16x1024, .f32⟩
  | 43 => ⟨S4x2x1024, .f32⟩
  | 44 => ⟨S4x1x1024, .f32⟩
  | 45 => ⟨S4x1024, .f32⟩
  | 46 => ⟨S4x1x1024, .f32⟩
  | 47 => ⟨S4x1024, .f32⟩
  | 48 => ⟨S1x1024, .f32⟩
  | 49 => ⟨S3x1024, .f32⟩
  | 50 => ⟨S_, .f32⟩
  | 51 => ⟨S8x1024, .f32⟩
  | 52 => ⟨S3x1024, .f32⟩
  | 53 => ⟨S3x1024, .f32⟩
  | 54 => ⟨S_, .f32⟩
  | 55 => ⟨S4x1024, .f32⟩
  | 56 => ⟨S4x1024, .f32⟩
  | 57 => ⟨S_, .f32⟩
  | 58 => ⟨S8x1024, .f32⟩
  | 59 => ⟨S_, .f32⟩
  | 60 => ⟨S8x1024, .f32⟩
  | 61 => ⟨S8x1024, .f32⟩
  | 62 => ⟨S2x2x1024, .f32⟩
  | 63 => ⟨S2x1x1024, .f32⟩
  | 64 => ⟨S2x1024, .f32⟩
  | 65 => ⟨S2x1x1024, .f32⟩
  | 66 => ⟨S2x1024, .f32⟩
  | 67 => ⟨S1x1024, .f32⟩
  | 68 => ⟨S1x1024, .f32⟩
  | 69 => ⟨S_, .f32⟩
  | 70 => ⟨S4x1024, .f32⟩
  | 71 => ⟨S1x1024, .f32⟩
  | 72 => ⟨S1x1024, .f32⟩
  | 73 => ⟨S_, .f32⟩
  | 74 => ⟨S2x1024, .f32⟩
  | 75 => ⟨S2x1024, .f32⟩
  | 76 => ⟨S_, .f32⟩
  | 77 => ⟨S4x1024, .f32⟩
  | 78 => ⟨S_, .f32⟩
  | 79 => ⟨S4x1024, .f32⟩
  | 80 => ⟨S4x1024, .f32⟩
  | 81 => ⟨S1x2x1024, .f32⟩
  | 82 => ⟨S1x1x1024, .f32⟩
  | 83 => ⟨S1x1024, .f32⟩
  | 84 => ⟨S1x1x1024, .f32⟩
  | 85 => ⟨S1x1024, .f32⟩
  | 86 => ⟨S1x1024, .f32⟩
  | 87 => ⟨S1x1024, .f32⟩
  | 88 => ⟨S1x1024, .f32⟩
  | 89 => ⟨S_, .f32⟩
  | 90 => ⟨S2x1024, .f32⟩
  | 91 => ⟨S_, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S2x1024, .f32⟩
  | 98 => ⟨S2x1024, .f32⟩
  | 99 => ⟨S2x1024, .f32⟩
  | 100 => ⟨S2x1024, .f32⟩
  | 101 => ⟨S_, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S4x1024, .f32⟩
  | 115 => ⟨S4x1024, .f32⟩
  | 116 => ⟨S4x1024, .f32⟩
  | 117 => ⟨S4x1024, .f32⟩
  | 118 => ⟨S_, .f32⟩
  | 119 => ⟨S8x1024, .f32⟩
  | 120 => ⟨S8x1024, .f32⟩
  | 121 => ⟨S_, .f32⟩
  | 122 => ⟨S8x1024, .f32⟩
  | 123 => ⟨S8x1024, .f32⟩
  | 124 => ⟨S_, .f32⟩
  | 125 => ⟨S8x1024, .f32⟩
  | 126 => ⟨S8x1024, .f32⟩
  | 127 => ⟨S_, .f32⟩
  | _ => ⟨S8192x1024, .f32⟩

abbrev hbmTy0_5 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x1024, .f32⟩
  | 7 => ⟨S_, .f32⟩
  | 8 => ⟨S16x1024, .f32⟩
  | 9 => ⟨S16x1024, .f32⟩
  | 10 => ⟨S_, .f32⟩
  | 11 => ⟨S16x1024, .f32⟩
  | 12 => ⟨S16x1024, .f32⟩
  | 13 => ⟨S_, .f32⟩
  | 14 => ⟨S16x1024, .f32⟩
  | 15 => ⟨S16x1024, .f32⟩
  | 16 => ⟨S_, .f32⟩
  | 17 => ⟨S16x1024, .f32⟩
  | 18 => ⟨S16x1024, .f32⟩
  | 19 => ⟨S16x1024, .f32⟩
  | 20 => ⟨S16x1024, .f32⟩
  | 21 => ⟨S16x1024, .f32⟩
  | 22 => ⟨S16x1024, .f32⟩
  | 23 => ⟨S16x1024, .f32⟩
  | 24 => ⟨S_, .f32⟩
  | 25 => ⟨S32x1024, .f32⟩
  | 26 => ⟨S32x1024, .f32⟩
  | 27 => ⟨S_, .f32⟩
  | 28 => ⟨S32x1024, .f32⟩
  | 29 => ⟨S32x1024, .f32⟩
  | 30 => ⟨S_, .f32⟩
  | 31 => ⟨S32x1024, .f32⟩
  | 32 => ⟨S32x1024, .f32⟩
  | 33 => ⟨S_, .f32⟩
  | 34 => ⟨S32x1024, .f32⟩
  | 35 => ⟨S32x1024, .f32⟩
  | 36 => ⟨S32x1024, .f32⟩
  | 37 => ⟨S32x1024, .f32⟩
  | 38 => ⟨S32x1024, .f32⟩
  | 39 => ⟨S32x1024, .f32⟩
  | 40 => ⟨S32x1024, .f32⟩
  | 41 => ⟨S_, .f32⟩
  | 42 => ⟨S64x1024, .f32⟩
  | 43 => ⟨S64x1024, .f32⟩
  | 44 => ⟨S_, .f32⟩
  | 45 => ⟨S64x1024, .f32⟩
  | 46 => ⟨S64x1024, .f32⟩
  | 47 => ⟨S_, .f32⟩
  | 48 => ⟨S64x1024, .f32⟩
  | 49 => ⟨S64x1024, .f32⟩
  | 50 => ⟨S_, .f32⟩
  | 51 => ⟨S64x1024, .f32⟩
  | 52 => ⟨S64x1024, .f32⟩
  | 53 => ⟨S64x1024, .f32⟩
  | 54 => ⟨S64x1024, .f32⟩
  | 55 => ⟨S64x1024, .f32⟩
  | 56 => ⟨S64x1024, .f32⟩
  | 57 => ⟨S64x1024, .f32⟩
  | 58 => ⟨S_, .f32⟩
  | 59 => ⟨S128x1024, .f32⟩
  | 60 => ⟨S128x1024, .f32⟩
  | 61 => ⟨S_, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S_, .f32⟩
  | 68 => ⟨S128x1024, .f32⟩
  | 69 => ⟨S128x1024, .f32⟩
  | 70 => ⟨S128x1024, .f32⟩
  | 71 => ⟨S128x1024, .f32⟩
  | 72 => ⟨S128x1024, .f32⟩
  | 73 => ⟨S128x1024, .f32⟩
  | 74 => ⟨S128x1024, .f32⟩
  | 75 => ⟨S_, .f32⟩
  | 76 => ⟨S256x1024, .f32⟩
  | 77 => ⟨S256x1024, .f32⟩
  | 78 => ⟨S_, .f32⟩
  | 79 => ⟨S256x1024, .f32⟩
  | 80 => ⟨S256x1024, .f32⟩
  | 81 => ⟨S_, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S256x1024, .f32⟩
  | 88 => ⟨S256x1024, .f32⟩
  | 89 => ⟨S256x1024, .f32⟩
  | 90 => ⟨S256x1024, .f32⟩
  | 91 => ⟨S256x1024, .f32⟩
  | 92 => ⟨S_, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S512x1024, .f32⟩
  | 105 => ⟨S512x1024, .f32⟩
  | 106 => ⟨S512x1024, .f32⟩
  | 107 => ⟨S512x1024, .f32⟩
  | 108 => ⟨S512x1024, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x1024, .f32⟩
  | 126 => ⟨S_, .f32⟩
  | 127 => ⟨S2048x1024, .f32⟩
  | _ => ⟨S8192x1024, .f32⟩

abbrev hbmTy0_6 (i : Nat) : BufTy := match i % 128 with
  | 0 => ⟨S2048x1024, .f32⟩
  | 1 => ⟨S_, .f32⟩
  | 2 => ⟨S2048x1024, .f32⟩
  | 3 => ⟨S2048x1024, .f32⟩
  | 4 => ⟨S_, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S_, .f32⟩
  | 83 => ⟨S8192x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S8192x16x64, .f32⟩
  | 92 => ⟨S16x64x8192, .f32⟩
  | 93 => ⟨S16x8192x64, .f32⟩
  | 94 => ⟨S8192x16x64, .f32⟩
  | 95 => ⟨S16x64x64, .f32⟩
  | 96 => ⟨S16x64x64, .f32⟩
  | 97 => ⟨S8192x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S8192x16x64, .f32⟩
  | 104 => ⟨S16x64x8192, .f32⟩
  | 105 => ⟨S16x8192x64, .f32⟩
  | 106 => ⟨S8192x16x64, .f32⟩
  | 107 => ⟨S8192x16x64, .f32⟩
  | 108 => ⟨S16x64x64, .f32⟩
  | 109 => ⟨S16x64x64, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S_, .f32⟩
  | 127 => ⟨S4x1024, .f32⟩
  | _ => ⟨S8192x1024, .f32⟩

abbrev hbmTy0_7 (i : Nat) : BufTy := match i % 128 with
  | 0 => ⟨S_, .f32⟩
  | 1 => ⟨S8195x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S4x1024, .f32⟩
  | 13 => ⟨S4x1024, .f32⟩
  | 14 => ⟨S_, .f32⟩
  | 15 => ⟨S8195x1024, .f32⟩
  | 16 => ⟨S8195x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S_, .f32⟩
  | 27 => ⟨S4x1024, .f32⟩
  | 28 => ⟨S4x1024, .f32⟩
  | 29 => ⟨S_, .f32⟩
  | 30 => ⟨S8195x1024, .f32⟩
  | 31 => ⟨S8195x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S_, .f32⟩
  | 42 => ⟨S4x1024, .f32⟩
  | 43 => ⟨S4x1024, .f32⟩
  | 44 => ⟨S_, .f32⟩
  | 45 => ⟨S8195x1024, .f32⟩
  | 46 => ⟨S8195x1024, .f32⟩
  | 47 => ⟨S3x1024, .f32⟩
  | 48 => ⟨S8192x1024, .f32⟩
  | 49 => ⟨S8192x1024, .bf16⟩
  | 50 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_11 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_cst_15 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_v341 : Ref sig .tc := ⟨.hbm, 370, rfl⟩
abbrev main_v342 : Ref sig .tc := ⟨.hbm, 371, rfl⟩
abbrev main_cst_18 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_cst_19 : Ref sig .tc := ⟨.hbm, 376, rfl⟩
abbrev main_v346 : Ref sig .tc := ⟨.hbm, 377, rfl⟩
abbrev main_v347 : Ref sig .tc := ⟨.hbm, 378, rfl⟩
abbrev main_cst_20 : Ref sig .tc := ⟨.hbm, 379, rfl⟩
abbrev main_v348 : Ref sig .tc := ⟨.hbm, 380, rfl⟩
abbrev main_cst_21 : Ref sig .tc := ⟨.hbm, 381, rfl⟩
abbrev main_v349 : Ref sig .tc := ⟨.hbm, 382, rfl⟩
abbrev main_v350 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_v357 : Ref sig .tc := ⟨.hbm, 390, rfl⟩
abbrev main_cst_22 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_cst_23 : Ref sig .tc := ⟨.hbm, 395, rfl⟩
abbrev main_v361 : Ref sig .tc := ⟨.hbm, 396, rfl⟩
abbrev main_v362 : Ref sig .tc := ⟨.hbm, 397, rfl⟩
abbrev main_cst_24 : Ref sig .tc := ⟨.hbm, 398, rfl⟩
abbrev main_v363 : Ref sig .tc := ⟨.hbm, 399, rfl⟩
abbrev main_cst_25 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_v367 : Ref sig .tc := ⟨.hbm, 404, rfl⟩
abbrev main_v368 : Ref sig .tc := ⟨.hbm, 405, rfl⟩
abbrev main_v369 : Ref sig .tc := ⟨.hbm, 406, rfl⟩
abbrev main_v370 : Ref sig .tc := ⟨.hbm, 407, rfl⟩
abbrev main_v371 : Ref sig .tc := ⟨.hbm, 408, rfl⟩
abbrev main_v372 : Ref sig .tc := ⟨.hbm, 409, rfl⟩
abbrev main_cst_26 : Ref sig .tc := ⟨.hbm, 410, rfl⟩
abbrev main_v373 : Ref sig .tc := ⟨.hbm, 411, rfl⟩
abbrev main_v374 : Ref sig .tc := ⟨.hbm, 412, rfl⟩
abbrev main_v375 : Ref sig .tc := ⟨.hbm, 413, rfl⟩
abbrev main_cst_27 : Ref sig .tc := ⟨.hbm, 414, rfl⟩
abbrev main_v376 : Ref sig .tc := ⟨.hbm, 415, rfl⟩
abbrev main_v377 : Ref sig .tc := ⟨.hbm, 416, rfl⟩
abbrev main_cst_28 : Ref sig .tc := ⟨.hbm, 417, rfl⟩
abbrev main_v378 : Ref sig .tc := ⟨.hbm, 418, rfl⟩
abbrev main_cst_29 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_v383 : Ref sig .tc := ⟨.hbm, 424, rfl⟩
abbrev main_v384 : Ref sig .tc := ⟨.hbm, 425, rfl⟩
abbrev main_v385 : Ref sig .tc := ⟨.hbm, 426, rfl⟩
abbrev main_v386 : Ref sig .tc := ⟨.hbm, 427, rfl⟩
abbrev main_v387 : Ref sig .tc := ⟨.hbm, 428, rfl⟩
abbrev main_cst_30 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_cst_31 : Ref sig .tc := ⟨.hbm, 433, rfl⟩
abbrev main_v391 : Ref sig .tc := ⟨.hbm, 434, rfl⟩
abbrev main_v392 : Ref sig .tc := ⟨.hbm, 435, rfl⟩
abbrev main_cst_32 : Ref sig .tc := ⟨.hbm, 436, rfl⟩
abbrev main_v393 : Ref sig .tc := ⟨.hbm, 437, rfl⟩
abbrev main_cst_33 : Ref sig .tc := ⟨.hbm, 438, rfl⟩
abbrev main_v394 : Ref sig .tc := ⟨.hbm, 439, rfl⟩
abbrev main_v395 : Ref sig .tc := ⟨.hbm, 440, rfl⟩
abbrev main_v396 : Ref sig .tc := ⟨.hbm, 441, rfl⟩
abbrev main_v397 : Ref sig .tc := ⟨.hbm, 442, rfl⟩
abbrev main_v398 : Ref sig .tc := ⟨.hbm, 443, rfl⟩
abbrev main_v399 : Ref sig .tc := ⟨.hbm, 444, rfl⟩
abbrev main_v400 : Ref sig .tc := ⟨.hbm, 445, rfl⟩
abbrev main_v401 : Ref sig .tc := ⟨.hbm, 446, rfl⟩
abbrev main_v402 : Ref sig .tc := ⟨.hbm, 447, rfl⟩
abbrev main_cst_34 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_cst_35 : Ref sig .tc := ⟨.hbm, 452, rfl⟩
abbrev main_v406 : Ref sig .tc := ⟨.hbm, 453, rfl⟩
abbrev main_v407 : Ref sig .tc := ⟨.hbm, 454, rfl⟩
abbrev main_cst_36 : Ref sig .tc := ⟨.hbm, 455, rfl⟩
abbrev main_v408 : Ref sig .tc := ⟨.hbm, 456, rfl⟩
abbrev main_cst_37 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_v415 : Ref sig .tc := ⟨.hbm, 464, rfl⟩
abbrev main_v416 : Ref sig .tc := ⟨.hbm, 465, rfl⟩
abbrev main_v417 : Ref sig .tc := ⟨.hbm, 466, rfl⟩
abbrev main_cst_38 : Ref sig .tc := ⟨.hbm, 467, rfl⟩
abbrev main_v418 : Ref sig .tc := ⟨.hbm, 468, rfl⟩
abbrev main_v419 : Ref sig .tc := ⟨.hbm, 469, rfl⟩
abbrev main_v420 : Ref sig .tc := ⟨.hbm, 470, rfl⟩
abbrev main_cst_39 : Ref sig .tc := ⟨.hbm, 471, rfl⟩
abbrev main_v421 : Ref sig .tc := ⟨.hbm, 472, rfl⟩
abbrev main_v422 : Ref sig .tc := ⟨.hbm, 473, rfl⟩
abbrev main_cst_40 : Ref sig .tc := ⟨.hbm, 474, rfl⟩
abbrev main_v423 : Ref sig .tc := ⟨.hbm, 475, rfl⟩
abbrev main_cst_41 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_v429 : Ref sig .tc := ⟨.hbm, 482, rfl⟩
abbrev main_v430 : Ref sig .tc := ⟨.hbm, 483, rfl⟩
abbrev main_v431 : Ref sig .tc := ⟨.hbm, 484, rfl⟩
abbrev main_v432 : Ref sig .tc := ⟨.hbm, 485, rfl⟩
abbrev main_cst_42 : Ref sig .tc := ⟨.hbm, 486, rfl⟩
abbrev main_v433 : Ref sig .tc := ⟨.hbm, 487, rfl⟩
abbrev main_v434 : Ref sig .tc := ⟨.hbm, 488, rfl⟩
abbrev main_v435 : Ref sig .tc := ⟨.hbm, 489, rfl⟩
abbrev main_cst_43 : Ref sig .tc := ⟨.hbm, 490, rfl⟩
abbrev main_v436 : Ref sig .tc := ⟨.hbm, 491, rfl⟩
abbrev main_v437 : Ref sig .tc := ⟨.hbm, 492, rfl⟩
abbrev main_cst_44 : Ref sig .tc := ⟨.hbm, 493, rfl⟩
abbrev main_v438 : Ref sig .tc := ⟨.hbm, 494, rfl⟩
abbrev main_cst_45 : Ref sig .tc := ⟨.hbm, 495, rfl⟩
abbrev main_v439 : Ref sig .tc := ⟨.hbm, 496, rfl⟩
abbrev main_v440 : Ref sig .tc := ⟨.hbm, 497, rfl⟩
abbrev main_v441 : Ref sig .tc := ⟨.hbm, 498, rfl⟩
abbrev main_v442 : Ref sig .tc := ⟨.hbm, 499, rfl⟩
abbrev main_v443 : Ref sig .tc := ⟨.hbm, 500, rfl⟩
abbrev main_v444 : Ref sig .tc := ⟨.hbm, 501, rfl⟩
abbrev main_v445 : Ref sig .tc := ⟨.hbm, 502, rfl⟩
abbrev main_v446 : Ref sig .tc := ⟨.hbm, 503, rfl⟩
abbrev main_v447 : Ref sig .tc := ⟨.hbm, 504, rfl⟩
abbrev main_cst_46 : Ref sig .tc := ⟨.hbm, 505, rfl⟩
abbrev main_v448 : Ref sig .tc := ⟨.hbm, 506, rfl⟩
abbrev main_v449 : Ref sig .tc := ⟨.hbm, 507, rfl⟩
abbrev main_v450 : Ref sig .tc := ⟨.hbm, 508, rfl⟩
abbrev main_cst_47 : Ref sig .tc := ⟨.hbm, 509, rfl⟩
abbrev main_v451 : Ref sig .tc := ⟨.hbm, 510, rfl⟩
abbrev main_v452 : Ref sig .tc := ⟨.hbm, 511, rfl⟩
abbrev main_cst_48 : Ref sig .tc := ⟨.hbm, 512, rfl⟩
abbrev main_v453 : Ref sig .tc := ⟨.hbm, 513, rfl⟩
abbrev main_cst_49 : Ref sig .tc := ⟨.hbm, 514, rfl⟩
abbrev main_v454 : Ref sig .tc := ⟨.hbm, 515, rfl⟩
abbrev main_v455 : Ref sig .tc := ⟨.hbm, 516, rfl⟩
abbrev main_v456 : Ref sig .tc := ⟨.hbm, 517, rfl⟩
abbrev main_v457 : Ref sig .tc := ⟨.hbm, 518, rfl⟩
abbrev main_v458 : Ref sig .tc := ⟨.hbm, 519, rfl⟩
abbrev main_v459 : Ref sig .tc := ⟨.hbm, 520, rfl⟩
abbrev main_v460 : Ref sig .tc := ⟨.hbm, 521, rfl⟩
abbrev main_v461 : Ref sig .tc := ⟨.hbm, 522, rfl⟩
abbrev main_v462 : Ref sig .tc := ⟨.hbm, 523, rfl⟩
abbrev main_cst_50 : Ref sig .tc := ⟨.hbm, 524, rfl⟩
abbrev main_v463 : Ref sig .tc := ⟨.hbm, 525, rfl⟩
abbrev main_v464 : Ref sig .tc := ⟨.hbm, 526, rfl⟩
abbrev main_v465 : Ref sig .tc := ⟨.hbm, 527, rfl⟩
abbrev main_cst_51 : Ref sig .tc := ⟨.hbm, 528, rfl⟩
abbrev main_v466 : Ref sig .tc := ⟨.hbm, 529, rfl⟩
abbrev main_v467 : Ref sig .tc := ⟨.hbm, 530, rfl⟩
abbrev main_cst_52 : Ref sig .tc := ⟨.hbm, 531, rfl⟩
abbrev main_v468 : Ref sig .tc := ⟨.hbm, 532, rfl⟩
abbrev main_cst_53 : Ref sig .tc := ⟨.hbm, 533, rfl⟩
abbrev main_v469 : Ref sig .tc := ⟨.hbm, 534, rfl⟩
abbrev main_v470 : Ref sig .tc := ⟨.hbm, 535, rfl⟩
abbrev main_v471 : Ref sig .tc := ⟨.hbm, 536, rfl⟩
abbrev main_v472 : Ref sig .tc := ⟨.hbm, 537, rfl⟩
abbrev main_v473 : Ref sig .tc := ⟨.hbm, 538, rfl⟩
abbrev main_v474 : Ref sig .tc := ⟨.hbm, 539, rfl⟩
abbrev main_v475 : Ref sig .tc := ⟨.hbm, 540, rfl⟩
abbrev main_v476 : Ref sig .tc := ⟨.hbm, 541, rfl⟩
abbrev main_v477 : Ref sig .tc := ⟨.hbm, 542, rfl⟩
abbrev main_cst_54 : Ref sig .tc := ⟨.hbm, 543, rfl⟩
abbrev main_v478 : Ref sig .tc := ⟨.hbm, 544, rfl⟩
abbrev main_v479 : Ref sig .tc := ⟨.hbm, 545, rfl⟩
abbrev main_v480 : Ref sig .tc := ⟨.hbm, 546, rfl⟩
abbrev main_cst_55 : Ref sig .tc := ⟨.hbm, 547, rfl⟩
abbrev main_v481 : Ref sig .tc := ⟨.hbm, 548, rfl⟩
abbrev main_v482 : Ref sig .tc := ⟨.hbm, 549, rfl⟩
abbrev main_cst_56 : Ref sig .tc := ⟨.hbm, 550, rfl⟩
abbrev main_v483 : Ref sig .tc := ⟨.hbm, 551, rfl⟩
abbrev main_cst_57 : Ref sig .tc := ⟨.hbm, 552, rfl⟩
abbrev main_v484 : Ref sig .tc := ⟨.hbm, 553, rfl⟩
abbrev main_v485 : Ref sig .tc := ⟨.hbm, 554, rfl⟩
abbrev main_v486 : Ref sig .tc := ⟨.hbm, 555, rfl⟩
abbrev main_v487 : Ref sig .tc := ⟨.hbm, 556, rfl⟩
abbrev main_v488 : Ref sig .tc := ⟨.hbm, 557, rfl⟩
abbrev main_v489 : Ref sig .tc := ⟨.hbm, 558, rfl⟩
abbrev main_v490 : Ref sig .tc := ⟨.hbm, 559, rfl⟩
abbrev main_v491 : Ref sig .tc := ⟨.hbm, 560, rfl⟩
abbrev main_v492 : Ref sig .tc := ⟨.hbm, 561, rfl⟩
abbrev main_cst_58 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_cst_59 : Ref sig .tc := ⟨.hbm, 566, rfl⟩
abbrev main_v496 : Ref sig .tc := ⟨.hbm, 567, rfl⟩
abbrev main_v497 : Ref sig .tc := ⟨.hbm, 568, rfl⟩
abbrev main_cst_60 : Ref sig .tc := ⟨.hbm, 569, rfl⟩
abbrev main_v498 : Ref sig .tc := ⟨.hbm, 570, rfl⟩
abbrev main_cst_61 : Ref sig .tc := ⟨.hbm, 571, rfl⟩
abbrev main_v499 : Ref sig .tc := ⟨.hbm, 572, rfl⟩
abbrev main_v500 : Ref sig .tc := ⟨.hbm, 573, rfl⟩
abbrev main_v501 : Ref sig .tc := ⟨.hbm, 574, rfl⟩
abbrev main_v502 : Ref sig .tc := ⟨.hbm, 575, rfl⟩
abbrev main_v503 : Ref sig .tc := ⟨.hbm, 576, rfl⟩
abbrev main_v504 : Ref sig .tc := ⟨.hbm, 577, rfl⟩
abbrev main_v505 : Ref sig .tc := ⟨.hbm, 578, rfl⟩
abbrev main_v506 : Ref sig .tc := ⟨.hbm, 579, rfl⟩
abbrev main_v507 : Ref sig .tc := ⟨.hbm, 580, rfl⟩
abbrev main_cst_62 : Ref sig .tc := ⟨.hbm, 581, rfl⟩
abbrev main_v508 : Ref sig .tc := ⟨.hbm, 582, rfl⟩
abbrev main_v509 : Ref sig .tc := ⟨.hbm, 583, rfl⟩
abbrev main_v510 : Ref sig .tc := ⟨.hbm, 584, rfl⟩
abbrev main_cst_63 : Ref sig .tc := ⟨.hbm, 585, rfl⟩
abbrev main_v511 : Ref sig .tc := ⟨.hbm, 586, rfl⟩
abbrev main_v512 : Ref sig .tc := ⟨.hbm, 587, rfl⟩
abbrev main_cst_64 : Ref sig .tc := ⟨.hbm, 588, rfl⟩
abbrev main_v513 : Ref sig .tc := ⟨.hbm, 589, rfl⟩
abbrev main_cst_65 : Ref sig .tc := ⟨.hbm, 590, rfl⟩
abbrev main_v514 : Ref sig .tc := ⟨.hbm, 591, rfl⟩
abbrev main_v515 : Ref sig .tc := ⟨.hbm, 592, rfl⟩
abbrev main_v516 : Ref sig .tc := ⟨.hbm, 593, rfl⟩
abbrev main_v517 : Ref sig .tc := ⟨.hbm, 594, rfl⟩
abbrev main_v518 : Ref sig .tc := ⟨.hbm, 595, rfl⟩
abbrev main_v519 : Ref sig .tc := ⟨.hbm, 596, rfl⟩
abbrev main_v520 : Ref sig .tc := ⟨.hbm, 597, rfl⟩
abbrev main_v521 : Ref sig .tc := ⟨.hbm, 598, rfl⟩
abbrev main_v522 : Ref sig .tc := ⟨.hbm, 599, rfl⟩
abbrev main_v523 : Ref sig .tc := ⟨.hbm, 600, rfl⟩
abbrev main_cst_66 : Ref sig .tc := ⟨.hbm, 601, rfl⟩
abbrev main_v524 : Ref sig .tc := ⟨.hbm, 602, rfl⟩
abbrev main_cst_67 : Ref sig .tc := ⟨.hbm, 603, rfl⟩
abbrev main_v525 : Ref sig .tc := ⟨.hbm, 604, rfl⟩
abbrev main_cst_68 : Ref sig .tc := ⟨.hbm, 605, rfl⟩
abbrev main_v526 : Ref sig .tc := ⟨.hbm, 606, rfl⟩
abbrev main_v527 : Ref sig .tc := ⟨.hbm, 607, rfl⟩
abbrev main_v528 : Ref sig .tc := ⟨.hbm, 608, rfl⟩
abbrev main_v529 : Ref sig .tc := ⟨.hbm, 609, rfl⟩
abbrev main_v530 : Ref sig .tc := ⟨.hbm, 610, rfl⟩
abbrev main_v531 : Ref sig .tc := ⟨.hbm, 611, rfl⟩
abbrev main_v532 : Ref sig .tc := ⟨.hbm, 612, rfl⟩
abbrev main_cst_69 : Ref sig .tc := ⟨.hbm, 613, rfl⟩
abbrev main_v533 : Ref sig .tc := ⟨.hbm, 614, rfl⟩
abbrev main_v534 : Ref sig .tc := ⟨.hbm, 615, rfl⟩
abbrev main_cst_70 : Ref sig .tc := ⟨.hbm, 616, rfl⟩
abbrev main_v535 : Ref sig .tc := ⟨.hbm, 617, rfl⟩
abbrev main_v536 : Ref sig .tc := ⟨.hbm, 618, rfl⟩
abbrev main_cst_71 : Ref sig .tc := ⟨.hbm, 619, rfl⟩
abbrev main_v537 : Ref sig .tc := ⟨.hbm, 620, rfl⟩
abbrev main_v538 : Ref sig .tc := ⟨.hbm, 621, rfl⟩
abbrev main_cst_72 : Ref sig .tc := ⟨.hbm, 622, rfl⟩
abbrev main_v539 : Ref sig .tc := ⟨.hbm, 623, rfl⟩
abbrev main_v540 : Ref sig .tc := ⟨.hbm, 624, rfl⟩
abbrev main_v541 : Ref sig .tc := ⟨.hbm, 625, rfl⟩
abbrev main_v542 : Ref sig .tc := ⟨.hbm, 626, rfl⟩
abbrev main_v543 : Ref sig .tc := ⟨.hbm, 627, rfl⟩
abbrev main_v544 : Ref sig .tc := ⟨.hbm, 628, rfl⟩
abbrev main_v545 : Ref sig .tc := ⟨.hbm, 629, rfl⟩
abbrev main_cst_73 : Ref sig .tc := ⟨.hbm, 630, rfl⟩
abbrev main_v546 : Ref sig .tc := ⟨.hbm, 631, rfl⟩
abbrev main_v547 : Ref sig .tc := ⟨.hbm, 632, rfl⟩
abbrev main_cst_74 : Ref sig .tc := ⟨.hbm, 633, rfl⟩
abbrev main_v548 : Ref sig .tc := ⟨.hbm, 634, rfl⟩
abbrev main_v549 : Ref sig .tc := ⟨.hbm, 635, rfl⟩
abbrev main_cst_75 : Ref sig .tc := ⟨.hbm, 636, rfl⟩
abbrev main_v550 : Ref sig .tc := ⟨.hbm, 637, rfl⟩
abbrev main_v551 : Ref sig .tc := ⟨.hbm, 638, rfl⟩
abbrev main_cst_76 : Ref sig .tc := ⟨.hbm, 639, rfl⟩
abbrev main_v552 : Ref sig .tc := ⟨.hbm, 640, rfl⟩
abbrev main_v553 : Ref sig .tc := ⟨.hbm, 641, rfl⟩
abbrev main_v554 : Ref sig .tc := ⟨.hbm, 642, rfl⟩
abbrev main_v555 : Ref sig .tc := ⟨.hbm, 643, rfl⟩
abbrev main_v556 : Ref sig .tc := ⟨.hbm, 644, rfl⟩
abbrev main_v557 : Ref sig .tc := ⟨.hbm, 645, rfl⟩
abbrev main_v558 : Ref sig .tc := ⟨.hbm, 646, rfl⟩
abbrev main_cst_77 : Ref sig .tc := ⟨.hbm, 647, rfl⟩
abbrev main_v559 : Ref sig .tc := ⟨.hbm, 648, rfl⟩
abbrev main_v560 : Ref sig .tc := ⟨.hbm, 649, rfl⟩
abbrev main_cst_78 : Ref sig .tc := ⟨.hbm, 650, rfl⟩
abbrev main_v561 : Ref sig .tc := ⟨.hbm, 651, rfl⟩
abbrev main_v562 : Ref sig .tc := ⟨.hbm, 652, rfl⟩
abbrev main_cst_79 : Ref sig .tc := ⟨.hbm, 653, rfl⟩
abbrev main_v563 : Ref sig .tc := ⟨.hbm, 654, rfl⟩
abbrev main_v564 : Ref sig .tc := ⟨.hbm, 655, rfl⟩
abbrev main_cst_80 : Ref sig .tc := ⟨.hbm, 656, rfl⟩
abbrev main_v565 : Ref sig .tc := ⟨.hbm, 657, rfl⟩
abbrev main_v566 : Ref sig .tc := ⟨.hbm, 658, rfl⟩
abbrev main_v567 : Ref sig .tc := ⟨.hbm, 659, rfl⟩
abbrev main_v568 : Ref sig .tc := ⟨.hbm, 660, rfl⟩
abbrev main_v569 : Ref sig .tc := ⟨.hbm, 661, rfl⟩
abbrev main_v570 : Ref sig .tc := ⟨.hbm, 662, rfl⟩
abbrev main_v571 : Ref sig .tc := ⟨.hbm, 663, rfl⟩
abbrev main_cst_81 : Ref sig .tc := ⟨.hbm, 664, rfl⟩
abbrev main_v572 : Ref sig .tc := ⟨.hbm, 665, rfl⟩
abbrev main_v573 : Ref sig .tc := ⟨.hbm, 666, rfl⟩
abbrev main_cst_82 : Ref sig .tc := ⟨.hbm, 667, rfl⟩
abbrev main_v574 : Ref sig .tc := ⟨.hbm, 668, rfl⟩
abbrev main_v575 : Ref sig .tc := ⟨.hbm, 669, rfl⟩
abbrev main_cst_83 : Ref sig .tc := ⟨.hbm, 670, rfl⟩
abbrev main_v576 : Ref sig .tc := ⟨.hbm, 671, rfl⟩
abbrev main_v577 : Ref sig .tc := ⟨.hbm, 672, rfl⟩
abbrev main_cst_84 : Ref sig .tc := ⟨.hbm, 673, rfl⟩
abbrev main_v578 : Ref sig .tc := ⟨.hbm, 674, rfl⟩
abbrev main_v579 : Ref sig .tc := ⟨.hbm, 675, rfl⟩
abbrev main_v580 : Ref sig .tc := ⟨.hbm, 676, rfl⟩
abbrev main_v581 : Ref sig .tc := ⟨.hbm, 677, rfl⟩
abbrev main_v582 : Ref sig .tc := ⟨.hbm, 678, rfl⟩
abbrev main_v583 : Ref sig .tc := ⟨.hbm, 679, rfl⟩
abbrev main_v584 : Ref sig .tc := ⟨.hbm, 680, rfl⟩
abbrev main_cst_85 : Ref sig .tc := ⟨.hbm, 681, rfl⟩
abbrev main_v585 : Ref sig .tc := ⟨.hbm, 682, rfl⟩
abbrev main_v586 : Ref sig .tc := ⟨.hbm, 683, rfl⟩
abbrev main_cst_86 : Ref sig .tc := ⟨.hbm, 684, rfl⟩
abbrev main_v587 : Ref sig .tc := ⟨.hbm, 685, rfl⟩
abbrev main_v588 : Ref sig .tc := ⟨.hbm, 686, rfl⟩
abbrev main_cst_87 : Ref sig .tc := ⟨.hbm, 687, rfl⟩
abbrev main_v589 : Ref sig .tc := ⟨.hbm, 688, rfl⟩
abbrev main_v590 : Ref sig .tc := ⟨.hbm, 689, rfl⟩
abbrev main_cst_88 : Ref sig .tc := ⟨.hbm, 690, rfl⟩
abbrev main_v591 : Ref sig .tc := ⟨.hbm, 691, rfl⟩
abbrev main_v592 : Ref sig .tc := ⟨.hbm, 692, rfl⟩
abbrev main_v593 : Ref sig .tc := ⟨.hbm, 693, rfl⟩
abbrev main_v594 : Ref sig .tc := ⟨.hbm, 694, rfl⟩
abbrev main_v595 : Ref sig .tc := ⟨.hbm, 695, rfl⟩
abbrev main_v596 : Ref sig .tc := ⟨.hbm, 696, rfl⟩
abbrev main_v597 : Ref sig .tc := ⟨.hbm, 697, rfl⟩
abbrev main_cst_89 : Ref sig .tc := ⟨.hbm, 698, rfl⟩
abbrev main_v598 : Ref sig .tc := ⟨.hbm, 699, rfl⟩
abbrev main_v599 : Ref sig .tc := ⟨.hbm, 700, rfl⟩
abbrev main_cst_90 : Ref sig .tc := ⟨.hbm, 701, rfl⟩
abbrev main_v600 : Ref sig .tc := ⟨.hbm, 702, rfl⟩
abbrev main_v601 : Ref sig .tc := ⟨.hbm, 703, rfl⟩
abbrev main_cst_91 : Ref sig .tc := ⟨.hbm, 704, rfl⟩
abbrev main_v602 : Ref sig .tc := ⟨.hbm, 705, rfl⟩
abbrev main_v603 : Ref sig .tc := ⟨.hbm, 706, rfl⟩
abbrev main_cst_92 : Ref sig .tc := ⟨.hbm, 707, rfl⟩
abbrev main_v604 : Ref sig .tc := ⟨.hbm, 708, rfl⟩
abbrev main_v605 : Ref sig .tc := ⟨.hbm, 709, rfl⟩
abbrev main_v606 : Ref sig .tc := ⟨.hbm, 710, rfl⟩
abbrev main_v607 : Ref sig .tc := ⟨.hbm, 711, rfl⟩
abbrev main_v608 : Ref sig .tc := ⟨.hbm, 712, rfl⟩
abbrev main_v609 : Ref sig .tc := ⟨.hbm, 713, rfl⟩
abbrev main_v610 : Ref sig .tc := ⟨.hbm, 714, rfl⟩
abbrev main_cst_93 : Ref sig .tc := ⟨.hbm, 715, rfl⟩
abbrev main_v611 : Ref sig .tc := ⟨.hbm, 716, rfl⟩
abbrev main_v612 : Ref sig .tc := ⟨.hbm, 717, rfl⟩
abbrev main_cst_94 : Ref sig .tc := ⟨.hbm, 718, rfl⟩
abbrev main_v613 : Ref sig .tc := ⟨.hbm, 719, rfl⟩
abbrev main_v614 : Ref sig .tc := ⟨.hbm, 720, rfl⟩
abbrev main_cst_95 : Ref sig .tc := ⟨.hbm, 721, rfl⟩
abbrev main_v615 : Ref sig .tc := ⟨.hbm, 722, rfl⟩
abbrev main_v616 : Ref sig .tc := ⟨.hbm, 723, rfl⟩
abbrev main_cst_96 : Ref sig .tc := ⟨.hbm, 724, rfl⟩
abbrev main_v617 : Ref sig .tc := ⟨.hbm, 725, rfl⟩
abbrev main_v618 : Ref sig .tc := ⟨.hbm, 726, rfl⟩
abbrev main_v619 : Ref sig .tc := ⟨.hbm, 727, rfl⟩
abbrev main_v620 : Ref sig .tc := ⟨.hbm, 728, rfl⟩
abbrev main_v621 : Ref sig .tc := ⟨.hbm, 729, rfl⟩
abbrev main_v622 : Ref sig .tc := ⟨.hbm, 730, rfl⟩
abbrev main_v623 : Ref sig .tc := ⟨.hbm, 731, rfl⟩
abbrev main_cst_97 : Ref sig .tc := ⟨.hbm, 732, rfl⟩
abbrev main_v624 : Ref sig .tc := ⟨.hbm, 733, rfl⟩
abbrev main_v625 : Ref sig .tc := ⟨.hbm, 734, rfl⟩
abbrev main_cst_98 : Ref sig .tc := ⟨.hbm, 735, rfl⟩
abbrev main_v626 : Ref sig .tc := ⟨.hbm, 736, rfl⟩
abbrev main_v627 : Ref sig .tc := ⟨.hbm, 737, rfl⟩
abbrev main_cst_99 : Ref sig .tc := ⟨.hbm, 738, rfl⟩
abbrev main_v628 : Ref sig .tc := ⟨.hbm, 739, rfl⟩
abbrev main_v629 : Ref sig .tc := ⟨.hbm, 740, rfl⟩
abbrev main_cst_100 : Ref sig .tc := ⟨.hbm, 741, rfl⟩
abbrev main_v630 : Ref sig .tc := ⟨.hbm, 742, rfl⟩
abbrev main_v631 : Ref sig .tc := ⟨.hbm, 743, rfl⟩
abbrev main_v632 : Ref sig .tc := ⟨.hbm, 744, rfl⟩
abbrev main_v633 : Ref sig .tc := ⟨.hbm, 745, rfl⟩
abbrev main_v634 : Ref sig .tc := ⟨.hbm, 746, rfl⟩
abbrev main_v635 : Ref sig .tc := ⟨.hbm, 747, rfl⟩
abbrev main_v636 : Ref sig .tc := ⟨.hbm, 748, rfl⟩
abbrev main_cst_101 : Ref sig .tc := ⟨.hbm, 749, rfl⟩
abbrev main_v637 : Ref sig .tc := ⟨.hbm, 750, rfl⟩
abbrev main_v638 : Ref sig .tc := ⟨.hbm, 751, rfl⟩
abbrev main_cst_102 : Ref sig .tc := ⟨.hbm, 752, rfl⟩
abbrev main_v639 : Ref sig .tc := ⟨.hbm, 753, rfl⟩
abbrev main_v640 : Ref sig .tc := ⟨.hbm, 754, rfl⟩
abbrev main_cst_103 : Ref sig .tc := ⟨.hbm, 755, rfl⟩
abbrev main_v641 : Ref sig .tc := ⟨.hbm, 756, rfl⟩
abbrev main_v642 : Ref sig .tc := ⟨.hbm, 757, rfl⟩
abbrev main_cst_104 : Ref sig .tc := ⟨.hbm, 758, rfl⟩
abbrev main_v643 : Ref sig .tc := ⟨.hbm, 759, rfl⟩
abbrev main_v644 : Ref sig .tc := ⟨.hbm, 760, rfl⟩
abbrev main_v645 : Ref sig .tc := ⟨.hbm, 761, rfl⟩
abbrev main_v646 : Ref sig .tc := ⟨.hbm, 762, rfl⟩
abbrev main_v647 : Ref sig .tc := ⟨.hbm, 763, rfl⟩
abbrev main_v648 : Ref sig .tc := ⟨.hbm, 764, rfl⟩
abbrev main_v649 : Ref sig .tc := ⟨.hbm, 765, rfl⟩
abbrev main_cst_105 : Ref sig .tc := ⟨.hbm, 766, rfl⟩
abbrev main_v650 : Ref sig .tc := ⟨.hbm, 767, rfl⟩
abbrev main_v651 : Ref sig .tc := ⟨.hbm, 768, rfl⟩
abbrev main_cst_106 : Ref sig .tc := ⟨.hbm, 769, rfl⟩
abbrev main_v652 : Ref sig .tc := ⟨.hbm, 770, rfl⟩
abbrev main_v653 : Ref sig .tc := ⟨.hbm, 771, rfl⟩
abbrev main_cst_107 : Ref sig .tc := ⟨.hbm, 772, rfl⟩
abbrev main_v654 : Ref sig .tc := ⟨.hbm, 773, rfl⟩
abbrev main_v655 : Ref sig .tc := ⟨.hbm, 774, rfl⟩
abbrev main_cst_108 : Ref sig .tc := ⟨.hbm, 775, rfl⟩
abbrev main_v656 : Ref sig .tc := ⟨.hbm, 776, rfl⟩
abbrev main_v657 : Ref sig .tc := ⟨.hbm, 777, rfl⟩
abbrev main_v658 : Ref sig .tc := ⟨.hbm, 778, rfl⟩
abbrev main_v659 : Ref sig .tc := ⟨.hbm, 779, rfl⟩
abbrev main_v660 : Ref sig .tc := ⟨.hbm, 780, rfl⟩
abbrev main_v661 : Ref sig .tc := ⟨.hbm, 781, rfl⟩
abbrev main_v662 : Ref sig .tc := ⟨.hbm, 782, rfl⟩
abbrev main_cst_109 : Ref sig .tc := ⟨.hbm, 783, rfl⟩
abbrev main_v663 : Ref sig .tc := ⟨.hbm, 784, rfl⟩
abbrev main_v664 : Ref sig .tc := ⟨.hbm, 785, rfl⟩
abbrev main_cst_110 : Ref sig .tc := ⟨.hbm, 786, rfl⟩
abbrev main_v665 : Ref sig .tc := ⟨.hbm, 787, rfl⟩
abbrev main_v666 : Ref sig .tc := ⟨.hbm, 788, rfl⟩
abbrev main_cst_111 : Ref sig .tc := ⟨.hbm, 789, rfl⟩
abbrev main_v667 : Ref sig .tc := ⟨.hbm, 790, rfl⟩
abbrev main_v668 : Ref sig .tc := ⟨.hbm, 791, rfl⟩
abbrev main_cst_112 : Ref sig .tc := ⟨.hbm, 792, rfl⟩
abbrev main_v669 : Ref sig .tc := ⟨.hbm, 793, rfl⟩
abbrev main_v670 : Ref sig .tc := ⟨.hbm, 794, rfl⟩
abbrev main_v671 : Ref sig .tc := ⟨.hbm, 795, rfl⟩
abbrev main_v672 : Ref sig .tc := ⟨.hbm, 796, rfl⟩
abbrev main_v673 : Ref sig .tc := ⟨.hbm, 797, rfl⟩
abbrev main_v674 : Ref sig .tc := ⟨.hbm, 798, rfl⟩
abbrev main_v675 : Ref sig .tc := ⟨.hbm, 799, rfl⟩
abbrev main_cst_113 : Ref sig .tc := ⟨.hbm, 800, rfl⟩
abbrev main_v676 : Ref sig .tc := ⟨.hbm, 801, rfl⟩
abbrev main_v677 : Ref sig .tc := ⟨.hbm, 802, rfl⟩
abbrev main_cst_114 : Ref sig .tc := ⟨.hbm, 803, rfl⟩
abbrev main_v678 : Ref sig .tc := ⟨.hbm, 804, rfl⟩
abbrev main_v679 : Ref sig .tc := ⟨.hbm, 805, rfl⟩
abbrev main_cst_115 : Ref sig .tc := ⟨.hbm, 806, rfl⟩
abbrev main_v680 : Ref sig .tc := ⟨.hbm, 807, rfl⟩
abbrev main_v681 : Ref sig .tc := ⟨.hbm, 808, rfl⟩
abbrev main_cst_116 : Ref sig .tc := ⟨.hbm, 809, rfl⟩
abbrev main_v682 : Ref sig .tc := ⟨.hbm, 810, rfl⟩
abbrev main_v683 : Ref sig .tc := ⟨.hbm, 811, rfl⟩
abbrev main_v684 : Ref sig .tc := ⟨.hbm, 812, rfl⟩
abbrev main_v685 : Ref sig .tc := ⟨.hbm, 813, rfl⟩
abbrev main_v686 : Ref sig .tc := ⟨.hbm, 814, rfl⟩
abbrev main_v687 : Ref sig .tc := ⟨.hbm, 815, rfl⟩
abbrev main_v688 : Ref sig .tc := ⟨.hbm, 816, rfl⟩
abbrev main_v689 : Ref sig .tc := ⟨.hbm, 817, rfl⟩
abbrev main_cst_117 : Ref sig .tc := ⟨.hbm, 818, rfl⟩
abbrev main_v690 : Ref sig .tc := ⟨.hbm, 819, rfl⟩
abbrev main_v691 : Ref sig .tc := ⟨.hbm, 820, rfl⟩
abbrev main_v692 : Ref sig .tc := ⟨.hbm, 821, rfl⟩
abbrev main_cst_118 : Ref sig .tc := ⟨.hbm, 822, rfl⟩
abbrev main_v693 : Ref sig .tc := ⟨.hbm, 823, rfl⟩
abbrev main_v694 : Ref sig .tc := ⟨.hbm, 824, rfl⟩
abbrev main_v695 : Ref sig .tc := ⟨.hbm, 825, rfl⟩
abbrev main_cst_119 : Ref sig .tc := ⟨.hbm, 826, rfl⟩
abbrev main_v696 : Ref sig .tc := ⟨.hbm, 827, rfl⟩
abbrev main_v697 : Ref sig .tc := ⟨.hbm, 828, rfl⟩
abbrev main_v698 : Ref sig .tc := ⟨.hbm, 829, rfl⟩
abbrev main_v699 : Ref sig .tc := ⟨.hbm, 830, rfl⟩
abbrev main_v700 : Ref sig .tc := ⟨.hbm, 831, rfl⟩
abbrev main_v701 : Ref sig .tc := ⟨.hbm, 832, rfl⟩
abbrev main_v702 : Ref sig .tc := ⟨.hbm, 833, rfl⟩
abbrev main_cst_120 : Ref sig .tc := ⟨.hbm, 834, rfl⟩
abbrev main_v703 : Ref sig .tc := ⟨.hbm, 835, rfl⟩
abbrev main_v704 : Ref sig .tc := ⟨.hbm, 836, rfl⟩
abbrev main_v705 : Ref sig .tc := ⟨.hbm, 837, rfl⟩
abbrev main_v706 : Ref sig .tc := ⟨.hbm, 838, rfl⟩
abbrev main_v707 : Ref sig .tc := ⟨.hbm, 839, rfl⟩
abbrev main_cst_121 : Ref sig .tc := ⟨.hbm, 840, rfl⟩
abbrev main_v708 : Ref sig .tc := ⟨.hbm, 841, rfl⟩
abbrev main_v709 : Ref sig .tc := ⟨.hbm, 842, rfl⟩
abbrev main_v710 : Ref sig .tc := ⟨.hbm, 843, rfl⟩
abbrev main_v711 : Ref sig .tc := ⟨.hbm, 844, rfl⟩
abbrev main_cst_122 : Ref sig .tc := ⟨.hbm, 845, rfl⟩
abbrev main_v712 : Ref sig .tc := ⟨.hbm, 846, rfl⟩
abbrev main_v713 : Ref sig .tc := ⟨.hbm, 847, rfl⟩
abbrev main_v714 : Ref sig .tc := ⟨.hbm, 848, rfl⟩
abbrev main_v715 : Ref sig .tc := ⟨.hbm, 849, rfl⟩
abbrev main_cst_123 : Ref sig .tc := ⟨.hbm, 850, rfl⟩
abbrev main_v716 : Ref sig .tc := ⟨.hbm, 851, rfl⟩
abbrev main_v717 : Ref sig .tc := ⟨.hbm, 852, rfl⟩
abbrev main_v718 : Ref sig .tc := ⟨.hbm, 853, rfl⟩
abbrev main_cst_124 : Ref sig .tc := ⟨.hbm, 854, rfl⟩
abbrev main_v719 : Ref sig .tc := ⟨.hbm, 855, rfl⟩
abbrev main_v720 : Ref sig .tc := ⟨.hbm, 856, rfl⟩
abbrev main_cst_125 : Ref sig .tc := ⟨.hbm, 857, rfl⟩
abbrev main_v721 : Ref sig .tc := ⟨.hbm, 858, rfl⟩
abbrev main_v722 : Ref sig .tc := ⟨.hbm, 859, rfl⟩
abbrev main_v723 : Ref sig .tc := ⟨.hbm, 860, rfl⟩
abbrev main_v724 : Ref sig .tc := ⟨.hbm, 861, rfl⟩
abbrev main_v725 : Ref sig .tc := ⟨.hbm, 862, rfl⟩
abbrev main_v726 : Ref sig .tc := ⟨.hbm, 863, rfl⟩
abbrev main_v727 : Ref sig .tc := ⟨.hbm, 864, rfl⟩
abbrev main_v728 : Ref sig .tc := ⟨.hbm, 865, rfl⟩
abbrev main_cst_126 : Ref sig .tc := ⟨.hbm, 866, rfl⟩
abbrev main_v729 : Ref sig .tc := ⟨.hbm, 867, rfl⟩
abbrev main_v730 : Ref sig .tc := ⟨.hbm, 868, rfl⟩
abbrev main_cst_127 : Ref sig .tc := ⟨.hbm, 869, rfl⟩
abbrev main_v731 : Ref sig .tc := ⟨.hbm, 870, rfl⟩
abbrev main_v732 : Ref sig .tc := ⟨.hbm, 871, rfl⟩
abbrev main_v733 : Ref sig .tc := ⟨.hbm, 872, rfl⟩
abbrev main_v734 : Ref sig .tc := ⟨.hbm, 873, rfl⟩
abbrev main_v735 : Ref sig .tc := ⟨.hbm, 874, rfl⟩
abbrev main_v736 : Ref sig .tc := ⟨.hbm, 875, rfl⟩
abbrev main_v737 : Ref sig .tc := ⟨.hbm, 876, rfl⟩
abbrev main_v738 : Ref sig .tc := ⟨.hbm, 877, rfl⟩
abbrev main_v739 : Ref sig .tc := ⟨.hbm, 878, rfl⟩
abbrev main_v740 : Ref sig .tc := ⟨.hbm, 879, rfl⟩
abbrev main_cst_128 : Ref sig .tc := ⟨.hbm, 880, rfl⟩
abbrev main_v741 : Ref sig .tc := ⟨.hbm, 881, rfl⟩
abbrev main_v742 : Ref sig .tc := ⟨.hbm, 882, rfl⟩
abbrev main_cst_129 : Ref sig .tc := ⟨.hbm, 883, rfl⟩
abbrev main_v743 : Ref sig .tc := ⟨.hbm, 884, rfl⟩
abbrev main_v744 : Ref sig .tc := ⟨.hbm, 885, rfl⟩
abbrev main_cst_130 : Ref sig .tc := ⟨.hbm, 886, rfl⟩
abbrev main_v745 : Ref sig .tc := ⟨.hbm, 887, rfl⟩
abbrev main_v746 : Ref sig .tc := ⟨.hbm, 888, rfl⟩
abbrev main_v747 : Ref sig .tc := ⟨.hbm, 889, rfl⟩
abbrev main_v748 : Ref sig .tc := ⟨.hbm, 890, rfl⟩
abbrev main_cst_131 : Ref sig .tc := ⟨.hbm, 891, rfl⟩
abbrev main_v749 : Ref sig .tc := ⟨.hbm, 892, rfl⟩
abbrev main_v750 : Ref sig .tc := ⟨.hbm, 893, rfl⟩
abbrev main_cst_132 : Ref sig .tc := ⟨.hbm, 894, rfl⟩
abbrev main_v751 : Ref sig .tc := ⟨.hbm, 895, rfl⟩
abbrev main_cst_133 : Ref sig .tc := ⟨.hbm, 896, rfl⟩
abbrev main_v752 : Ref sig .tc := ⟨.hbm, 897, rfl⟩
abbrev main_v753 : Ref sig .tc := ⟨.hbm, 898, rfl⟩
abbrev main_cst_134 : Ref sig .tc := ⟨.hbm, 899, rfl⟩
abbrev main_v754 : Ref sig .tc := ⟨.hbm, 900, rfl⟩
abbrev main_v755 : Ref sig .tc := ⟨.hbm, 901, rfl⟩
abbrev main_v756 : Ref sig .tc := ⟨.hbm, 902, rfl⟩
abbrev main_v757 : Ref sig .tc := ⟨.hbm, 903, rfl⟩
abbrev main_cst_135 : Ref sig .tc := ⟨.hbm, 904, rfl⟩
abbrev main_v758 : Ref sig .tc := ⟨.hbm, 905, rfl⟩
abbrev main_v759 : Ref sig .tc := ⟨.hbm, 906, rfl⟩
abbrev main_cst_136 : Ref sig .tc := ⟨.hbm, 907, rfl⟩
abbrev main_v760 : Ref sig .tc := ⟨.hbm, 908, rfl⟩
abbrev main_v761 : Ref sig .tc := ⟨.hbm, 909, rfl⟩
abbrev main_cst_137 : Ref sig .tc := ⟨.hbm, 910, rfl⟩
abbrev main_v762 : Ref sig .tc := ⟨.hbm, 911, rfl⟩
abbrev main_v763 : Ref sig .tc := ⟨.hbm, 912, rfl⟩
abbrev main_v764 : Ref sig .tc := ⟨.hbm, 913, rfl⟩
abbrev main_cst_138 : Ref sig .tc := ⟨.hbm, 914, rfl⟩
abbrev main_v765 : Ref sig .tc := ⟨.hbm, 915, rfl⟩
abbrev main_v766 : Ref sig .tc := ⟨.hbm, 916, rfl⟩
abbrev main_v767 : Ref sig .tc := ⟨.hbm, 917, rfl⟩
abbrev main_v768 : Ref sig .tc := ⟨.hbm, 918, rfl⟩
abbrev main_cst_139 : Ref sig .tc := ⟨.hbm, 919, rfl⟩
abbrev main_v769 : Ref sig .tc := ⟨.hbm, 920, rfl⟩
abbrev main_v770 : Ref sig .tc := ⟨.hbm, 921, rfl⟩
abbrev main_cst_140 : Ref sig .tc := ⟨.hbm, 922, rfl⟩
abbrev main_v771 : Ref sig .tc := ⟨.hbm, 923, rfl⟩
abbrev main_v772 : Ref sig .tc := ⟨.hbm, 924, rfl⟩
abbrev main_cst_141 : Ref sig .tc := ⟨.hbm, 925, rfl⟩
abbrev main_v773 : Ref sig .tc := ⟨.hbm, 926, rfl⟩
abbrev main_v774 : Ref sig .tc := ⟨.hbm, 927, rfl⟩
abbrev main_v775 : Ref sig .tc := ⟨.hbm, 928, rfl⟩
abbrev main_cst_142 : Ref sig .tc := ⟨.hbm, 929, rfl⟩
abbrev main_v776 : Ref sig .tc := ⟨.hbm, 930, rfl⟩
abbrev main_v777 : Ref sig .tc := ⟨.hbm, 931, rfl⟩
abbrev main_v778 : Ref sig .tc := ⟨.hbm, 932, rfl⟩
abbrev main_v779 : Ref sig .tc := ⟨.hbm, 933, rfl⟩
abbrev main_cst_143 : Ref sig .tc := ⟨.hbm, 934, rfl⟩
abbrev main_v780 : Ref sig .tc := ⟨.hbm, 935, rfl⟩
abbrev main_v781 : Ref sig .tc := ⟨.hbm, 936, rfl⟩
abbrev main_cst_144 : Ref sig .tc := ⟨.hbm, 937, rfl⟩
abbrev main_v782 : Ref sig .tc := ⟨.hbm, 938, rfl⟩
abbrev main_v783 : Ref sig .tc := ⟨.hbm, 939, rfl⟩
abbrev main_cst_145 : Ref sig .tc := ⟨.hbm, 940, rfl⟩
abbrev main_v784 : Ref sig .tc := ⟨.hbm, 941, rfl⟩
abbrev main_v785 : Ref sig .tc := ⟨.hbm, 942, rfl⟩
abbrev main_v786 : Ref sig .tc := ⟨.hbm, 943, rfl⟩
abbrev main_v787 : Ref sig .tc := ⟨.hbm, 944, rfl⟩
abbrev main_v788 : Ref sig .tc := ⟨.hbm, 945, rfl⟩
abbrev main_v789 : Ref sig .tc := ⟨.hbm, 946, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel3.lean ====
abbrev S8192x1024 : Shape := ⟨2, ![8192, 1024]⟩
abbrev S8192x9216 : Shape := ⟨2, ![8192, 9216]⟩
abbrev S8192x128 : Shape := ⟨2, ![8192, 128]⟩
abbrev S1024 : Shape := ⟨1, ![1024]⟩
abbrev S1024x9216 : Shape := ⟨2, ![1024, 9216]⟩
abbrev S1024x128 : Shape := ⟨2, ![1024, 128]⟩
abbrev S1x1024 : Shape := ⟨2, ![1, 1024]⟩
abbrev S8x1024 : Shape := ⟨2, ![8, 1024]⟩
abbrev S1024x2304 : Shape := ⟨2, ![1024, 2304]⟩
abbrev S1024x1024 : Shape := ⟨2, ![1024, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x9216, .bf16⟩
  | .hbm, ⟨2, _⟩ => ⟨S8192x128, .bf16⟩
  | .hbm, ⟨3, _⟩ => ⟨S8192x1024, .f32⟩
  | .hbm, ⟨4, _⟩ => ⟨S1024, .f32⟩
  | .hbm, ⟨5, _⟩ => ⟨S1024x9216, .bf16⟩
  | .hbm, ⟨6, _⟩ => ⟨S1024x128, .bf16⟩
  | .hbm, ⟨7, _⟩ => ⟨S1x1024, .f32⟩
  | .hbm, ⟨8, _⟩ => ⟨S8192x1024, .f32⟩
  | .hbm, ⟨9, _⟩ => ⟨S8x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | .local _ .vmem, ⟨14, _⟩ => ⟨S8x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S8192x1024 : Shape := ⟨2, ![8192, 1024]⟩
abbrev S8192x9216 : Shape := ⟨2, ![8192, 9216]⟩
abbrev S8192x128 : Shape := ⟨2, ![8192, 128]⟩
abbrev S1024 : Shape := ⟨1, ![1024]⟩
abbrev S1024x9216 : Shape := ⟨2, ![1024, 9216]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x9216, .bf16⟩
  | .hbm, ⟨2, _⟩ => ⟨S8192x128, .bf16⟩
  | .hbm, ⟨3, _⟩ => ⟨S8192x1024, .f32⟩
  | .hbm, ⟨4, _⟩ => ⟨S1024, .f32⟩
  | .hbm, ⟨5, _⟩ => ⟨S1024x9216, .bf16⟩
  | .hbm, ⟨6, _⟩ => ⟨S1024x128, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x9216, .f32⟩
  | .hbm, ⟨28, _⟩ => ⟨S8192x9216, .f32⟩
  | .hbm, ⟨29, _⟩ => ⟨S1024x128, .f32⟩
  | .hbm, ⟨30, _⟩ => ⟨S8192x128, .f32⟩
  | .hbm, ⟨31, _⟩ => ⟨S8192x9216, .f32⟩
  | .hbm, ⟨32, _⟩ => ⟨S8192x128, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S_, .f32⟩
  | .hbm, ⟨64, _⟩ => ⟨S7x1024, .f32⟩
  | .hbm, ⟨65, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S1024 : Shape := ⟨1, ![1024]⟩
abbrev S4x1024x1408 : Shape := ⟨3, ![4, 1024, 1408]⟩
abbrev S1x1024 : Shape := ⟨2, ![1, 1024]⟩
abbrev S8x1024 : Shape := ⟨2, ![8, 1024]⟩
abbrev S1024x1408 : Shape := ⟨2, ![1024, 1408]⟩
abbrev S1x1024x1408 : Shape := ⟨3, ![1, 1024, 1408]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S8192x1024, .f32⟩
  | .hbm, ⟨3, _⟩ => ⟨S1024, .f32⟩
  | .hbm, ⟨4, _⟩ => ⟨S4x1024x1408, .bf16⟩
  | .hbm, ⟨5, _⟩ => ⟨S1x1024, .f32⟩
  | .hbm, ⟨6, _⟩ => ⟨S8192x1024, .f32⟩
  | .hbm, ⟨7, _⟩ => ⟨S8x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8192x1024 : Shape := ⟨2, ![8192, 1024]⟩
abbrev S8192x5632 : Shape := ⟨2, ![8192, 5632]⟩
abbrev S1024 : Shape := ⟨1, ![1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S8192x1024, .f32⟩
  | .hbm, ⟨3, _⟩ => ⟨S1024, .f32⟩
  | .hbm, ⟨4, _⟩ => ⟨S4x1024x1408, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S4x1024x1408, .f32⟩
  | .hbm, ⟨26, _⟩ => ⟨S1024x4x1408, .f32⟩
  | .hbm, ⟨27, _⟩ => ⟨S1024x5632, .f32⟩
  | .hbm, ⟨28, _⟩ => ⟨S8192x5632, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S_, .f32⟩
  | .hbm, ⟨59, _⟩ => ⟨S7x1024, .f32⟩
  | .hbm, ⟨60, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel5.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S8192x9216 : Shape := ⟨2, ![8192, 9216]⟩
abbrev S2048 : Shape := ⟨1, ![2048]⟩
abbrev S1x2048 : Shape := ⟨2, ![1, 2048]⟩
abbrev S8x2048 : Shape := ⟨2, ![8, 2048]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x9216, .f32⟩
  | .hbm, ⟨5, _⟩ => ⟨S2048, .f32⟩
  | .hbm, ⟨6, _⟩ => ⟨S1x2048, .f32⟩
  | .hbm, ⟨7, _⟩ => ⟨S8192x1024, .bf16⟩
  | .hbm, ⟨8, _⟩ => ⟨S8192x1024, .bf16⟩
  | .hbm, ⟨9, _⟩ => ⟨S8192x9216, .bf16⟩
  | .hbm, ⟨10, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S8x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8192x1024 : Shape := ⟨2, ![8192, 1024]⟩
abbrev S1024x1024 : Shape := ⟨2, ![1024, 1024]⟩
abbrev S8192x9216 : Shape := ⟨2, ![8192, 9216]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x9216, .f32⟩
  | .hbm, ⟨5, _⟩ => ⟨S2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S1024x1024, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S8192x1024, .bf16⟩
  | .hbm, ⟨44, _⟩ => ⟨S8192x1024, .bf16⟩
  | .hbm, ⟨45, _⟩ => ⟨S1x2048, .f32⟩
  | .hbm, ⟨46, _⟩ => ⟨S_, .f32⟩
  | .hbm, ⟨47, _⟩ => ⟨S7x2048, .f32⟩
  | .hbm, ⟨48, _⟩ => ⟨S8x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x9216 : Shape := ⟨2, ![1024, 9216]⟩
abbrev S1x1024 : Shape := ⟨2, ![1, 1024]⟩
abbrev S8192x9216 : Shape := ⟨2, ![8192, 9216]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x9216, .bf16⟩
  | .hbm, ⟨3, _⟩ => ⟨S1x1024, .f32⟩
  | .hbm, ⟨4, _⟩ => ⟨S8192x1024, .bf16⟩
  | .hbm, ⟨5, _⟩ => ⟨S8192x9216, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | .local _ .vmem, ⟨8, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8192x1024 : Shape := ⟨2, ![8192, 1024]⟩
abbrev S1024 : Shape := ⟨1, ![1024]⟩
abbrev S1024x9216 : Shape := ⟨2, ![1024, 9216]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x9216 : Shape := ⟨2, ![8192, 9216]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x9216, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x9216, .f32⟩
  | .hbm, ⟨21, _⟩ => ⟨S8192x9216, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S4x1024x1408 : Shape := ⟨3, ![4, 1024, 1408]⟩
abbrev S1x1024 : Shape := ⟨2, ![1, 1024]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S2048 : Shape := ⟨1, ![2048]⟩
abbrev S2048x1 : Shape := ⟨2, ![2048, 1]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S1x1024, .f32⟩
  | .hbm, ⟨4, _⟩ => ⟨S8192x1024, .bf16⟩
  | .hbm, ⟨5, _⟩ => ⟨S8192x5632, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1408, .bf16⟩
  | .local _ .vmem, ⟨8, _⟩ => ⟨S2048x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x1024 : Shape := ⟨2, ![8192, 1024]⟩
abbrev S1024 : Shape := ⟨1, ![1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel10.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x2816, .bf16⟩
  | .hbm, ⟨4, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S2816x1024, .f32⟩
  | .hbm, ⟨18, _⟩ => ⟨S8192x1024, .f32⟩
  | .hbm, ⟨19, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S8192x9216 : Shape := ⟨2, ![8192, 9216]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S1024x2048 : Shape := ⟨2, ![1024, 2048]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .f32⟩
  | .hbm, ⟨3, _⟩ => ⟨S1024x1024, .bf16⟩
  | .hbm, ⟨4, _⟩ => ⟨S2048x1024, .bf16⟩
  | .hbm, ⟨5, _⟩ => ⟨S2048, .f32⟩
  | .hbm, ⟨6, _⟩ => ⟨S1x2048, .f32⟩
  | .hbm, ⟨7, _⟩ => ⟨S8192x9216, .f32⟩
  | .hbm, ⟨8, _⟩ => ⟨S1x2048, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S8192x1024 : Shape := ⟨2, ![8192, 1024]⟩
abbrev S8192x2048 : Shape := ⟨2, ![8192, 2048]⟩
abbrev S8192x9216 : Shape := ⟨2, ![8192, 9216]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x9216, .f32⟩
  | .hbm, ⟨3, _⟩ => ⟨S1024x1024, .bf16⟩
  | .hbm, ⟨4, _⟩ => ⟨S2048x1024, .bf16⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S8192x1024, .f32⟩
  | .hbm, ⟨23, _⟩ => ⟨S8192x2048, .f32⟩
  | .hbm, ⟨24, _⟩ => ⟨S2048x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel13.lean ====
abbrev S8192x1024 : Shape := ⟨2, ![8192, 1024]⟩
abbrev S8192x5632 : Shape := ⟨2, ![8192, 5632]⟩
abbrev S1 : Shape := ⟨1, ![1]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 6
  | .smem => 2
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .smem, ⟨0, _⟩ => ⟨S1, .i32⟩
  | .local _ .smem, ⟨1, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S1) ![v0.toNat] S1.size (k0_off1_inb i)) numel1_S1
  let c0_i32 : BitVec 32 := 0#32
  let c0_i32_0 : BitVec 32 := 0#32
  ![arg1.toNat, v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x5632 : Shape := ⟨2, ![8192, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S4x1024x1408, .f32⟩
  | .hbm, ⟨4, _⟩ => ⟨S8192x1024, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S8192x2816 : Shape := ⟨2, ![8192, 2816]⟩
abbrev S8192x1024 : Shape := ⟨2, ![8192, 1024]⟩
abbrev S1 : Shape := ⟨1, ![1]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 2
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .f32⟩
  | .local _ .smem, ⟨0, _⟩ => ⟨S1, .i32⟩
  | .local _ .smem, ⟨1, _⟩ => ⟨S1, .i32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S1) ![v0.toNat] S1.size (k0_off1_inb i)) numel1_S1
  let c0_i32 : BitVec 32 := 0#32
  ![v1.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x9216 : Shape := ⟨2, ![8192, 9216]⟩
abbrev S8192x1024 : Shape := ⟨2, ![8192, 1024]⟩
abbrev S9 : Shape := ⟨1, ![9]⟩
abbrev S9216x1024 : Shape := ⟨2, ![9216, 1024]⟩
abbrev S1024x1024 : Shape := ⟨2, ![1024, 1024]⟩
abbrev S1 : Shape := ⟨1, ![1]⟩

abbrev nBuf : Space → Nat
  | .hbm => 3
  | .vmem => 6
  | .smem => 2
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .smem, ⟨0, _⟩ => ⟨S9, .i32⟩
  | .local _ .smem, ⟨1, _⟩ => ⟨S9, .i32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S9.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S9) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S9.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S9) ![v0.toNat] S1.size (k0_off1_inb i)) numel1_S1
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x9216 : Shape := ⟨2, ![8192, 9216]⟩
abbrev S8192x1024 : Shape := ⟨2, ![8192, 1024]⟩
abbrev S_ : Shape := ⟨0, ![]⟩
abbrev S9216x1024 : Shape := ⟨2, ![9216, 1024]⟩
abbrev S5120x1024 : Shape := ⟨2, ![5120, 1024]⟩
abbrev S1024x1024 : Shape := ⟨2, ![1024, 1024]⟩
abbrev S2048x1024 : Shape := ⟨2, ![2048, 1024]⟩
abbrev S1024x9216 : Shape := ⟨2, ![1024, 9216]⟩

abbrev nBuf : Space → Nat
  | .hbm => 31
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S_, .f32⟩
  | .hbm, ⟨3, _⟩ => ⟨S9216x1024, .f32⟩
  | .hbm, ⟨4, _⟩ => ⟨S5120x1024, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S9216x1024, .f32⟩
  | .hbm, ⟨9, _⟩ => ⟨S8192x1024, .f32⟩
  | .hbm, ⟨10, _⟩ => ⟨S1024x9216, .f32⟩
  | .hbm, ⟨11, _⟩ => ⟨S8192x9216, .f32⟩
  | .hbm, ⟨12, _⟩ => ⟨S8192x9216, .f32⟩
  | .hbm, ⟨13, _⟩ => ⟨S9216x1024, .f32⟩
  | .hbm, ⟨14, _⟩ => ⟨S1024x9216, .f32⟩
  | .hbm, ⟨15, _⟩ => ⟨S9216x1024, .f32⟩
  | .hbm, ⟨16, _⟩ => ⟨S5120x1024, .f32⟩
  | .hbm, ⟨17, _⟩ => ⟨S1024x1024, .f32⟩
  | .hbm, ⟨18, _⟩ => ⟨S2048x1024, .f32⟩
  | .hbm, ⟨19, _⟩ => ⟨S1024x1024, .f32⟩
  | .hbm, ⟨20, _⟩ => ⟨S_, .f32⟩
  | .hbm, ⟨21, _⟩ => ⟨S9216x1024, .f32⟩
  | .hbm, ⟨22, _⟩ => ⟨S_, .f32⟩
  | .hbm, ⟨23, _⟩ => ⟨S9216x1024, .f32⟩
  | .hbm, ⟨24, _⟩ => ⟨S9216x1024, .f32⟩
  | .hbm, ⟨25, _⟩ => ⟨S_, .f32⟩
  | .hbm, ⟨26, _⟩ => ⟨S9216x1024, .f32⟩
  | .hbm, ⟨27, _⟩ => ⟨S9216x1024, .f32⟩
  | .hbm, ⟨28, _⟩ => ⟨S_, .f32⟩
  | .hbm, ⟨29, _⟩ => ⟨S9216x1024, .f32⟩
  | .hbm, ⟨30, _⟩ => ⟨S9216x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel16.lean ====
abbrev S8192x1024 : Shape := ⟨2, ![8192, 1024]⟩
abbrev S1 : Shape := ⟨1, ![1]⟩
abbrev S1024x1024 : Shape := ⟨2, ![1024, 1024]⟩

abbrev nBuf : Space → Nat
  | .hbm => 3
  | .vmem => 5
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .smem, ⟨0, _⟩ => ⟨S1, .i32⟩
  | .local _ .smem, ⟨1, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S1) ![v0.toNat] S1.size (k0_off1_inb i)) numel1_S1
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1 : Shape := ⟨1, ![1]⟩
abbrev S1024x1024 : Shape := ⟨2, ![1024, 1024]⟩

abbrev nBuf : Space → Nat
  | .hbm => 3
  | .vmem => 5
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .smem, ⟨0, _⟩ => ⟨S1, .i32⟩
  | .local _ .smem, ⟨1, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S1) ![v0.toNat] S1.size (k0_off1_inb i)) numel1_S1
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x2048 : Shape := ⟨2, ![8192, 2048]⟩
abbrev S8192x1024 : Shape := ⟨2, ![8192, 1024]⟩
abbrev S3072x1024 : Shape := ⟨2, ![3072, 1024]⟩
abbrev S2 : Shape := ⟨1, ![2]⟩
abbrev S1024x1024 : Shape := ⟨2, ![1024, 1024]⟩
abbrev S1 : Shape := ⟨1, ![1]⟩

abbrev nBuf : Space → Nat
  | .hbm => 4
  | .vmem => 6
  | .smem => 2
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S3072x1024, .f32⟩
  | .hbm, ⟨3, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .smem, ⟨0, _⟩ => ⟨S2, .i32⟩
  | .local _ .smem, ⟨1, _⟩ => ⟨S2, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S2) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S2) ![v0.toNat] S1.size (k0_off1_inb i)) numel1_S1
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S8192x1024 : Shape := ⟨2, ![8192, 1024]⟩
abbrev S3072x1024 : Shape := ⟨2, ![3072, 1024]⟩
abbrev S_ : Shape := ⟨0, ![]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S3072x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S1024x1024, .f32⟩
  | .hbm, ⟨11, _⟩ => ⟨S3072x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel19.lean ====
abbrev S8192x128 : Shape := ⟨2, ![8192, 128]⟩
abbrev S8192x1024 : Shape := ⟨2, ![8192, 1024]⟩
abbrev S9344x1024 : Shape := ⟨2, ![9344, 1024]⟩
abbrev S1 : Shape := ⟨1, ![1]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 4
  | .vmem => 5
  | .smem => 2
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S9344x1024, .f32⟩
  | .hbm, ⟨3, _⟩ => ⟨S9344x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .smem, ⟨0, _⟩ => ⟨S1, .i32⟩
  | .local _ .smem, ⟨1, _⟩ => ⟨S1, .i32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S1) ![v0.toNat] S1.size (k0_off1_inb i)) numel1_S1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S1) ![v0.toNat] S1.size (k0_off1_inb i)) numel1_S1
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x128 : Shape := ⟨2, ![8192, 128]⟩
abbrev S8192x1024 : Shape := ⟨2, ![8192, 1024]⟩
abbrev S9344x1024 : Shape := ⟨2, ![9344, 1024]⟩
abbrev S_ : Shape := ⟨0, ![]⟩
abbrev S128x1024 : Shape := ⟨2, ![128, 1024]⟩
abbrev S1024x128 : Shape := ⟨2, ![1024, 128]⟩
abbrev S9216x1024 : Shape := ⟨2, ![9216, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S9344x1024, .f32⟩
  | .hbm, ⟨3, _⟩ => ⟨S_, .f32⟩
  | .hbm, ⟨4, _⟩ => ⟨S128x1024, .f32⟩
  | .hbm, ⟨5, _⟩ => ⟨S8192x1024, .f32⟩
  | .hbm, ⟨6, _⟩ => ⟨S1024x128, .f32⟩
  | .hbm, ⟨7, _⟩ => ⟨S8192x128, .f32⟩
  | .hbm, ⟨8, _⟩ => ⟨S8192x128, .f32⟩
  | .hbm, ⟨9, _⟩ => ⟨S128x1024, .f32⟩
  | .hbm, ⟨10, _⟩ => ⟨S1024x128, .f32⟩
  | .hbm, ⟨11, _⟩ => ⟨S128x1024, .f32⟩
  | .hbm, ⟨12, _⟩ => ⟨S9216x1024, .f32⟩
  | .hbm, ⟨13, _⟩ => ⟨S9344x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel20.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S2x1024x2312 : Shape := ⟨3, ![2, 1024, 2312]⟩
abbrev S2048x2312 : Shape := ⟨2, ![2048, 2312]⟩
abbrev S64x2312 : Shape := ⟨2, ![64, 2312]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x2312, .f32⟩
  | .hbm, ⟨1, _⟩ => ⟨S2x1024x2312, .f32⟩
  | .hbm, ⟨2, _⟩ => ⟨S2x1024x2312, .f32⟩
  | .hbm, ⟨3, _⟩ => ⟨S2x1024x2312, .f32⟩
  | .hbm, ⟨4, _⟩ => ⟨S2048x2312, .f32⟩
  | .hbm, ⟨5, _⟩ => ⟨S2048x2312, .f32⟩
  | .hbm, ⟨6, _⟩ => ⟨S2048x2312, .f32⟩
  | .hbm, ⟨7, _⟩ => ⟨S2048x2312, .f32⟩
  | .hbm, ⟨8, _⟩ => ⟨S2048x2312, .f32⟩
  | .hbm, ⟨9, _⟩ => ⟨S2048x2312, .f32⟩
  | .hbm, ⟨10, _⟩ => ⟨S2048x2312, .f32⟩
  | .local _ .vmem, ⟨0, _⟩ => ⟨S64x2312, .f32⟩
  | .local _ .vmem, ⟨1, _⟩ => ⟨S64x2312, .f32⟩
  | .local _ .vmem, ⟨2, _⟩ => ⟨S64x2312, .f32⟩
  | .local _ .vmem, ⟨3, _⟩ => ⟨S64x2312, .f32⟩
  | .local _ .vmem, ⟨4, _⟩ => ⟨S64x2312, .f32⟩
  | .local _ .vmem, ⟨5, _⟩ => ⟨S64x2312, .f32⟩
  | .local _ .vmem, ⟨6, _⟩ => ⟨S64x2312, .f32⟩
  | .local _ .vmem, ⟨7, _⟩ => ⟨S64x2312, .f32⟩
  | .local _ .vmem, ⟨8, _⟩ => ⟨S64x2312, .f32⟩
  | .local _ .vmem, ⟨9, _⟩ => ⟨S64x2312, .f32⟩
  | .local _ .vmem, ⟨10, _⟩ => ⟨S64x2312, .f32⟩
  | .local _ .vmem, ⟨11, _⟩ => ⟨S64x2312, .f32⟩
  | .local _ .vmem, ⟨12, _⟩ => ⟨S64x2312, .f32⟩
  | .local _ .vmem, ⟨13, _⟩ => ⟨S64x2312, .f32⟩
  | _, _ => ⟨S2x1024x2312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2312 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2312 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2312 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2312 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2312 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2312 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2312 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2x1024x2312 : Shape := ⟨3, ![2, 1024, 2312]⟩
abbrev S_ : Shape := ⟨0, ![]⟩
abbrev S2048x2312 : Shape := ⟨2, ![2048, 2312]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x2312, .f32⟩
  | .hbm, ⟨1, _⟩ => ⟨S2x1024x2312, .f32⟩
  | .hbm, ⟨2, _⟩ => ⟨S2x1024x2312, .f32⟩
  | .hbm, ⟨3, _⟩ => ⟨S2x1024x2312, .f32⟩
  | .hbm, ⟨4, _⟩ => ⟨S_, .f32⟩
  | .hbm, ⟨5, _⟩ => ⟨S2x1024x2312, .f32⟩
  | .hbm, ⟨6, _⟩ => ⟨S2x1024x2312, .f32⟩
  | .hbm, ⟨7, _⟩ => ⟨S_, .f32⟩
  | .hbm, ⟨8, _⟩ => ⟨S2x1024x2312, .f32⟩
  | .hbm, ⟨9, _⟩ => ⟨S2x1024x2312, .f32⟩
  | .hbm, ⟨10, _⟩ => ⟨S2x1024x2312, .f32⟩
  | .hbm, ⟨11, _⟩ => ⟨S_, .f32⟩
  | .hbm, ⟨12, _⟩ => ⟨S2x1024x2312, .f32⟩
  | .hbm, ⟨13, _⟩ => ⟨S2x1024x2312, .f32⟩
  | .hbm, ⟨14, _⟩ => ⟨S2x1024x2312, .f32⟩
  | .hbm, ⟨15, _⟩ => ⟨S_, .f32⟩
  | .hbm, ⟨16, _⟩ => ⟨S2x1024x2312, .f32⟩
  | .hbm, ⟨17, _⟩ => ⟨S2x1024x2312, .f32⟩
  | .hbm, ⟨18, _⟩ => ⟨S2x1024x2312, .f32⟩
  | .hbm, ⟨19, _⟩ => ⟨S_, .f32⟩
  | .hbm, ⟨20, _⟩ => ⟨S2x1024x2312, .f32⟩
  | .hbm, ⟨21, _⟩ => ⟨S2x1024x2312, .f32⟩
  | .hbm, ⟨22, _⟩ => ⟨S_, .f32⟩
  | .hbm, ⟨23, _⟩ => ⟨S2x1024x2312, .f32⟩
  | .hbm, ⟨24, _⟩ => ⟨S2x1024x2312, .f32⟩
  | .hbm, ⟨25, _⟩ => ⟨S2x1024x2312, .f32⟩
  | .hbm, ⟨26, _⟩ => ⟨S_, .f32⟩
  | .hbm, ⟨27, _⟩ => ⟨S2x1024x2312, .f32⟩
  | .hbm, ⟨28, _⟩ => ⟨S2x1024x2312, .f32⟩
  | .hbm, ⟨29, _⟩ => ⟨S2x1024x2312, .f32⟩
  | .hbm, ⟨30, _⟩ => ⟨S_, .f32⟩
  | .hbm, ⟨31, _⟩ => ⟨S2x1024x2312, .f32⟩
  | .hbm, ⟨32, _⟩ => ⟨S2x1024x2312, .f32⟩
  | .hbm, ⟨33, _⟩ => ⟨S2x1024x2312, .f32⟩
  | .hbm, ⟨34, _⟩ => ⟨S_, .f32⟩
  | .hbm, ⟨35, _⟩ => ⟨S2x1024x2312, .f32⟩
  | .hbm, ⟨36, _⟩ => ⟨S2x1024x2312, .f32⟩
  | .hbm, ⟨37, _⟩ => ⟨S2048x2312, .f32⟩
  | .hbm, ⟨38, _⟩ => ⟨S2048x2312, .f32⟩
  | .hbm, ⟨39, _⟩ => ⟨S2048x2312, .f32⟩
  | _, _ => ⟨S2x1024x2312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S2x768x1024 : Shape := ⟨3, ![2, 768, 1024]⟩
abbrev S1536x1024 : Shape := ⟨2, ![1536, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x768x1024, .f32⟩
  | .hbm, ⟨1, _⟩ => ⟨S2x768x1024, .f32⟩
  | .hbm, ⟨2, _⟩ => ⟨S2x768x1024, .f32⟩
  | .hbm, ⟨3, _⟩ => ⟨S2x768x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1536x1024, .f32⟩
  | .hbm, ⟨8, _⟩ => ⟨S1536x1024, .f32⟩
  | .hbm, ⟨9, _⟩ => ⟨S1536x1024, .f32⟩
  | .hbm, ⟨10, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2x768x1024 : Shape := ⟨3, ![2, 768, 1024]⟩
abbrev S_ : Shape := ⟨0, ![]⟩
abbrev S1536x1024 : Shape := ⟨2, ![1536, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x768x1024, .f32⟩
  | .hbm, ⟨1, _⟩ => ⟨S2x768x1024, .f32⟩
  | .hbm, ⟨2, _⟩ => ⟨S2x768x1024, .f32⟩
  | .hbm, ⟨3, _⟩ => ⟨S2x768x1024, .f32⟩
  | .hbm, ⟨4, _⟩ => ⟨S_, .f32⟩
  | .hbm, ⟨5, _⟩ => ⟨S2x768x1024, .f32⟩
  | .hbm, ⟨6, _⟩ => ⟨S2x768x1024, .f32⟩
  | .hbm, ⟨7, _⟩ => ⟨S_, .f32⟩
  | .hbm, ⟨8, _⟩ => ⟨S2x768x1024, .f32⟩
  | .hbm, ⟨9, _⟩ => ⟨S2x768x1024, .f32⟩
  | .hbm, ⟨10, _⟩ => ⟨S2x768x1024, .f32⟩
  | .hbm, ⟨11, _⟩ => ⟨S_, .f32⟩
  | .hbm, ⟨12, _⟩ => ⟨S2x768x1024, .f32⟩
  | .hbm, ⟨13, _⟩ => ⟨S2x768x1024, .f32⟩
  | .hbm, ⟨14, _⟩ => ⟨S2x768x1024, .f32⟩
  | .hbm, ⟨15, _⟩ => ⟨S_, .f32⟩
  | .hbm, ⟨16, _⟩ => ⟨S2x768x1024, .f32⟩
  | .hbm, ⟨17, _⟩ => ⟨S2x768x1024, .f32⟩
  | .hbm, ⟨18, _⟩ => ⟨S2x768x1024, .f32⟩
  | .hbm, ⟨19, _⟩ => ⟨S_, .f32⟩
  | .hbm, ⟨20, _⟩ => ⟨S2x768x1024, .f32⟩
  | .hbm, ⟨21, _⟩ => ⟨S2x768x1024, .f32⟩
  | .hbm, ⟨22, _⟩ => ⟨S_, .f32⟩
  | .hbm, ⟨23, _⟩ => ⟨S2x768x1024, .f32⟩
  | .hbm, ⟨24, _⟩ => ⟨S2x768x1024, .f32⟩
  | .hbm, ⟨25, _⟩ => ⟨S2x768x1024, .f32⟩
  | .hbm, ⟨26, _⟩ => ⟨S_, .f32⟩
  | .hbm, ⟨27, _⟩ => ⟨S2x768x1024, .f32⟩
  | .hbm, ⟨28, _⟩ => ⟨S2x768x1024, .f32⟩
  | .hbm, ⟨29, _⟩ => ⟨S2x768x1024, .f32⟩
  | .hbm, ⟨30, _⟩ => ⟨S_, .f32⟩
  | .hbm, ⟨31, _⟩ => ⟨S2x768x1024, .f32⟩
  | .hbm, ⟨32, _⟩ => ⟨S2x768x1024, .f32⟩
  | .hbm, ⟨33, _⟩ => ⟨S2x768x1024, .f32⟩
  | .hbm, ⟨34, _⟩ => ⟨S_, .f32⟩
  | .hbm, ⟨35, _⟩ => ⟨S2x768x1024, .f32⟩
  | .hbm, ⟨36, _⟩ => ⟨S2x768x1024, .f32⟩
  | .hbm, ⟨37, _⟩ => ⟨S1536x1024, .f32⟩
  | .hbm, ⟨38, _⟩ => ⟨S1536x1024, .f32⟩
  | .hbm, ⟨39, _⟩ => ⟨S1536x1024, .f32⟩
  | _, _ => ⟨S2x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S2x4x256 : Shape := ⟨3, ![2, 4, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x4x256 : Shape := ⟨3, ![2, 4, 256]⟩
abbrev S_ : Shape := ⟨0, ![]⟩
abbrev S8x256 : Shape := ⟨2, ![8, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S_, .f32⟩
  | .hbm, ⟨5, _⟩ => ⟨S2x4x256, .f32⟩
  | .hbm, ⟨6, _⟩ => ⟨S2x4x256, .f32⟩
  | .hbm, ⟨7, _⟩ => ⟨S_, .f32⟩
  | .hbm, ⟨8, _⟩ => ⟨S2x4x256, .f32⟩
  | .hbm, ⟨9, _⟩ => ⟨S2x4x256, .f32⟩
  | .hbm, ⟨10, _⟩ => ⟨S2x4x256, .f32⟩
  | .hbm, ⟨11, _⟩ => ⟨S_, .f32⟩
  | .hbm, ⟨12, _⟩ => ⟨S2x4x256, .f32⟩
  | .hbm, ⟨13, _⟩ => ⟨S2x4x256, .f32⟩
  | .hbm, ⟨14, _⟩ => ⟨S2x4x256, .f32⟩
  | .hbm, ⟨15, _⟩ => ⟨S_, .f32⟩
  | .hbm, ⟨16, _⟩ => ⟨S2x4x256, .f32⟩
  | .hbm, ⟨17, _⟩ => ⟨S2x4x256, .f32⟩
  | .hbm, ⟨18, _⟩ => ⟨S2x4x256, .f32⟩
  | .hbm, ⟨19, _⟩ => ⟨S_, .f32⟩
  | .hbm, ⟨20, _⟩ => ⟨S2x4x256, .f32⟩
  | .hbm, ⟨21, _⟩ => ⟨S2x4x256, .f32⟩
  | .hbm, ⟨22, _⟩ => ⟨S_, .f32⟩
  | .hbm, ⟨23, _⟩ => ⟨S2x4x256, .f32⟩
  | .hbm, ⟨24, _⟩ => ⟨S2x4x256, .f32⟩
  | .hbm, ⟨25, _⟩ => ⟨S2x4x256, .f32⟩
  | .hbm, ⟨26, _⟩ => ⟨S_, .f32⟩
  | .hbm, ⟨27, _⟩ => ⟨S2x4x256, .f32⟩
  | .hbm, ⟨28, _⟩ => ⟨S2x4x256, .f32⟩
  | .hbm, ⟨29, _⟩ => ⟨S2x4x256, .f32⟩
  | .hbm, ⟨30, _⟩ => ⟨S_, .f32⟩
  | .hbm, ⟨31, _⟩ => ⟨S2x4x256, .f32⟩
  | .hbm, ⟨32, _⟩ => ⟨S2x4x256, .f32⟩
  | .hbm, ⟨33, _⟩ => ⟨S2x4x256, .f32⟩
  | .hbm, ⟨34, _⟩ => ⟨S_, .f32⟩
  | .hbm, ⟨35, _⟩ => ⟨S2x4x256, .f32⟩
  | .hbm, ⟨36, _⟩ => ⟨S2x4x256, .f32⟩
  | .hbm, ⟨37, _⟩ => ⟨S8x256, .f32⟩
  | .hbm, ⟨38, _⟩ => ⟨S8x256, .f32⟩
  | .hbm, ⟨39, _⟩ => ⟨S8x256, .f32⟩
  | _, _ => ⟨S2x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S2x4x768 : Shape := ⟨3, ![2, 4, 768]⟩
abbrev S_ : Shape := ⟨0, ![]⟩
abbrev S8x768 : Shape := ⟨2, ![8, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S2x1024 : Shape := ⟨2, ![2, 1024]⟩
abbrev S2x2048 : Shape := ⟨2, ![2, 2048]⟩
abbrev S2x16x64x64 : Shape := ⟨4, ![2, 16, 64, 64]⟩
abbrev S2x3072 : Shape := ⟨2, ![2, 3072]⟩
abbrev S2x32 : Shape := ⟨2, ![2, 32]⟩
abbrev S1024 : Shape := ⟨1, ![1024]⟩
abbrev S2048 : Shape := ⟨1, ![2048]⟩
abbrev S4096 : Shape := ⟨1, ![4096]⟩
abbrev S131072 : Shape := ⟨1, ![131072]⟩
abbrev S6144 : Shape := ⟨1, ![6144]⟩
abbrev S64 : Shape := ⟨1, ![64]⟩
abbrev S289984 : Shape := ⟨1, ![289984]⟩
abbrev S_ : Shape := ⟨0, ![]⟩
abbrev S327680 : Shape := ⟨1, ![327680]⟩
abbrev S320x1024 : Shape := ⟨2, ![320, 1024]⟩
abbrev S160x1024 : Shape := ⟨2, ![160, 1024]⟩

abbrev nBuf : Space → Nat
  | .hbm => 139
  | .vmem => 14
  | .smem => 0
  | _ => 0

abbrev hbmTy0_0 (i : Nat) : BufTy := match i % 128 with
  | 0 => ⟨S2x1024, .f32⟩
  | 1 => ⟨S2x2048, .f32⟩
  | 2 => ⟨S2x1024, .f32⟩
  | 3 => ⟨S2x16x64x64, .f32⟩
  | 4 => ⟨S2x1024, .f32⟩
  | 5 => ⟨S2x16x64x64, .f32⟩
  | 6 => ⟨S2x1024, .f32⟩
  | 7 => ⟨S2x1024, .f32⟩
  | 8 => ⟨S2x3072, .f32⟩
  | 9 => ⟨S2x32, .f32⟩
  | 10 => ⟨S2x32, .f32⟩
  | 11 => ⟨S2x32, .f32⟩
  | 12 => ⟨S2x2048, .f32⟩
  | 13 => ⟨S2x1024, .f32⟩
  | 14 => ⟨S1024, .f32⟩
  | 15 => ⟨S2x1024, .f32⟩
  | 16 => ⟨S2x2048, .f32⟩
  | 17 => ⟨S2x1024, .f32⟩
  | 18 => ⟨S2x16x64x64, .f32⟩
  | 19 => ⟨S2x1024, .f32⟩
  | 20 => ⟨S2x16x64x64, .f32⟩
  | 21 => ⟨S2x1024, .f32⟩
  | 22 => ⟨S2x1024, .f32⟩
  | 23 => ⟨S2x3072, .f32⟩
  | 24 => ⟨S2x32, .f32⟩
  | 25 => ⟨S2x32, .f32⟩
  | 26 => ⟨S2x32, .f32⟩
  | 27 => ⟨S2x2048, .f32⟩
  | 28 => ⟨S2x1024, .f32⟩
  | 29 => ⟨S1024, .f32⟩
  | 30 => ⟨S2x1024, .f32⟩
  | 31 => ⟨S2x2048, .f32⟩
  | 32 => ⟨S2x1024, .f32⟩
  | 33 => ⟨S2x16x64x64, .f32⟩
  | 34 => ⟨S2x1024, .f32⟩
  | 35 => ⟨S2x16x64x64, .f32⟩
  | 36 => ⟨S2x1024, .f32⟩
  | 37 => ⟨S2x1024, .f32⟩
  | 38 => ⟨S2x3072, .f32⟩
  | 39 => ⟨S2x32, .f32⟩
  | 40 => ⟨S2x32, .f32⟩
  | 41 => ⟨S2x32, .f32⟩
  | 42 => ⟨S2x2048, .f32⟩
  | 43 => ⟨S2x1024, .f32⟩
  | 44 => ⟨S1024, .f32⟩
  | 45 => ⟨S2x1024, .f32⟩
  | 46 => ⟨S2x2048, .f32⟩
  | 47 => ⟨S2x1024, .f32⟩
  | 48 => ⟨S2x16x64x64, .f32⟩
  | 49 => ⟨S2x1024, .f32⟩
  | 50 => ⟨S2x16x64x64, .f32⟩
  | 51 => ⟨S2x1024, .f32⟩
  | 52 => ⟨S2x1024, .f32⟩
  | 53 => ⟨S2x3072, .f32⟩
  | 54 => ⟨S2x32, .f32⟩
  | 55 => ⟨S2x32, .f32⟩
  | 56 => ⟨S2x32, .f32⟩
  | 57 => ⟨S2x2048, .f32⟩
  | 58 => ⟨S2x1024, .f32⟩
  | 59 => ⟨S1024, .f32⟩
  | 60 => ⟨S2048, .f32⟩
  | 61 => ⟨S4096, .f32⟩
  | 62 => ⟨S2048, .f32⟩
  | 63 => ⟨S131072, .f32⟩
  | 64 => ⟨S2048, .f32⟩
  | 65 => ⟨S131072, .f32⟩
  | 66 => ⟨S2048, .f32⟩
  | 67 => ⟨S2048, .f32⟩
  | 68 => ⟨S6144, .f32⟩
  | 69 => ⟨S64, .f32⟩
  | 70 => ⟨S64, .f32⟩
  | 71 => ⟨S64, .f32⟩
  | 72 => ⟨S4096, .f32⟩
  | 73 => ⟨S2048, .f32⟩
  | 74 => ⟨S289984, .f32⟩
  | 75 => ⟨S_, .i32⟩
  | 76 => ⟨S_, .f32⟩
  | 77 => ⟨S327680, .f32⟩
  | 78 => ⟨S320x1024, .f32⟩
  | 79 => ⟨S2048, .f32⟩
  | 80 => ⟨S4096, .f32⟩
  | 81 => ⟨S2048, .f32⟩
  | 82 => ⟨S131072, .f32⟩
  | 83 => ⟨S2048, .f32⟩
  | 84 => ⟨S131072, .f32⟩
  | 85 => ⟨S2048, .f32⟩
  | 86 => ⟨S2048, .f32⟩
  | 87 => ⟨S6144, .f32⟩
  | 88 => ⟨S64, .f32⟩
  | 89 => ⟨S64, .f32⟩
  | 90 => ⟨S64, .f32⟩
  | 91 => ⟨S4096, .f32⟩
  | 92 => ⟨S2048, .f32⟩
  | 93 => ⟨S289984, .f32⟩
  | 94 => ⟨S_, .i32⟩
  | 95 => ⟨S_, .f32⟩
  | 96 => ⟨S327680, .f32⟩
  | 97 => ⟨S320x1024, .f32⟩
  | 98 => ⟨S2048, .f32⟩
  | 99 => ⟨S4096, .f32⟩
  | 100 => ⟨S2048, .f32⟩
  | 101 => ⟨S131072, .f32⟩
  | 102 => ⟨S2048, .f32⟩
  | 103 => ⟨S131072, .f32⟩
  | 104 => ⟨S2048, .f32⟩
  | 105 => ⟨S2048, .f32⟩
  | 106 => ⟨S6144, .f32⟩
  | 107 => ⟨S64, .f32⟩
  | 108 => ⟨S64, .f32⟩
  | 109 => ⟨S64, .f32⟩
  | 110 => ⟨S4096, .f32⟩
  | 111 => ⟨S2048, .f32⟩
  | 112 => ⟨S289984, .f32⟩
  | 113 => ⟨S_, .i32⟩
  | 114 => ⟨S_, .f32⟩
  | 115 => ⟨S327680, .f32⟩
  | 116 => ⟨S320x1024, .f32⟩
  | 117 => ⟨S2048, .f32⟩
  | 118 => ⟨S4096, .f32⟩
  | 119 => ⟨S2048, .f32⟩
  | 120 => ⟨S131072, .f32⟩
  | 121 => ⟨S2048, .f32⟩
  | 122 => ⟨S131072, .f32⟩
  | 123 => ⟨S2048, .f32⟩
  | 124 => ⟨S2048, .f32⟩
  | 125 => ⟨S6144, .f32⟩
  | 126 => ⟨S64, .f32⟩
  | 127 => ⟨S64, .f32⟩
  | _ => ⟨S2x1024, .f32⟩

abbrev hbmTy0_1 (i : Nat) : BufTy := match i % 128 with
  | 0 => ⟨S64, .f32⟩
  | 1 => ⟨S4096, .f32⟩
  | 2 => ⟨S2048, .f32⟩
  | 3 => ⟨S289984, .f32⟩
  | 4 => ⟨S_, .i32⟩
  | 5 => ⟨S_, .f32⟩
  | 6 => ⟨S327680, .f32⟩
  | 7 => ⟨S320x1024, .f32⟩
  | 8 => ⟨S320x1024, .f32⟩
  | 9 => ⟨S320x1024, .f32⟩
  | 10 => ⟨S320x1024, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_c : Ref sig .tc := ⟨.hbm, 75, rfl⟩
abbrev main_call0_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_c_0 : Ref sig .tc := ⟨.hbm, 94, rfl⟩
abbrev main_call1_v0 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_c_1 : Ref sig .tc := ⟨.hbm, 113, rfl⟩
abbrev main_call2_v0 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_c_2 : Ref sig .tc := ⟨.hbm, 132, rfl⟩
abbrev main_call3_v0 : Ref sig .tc := ⟨.hbm, 133, rfl⟩
abbrev main_v66 : Ref sig .tc := ⟨.hbm, 134, rfl⟩
abbrev main_v67 : Ref sig .tc := ⟨.hbm, 135, rfl⟩
abbrev main_v68_0 : Ref sig .tc := ⟨.hbm, 136, rfl⟩
abbrev main_v68_1 : Ref sig .tc := ⟨.hbm, 137, rfl⟩
abbrev main_v68_2 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S2x1024 : Shape := ⟨2, ![2, 1024]⟩
abbrev S2x2048 : Shape := ⟨2, ![2, 2048]⟩
abbrev S2x16x64x64 : Shape := ⟨4, ![2, 16, 64, 64]⟩
abbrev S2x3072 : Shape := ⟨2, ![2, 3072]⟩
abbrev S2x32 : Shape := ⟨2, ![2, 32]⟩
abbrev S1024 : Shape := ⟨1, ![1024]⟩
abbrev S_ : Shape := ⟨0, ![]⟩
abbrev S2048 : Shape := ⟨1, ![2048]⟩
abbrev S4096 : Shape := ⟨1, ![4096]⟩
abbrev S131072 : Shape := ⟨1, ![131072]⟩
abbrev S6144 : Shape := ⟨1, ![6144]⟩
abbrev S64 : Shape := ⟨1, ![64]⟩
abbrev S289984 : Shape := ⟨1, ![289984]⟩
abbrev S327680 : Shape := ⟨1, ![327680]⟩
abbrev S320x1024 : Shape := ⟨2, ![320, 1024]⟩

abbrev nBuf : Space → Nat
  | .hbm => 612
  | .vmem => 0
  | .smem => 0
  | _ => 0

abbrev hbmTy0_0 (i : Nat) : BufTy := match i % 128 with
  | 0 => ⟨S2x1024, .f32⟩
  | 1 => ⟨S2x2048, .f32⟩
  | 2 => ⟨S2x1024, .f32⟩
  | 3 => ⟨S2x16x64x64, .f32⟩
  | 4 => ⟨S2x1024, .f32⟩
  | 5 => ⟨S2x16x64x64, .f32⟩
  | 6 => ⟨S2x1024, .f32⟩
  | 7 => ⟨S2x1024, .f32⟩
  | 8 => ⟨S2x3072, .f32⟩
  | 9 => ⟨S2x32, .f32⟩
  | 10 => ⟨S2x32, .f32⟩
  | 11 => ⟨S2x32, .f32⟩
  | 12 => ⟨S2x2048, .f32⟩
  | 13 => ⟨S2x1024, .f32⟩
  | 14 => ⟨S1024, .f32⟩
  | 15 => ⟨S2x1024, .f32⟩
  | 16 => ⟨S2x2048, .f32⟩
  | 17 => ⟨S2x1024, .f32⟩
  | 18 => ⟨S2x16x64x64, .f32⟩
  | 19 => ⟨S2x1024, .f32⟩
  | 20 => ⟨S2x16x64x64, .f32⟩
  | 21 => ⟨S2x1024, .f32⟩
  | 22 => ⟨S2x1024, .f32⟩
  | 23 => ⟨S2x3072, .f32⟩
  | 24 => ⟨S2x32, .f32⟩
  | 25 => ⟨S2x32, .f32⟩
  | 26 => ⟨S2x32, .f32⟩
  | 27 => ⟨S2x2048, .f32⟩
  | 28 => ⟨S2x1024, .f32⟩
  | 29 => ⟨S1024, .f32⟩
  | 30 => ⟨S2x1024, .f32⟩
  | 31 => ⟨S2x2048, .f32⟩
  | 32 => ⟨S2x1024, .f32⟩
  | 33 => ⟨S2x16x64x64, .f32⟩
  | 34 => ⟨S2x1024, .f32⟩
  | 35 => ⟨S2x16x64x64, .f32⟩
  | 36 => ⟨S2x1024, .f32⟩
  | 37 => ⟨S2x1024, .f32⟩
  | 38 => ⟨S2x3072, .f32⟩
  | 39 => ⟨S2x32, .f32⟩
  | 40 => ⟨S2x32, .f32⟩
  | 41 => ⟨S2x32, .f32⟩
  | 42 => ⟨S2x2048, .f32⟩
  | 43 => ⟨S2x1024, .f32⟩
  | 44 => ⟨S1024, .f32⟩
  | 45 => ⟨S2x1024, .f32⟩
  | 46 => ⟨S2x2048, .f32⟩
  | 47 => ⟨S2x1024, .f32⟩
  | 48 => ⟨S2x16x64x64, .f32⟩
  | 49 => ⟨S2x1024, .f32⟩
  | 50 => ⟨S2x16x64x64, .f32⟩
  | 51 => ⟨S2x1024, .f32⟩
  | 52 => ⟨S2x1024, .f32⟩
  | 53 => ⟨S2x3072, .f32⟩
  | 54 => ⟨S2x32, .f32⟩
  | 55 => ⟨S2x32, .f32⟩
  | 56 => ⟨S2x32, .f32⟩
  | 57 => ⟨S2x2048, .f32⟩
  | 58 => ⟨S2x1024, .f32⟩
  | 59 => ⟨S1024, .f32⟩
  | 60 => ⟨S_, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S_, .f32⟩
  | 94 => ⟨S2x2048, .f32⟩
  | 95 => ⟨S2x2048, .f32⟩
  | 96 => ⟨S_, .f32⟩
  | 97 => ⟨S2x2048, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S2x2048, .f32⟩
  | 104 => ⟨S_, .f32⟩
  | 105 => ⟨S2x2048, .f32⟩
  | 106 => ⟨S2x2048, .f32⟩
  | 107 => ⟨S2x2048, .f32⟩
  | 108 => ⟨S_, .f32⟩
  | 109 => ⟨S2x2048, .f32⟩
  | 110 => ⟨S2x2048, .f32⟩
  | 111 => ⟨S_, .f32⟩
  | 112 => ⟨S2x2048, .f32⟩
  | 113 => ⟨S2x2048, .f32⟩
  | 114 => ⟨S2x2048, .f32⟩
  | 115 => ⟨S_, .f32⟩
  | 116 => ⟨S2x2048, .f32⟩
  | 117 => ⟨S2x2048, .f32⟩
  | 118 => ⟨S2x2048, .f32⟩
  | 119 => ⟨S_, .f32⟩
  | 120 => ⟨S2x2048, .f32⟩
  | 121 => ⟨S2x2048, .f32⟩
  | 122 => ⟨S2x2048, .f32⟩
  | 123 => ⟨S_, .f32⟩
  | 124 => ⟨S2x2048, .f32⟩
  | 125 => ⟨S2x2048, .f32⟩
  | 126 => ⟨S_, .f32⟩
  | 127 => ⟨S2x1024, .f32⟩
  | _ => ⟨S2x1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S2x1024, .f32⟩
  | 28 => ⟨S_, .f32⟩
  | 29 => ⟨S2x1024, .f32⟩
  | 30 => ⟨S2x1024, .f32⟩
  | 31 => ⟨S_, .f32⟩
  | 32 => ⟨S2x16x64x64, .f32⟩
  | 33 => ⟨S2x16x64x64, .f32⟩
  | 34 => ⟨S_, .f32⟩
  | 35 => ⟨S2x16x64x64, .f32⟩
  | 36 => ⟨S2x16x64x64, .f32⟩
  | 37 => ⟨S2x16x64x64, .f32⟩
  | 38 => ⟨S_, .f32⟩
  | 39 => ⟨S2x16x64x64, .f32⟩
  | 40 => ⟨S2x16x64x64, .f32⟩
  | 41 => ⟨S2x16x64x64, .f32⟩
  | 42 => ⟨S_, .f32⟩
  | 43 => ⟨S2x16x64x64, .f32⟩
  | 44 => ⟨S2x16x64x64, .f32⟩
  | 45 => ⟨S2x16x64x64, .f32⟩
  | 46 => ⟨S_, .f32⟩
  | 47 => ⟨S2x16x64x64, .f32⟩
  | 48 => ⟨S2x16x64x64, .f32⟩
  | 49 => ⟨S_, .f32⟩
  | 50 => ⟨S2x16x64x64, .f32⟩
  | 51 => ⟨S2x16x64x64, .f32⟩
  | 52 => ⟨S2x16x64x64, .f32⟩
  | 53 => ⟨S_, .f32⟩
  | 54 => ⟨S2x16x64x64, .f32⟩
  | 55 => ⟨S2x16x64x64, .f32⟩
  | 56 => ⟨S2x16x64x64, .f32⟩
  | 57 => ⟨S_, .f32⟩
  | 58 => ⟨S2x16x64x64, .f32⟩
  | 59 => ⟨S2x16x64x64, .f32⟩
  | 60 => ⟨S2x16x64x64, .f32⟩
  | 61 => ⟨S_, .f32⟩
  | 62 => ⟨S2x16x64x64, .f32⟩
  | 63 => ⟨S2x16x64x64, .f32⟩
  | 64 => ⟨S_, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S2x1024, .f32⟩
  | 94 => ⟨S_, .f32⟩
  | 95 => ⟨S2x1024, .f32⟩
  | 96 => ⟨S2x1024, .f32⟩
  | 97 => ⟨S_, .f32⟩
  | 98 => ⟨S2x16x64x64, .f32⟩
  | 99 => ⟨S2x16x64x64, .f32⟩
  | 100 => ⟨S_, .f32⟩
  | 101 => ⟨S2x16x64x64, .f32⟩
  | 102 => ⟨S2x16x64x64, .f32⟩
  | 103 => ⟨S2x16x64x64, .f32⟩
  | 104 => ⟨S_, .f32⟩
  | 105 => ⟨S2x16x64x64, .f32⟩
  | 106 => ⟨S2x16x64x64, .f32⟩
  | 107 => ⟨S2x16x64x64, .f32⟩
  | 108 => ⟨S_, .f32⟩
  | 109 => ⟨S2x16x64x64, .f32⟩
  | 110 => ⟨S2x16x64x64, .f32⟩
  | 111 => ⟨S2x16x64x64, .f32⟩
  | 112 => ⟨S_, .f32⟩
  | 113 => ⟨S2x16x64x64, .f32⟩
  | 114 => ⟨S2x16x64x64, .f32⟩
  | 115 => ⟨S_, .f32⟩
  | 116 => ⟨S2x16x64x64, .f32⟩
  | 117 => ⟨S2x16x64x64, .f32⟩
  | 118 => ⟨S2x16x64x64, .f32⟩
  | 119 => ⟨S_, .f32⟩
  | 120 => ⟨S2x16x64x64, .f32⟩
  | 121 => ⟨S2x16x64x64, .f32⟩
  | 122 => ⟨S2x16x64x64, .f32⟩
  | 123 => ⟨S_, .f32⟩
  | 124 => ⟨S2x16x64x64, .f32⟩
  | 125 => ⟨S2x16x64x64, .f32⟩
  | 126 => ⟨S2x16x64x64, .f32⟩
  | 127 => ⟨S_, .f32⟩
  | _ => ⟨S2x1024, .f32⟩

abbrev hbmTy0_2 (i : Nat) : BufTy := match i % 128 with
  | 0 => ⟨S2x16x64x64, .f32⟩
  | 1 => ⟨S2x16x64x64, .f32⟩
  | 2 => ⟨S_, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S2x1024, .f32⟩
  | 28 => ⟨S_, .f32⟩
  | 29 => ⟨S2x1024, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S_, .f32⟩
  | 69 => ⟨S2x3072, .f32⟩
  | 70 => ⟨S2x3072, .f32⟩
  | 71 => ⟨S_, .f32⟩
  | 72 => ⟨S2x3072, .f32⟩
  | 73 => ⟨S2x3072, .f32⟩
  | 74 => ⟨S2x3072, .f32⟩
  | 75 => ⟨S_, .f32⟩
  | 76 => ⟨S2x3072, .f32⟩
  | 77 => ⟨S2x3072, .f32⟩
  | 78 => ⟨S2x3072, .f32⟩
  | 79 => ⟨S_, .f32⟩
  | 80 => ⟨S2x3072, .f32⟩
  | 81 => ⟨S2x3072, .f32⟩
  | 82 => ⟨S2x3072, .f32⟩
  | 83 => ⟨S_, .f32⟩
  | 84 => ⟨S2x3072, .f32⟩
  | 85 => ⟨S2x3072, .f32⟩
  | 86 => ⟨S_, .f32⟩
  | 87 => ⟨S2x3072, .f32⟩
  | 88 => ⟨S2x3072, .f32⟩
  | 89 => ⟨S2x3072, .f32⟩
  | 90 => ⟨S_, .f32⟩
  | 91 => ⟨S2x3072, .f32⟩
  | 92 => ⟨S2x3072, .f32⟩
  | 93 => ⟨S2x3072, .f32⟩
  | 94 => ⟨S_, .f32⟩
  | 95 => ⟨S2x3072, .f32⟩
  | 96 => ⟨S2x3072, .f32⟩
  | 97 => ⟨S2x3072, .f32⟩
  | 98 => ⟨S_, .f32⟩
  | 99 => ⟨S2x3072, .f32⟩
  | 100 => ⟨S2x3072, .f32⟩
  | 101 => ⟨S_, .f32⟩
  | 102 => ⟨S2x32, .f32⟩
  | 103 => ⟨S2x32, .f32⟩
  | 104 => ⟨S_, .f32⟩
  | 105 => ⟨S2x32, .f32⟩
  | 106 => ⟨S2x32, .f32⟩
  | 107 => ⟨S2x32, .f32⟩
  | 108 => ⟨S_, .f32⟩
  | 109 => ⟨S2x32, .f32⟩
  | 110 => ⟨S2x32, .f32⟩
  | 111 => ⟨S2x32, .f32⟩
  | 112 => ⟨S_, .f32⟩
  | 113 => ⟨S2x32, .f32⟩
  | 114 => ⟨S2x32, .f32⟩
  | 115 => ⟨S2x32, .f32⟩
  | 116 => ⟨S_, .f32⟩
  | 117 => ⟨S2x32, .f32⟩
  | 118 => ⟨S2x32, .f32⟩
  | 119 => ⟨S_, .f32⟩
  | 120 => ⟨S2x32, .f32⟩
  | 121 => ⟨S2x32, .f32⟩
  | 122 => ⟨S2x32, .f32⟩
  | 123 => ⟨S_, .f32⟩
  | 124 => ⟨S2x32, .f32⟩
  | 125 => ⟨S2x32, .f32⟩
  | 126 => ⟨S2x32, .f32⟩
  | 127 => ⟨S_, .f32⟩
  | _ => ⟨S2x1024, .f32⟩

abbrev hbmTy0_3 (i : Nat) : BufTy := match i % 128 with
  | 0 => ⟨S2x32, .f32⟩
  | 1 => ⟨S2x32, .f32⟩
  | 2 => ⟨S2x32, .f32⟩
  | 3 => ⟨S_, .f32⟩
  | 4 => ⟨S2x32, .f32⟩
  | 5 => ⟨S2x32, .f32⟩
  | 6 => ⟨S_, .f32⟩
  | 7 => ⟨S2x32, .f32⟩
  | 8 => ⟨S2x32, .f32⟩
  | 9 => ⟨S_, .f32⟩
  | 10 => ⟨S2x32, .f32⟩
  | 11 => ⟨S2x32, .f32⟩
  | 12 => ⟨S2x32, .f32⟩
  | 13 => ⟨S_, .f32⟩
  | 14 => ⟨S2x32, .f32⟩
  | 15 => ⟨S2x32, .f32⟩
  | 16 => ⟨S2x32, .f32⟩
  | 17 => ⟨S_, .f32⟩
  | 18 => ⟨S2x32, .f32⟩
  | 19 => ⟨S2x32, .f32⟩
  | 20 => ⟨S2x32, .f32⟩
  | 21 => ⟨S_, .f32⟩
  | 22 => ⟨S2x32, .f32⟩
  | 23 => ⟨S2x32, .f32⟩
  | 24 => ⟨S_, .f32⟩
  | 25 => ⟨S2x32, .f32⟩
  | 26 => ⟨S2x32, .f32⟩
  | 27 => ⟨S2x32, .f32⟩
  | 28 => ⟨S_, .f32⟩
  | 29 => ⟨S2x32, .f32⟩
  | 30 => ⟨S2x32, .f32⟩
  | 31 => ⟨S2x32, .f32⟩
  | 32 => ⟨S_, .f32⟩
  | 33 => ⟨S2x32, .f32⟩
  | 34 => ⟨S2x32, .f32⟩
  | 35 => ⟨S2x32, .f32⟩
  | 36 => ⟨S_, .f32⟩
  | 37 => ⟨S2x32, .f32⟩
  | 38 => ⟨S2x32, .f32⟩
  | 39 => ⟨S_, .f32⟩
  | 40 => ⟨S2x32, .f32⟩
  | 41 => ⟨S2x32, .f32⟩
  | 42 => ⟨S_, .f32⟩
  | 43 => ⟨S2x32, .f32⟩
  | 44 => ⟨S2x32, .f32⟩
  | 45 => ⟨S2x32, .f32⟩
  | 46 => ⟨S_, .f32⟩
  | 47 => ⟨S2x32, .f32⟩
  | 48 => ⟨S2x32, .f32⟩
  | 49 => ⟨S2x32, .f32⟩
  | 50 => ⟨S_, .f32⟩
  | 51 => ⟨S2x32, .f32⟩
  | 52 => ⟨S2x32, .f32⟩
  | 53 => ⟨S2x32, .f32⟩
  | 54 => ⟨S_, .f32⟩
  | 55 => ⟨S2x32, .f32⟩
  | 56 => ⟨S2x32, .f32⟩
  | 57 => ⟨S_, .f32⟩
  | 58 => ⟨S2x32, .f32⟩
  | 59 => ⟨S2x32, .f32⟩
  | 60 => ⟨S2x32, .f32⟩
  | 61 => ⟨S_, .f32⟩
  | 62 => ⟨S2x32, .f32⟩
  | 63 => ⟨S2x32, .f32⟩
  | 64 => ⟨S2x32, .f32⟩
  | 65 => ⟨S_, .f32⟩
  | 66 => ⟨S2x32, .f32⟩
  | 67 => ⟨S2x32, .f32⟩
  | 68 => ⟨S2x32, .f32⟩
  | 69 => ⟨S_, .f32⟩
  | 70 => ⟨S2x32, .f32⟩
  | 71 => ⟨S2x32, .f32⟩
  | 72 => ⟨S_, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .f32⟩
  | 94 => ⟨S_, .f32⟩
  | 95 => ⟨S2x2048, .f32⟩
  | 96 => ⟨S2x2048, .f32⟩
  | 97 => ⟨S2x2048, .f32⟩
  | 98 => ⟨S_, .f32⟩
  | 99 => ⟨S2x2048, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S_, .f32⟩
  | 124 => ⟨S2x1024, .f32⟩
  | 125 => ⟨S2x1024, .f32⟩
  | 126 => ⟨S2x1024, .f32⟩
  | 127 => ⟨S_, .f32⟩
  | _ => ⟨S2x1024, .f32⟩

abbrev hbmTy0_4 (i : Nat) : BufTy := match i % 128 with
  | 0 => ⟨S2x1024, .f32⟩
  | 1 => ⟨S2x1024, .f32⟩
  | 2 => ⟨S2x1024, .f32⟩
  | 3 => ⟨S_, .f32⟩
  | 4 => ⟨S2x1024, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S_, .f32⟩
  | 41 => ⟨S1024, .f32⟩
  | 42 => ⟨S1024, .f32⟩
  | 43 => ⟨S2048, .f32⟩
  | 44 => ⟨S4096, .f32⟩
  | 45 => ⟨S2048, .f32⟩
  | 46 => ⟨S131072, .f32⟩
  | 47 => ⟨S2048, .f32⟩
  | 48 => ⟨S131072, .f32⟩
  | 49 => ⟨S2048, .f32⟩
  | 50 => ⟨S2048, .f32⟩
  | 51 => ⟨S6144, .f32⟩
  | 52 => ⟨S64, .f32⟩
  | 53 => ⟨S64, .f32⟩
  | 54 => ⟨S64, .f32⟩
  | 55 => ⟨S4096, .f32⟩
  | 56 => ⟨S2048, .f32⟩
  | 57 => ⟨S289984, .f32⟩
  | 58 => ⟨S_, .i32⟩
  | 59 => ⟨S_, .f32⟩
  | 60 => ⟨S327680, .f32⟩
  | 61 => ⟨S320x1024, .f32⟩
  | 62 => ⟨S2048, .f32⟩
  | 63 => ⟨S4096, .f32⟩
  | 64 => ⟨S2048, .f32⟩
  | 65 => ⟨S131072, .f32⟩
  | 66 => ⟨S2048, .f32⟩
  | 67 => ⟨S131072, .f32⟩
  | 68 => ⟨S2048, .f32⟩
  | 69 => ⟨S2048, .f32⟩
  | 70 => ⟨S6144, .f32⟩
  | 71 => ⟨S64, .f32⟩
  | 72 => ⟨S64, .f32⟩
  | 73 => ⟨S64, .f32⟩
  | 74 => ⟨S4096, .f32⟩
  | 75 => ⟨S2048, .f32⟩
  | 76 => ⟨S289984, .f32⟩
  | 77 => ⟨S_, .i32⟩
  | 78 => ⟨S_, .f32⟩
  | 79 => ⟨S327680, .f32⟩
  | 80 => ⟨S320x1024, .f32⟩
  | 81 => ⟨S2048, .f32⟩
  | 82 => ⟨S4096, .f32⟩
  | 83 => ⟨S2048, .f32⟩
  | 84 => ⟨S131072, .f32⟩
  | 85 => ⟨S2048, .f32⟩
  | 86 => ⟨S131072, .f32⟩
  | 87 => ⟨S2048, .f32⟩
  | 88 => ⟨S2048, .f32⟩
  | 89 => ⟨S6144, .f32⟩
  | 90 => ⟨S64, .f32⟩
  | 91 => ⟨S64, .f32⟩
  | 92 => ⟨S64, .f32⟩
  | 93 => ⟨S4096, .f32⟩
  | 94 => ⟨S2048, .f32⟩
  | 95 => ⟨S289984, .f32⟩
  | 96 => ⟨S_, .i32⟩
  | 97 => ⟨S_, .f32⟩
  | 98 => ⟨S327680, .f32⟩
  | 99 => ⟨S320x1024, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_cst : Ref sig .tc := ⟨.hbm, 60, rfl⟩
abbrev main_v0 : Ref sig .tc := ⟨.hbm, 61, rfl⟩
abbrev main_v1 : Ref sig .tc := ⟨.hbm, 62, rfl⟩
abbrev main_cst_0 : Ref sig .tc := ⟨.hbm, 63, rfl⟩
abbrev main_v2 : Ref sig .tc := ⟨.hbm, 64, rfl⟩
abbrev main_v3 : Ref sig .tc := ⟨.hbm, 65, rfl⟩
abbrev main_v4 : Ref sig .tc := ⟨.hbm, 66, rfl⟩
abbrev main_cst_1 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_cst_2 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_v11 : Ref sig .tc := ⟨.hbm, 76, rfl⟩
abbrev main_v12 : Ref sig .tc := ⟨.hbm, 77, rfl⟩
abbrev main_cst_4 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_5 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_6 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_7 : Ref sig .tc := ⟨.hbm, 90, rfl⟩
abbrev main_v22 : Ref sig .tc := ⟨.hbm, 91, rfl⟩
abbrev main_v23 : Ref sig .tc := ⟨.hbm, 92, rfl⟩
abbrev main_cst_8 : Ref sig .tc := ⟨.hbm, 93, rfl⟩
abbrev main_v24 : Ref sig .tc := ⟨.hbm, 94, rfl⟩
abbrev main_v25 : Ref sig .tc := ⟨.hbm, 95, rfl⟩
abbrev main_cst_9 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_cst_10 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_11 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_cst_12 : Ref sig .tc := ⟨.hbm, 108, rfl⟩
abbrev main_v35 : Ref sig .tc := ⟨.hbm, 109, rfl⟩
abbrev main_v36 : Ref sig .tc := ⟨.hbm, 110, rfl⟩
abbrev main_cst_13 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_14 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_15 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_16 : Ref sig .tc := ⟨.hbm, 123, rfl⟩
abbrev main_v46 : Ref sig .tc := ⟨.hbm, 124, rfl⟩
abbrev main_v47 : Ref sig .tc := ⟨.hbm, 125, rfl⟩
abbrev main_cst_17 : Ref sig .tc := ⟨.hbm, 126, rfl⟩
abbrev main_v48 : Ref sig .tc := ⟨.hbm, 127, rfl⟩
abbrev main_v49 : Ref sig .tc := ⟨.hbm, 128, rfl⟩
abbrev main_cst_18 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_19 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_20 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_21 : Ref sig .tc := ⟨.hbm, 141, rfl⟩
abbrev main_v59 : Ref sig .tc := ⟨.hbm, 142, rfl⟩
abbrev main_v60 : Ref sig .tc := ⟨.hbm, 143, rfl⟩
abbrev main_cst_22 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_23 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_24 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_25 : Ref sig .tc := ⟨.hbm, 156, rfl⟩
abbrev main_v70 : Ref sig .tc := ⟨.hbm, 157, rfl⟩
abbrev main_v71 : Ref sig .tc := ⟨.hbm, 158, rfl⟩
abbrev main_cst_26 : Ref sig .tc := ⟨.hbm, 159, rfl⟩
abbrev main_v72 : Ref sig .tc := ⟨.hbm, 160, rfl⟩
abbrev main_v73 : Ref sig .tc := ⟨.hbm, 161, rfl⟩
abbrev main_cst_27 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_28 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_cst_29 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_cst_30 : Ref sig .tc := ⟨.hbm, 174, rfl⟩
abbrev main_v83 : Ref sig .tc := ⟨.hbm, 175, rfl⟩
abbrev main_v84 : Ref sig .tc := ⟨.hbm, 176, rfl⟩
abbrev main_cst_31 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_32 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_33 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_34 : Ref sig .tc := ⟨.hbm, 189, rfl⟩
abbrev main_v94 : Ref sig .tc := ⟨.hbm, 190, rfl⟩
abbrev main_v95 : Ref sig .tc := ⟨.hbm, 191, rfl⟩
abbrev main_cst_35 : Ref sig .tc := ⟨.hbm, 192, rfl⟩
abbrev main_v96 : Ref sig .tc := ⟨.hbm, 193, rfl⟩
abbrev main_v97 : Ref sig .tc := ⟨.hbm, 194, rfl⟩
abbrev main_cst_36 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_cst_37 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_38 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_cst_39 : Ref sig .tc := ⟨.hbm, 207, rfl⟩
abbrev main_v107 : Ref sig .tc := ⟨.hbm, 208, rfl⟩
abbrev main_v108 : Ref sig .tc := ⟨.hbm, 209, rfl⟩
abbrev main_cst_40 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_cst_41 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_cst_42 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_43 : Ref sig .tc := ⟨.hbm, 222, rfl⟩
abbrev main_v118 : Ref sig .tc := ⟨.hbm, 223, rfl⟩
abbrev main_v119 : Ref sig .tc := ⟨.hbm, 224, rfl⟩
abbrev main_cst_44 : Ref sig .tc := ⟨.hbm, 225, rfl⟩
abbrev main_v120 : Ref sig .tc := ⟨.hbm, 226, rfl⟩
abbrev main_v121 : Ref sig .tc := ⟨.hbm, 227, rfl⟩
abbrev main_cst_45 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_cst_46 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_cst_47 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_48 : Ref sig .tc := ⟨.hbm, 240, rfl⟩
abbrev main_v131 : Ref sig .tc := ⟨.hbm, 241, rfl⟩
abbrev main_v132 : Ref sig .tc := ⟨.hbm, 242, rfl⟩
abbrev main_cst_49 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_cst_50 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_cst_51 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_52 : Ref sig .tc := ⟨.hbm, 255, rfl⟩
abbrev main_v142 : Ref sig .tc := ⟨.hbm, 256, rfl⟩
abbrev main_v143 : Ref sig .tc := ⟨.hbm, 257, rfl⟩
abbrev main_cst_53 : Ref sig .tc := ⟨.hbm, 258, rfl⟩
abbrev main_v144 : Ref sig .tc := ⟨.hbm, 259, rfl⟩
abbrev main_v145 : Ref sig .tc := ⟨.hbm, 260, rfl⟩
abbrev main_cst_54 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_cst_55 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_56 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_57 : Ref sig .tc := ⟨.hbm, 273, rfl⟩
abbrev main_v155 : Ref sig .tc := ⟨.hbm, 274, rfl⟩
abbrev main_v156 : Ref sig .tc := ⟨.hbm, 275, rfl⟩
abbrev main_cst_58 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_59 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_cst_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_61 : Ref sig .tc := ⟨.hbm, 288, rfl⟩
abbrev main_v166 : Ref sig .tc := ⟨.hbm, 289, rfl⟩
abbrev main_v167 : Ref sig .tc := ⟨.hbm, 290, rfl⟩
abbrev main_cst_62 : Ref sig .tc := ⟨.hbm, 291, rfl⟩
abbrev main_v168 : Ref sig .tc := ⟨.hbm, 292, rfl⟩
abbrev main_v169 : Ref sig .tc := ⟨.hbm, 293, rfl⟩
abbrev main_cst_63 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_cst_64 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_cst_65 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_66 : Ref sig .tc := ⟨.hbm, 306, rfl⟩
abbrev main_v179 : Ref sig .tc := ⟨.hbm, 307, rfl⟩
abbrev main_v180 : Ref sig .tc := ⟨.hbm, 308, rfl⟩
abbrev main_cst_67 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_68 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_cst_69 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_70 : Ref sig .tc := ⟨.hbm, 321, rfl⟩
abbrev main_v190 : Ref sig .tc := ⟨.hbm, 322, rfl⟩
abbrev main_v191 : Ref sig .tc := ⟨.hbm, 323, rfl⟩
abbrev main_cst_71 : Ref sig .tc := ⟨.hbm, 324, rfl⟩
abbrev main_v192 : Ref sig .tc := ⟨.hbm, 325, rfl⟩
abbrev main_v193 : Ref sig .tc := ⟨.hbm, 326, rfl⟩
abbrev main_cst_72 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_cst_73 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_cst_74 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_cst_75 : Ref sig .tc := ⟨.hbm, 339, rfl⟩
abbrev main_v203 : Ref sig .tc := ⟨.hbm, 340, rfl⟩
abbrev main_v204 : Ref sig .tc := ⟨.hbm, 341, rfl⟩
abbrev main_cst_76 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_cst_77 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_cst_78 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_cst_79 : Ref sig .tc := ⟨.hbm, 354, rfl⟩
abbrev main_v214 : Ref sig .tc := ⟨.hbm, 355, rfl⟩
abbrev main_v215 : Ref sig .tc := ⟨.hbm, 356, rfl⟩
abbrev main_cst_80 : Ref sig .tc := ⟨.hbm, 357, rfl⟩
abbrev main_v216 : Ref sig .tc := ⟨.hbm, 358, rfl⟩
abbrev main_v217 : Ref sig .tc := ⟨.hbm, 359, rfl⟩
abbrev main_cst_81 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_82 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_cst_83 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_84 : Ref sig .tc := ⟨.hbm, 372, rfl⟩
abbrev main_v227 : Ref sig .tc := ⟨.hbm, 373, rfl⟩
abbrev main_v228 : Ref sig .tc := ⟨.hbm, 374, rfl⟩
abbrev main_cst_85 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_cst_86 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_cst_87 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_88 : Ref sig .tc := ⟨.hbm, 387, rfl⟩
abbrev main_v238 : Ref sig .tc := ⟨.hbm, 388, rfl⟩
abbrev main_v239 : Ref sig .tc := ⟨.hbm, 389, rfl⟩
abbrev main_cst_89 : Ref sig .tc := ⟨.hbm, 390, rfl⟩
abbrev main_v240 : Ref sig .tc := ⟨.hbm, 391, rfl⟩
abbrev main_v241 : Ref sig .tc := ⟨.hbm, 392, rfl⟩
abbrev main_cst_90 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_cst_91 : Ref sig .tc := ⟨.hbm, 397, rfl⟩
abbrev main_v245 : Ref sig .tc := ⟨.hbm, 398, rfl⟩
abbrev main_v246 : Ref sig .tc := ⟨.hbm, 399, rfl⟩
abbrev main_v247 : Ref sig .tc := ⟨.hbm, 400, rfl⟩
abbrev main_cst_92 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_93 : Ref sig .tc := ⟨.hbm, 405, rfl⟩
abbrev main_v251 : Ref sig .tc := ⟨.hbm, 406, rfl⟩
abbrev main_v252 : Ref sig .tc := ⟨.hbm, 407, rfl⟩
abbrev main_cst_94 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_cst_95 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_96 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_97 : Ref sig .tc := ⟨.hbm, 420, rfl⟩
abbrev main_v262 : Ref sig .tc := ⟨.hbm, 421, rfl⟩
abbrev main_v263 : Ref sig .tc := ⟨.hbm, 422, rfl⟩
abbrev main_cst_98 : Ref sig .tc := ⟨.hbm, 423, rfl⟩
abbrev main_v264 : Ref sig .tc := ⟨.hbm, 424, rfl⟩
abbrev main_v265 : Ref sig .tc := ⟨.hbm, 425, rfl⟩
abbrev main_cst_99 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_cst_100 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_cst_101 : Ref sig .tc := ⟨.hbm, 434, rfl⟩
abbrev main_v272 : Ref sig .tc := ⟨.hbm, 435, rfl⟩
abbrev main_v273 : Ref sig .tc := ⟨.hbm, 436, rfl⟩
abbrev main_v274 : Ref sig .tc := ⟨.hbm, 437, rfl⟩
abbrev main_cst_102 : Ref sig .tc := ⟨.hbm, 438, rfl⟩
abbrev main_v275 : Ref sig .tc := ⟨.hbm, 439, rfl⟩
abbrev main_v276 : Ref sig .tc := ⟨.hbm, 440, rfl⟩
abbrev main_cst_103 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_cst_104 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_cst_105 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_cst_106 : Ref sig .tc := ⟨.hbm, 453, rfl⟩
abbrev main_v286 : Ref sig .tc := ⟨.hbm, 454, rfl⟩
abbrev main_v287 : Ref sig .tc := ⟨.hbm, 455, rfl⟩
abbrev main_cst_107 : Ref sig .tc := ⟨.hbm, 456, rfl⟩
abbrev main_v288 : Ref sig .tc := ⟨.hbm, 457, rfl⟩
abbrev main_v289 : Ref sig .tc := ⟨.hbm, 458, rfl⟩
abbrev main_cst_108 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_cst_109 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_cst_110 : Ref sig .tc := ⟨.hbm, 467, rfl⟩
abbrev main_v296 : Ref sig .tc := ⟨.hbm, 468, rfl⟩
abbrev main_v297 : Ref sig .tc := ⟨.hbm, 469, rfl⟩
abbrev main_v298 : Ref sig .tc := ⟨.hbm, 470, rfl⟩
abbrev main_cst_111 : Ref sig .tc := ⟨.hbm, 471, rfl⟩
abbrev main_v299 : Ref sig .tc := ⟨.hbm, 472, rfl⟩
abbrev main_v300 : Ref sig .tc := ⟨.hbm, 473, rfl⟩
abbrev main_cst_112 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_cst_113 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_cst_114 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_115 : Ref sig .tc := ⟨.hbm, 486, rfl⟩
abbrev main_v310 : Ref sig .tc := ⟨.hbm, 487, rfl⟩
abbrev main_v311 : Ref sig .tc := ⟨.hbm, 488, rfl⟩
abbrev main_cst_116 : Ref sig .tc := ⟨.hbm, 489, rfl⟩
abbrev main_v312 : Ref sig .tc := ⟨.hbm, 490, rfl⟩
abbrev main_v313 : Ref sig .tc := ⟨.hbm, 491, rfl⟩
abbrev main_cst_117 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_cst_118 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_cst_119 : Ref sig .tc := ⟨.hbm, 500, rfl⟩
abbrev main_v320 : Ref sig .tc := ⟨.hbm, 501, rfl⟩
abbrev main_v321 : Ref sig .tc := ⟨.hbm, 502, rfl⟩
abbrev main_v322 : Ref sig .tc := ⟨.hbm, 503, rfl⟩
abbrev main_cst_120 : Ref sig .tc := ⟨.hbm, 504, rfl⟩
abbrev main_v323 : Ref sig .tc := ⟨.hbm, 505, rfl⟩
abbrev main_v324 : Ref sig .tc := ⟨.hbm, 506, rfl⟩
abbrev main_cst_121 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_cst_122 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_cst_123 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_cst_124 : Ref sig .tc := ⟨.hbm, 519, rfl⟩
abbrev main_v334 : Ref sig .tc := ⟨.hbm, 520, rfl⟩
abbrev main_v335 : Ref sig .tc := ⟨.hbm, 521, rfl⟩
abbrev main_cst_125 : Ref sig .tc := ⟨.hbm, 522, rfl⟩
abbrev main_v336 : Ref sig .tc := ⟨.hbm, 523, rfl⟩
abbrev main_v337 : Ref sig .tc := ⟨.hbm, 524, rfl⟩
abbrev main_cst_126 : Ref sig .tc := ⟨.hbm, 525, rfl⟩
abbrev main_v338 : Ref sig .tc := ⟨.hbm, 526, rfl⟩
abbrev main_v339 : Ref sig .tc := ⟨.hbm, 527, rfl⟩
abbrev main_v340 : Ref sig .tc := ⟨.hbm, 528, rfl⟩
abbrev main_cst_127 : Ref sig .tc := ⟨.hbm, 529, rfl⟩
abbrev main_v341 : Ref sig .tc := ⟨.hbm, 530, rfl⟩
abbrev main_v342 : Ref sig .tc := ⟨.hbm, 531, rfl⟩
abbrev main_v343 : Ref sig .tc := ⟨.hbm, 532, rfl⟩
abbrev main_cst_128 : Ref sig .tc := ⟨.hbm, 533, rfl⟩
abbrev main_v344 : Ref sig .tc := ⟨.hbm, 534, rfl⟩
abbrev main_v345 : Ref sig .tc := ⟨.hbm, 535, rfl⟩
abbrev main_v346 : Ref sig .tc := ⟨.hbm, 536, rfl⟩
abbrev main_cst_129 : Ref sig .tc := ⟨.hbm, 537, rfl⟩
abbrev main_v347 : Ref sig .tc := ⟨.hbm, 538, rfl⟩
abbrev main_v348 : Ref sig .tc := ⟨.hbm, 539, rfl⟩
abbrev main_cst_130 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_cst_131 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_cst_132 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_cst_133 : Ref sig .tc := ⟨.hbm, 552, rfl⟩
abbrev main_v358 : Ref sig .tc := ⟨.hbm, 553, rfl⟩
abbrev main_v359 : Ref sig .tc := ⟨.hbm, 554, rfl⟩
abbrev main_v360 : Ref sig .tc := ⟨.hbm, 555, rfl⟩
abbrev main_v361 : Ref sig .tc := ⟨.hbm, 556, rfl⟩
abbrev main_v362 : Ref sig .tc := ⟨.hbm, 557, rfl⟩
abbrev main_v363 : Ref sig .tc := ⟨.hbm, 558, rfl⟩
abbrev main_v364 : Ref sig .tc := ⟨.hbm, 559, rfl⟩
abbrev main_v365 : Ref sig .tc := ⟨.hbm, 560, rfl⟩
abbrev main_v366 : Ref sig .tc := ⟨.hbm, 561, rfl⟩
abbrev main_v367 : Ref sig .tc := ⟨.hbm, 562, rfl⟩
abbrev main_v368 : Ref sig .tc := ⟨.hbm, 563, rfl⟩
abbrev main_v369 : Ref sig .tc := ⟨.hbm, 564, rfl⟩
abbrev main_v370 : Ref sig .tc := ⟨.hbm, 565, rfl⟩
abbrev main_v371 : Ref sig .tc := ⟨.hbm, 566, rfl⟩
abbrev main_v372 : Ref sig .tc := ⟨.hbm, 567, rfl⟩
abbrev main_v373 : Ref sig .tc := ⟨.hbm, 568, rfl⟩
abbrev main_v374 : Ref sig .tc := ⟨.hbm, 569, rfl⟩
abbrev main_c : Ref sig .tc := ⟨.hbm, 570, rfl⟩
abbrev main_call0_v0 : Ref sig .tc := ⟨.hbm, 571, rfl⟩
abbrev main_v375 : Ref sig .tc := ⟨.hbm, 572, rfl⟩
abbrev main_v376 : Ref sig .tc := ⟨.hbm, 573, rfl⟩
abbrev main_v377 : Ref sig .tc := ⟨.hbm, 574, rfl⟩
abbrev main_v378 : Ref sig .tc := ⟨.hbm, 575, rfl⟩
abbrev main_v379 : Ref sig .tc := ⟨.hbm, 576, rfl⟩
abbrev main_v380 : Ref sig .tc := ⟨.hbm, 577, rfl⟩
abbrev main_v381 : Ref sig .tc := ⟨.hbm, 578, rfl⟩
abbrev main_v382 : Ref sig .tc := ⟨.hbm, 579, rfl⟩
abbrev main_v383 : Ref sig .tc := ⟨.hbm, 580, rfl⟩
abbrev main_v384 : Ref sig .tc := ⟨.hbm, 581, rfl⟩
abbrev main_v385 : Ref sig .tc := ⟨.hbm, 582, rfl⟩
abbrev main_v386 : Ref sig .tc := ⟨.hbm, 583, rfl⟩
abbrev main_v387 : Ref sig .tc := ⟨.hbm, 584, rfl⟩
abbrev main_v388 : Ref sig .tc := ⟨.hbm, 585, rfl⟩
abbrev main_v389 : Ref sig .tc := ⟨.hbm, 586, rfl⟩
abbrev main_v390 : Ref sig .tc := ⟨.hbm, 587, rfl⟩
abbrev main_v391 : Ref sig .tc := ⟨.hbm, 588, rfl⟩
abbrev main_c_134 : Ref sig .tc := ⟨.hbm, 589, rfl⟩
abbrev main_call1_v0 : Ref sig .tc := ⟨.hbm, 590, rfl⟩
abbrev main_v392 : Ref sig .tc := ⟨.hbm, 591, rfl⟩
abbrev main_v393 : Ref sig .tc := ⟨.hbm, 592, rfl⟩
abbrev main_v394 : Ref sig .tc := ⟨.hbm, 593, rfl⟩
abbrev main_v395 : Ref sig .tc := ⟨.hbm, 594, rfl⟩
abbrev main_v396 : Ref sig .tc := ⟨.hbm, 595, rfl⟩
abbrev main_v397 : Ref sig .tc := ⟨.hbm, 596, rfl⟩
abbrev main_v398 : Ref sig .tc := ⟨.hbm, 597, rfl⟩
abbrev main_v399 : Ref sig .tc := ⟨.hbm, 598, rfl⟩
abbrev main_v400 : Ref sig .tc := ⟨.hbm, 599, rfl⟩
abbrev main_v401 : Ref sig .tc := ⟨.hbm, 600, rfl⟩
abbrev main_v402 : Ref sig .tc := ⟨.hbm, 601, rfl⟩
abbrev main_v403 : Ref sig .tc := ⟨.hbm, 602, rfl⟩
abbrev main_v404 : Ref sig .tc := ⟨.hbm, 603, rfl⟩
abbrev main_v405 : Ref sig .tc := ⟨.hbm, 604, rfl⟩
abbrev main_v406 : Ref sig .tc := ⟨.hbm, 605, rfl⟩
abbrev main_v407 : Ref sig .tc := ⟨.hbm, 606, rfl⟩
abbrev main_v408 : Ref sig .tc := ⟨.hbm, 607, rfl⟩
abbrev main_c_135 : Ref sig .tc := ⟨.hbm, 608, rfl⟩
abbrev main_call2_v0 : Ref sig .tc := ⟨.hbm, 609, rfl⟩
abbrev main_v409 : Ref sig .tc := ⟨.hbm, 610, rfl⟩
abbrev main_v410 : Ref sig .tc := ⟨.hbm, 611, rfl⟩

abbrev nD : Nat := 1
abbrev τ : Topo := Topo.v7x

variable {F : FTy → Type} [FloatOps F]
-- ==== Kernel29.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8x1024, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | .hbm, ⟨73, _⟩ => ⟨S_, .f32⟩
  | .hbm, ⟨74, _⟩ => ⟨S7x1024, .f32⟩
  | .hbm, ⟨75, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Scalars.lean ====
/- Facts about single extended reals: constants, finiteness, the logistic function written with tanh. -/
module

public import Idealize.ShloMosaic.Lib.Pipeline.ValueKit
public import Idealize.ShloMosaic.PureOps.Ideal.Laws

@[expose] public section

set_option maxRecDepth 16384

noncomputable section

namespace Cert.Scalars

open Idealize.ShloMosaic

/-- The f32 word of one half is the real number 1/2. -/
theorem half_word : Ideal.ofBits .f32 0x3F000000#32 = ((1 / 2 : ℝ) : EReal) := by
  simp [Ideal.ofBits, Ideal.ieee]; rw [← EReal.coe_mul]; norm_num

/-- The f32 word of one is the real number 1. -/
theorem one_word : Ideal.ofBits .f32 0x3F800000#32 = ((1 : ℝ) : EReal) := by
  simp [Ideal.ofBits, Ideal.ieee]; rw [← EReal.coe_mul]; norm_num

/-- The f32 word of plus infinity. -/
theorem top_word : Ideal.ofBits .f32 0x7F800000#32 = ⊤ := by
  simp [Ideal.ofBits, Ideal.ieee]

/-- The f32 word of minus infinity. -/
theorem bot_word : Ideal.ofBits .f32 0xFF800000#32 = ⊥ := by
  simp [Ideal.ofBits, Ideal.ieee]

/-- The bf16 word of plus infinity. -/
theorem top_word16 : Ideal.ofBits .bf16 0x7F80#16 = ⊤ := by
  simp [Ideal.ofBits, Ideal.ieee]

/-- The bf16 word of minus infinity. -/
theorem bot_word16 : Ideal.ofBits .bf16 0xFF80#16 = ⊥ := by
  simp [Ideal.ofBits, Ideal.ieee]

/-- The logistic function on the reals. -/
def sig (x : ℝ) : ℝ := (1 + Real.exp (-x))⁻¹

/-- One plus an exponential is not zero. -/
theorem one_add_exp_ne (x : ℝ) : 1 + Real.exp x ≠ 0 := by positivity

/-- The kernel's spelling of the logistic function, by the hyperbolic tangent. -/
theorem sig_tanh (x : ℝ) : 1 / 2 * Real.tanh (1 / 2 * x) + 1 / 2 = sig x := by
  have h : Real.exp (-x) = Real.exp (-(1 / 2 * x)) * Real.exp (-(1 / 2 * x)) := by
    rw [← Real.exp_add]; congr 1; ring
  have h1 : Real.exp (1 / 2 * x) * Real.exp (-(1 / 2 * x)) = 1 := by
    rw [← Real.exp_add]; simp
  have hp := Real.exp_pos (1 / 2 * x)
  have hn := Real.exp_pos (-(1 / 2 * x))
  rw [Real.tanh_eq, sig, h]
  generalize Real.exp (1 / 2 * x) = e at *
  generalize Real.exp (-(1 / 2 * x)) = f at *
  field_simp
  linear_combination (2 * f) * h1

/-- The kernel's spelling on a finite extended real. -/
theorem tanh_sig (x : ℝ) :
    ((1 / 2 : ℝ) : EReal) * Ideal.tanh (((1 / 2 : ℝ) : EReal) * (x : EReal)) + ((1 / 2 : ℝ) : EReal) = (sig x : EReal) := by
  rw [← EReal.coe_mul, Ideal.tanh_coe, ← EReal.coe_mul, ← EReal.coe_add, sig_tanh]

/-- The reference's spelling on a finite extended real. -/
theorem div_sig (x : ℝ) :
    Ideal.div ((1 : ℝ) : EReal) (((1 : ℝ) : EReal) + Ideal.exp (-(x : EReal))) = (sig x : EReal) := by
  rw [← EReal.coe_neg, Ideal.exp_coe, ← EReal.coe_add, Ideal.div_coe (one_add_exp_ne _), ← EReal.coe_mul, one_mul, one_div, sig]

/-- An array whose elements are all real numbers, none of them infinite. -/
def Fins {s : Shape} (x : s.Idx → EReal) : Prop := ∀ i, ∃ r : ℝ, x i = (r : EReal)

/-- An extended real strictly between the infinities is a real number. -/
theorem real_of_lt {x : EReal} (h : x < ⊤) (h' : ⊥ < x) : ∃ r : ℝ, x = r :=
  ⟨x.toReal, (EReal.coe_toReal h.ne h'.ne').symm⟩

/-- A sum of real numbers, taken among the extended reals, is their real sum. -/
theorem coe_sum {ι : Type} (s : Finset ι) (f : ι → ℝ) : (∑ i ∈ s, (f i : EReal)) = ((∑ i ∈ s, f i : ℝ) : EReal) :=
  (map_sum (⟨⟨Real.toEReal, EReal.coe_zero⟩, EReal.coe_add⟩ : ℝ →+ EReal) f s).symm

/-- A comparison "less" that answers one says so. -/
theorem lt_of_olt {a b : EReal} (h : Ideal.cmp .olt a b = 1#1) : a < b := by
  by_contra hn
  simp [Ideal.cmp, hn] at h

/-- A comparison "greater" that answers one says so. -/
theorem lt_of_ogt {a b : EReal} (h : Ideal.cmp .ogt a b = 1#1) : b < a := by
  by_contra hn
  simp [Ideal.cmp, hn] at h

/-- An element that compares below plus infinity and above minus infinity is a real number. -/
theorem real_of_cmp {x t b : EReal} (ht : t = ⊤) (hb : b = ⊥) (h : Ideal.cmp .olt x t = 1#1) (h' : Ideal.cmp .ogt x b = 1#1) :
    ∃ r : ℝ, x = r := real_of_lt (ht ▸ lt_of_olt h) (hb ▸ lt_of_ogt h')

/-- A finite sum of products of real numbers is a real number. -/
theorem real_sum {ι : Type} (s : Finset ι) (f g : ι → EReal) (hf : ∀ i, ∃ r : ℝ, f i = r) (hg : ∀ i, ∃ r : ℝ, g i = r) :
    ∃ r : ℝ, ∑ i ∈ s, f i * g i = r := by
  choose a ha using hf
  choose b hb using hg
  refine ⟨∑ i ∈ s, a i * b i, ?_⟩
  rw [← coe_sum]
  exact Finset.sum_congr rfl fun i _ => by rw [ha, hb, EReal.coe_mul]

/-- The gradient of the SwiGLU product in its gate half: the kernel's grouping against the reference's. -/
theorem swiglu_gate (s u g : EReal) (hs : ∃ r : ℝ, s = r) (hu : ∃ r : ℝ, u = r) (hg : ∃ r : ℝ, g = r) :
    s * u * ((Ideal.ofBits .f32 0x3F000000#32 * Ideal.tanh (Ideal.ofBits .f32 0x3F000000#32 * g) + Ideal.ofBits .f32 0x3F000000#32) *
        (1 + g * (1 - (Ideal.ofBits .f32 0x3F000000#32 * Ideal.tanh (Ideal.ofBits .f32 0x3F000000#32 * g) + Ideal.ofBits .f32 0x3F000000#32))))
      = s * u * Ideal.div 1 (1 + Ideal.exp (-g))
        + g * (s * u) * (Ideal.div 1 (1 + Ideal.exp (-g)) * (1 - Ideal.div 1 (1 + Ideal.exp (-g)))) := by
  obtain ⟨s, rfl⟩ := hs
  obtain ⟨u, rfl⟩ := hu
  obtain ⟨g, rfl⟩ := hg
  rw [half_word, tanh_sig, ← EReal.coe_one, div_sig]
  simp only [← EReal.coe_mul, ← EReal.coe_sub, ← EReal.coe_add]
  congr 1; ring

/-- The gradient of the SwiGLU product in its other half. -/
theorem swiglu_up (s g : EReal) (hg : ∃ r : ℝ, g = r) :
    s * (g * (Ideal.ofBits .f32 0x3F000000#32 * Ideal.tanh (Ideal.ofBits .f32 0x3F000000#32 * g) + Ideal.ofBits .f32 0x3F000000#32))
      = g * Ideal.div 1 (1 + Ideal.exp (-g)) * s := by
  obtain ⟨g, rfl⟩ := hg
  rw [half_word, tanh_sig, ← EReal.coe_one, div_sig, mul_comm]

end Cert.Scalars
-- ==== Proof.FfnValue.lean ====
/- The gradient of the SwiGLU product: what the kernel leaves is the reference's term. -/
module

public import proofs.«01_k».proof.Defs
public import proofs.«01_k».proof.Proof.Gen.Pre_finite2
public import proofs.«01_k».proof.Proof.Gen.Kernel2Ideal.Value
public import proofs.«01_k».proof.Proof.Gen.Reference2Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Reference2Ideal.Value

open Cert.Reference2Ideal Cert.Reference2Ideal.Gen

/-- The gate half of the pre-activations. -/
abbrev GATE (gu : FVec Ideal S8192x5632 .bf16) : FVec Ideal S8192x2816 .f32 :=
  extractStridedSlice S8192x2816 ![0, 0] (extf .f32 gu bitsLt_bf16_f32) slices_S8192x5632_S8192x2816_0_0
/-- The linear half of the pre-activations. -/
abbrev UP (gu : FVec Ideal S8192x5632 .bf16) : FVec Ideal S8192x2816 .f32 :=
  extractStridedSlice S8192x2816 ![0, 2816] (extf .f32 gu bitsLt_bf16_f32) slices_S8192x5632_S8192x2816_0_2816
/-- The array of ones. -/
abbrev ONES : FVec Ideal S8192x2816 .f32 := broadcastInDim S8192x2816 ![] bcast_S_S8192x2816 (constant S_ .f32 0x3F800000#32)
/-- The logistic function of the gate half. -/
abbrev SG (gu : FVec Ideal S8192x5632 .bf16) : FVec Ideal S8192x2816 .f32 :=
  Host.divf ONES (addf ONES (Host.exp (Host.negf (GATE gu))))
/-- The gradient with respect to the product's left operand. -/
abbrev DACT (dh : FVec Ideal S8192x1024 .f32) (w : FVec Ideal S2816x1024 .bf16) : FVec Ideal S8192x2816 .f32 :=
  Host.dotGeneral dot_S8192x1024_S2816x1024_S8192x2816_1_1_0_0_n_n none dh (extf .f32 w bitsLt_bf16_f32)
/-- The reference's term over its three arguments. -/
abbrev REF (dh : FVec Ideal S8192x1024 .f32) (w : FVec Ideal S2816x1024 .bf16) (gu : FVec Ideal S8192x5632 .bf16) :
    FVec Ideal S8192x5632 .bf16 :=
  truncf .bf16 (concatenate S8192x5632 1
    [⟨S8192x2816, addf (mulf (mulf (DACT dh w) (UP gu)) (SG gu))
        (mulf (mulf (GATE gu) (mulf (DACT dh w) (UP gu))) (mulf (SG gu) (subf ONES (SG gu))))⟩,
     ⟨S8192x2816, mulf (mulf (GATE gu) (SG gu)) (DACT dh w)⟩]
    concatenates_S8192x2816_S8192x2816_S8192x5632_d1) bitsLt_bf16_f32

end Cert.Reference2Ideal.Value

namespace Cert.Kernel2Ideal.Value

open Cert.Kernel2Ideal Cert.Kernel2Ideal.Gen Cert.Scalars

variable (m : (ℓ : Loc nD τ sig) → Buf (Elt Ideal) ℓ)

/-- The block indices of the four windows at every grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The gate half of the reference at an index, in the kernel's spelling. -/
theorem ref_gate (dh : FVec Ideal S8192x1024 .f32) (w : FVec Ideal S2816x1024 .bf16) (gu : FVec Ideal S8192x5632 .bf16)
    (hd : Fins dh) (hw : Fins w) (hg : Fins gu) (r : Fin 8192) (k : Fin 2816) :
    Cert.Reference2Ideal.Value.REF dh w gu (ix2 r ⟨k, by omega⟩) =
      (∑ x, dh (ix2 r x) * w (ix2 k x)) * gu (ix2 r ⟨2816 + k, by omega⟩) *
        ((Ideal.ofBits .f32 0x3F000000#32 * Ideal.tanh (Ideal.ofBits .f32 0x3F000000#32 * gu (ix2 r ⟨k, by omega⟩)) + Ideal.ofBits .f32 0x3F000000#32) *
        (1 + gu (ix2 r ⟨k, by omega⟩) * (1 - (Ideal.ofBits .f32 0x3F000000#32 * Ideal.tanh (Ideal.ofBits .f32 0x3F000000#32 * gu (ix2 r ⟨k, by omega⟩)) + Ideal.ofBits .f32 0x3F000000#32)))) := by
  rw [swiglu_gate _ _ _ (real_sum _ _ _ (fun _ => hd _) (fun _ => hw _)) (hg _) (hg _)]
  pointwise [Cert.Reference2Ideal.Value.REF]

/-- The linear half of the reference at an index, in the kernel's spelling. -/
theorem ref_up (dh : FVec Ideal S8192x1024 .f32) (w : FVec Ideal S2816x1024 .bf16) (gu : FVec Ideal S8192x5632 .bf16)
    (hg : Fins gu) (r : Fin 8192) (k : Fin 2816) :
    Cert.Reference2Ideal.Value.REF dh w gu (ix2 r ⟨2816 + k, by omega⟩) =
      (∑ x, dh (ix2 r x) * w (ix2 k x)) *
        (gu (ix2 r ⟨k, by omega⟩) * (Ideal.ofBits .f32 0x3F000000#32 * Ideal.tanh (Ideal.ofBits .f32 0x3F000000#32 * gu (ix2 r ⟨k, by omega⟩)) + Ideal.ofBits .f32 0x3F000000#32)) := by
  rw [swiglu_up _ _ (hg _)]
  pointwise [Cert.Reference2Ideal.Value.REF]

/-- The kernel's first payload at an index. -/
theorem pay_gate (x0 : FVec Ideal S512x1024 .f32) (x1 : FVec Ideal S2816x1024 .bf16) (g u : FVec Ideal S512x2816 .bf16)
    (r : Fin 512) (k : Fin 2816) : k0_pay4 (F := Ideal) x0 x1 g u (ix2 r k) =
      (∑ x, x0 (ix2 r x) * x1 (ix2 k x)) * u (ix2 r k) *
        ((Ideal.ofBits .f32 0x3F000000#32 * Ideal.tanh (Ideal.ofBits .f32 0x3F000000#32 * g (ix2 r k)) + Ideal.ofBits .f32 0x3F000000#32) *
        (1 + g (ix2 r k) * (1 - (Ideal.ofBits .f32 0x3F000000#32 * Ideal.tanh (Ideal.ofBits .f32 0x3F000000#32 * g (ix2 r k)) + Ideal.ofBits .f32 0x3F000000#32)))) := by
  pointwise [k0_pay4, k0_pay1, k0_pay2, k0_pay3]

/-- The kernel's second payload at an index. -/
theorem pay_up (x0 : FVec Ideal S512x1024 .f32) (x1 : FVec Ideal S2816x1024 .bf16) (g : FVec Ideal S512x2816 .bf16)
    (r : Fin 512) (k : Fin 2816) : k0_pay5 (F := Ideal) x0 x1 g (ix2 r k) =
      (∑ x, x0 (ix2 r x) * x1 (ix2 k x)) *
        (g (ix2 r k) * (Ideal.ofBits .f32 0x3F000000#32 * Ideal.tanh (Ideal.ofBits .f32 0x3F000000#32 * g (ix2 r k)) + Ideal.ofBits .f32 0x3F000000#32)) := by
  pointwise [k0_pay5, k0_pay1, k0_pay2, k0_pay3]

/-- What a grid point writes back is the reference's term at the place of the array the window puts it. -/
theorem point (c : Dev nD) (t : Fin cfg0.N) (hd : Fins (s := S8192x1024) (m ((c : Thread nD τ).loc main_arg0)))
    (hw : Fins (s := S2816x1024) (m ((c : Thread nD τ).loc main_arg1))) (hg : Fins (s := S8192x5632) (m ((c : Thread nD τ).loc main_arg2))) (y : S512x5632.Idx) :
    out0_3 (iblk m c 0 t) (iblk m c 1 t) (iblk m c 2 t) y
      = Cert.Reference2Ideal.Value.REF (m ((c : Thread nD τ).loc main_arg0)) (m ((c : Thread nD τ).loc main_arg1))
          (m ((c : Thread nD τ).loc main_arg2)) (((cfg0.win 3).blk t).view.emb y) := by
  have ht : t.val < 16 := t.isLt
  canon_tiles x h
  · obtain ⟨r, k, rfl⟩ : ∃ (r : Fin 512) (k : Fin 2816), x = ix2 r k := ⟨x 0, x 1, eq_ix2 x⟩
    rw [pay_up]
    have e : ((cfg0.win 3).blk t).view.emb y = ix2 (⟨512 * t.val + r, by omega⟩ : Fin 8192) (⟨2816 + k, by omega⟩ : Fin 5632) := by
      replace h0 : (y 0 : ℕ) = r := h0
      replace h1 : (y 1 : ℕ) = 2816 + k := h1
      blk_ext [idx t] <;> omega
    rw [e, ref_up _ _ _ hg]
    blk_point [iblk, V, idx t]
  · obtain ⟨r, k, rfl⟩ : ∃ (r : Fin 512) (k : Fin 2816), x = ix2 r k := ⟨x 0, x 1, eq_ix2 x⟩
    rw [pay_gate]
    have e : ((cfg0.win 3).blk t).view.emb y = ix2 (⟨512 * t.val + r, by omega⟩ : Fin 8192) (⟨k, by omega⟩ : Fin 5632) := by
      replace h0 : (y 0 : ℕ) = r := h0
      replace h1 : (y 1 : ℕ) = k := h1
      blk_ext [idx t] <;> omega
    rw [e, ref_gate _ _ _ hd hw hg]
    blk_point [iblk, V, idx t]

/-- The output array after the run. -/
theorem final (c : Dev nD) (hd : Fins (s := S8192x1024) (m ((c : Thread nD τ).loc main_arg0)))
    (hw : Fins (s := S2816x1024) (m ((c : Thread nD τ).loc main_arg1))) (hg : Fins (s := S8192x5632) (m ((c : Thread nD τ).loc main_arg2))) :
    (dats m 0 c).arrAt 3 cfg0.N = Cert.Reference2Ideal.Value.REF (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  exact point m c t hd hw hg y

/-- The precondition says every argument is an array of real numbers. -/
theorem fins_of_pre (h : Cert.Pre_Kernel2Ideal_finite2 m) (c : Dev nD) :
    Fins (s := S8192x1024) (m ((c : Thread nD τ).loc main_arg0)) ∧ Fins (s := S2816x1024) (m ((c : Thread nD τ).loc main_arg1))
      ∧ Fins (s := S8192x5632) (m ((c : Thread nD τ).loc main_arg2)) := by
  obtain ⟨h0, h1, h2, h3, h4, h5⟩ := h c
  refine ⟨fun i => ?_, fun i => ?_, fun i => ?_⟩
  · exact real_of_cmp top_word bot_word (congrFun h0 i) (congrFun h1 i)
  · exact real_of_cmp top_word16 bot_word16 (congrFun h2 i) (congrFun h3 i)
  · exact real_of_cmp top_word16 bot_word16 (congrFun h4 i) (congrFun h5 i)

end Cert.Kernel2Ideal.Value

/-- The kernel and the reference leave the same array. -/
theorem Cert.ffn_algebraic : Cert.algebraic_Kernel2Ideal_Reference2Ideal_pre_finite2 := by
  intro m g m' g' hp hm
  refine ⟨fun c => Cert.Reference2Ideal.Value.REF
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)), ?_, ?_⟩
  · refine (θ_run _ _ _).mono (fun r h c => ?_) (Cert.Kernel2Ideal.Value.run_blocks m g)
    obtain ⟨hd, hw, hg⟩ := Cert.Kernel2Ideal.Value.fins_of_pre m hp c
    exact ⟨(h c).1.trans (Cert.Kernel2Ideal.Value.final m c hd hw hg), (h c).2⟩
  · refine (θ_run _ _ _).mono (fun r h c => ?_) (Cert.Reference2Ideal.Value.run m' g')
    obtain ⟨e0, e1, e2⟩ := hm c
    refine ⟨(h c).1.trans ?_, (h c).2⟩
    rw [e0, e1, e2]
-- ==== Proof.RmsScalars.lean ====
/- The gradient of a row's root-mean-square normalisation: two spellings of one real number. -/
module

public import proofs.«01_k».proof.Proof.Scalars

@[expose] public section

set_option maxRecDepth 16384

noncomputable section

namespace Cert.Scalars

open Idealize.ShloMosaic

/-- The f32 word of 1024. -/
theorem word_1024 : Ideal.ofBits .f32 0x44800000#32 = ((1024 : ℝ) : EReal) := by
  simp [Ideal.ofBits, Ideal.ieee]; rw [← EReal.coe_mul]; norm_num

/-- The f32 word of minus one half. -/
theorem neg_half_word : Ideal.ofBits .f32 0xBF000000#32 = ((-(1 / 2) : ℝ) : EReal) := by
  simp [Ideal.ofBits, Ideal.ieee]; rw [← EReal.coe_mul]; norm_num

/-- The f32 word of the norm's small constant is a positive real number. -/
theorem eps_word : ∃ e : ℝ, 0 < e ∧ Ideal.ofBits .f32 0x358637BD#32 = (e : EReal) := by
  refine ⟨_, ?_, by simp [Ideal.ofBits, Ideal.ieee]; rw [← EReal.coe_mul]⟩
  positivity

/-- The inverse square root of a positive real number. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The mean square of a row of real numbers, plus the small constant, is a positive real number. -/
theorem mean_sq {n : ℕ} (x : Fin n → ℝ) : ∃ v : ℝ, 0 < v ∧
    Ideal.div (∑ j, (x j : EReal) * (x j : EReal)) (Ideal.ofBits .f32 0x44800000#32) + Ideal.ofBits .f32 0x358637BD#32 = (v : EReal) := by
  obtain ⟨e, he, hw⟩ := eps_word
  have h : 0 ≤ ∑ j, x j * x j := Finset.sum_nonneg fun j _ => mul_self_nonneg _
  refine ⟨(∑ j, x j * x j) * (1 / 1024) + e, by positivity, ?_⟩
  simp only [← EReal.coe_mul]
  rw [coe_sum, word_1024, hw, Ideal.div_coe (by norm_num), ← EReal.coe_mul, ← EReal.coe_add]

/-- The gradient of the normalisation in its input, as the kernel groups it and as the reference does. -/
theorem rms_row {n : ℕ} (x p g : Fin n → EReal) (d : EReal) (hx : ∀ j, ∃ r : ℝ, x j = r) (hp : ∀ j, ∃ r : ℝ, p j = r)
    (hg : ∀ j, ∃ r : ℝ, g j = r) (hd : ∃ r : ℝ, d = r) (k : Fin n) (V : EReal)
    (hV : V = Ideal.div (∑ j, x j * x j) (Ideal.ofBits .f32 0x44800000#32) + Ideal.ofBits .f32 0x358637BD#32) :
    d + Ideal.rsqrt V * (p k * g k - x k * Ideal.rsqrt V *
        Ideal.div (∑ j, p j * g j * (x j * Ideal.rsqrt V)) (Ideal.ofBits .f32 0x44800000#32))
      = d + p k * g k * Ideal.rsqrt V
        + x k * Ideal.div ((∑ j, x j * (p j * g j)) * (Ideal.ofBits .f32 0xBF000000#32 * Ideal.div (Ideal.rsqrt V) V)) (Ideal.ofBits .f32 0x44800000#32)
        + Ideal.div ((∑ j, x j * (p j * g j)) * (Ideal.ofBits .f32 0xBF000000#32 * Ideal.div (Ideal.rsqrt V) V)) (Ideal.ofBits .f32 0x44800000#32) * x k := by
  choose x' hx using hx
  choose p' hp using hp
  choose g' hg using hg
  obtain ⟨d, rfl⟩ := hd
  obtain rfl : x = fun j => (x' j : EReal) := funext hx
  obtain rfl : p = fun j => (p' j : EReal) := funext hp
  obtain rfl : g = fun j => (g' j : EReal) := funext hg
  obtain ⟨v, hv, e⟩ := mean_sq x'
  obtain rfl : V = (v : EReal) := hV.trans e
  have hs : Real.sqrt v ≠ 0 := (Real.sqrt_pos.mpr hv).ne'
  simp only [rsqrt_pos hv, word_1024, neg_half_word, ← EReal.coe_mul, coe_sum, Ideal.div_coe hv.ne',
    Ideal.div_coe (show (1024 : ℝ) ≠ 0 by norm_num), ← EReal.coe_sub, ← EReal.coe_add]
  congr 1
  have h1 : ∑ j, p' j * g' j * (x' j * (Real.sqrt v)⁻¹) = (∑ j, x' j * (p' j * g' j)) * (Real.sqrt v)⁻¹ := by
    rw [Finset.sum_mul]; exact Finset.sum_congr rfl fun j _ => by ring
  have h2 : (Real.sqrt v)⁻¹ * (Real.sqrt v)⁻¹ * v = 1 := by
    rw [← mul_inv, Real.mul_self_sqrt hv.le, inv_mul_cancel₀ hv.ne']
  have h3 : 1 / v = (Real.sqrt v)⁻¹ * (Real.sqrt v)⁻¹ := by
    rw [div_eq_iff hv.ne', h2]
  rw [h1, h3]
  ring

/-- A sum of two real numbers is a real number. -/
theorem real_add {x y : EReal} (hx : ∃ r : ℝ, x = r) (hy : ∃ r : ℝ, y = r) : ∃ r : ℝ, x + y = r := by
  obtain ⟨x, rfl⟩ := hx
  obtain ⟨y, rfl⟩ := hy
  exact ⟨x + y, (EReal.coe_add x y).symm⟩

/-- The mean square of a row plus the small constant. -/
def var {n : ℕ} (x : Fin n → EReal) : EReal :=
  Ideal.div (∑ j, x j * x j) (Ideal.ofBits .f32 0x44800000#32) + Ideal.ofBits .f32 0x358637BD#32

/-- The norm's input gradient of one row, as the kernel spells it: `x` the row, `p` the gradient of the normed row, `g` the gain, `d` what
    the branch above adds. -/
def dxRow {n : ℕ} (x p g : Fin n → EReal) (d : EReal) (k : Fin n) : EReal :=
  d + Ideal.rsqrt (var x) * (p k * g k - x k * Ideal.rsqrt (var x) *
    Ideal.div (∑ j, p j * g j * (x j * Ideal.rsqrt (var x))) (Ideal.ofBits .f32 0x44800000#32))

/-- Equal rows give equal gradients. -/
theorem dxRow_congr {n : ℕ} {x x' p p' g g' : Fin n → EReal} {d d' : EReal} (hx : x = x') (hp : p = p') (hg : g = g') (hd : d = d') (k : Fin n) :
    dxRow x p g d k = dxRow x' p' g' d' k := by
  subst hx hp hg hd; rfl

end Cert.Scalars
-- ==== Proof.RmsValue.lean ====
/- The gradient of the input projection and the norm before it: what the kernel leaves is the reference's term. -/
module

public import proofs.«01_k».proof.Defs
public import proofs.«01_k».proof.Proof.Gen.Pre_finite3
public import proofs.«01_k».proof.Proof.Gen.Kernel3Ideal.Value
public import proofs.«01_k».proof.Proof.Gen.Reference3Ideal.Run
public import proofs.«01_k».proof.Proof.RmsScalars
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Reference3Ideal.Value

open Cert.Reference3Ideal Cert.Reference3Ideal.Gen Cert.Scalars

variable (dres : FVec Ideal S8192x1024 .f32) (dp : FVec Ideal S8192x9216 .bf16) (ddt : FVec Ideal S8192x128 .bf16) (h : FVec Ideal S8192x1024 .f32)
  (g : FVec Ideal S1024 .f32) (w : FVec Ideal S1024x9216 .bf16) (wd : FVec Ideal S1024x128 .bf16)

/-- The gradient of the normed row: the two projections' gradients brought back, summed. -/
def grad (r : Fin 8192) (k : Fin 1024) : EReal :=
  (∑ l : Fin 9216, dp (ix2 r l) * w (ix2 k l)) + ∑ l : Fin 128, ddt (ix2 r l) * wd (ix2 k l)

/-- The array the kernel leaves first. -/
def DX : FVec Ideal S8192x1024 .f32 := fun i =>
  dxRow (fun j : Fin 1024 => h (ix2 (i 0) j)) (grad dp ddt w wd (i 0)) (fun j => g (ix1 j)) (dres i) (i 1)

/-- The array the kernel leaves second: the gain's gradient in row 0, zeros below. -/
def DG : FVec Ideal S8x1024 .f32 := fun i =>
  if (i 0).val = 0 then
    ∑ r : Fin 8192, grad dp ddt w wd r (i 1) * (h (ix2 r (i 1)) * Ideal.rsqrt (var fun j : Fin 1024 => h (ix2 r j)))
  else 0

/-- The reference's first result. -/
abbrev REF0 : FVec Ideal S8192x1024 .f32 :=
  addf (addf (addf dres (mulf (mulf (addf (Host.dotGeneral dot_S8192x128_S1024x128_S8192x1024_1_1_0_0_n_n none (extf .f32 ddt bitsLt_bf16_f32) (extf .f32 wd bitsLt_bf16_f32)) (Host.dotGeneral dot_S8192x9216_S1024x9216_S8192x1024_1_1_0_0_n_n none (extf .f32 dp bitsLt_bf16_f32) (extf .f32 w bitsLt_bf16_f32))) (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf h (broadcastInDim S8192x1024 ![0] bcast_S8192_S8192x1024_0 (Host.reduceAdd (Host.divf (mulf (shapeCast _ (Host.reduceAdd (mulf h (mulf (addf (Host.dotGeneral dot_S8192x128_S1024x128_S8192x1024_1_1_0_0_n_n none (extf .f32 ddt bitsLt_bf16_f32) (extf .f32 wd bitsLt_bf16_f32)) (Host.dotGeneral dot_S8192x9216_S1024x9216_S8192x1024_1_1_0_0_n_n none (extf .f32 dp bitsLt_bf16_f32) (extf .f32 w bitsLt_bf16_f32))) (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf h (mulf (addf (Host.dotGeneral dot_S8192x128_S1024x128_S8192x1024_1_1_0_0_n_n none (extf .f32 ddt bitsLt_bf16_f32) (extf .f32 wd bitsLt_bf16_f32)) (Host.dotGeneral dot_S8192x9216_S1024x9216_S8192x1024_1_1_0_0_n_n none (extf .f32 dp bitsLt_bf16_f32) (extf .f32 w bitsLt_bf16_f32))) (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) h)

/-- The reference's second result. -/
abbrev REF1 : FVec Ideal S8x1024 .f32 :=
  concatenate S8x1024 0 [⟨S1x1024, (shapeCast _ (Host.reduceAdd (shapeCast _ (Host.reduceAdd (mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (addf (Host.dotGeneral dot_S8192x128_S1024x128_S8192x1024_1_1_0_0_n_n none (extf .f32 ddt bitsLt_bf16_f32) (extf .f32 wd bitsLt_bf16_f32)) (Host.dotGeneral dot_S8192x9216_S1024x9216_S8192x1024_1_1_0_0_n_n none (extf .f32 dp bitsLt_bf16_f32) (extf .f32 w bitsLt_bf16_f32)))) (constant S_ .f32 0x00000000#32) reducesTo_S8192x1024_S1024_d0 h_S_) shapeCasts_S1024_S1x1024) (constant S_ .f32 0x00000000#32) reducesTo_S1x1024_S1024_d0 h_S_) shapeCasts_S1024_S1x1024)⟩, ⟨S7x1024, (broadcastInDim S7x1024 ![] bcast_S_S7x1024 (constant S_ .f32 0x00000000#32))⟩] concatenates_S1x1024_S7x1024_S8x1024_d0

/-- The reference's first result is the array `DX`, on arrays of real numbers. -/
theorem ref_dx (h0 : Fins dres) (h1 : Fins dp) (h2 : Fins ddt) (h3 : Fins h) (h4 : Fins g) (h5 : Fins w) (h6 : Fins wd) :
    REF0 dres dp ddt h g w wd = DX dres dp ddt h g w wd := by
  funext i
  obtain ⟨r, k, rfl⟩ : ∃ (r : Fin 8192) (k : Fin 1024), i = ix2 r k := ⟨i 0, i 1, eq_ix2 i⟩
  have e : ∀ j, (∑ l : Fin 128, ddt (ix2 r l) * wd (ix2 j l)) + (∑ l : Fin 9216, dp (ix2 r l) * w (ix2 j l)) = grad dp ddt w wd r j :=
    fun j => add_comm _ _
  have e2 := rms_row (fun j : Fin 1024 => h (ix2 r j)) (grad dp ddt w wd r) (fun j => g (ix1 j)) (dres (ix2 r k)) (fun j => h3 _)
    (fun j => real_add (real_sum _ _ _ (fun _ => h1 _) (fun _ => h5 _)) (real_sum _ _ _ (fun _ => h2 _) (fun _ => h6 _)))
    (fun j => h4 _) (h0 _) k _ rfl
  refine Eq.trans ?_ e2.symm
  simp only [← e]
  pointwise []
  simp only [Fin.sum_univ_one]

/-- The reference's second result is the array `DG`. -/
theorem ref_dg : REF1 dp ddt h w wd = DG dp ddt h w wd := by
  funext i
  obtain ⟨r, k, rfl⟩ : ∃ (r : Fin 8) (k : Fin 1024), i = ix2 r k := ⟨i 0, i 1, eq_ix2 i⟩
  by_cases hr : r.val = 0
  · obtain rfl : r = 0 := Fin.ext hr
    pointwise []
    rw [show DG dp ddt h w wd (ix2 0 k) = _ from if_pos rfl, Fin.sum_univ_one]
    refine Finset.sum_congr rfl fun x _ => ?_
    rw [mul_comm, add_comm]
    rfl
  · pointwise []
    rw [dif_neg (by omega)]
    exact (if_neg hr).symm

end Cert.Reference3Ideal.Value

namespace Cert.Kernel3Ideal.Value

open Cert.Kernel3Ideal Cert.Kernel3Ideal.Gen Cert.Scalars

variable (m : (ℓ : Loc nD τ sig) → Buf (Elt Ideal) ℓ)

/-- The zero fill of the accumulator. -/
theorem zero_acc (j : S1024x1024.Idx) : k0_pay1 (F := Ideal) j = 0 := by pointwise [k0_pay1]

/-- The zero fill of the gamma gradient. -/
theorem zero_dg (j : S8x1024.Idx) : k0_pay2 (F := Ideal) j = 0 := by pointwise [k0_pay2]

/-- One step of the accumulation. -/
theorem pay_acc (a : FVec Ideal S1024x1024 .f32) (x w : FVec Ideal S1024x2304 .bf16) (r k : Fin 1024) :
    k0_pay3 (F := Ideal) a x w (ix2 r k) = a (ix2 r k) + ∑ l : Fin 2304, x (ix2 r l) * w (ix2 k l) := by
  pointwise [k0_pay3]

/-- The block indices of the nine windows at every grid point. -/
theorem idx : ∀ t : Fin cfg0.N, win0_0.index t = ![t.val / 4, t.val % 4] ∧ win0_1.index t = ![0, t.val % 4]
    ∧ win0_2.index t = ![t.val / 4, 0] ∧ win0_3.index t = ![0, 0] ∧ win0_4.index t = ![t.val / 4, 0]
    ∧ win0_5.index t = ![t.val / 4, 0] ∧ win0_6.index t = ![0, 0] ∧ win0_7.index t = ![t.val / 4, 0] ∧ win0_8.index t = ![0, 0] :=
  (by decide +kernel : ∀ t : Fin grid0.N, _)

/-- The accumulator at the last point of a run holds the whole product with the projection's transpose. -/
theorem acc (c : Dev nD) (t : Fin cfg0.N) (h : t.val % 4 = 3) (r k : Fin 1024) :
    (outsAt0 m c t.val t.isLt).2.2 (ix2 r k) = ∑ l : Fin 9216,
      (show FVec Ideal S8192x9216 .bf16 from m ((c : Thread nD τ).loc main_arg1)) (ix2 ⟨1024 * (t.val / 4) + r, by have : t.val < 32 := t.isLt; omega⟩ l)
        * (show FVec Ideal S1024x9216 .bf16 from m ((c : Thread nD τ).loc main_arg5)) (ix2 k l) := by
  have ht : t.val < 32 := t.isLt
  rw [Pipeline.eq_sum_fin_of_reset_step_apply_of_flush (fun n h => (outsAt0 m c n h).2.2) 4 (fun _ => 0)
    (fun p j => ∑ l : Fin 2304, (show FVec Ideal S1024x2304 .bf16 from iblk m c 0 p) (ix2 (j 0) l) * (show FVec Ideal S1024x2304 .bf16 from iblk m c 1 p) (ix2 (j 1) l))
    (fun p h0 j => by
      obtain ⟨r, k, rfl⟩ : ∃ (r k : Fin 1024), j = ix2 r k := ⟨j 0, j 1, eq_ix2 j⟩
      by_cases h1 : p.val % 32 = 0
      · rw [outsAt0_A m c p h0 h1 (by omega)]; frame_out; rw [pay_acc, zero_acc]; rfl
      · rw [outsAt0_D m c p h0 h1 (by omega)]; frame_out; rw [pay_acc, zero_acc]; rfl)
    (fun p h0 j => by
      obtain ⟨r, k, rfl⟩ : ∃ (r k : Fin 1024), j = ix2 r k := ⟨j 0, j 1, eq_ix2 j⟩
      by_cases h2 : p.val % 4 = 3
      · rw [outsAt0_C m c p h0 (by omega) h2]; frame_out; rw [pay_acc, read_unread_whole]; rfl
      · rw [outsAt0_B m c p h0 (by omega) h2]; frame_out; rw [pay_acc, read_unread_whole]; rfl)
    t h _, zero_add]
  refine Fin.sum_mul_add_congr fun s l hl => ?_
  blk_point [iblk, V, idx t, idx ⟨_, Pipeline.run_point_lt_of_flush t h s⟩]

/-- The first output's payload at an index. -/
theorem pay_dx (a : FVec Ideal S1024x1024 .f32) (y w : FVec Ideal S1024x128 .bf16) (x d : FVec Ideal S1024x1024 .f32) (g : FVec Ideal S1x1024 .f32)
    (r k : Fin 1024) : k0_pay4 (F := Ideal) (k0_pay6 x) d (k0_pay9 a y w x g) (ix2 r k) =
      dxRow (fun j : Fin 1024 => x (ix2 r j)) (fun j => a (ix2 r j) + ∑ l : Fin 128, y (ix2 r l) * w (ix2 j l)) (fun j => g (ix2 0 j)) (d (ix2 r k)) k := by
  pointwise [k0_pay4, k0_pay5, k0_pay6, k0_pay7, k0_pay9]
  rfl

/-- The second output's payload at an index. -/
theorem pay_dg (a : FVec Ideal S1024x1024 .f32) (y w : FVec Ideal S1024x128 .bf16) (x : FVec Ideal S1024x1024 .f32) (g : FVec Ideal S1x1024 .f32)
    (k : Fin 1024) : k0_pay8 (F := Ideal) a y w x g (ix2 (0 : Fin 1) k) =
      g (ix2 0 k) + ∑ r : Fin 1024, (a (ix2 r k) + ∑ l : Fin 128, y (ix2 r l) * w (ix2 k l)) *
        (x (ix2 r k) * Ideal.rsqrt (var fun j : Fin 1024 => x (ix2 r j))) := by
  pointwise [k0_pay5, k0_pay6, k0_pay7, k0_pay8]
  rfl

/-- At the last point of a run the accumulator and the narrow product make the gradient of the normed row. -/
theorem acc_grad (c : Dev nD) (t : Fin cfg0.N) (h : t.val % 4 = 3) (r k : Fin 1024) (R : Fin 8192) (hR : R.val = 1024 * (t.val / 4) + r) :
    (outsAt0 m c t.val t.isLt).2.2 (ix2 r k) + ∑ l : Fin 128, (show FVec Ideal S1024x128 .bf16 from iblk m c 5 t) (ix2 r l) * (show FVec Ideal S1024x128 .bf16 from iblk m c 6 t) (ix2 k l)
      = Cert.Reference3Ideal.Value.grad (m ((c : Thread nD τ).loc main_arg1)) (m ((c : Thread nD τ).loc main_arg2)) (m ((c : Thread nD τ).loc main_arg5))
          (m ((c : Thread nD τ).loc main_arg6)) R k := by
  have ht : t.val < 32 := t.isLt
  have hb : 1024 * (t.val / 4) + r.val < 8192 := by have := r.isLt; clear hR; omega
  obtain rfl : R = ⟨1024 * (t.val / 4) + r, hb⟩ := Fin.ext hR
  rw [acc m c t h]
  refine congrArg₂ (· + ·) rfl (Finset.sum_congr rfl fun l _ => ?_)
  blk_point [iblk, V, idx t]

/-- The accumulator at the last point of a run, one step unfolded. -/
theorem acc_last (c : Dev nD) (t : Fin cfg0.N) (h : t.val % 4 = 3) :
    (outsAt0 m c t.val t.isLt).2.2 = k0_pay3 (F := Ideal) (outsAt0 m c (t.val - 1) (Nat.lt_of_le_of_lt (Nat.sub_le _ _) t.isLt)).2.2 (iblk m c 0 t) (iblk m c 1 t) := by
  funext j
  rw [outsAt0_C m c t (by omega) (by omega) h]; dsimp only; frame_out; rw [read_unread_whole]

/-- What the last point of a run leaves in the first output's block. -/
theorem out7 (c : Dev nD) (t : Fin cfg0.N) (h : t.val % 4 = 3) (j : S1024x1024.Idx) :
    (outsAt0 m c t.val t.isLt).1 j = k0_pay4 (F := Ideal) (k0_pay6 (iblk m c 2 t)) (iblk m c 4 t)
      (k0_pay9 (outsAt0 m c t.val t.isLt).2.2 (iblk m c 5 t) (iblk m c 6 t) (iblk m c 2 t) (iblk m c 3 t)) j := by
  rw [acc_last m c t h, outsAt0_C m c t (by omega) (by omega) h]; dsimp only; frame_out; rw [read_unread_whole]

/-- What a run adds to the second output: one row. -/
def inc (c : Dev nD) (t : Fin cfg0.N) (j : S8x1024.Idx) : EReal :=
  if t.val % 4 = 3 then
    if (j 0).val = 0 then
      ∑ r : Fin 1024, ((outsAt0 m c t.val t.isLt).2.2 (ix2 r (j 1)) + ∑ l : Fin 128, (show FVec Ideal S1024x128 .bf16 from iblk m c 5 t) (ix2 r l) * (show FVec Ideal S1024x128 .bf16 from iblk m c 6 t) (ix2 (j 1) l)) *
        ((show FVec Ideal S1024x1024 .f32 from iblk m c 2 t) (ix2 r (j 1)) * Ideal.rsqrt (var fun l : Fin 1024 => (show FVec Ideal S1024x1024 .f32 from iblk m c 2 t) (ix2 r l)))
    else 0
  else 0

/-- What a point other than the first does to the second output. -/
theorem out8 (c : Dev nD) (t : Fin cfg0.N) (h : ¬t.val % 32 = 0) (j : S8x1024.Idx) :
    (outsAt0 m c t.val t.isLt).2.1 j = (outsAt0 m c (t.val - 1) (Nat.lt_of_le_of_lt (Nat.sub_le _ _) t.isLt)).2.1 j + inc m c t j := by
  by_cases h2 : t.val % 4 = 3
  · obtain ⟨r, k, rfl⟩ : ∃ (r : Fin 8) (k : Fin 1024), j = ix2 r k := ⟨j 0, j 1, eq_ix2 j⟩
    rw [inc, if_pos h2, acc_last m c t h2, outsAt0_C m c t (by omega) h h2]; dsimp only; frame_out
    rw [read_unread_whole]
    by_cases hr : r.val = 0
    · obtain rfl : r = 0 := Fin.ext hr
      refine Eq.trans (View.read_writes_cons_rows_of_mem (o := 0) _ _ inb_S8x1024_S1x1024_0_0 _ [] (ix2 (0 : Fin 8) k)
        (ix2 (0 : Fin 1) k) rfl rfl rfl) ?_
      rw [pay_dg, View.ld_unit_apply_of _ _ _ _ _ (ix2 (0 : Fin 8) k) (Fin.forall_fin_two.mpr ⟨rfl, (Nat.zero_add _).symm⟩)]
      exact congrArg₂ (· + ·) rfl (if_pos rfl).symm
    · refine Eq.trans (View.read_writes_cons_rows_of_not_mem (o := 0) (W := 1) _ _ inb_S8x1024_S1x1024_0_0 _ [] (ix2 r k)
        rfl rfl (by right; show 0 + 1 ≤ r.val; omega)) ?_
      refine Eq.trans (congrFun (Memref.IsWhole.read_unread _ _) _) ?_
      exact (add_zero _).symm.trans (congrArg₂ (· + ·) rfl (if_neg hr).symm)
  · rw [inc, if_neg h2, add_zero]
    by_cases h0 : t.val % 4 = 0
    · rw [outsAt0_D m c t h0 h h2]; rfl
    · rw [outsAt0_B m c t h0 h h2]; rfl

/-- What a run adds to the second output, in the arguments. -/
theorem inc_eq (c : Dev nD) (t : Fin cfg0.N) (h : t.val % 4 = 3) (j : S8x1024.Idx) (hj : (j 0).val = 0) :
    inc m c t j = ∑ s : Fin 1024, (show EReal from
      Cert.Reference3Ideal.Value.grad (m ((c : Thread nD τ).loc main_arg1)) (m ((c : Thread nD τ).loc main_arg2)) (m ((c : Thread nD τ).loc main_arg5)) (m ((c : Thread nD τ).loc main_arg6)) (⟨1024 * (t.val / 4) + s, by have : t.val < 32 := t.isLt; omega⟩ : Fin 8192) (j 1)
        * ((show FVec Ideal S8192x1024 .f32 from m ((c : Thread nD τ).loc main_arg3)) (ix2 (⟨1024 * (t.val / 4) + s, by have : t.val < 32 := t.isLt; omega⟩ : Fin 8192) (j 1))
          * Ideal.rsqrt (var fun l : Fin 1024 => (show FVec Ideal S8192x1024 .f32 from m ((c : Thread nD τ).loc main_arg3)) (ix2 (⟨1024 * (t.val / 4) + s, by have : t.val < 32 := t.isLt; omega⟩ : Fin 8192) l)))) := by
  have ht : t.val < 32 := t.isLt
  have e : ∀ (s l : Fin 1024), (show FVec Ideal S1024x1024 .f32 from iblk m c 2 t) (ix2 s l)
      = (show FVec Ideal S8192x1024 .f32 from m ((c : Thread nD τ).loc main_arg3)) (ix2 (⟨1024 * (t.val / 4) + s, by omega⟩ : Fin 8192) l) := fun s l => by
    blk_point [iblk, V, idx t]
  rw [inc, if_pos h, if_pos hj]
  refine Finset.sum_congr rfl fun s _ => ?_
  rw [acc_grad m c t h s (j 1) ⟨1024 * (t.val / 4) + s, by omega⟩ rfl, e s (j 1)]
  refine congrArg₂ (· * ·) rfl (congrArg₂ (· * ·) rfl (congrArg Ideal.rsqrt (congrArg var (funext fun l => e s l))))

/-- The second output after the last point. -/
theorem out8_last (c : Dev nD) (t : Fin cfg0.N) (h : t.val + 1 = 32) (j : S8x1024.Idx) :
    (outsAt0 m c t.val t.isLt).2.1 j = Cert.Reference3Ideal.Value.DG (m ((c : Thread nD τ).loc main_arg1)) (m ((c : Thread nD τ).loc main_arg2)) (m ((c : Thread nD τ).loc main_arg3)) (m ((c : Thread nD τ).loc main_arg5)) (m ((c : Thread nD τ).loc main_arg6)) j := by
  rw [Pipeline.eq_sum_fin_of_reset_step_apply_last (fun n h => (outsAt0 m c n h).2.1) 32 (fun _ => 0) (fun p j => inc m c p j)
    (fun p h0 j => by
      have : p.val < 32 := p.isLt
      rw [outsAt0_A m c p (by omega) h0 (by omega), inc, if_neg (by omega)]; dsimp only; frame_out; rw [zero_dg, add_zero])
    (fun p h0 j => out8 m c p h0 j) (le_refl 32) t h j, zero_add]
  obtain ⟨r, k, rfl⟩ : ∃ (r : Fin 8) (k : Fin 1024), j = ix2 r k := ⟨j 0, j 1, eq_ix2 j⟩
  by_cases hr : r.val = 0
  · refine Eq.trans ?_ (if_pos hr).symm
    let G : Fin 8192 → EReal := fun R => Cert.Reference3Ideal.Value.grad (m ((c : Thread nD τ).loc main_arg1)) (m ((c : Thread nD τ).loc main_arg2)) (m ((c : Thread nD τ).loc main_arg5)) (m ((c : Thread nD τ).loc main_arg6)) R k
      * ((show FVec Ideal S8192x1024 .f32 from m ((c : Thread nD τ).loc main_arg3)) (ix2 R k)
        * Ideal.rsqrt (var fun l : Fin 1024 => (show FVec Ideal S8192x1024 .f32 from m ((c : Thread nD τ).loc main_arg3)) (ix2 R l)))
    refine (Fin.sum_divmod_congr (A := 8) (S := 4)
      (f := fun a s => if s.val = 3 then ∑ q : Fin 1024, G ⟨a.val * 1024 + q.val, by omega⟩ else 0) (fun p ha hs => ?_)).trans ?_
    · by_cases h3 : p.val % 4 = 3
      · rw [inc_eq m c p h3 _ hr]
        refine Eq.trans (Finset.sum_congr rfl fun q _ => ?_) (if_pos h3).symm
        exact congrArg G (Fin.ext (congrArg (· + q.val) (Nat.mul_comm _ _)))
      · rw [inc, if_neg h3]
        exact (if_neg h3).symm
    · refine (Finset.sum_congr rfl fun a _ => ?_).trans (Fin.sum_mul_add_congr (S := 8) (n := 1024) (f := G)
        (F := fun a q => G ⟨a.val * 1024 + q.val, by omega⟩) fun s q hl => rfl)
      rw [Fin.sum_univ_four]
      simp
  · refine Eq.trans (Finset.sum_eq_zero fun p _ => ?_) (if_neg hr).symm
    rw [inc]
    split_ifs <;> first | rfl | contradiction

/-- The first output at the last point of a run. -/
theorem point7 (c : Dev nD) (t : Fin cfg0.N) (h : t.val % 4 = 3) (j : S1024x1024.Idx) :
    (outsAt0 m c t.val t.isLt).1 j = Cert.Reference3Ideal.Value.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb j) := by
  have ht : t.val < 32 := t.isLt
  obtain ⟨r, k, rfl⟩ : ∃ (r k : Fin 1024), j = ix2 r k := ⟨j 0, j 1, eq_ix2 j⟩
  have e : ((cfg0.win 7).blk t).view.emb (ix2 r k) = ix2 (⟨1024 * (t.val / 4) + r, by omega⟩ : Fin 8192) (⟨k, by omega⟩ : Fin 1024) := by
    blk_ext [idx t] <;> omega
  rw [e, out7 m c t h, pay_dx]
  have e2 : ∀ l : Fin 1024, (show FVec Ideal S1024x1024 .f32 from iblk m c 2 t) (ix2 r l)
      = (show FVec Ideal S8192x1024 .f32 from m ((c : Thread nD τ).loc main_arg3)) (ix2 (⟨1024 * (t.val / 4) + r, by omega⟩ : Fin 8192) l) := fun l => by
    blk_point [iblk, V, idx t]
  have e3 : ∀ l : Fin 1024, (show FVec Ideal S1x1024 .f32 from iblk m c 3 t) (ix2 0 l)
      = (show FVec Ideal S1024 .f32 from m ((c : Thread nD τ).loc main_arg4)) (ix1 l) := fun l => by
    blk_point [iblk, V, idx t]
  have e4 : (show FVec Ideal S1024x1024 .f32 from iblk m c 4 t) (ix2 r k)
      = (show FVec Ideal S8192x1024 .f32 from m ((c : Thread nD τ).loc main_arg0)) (ix2 (⟨1024 * (t.val / 4) + r, by omega⟩ : Fin 8192) k) := by
    blk_point [iblk, V, idx t]
  have e1 : ∀ l : Fin 1024, _ = _ := fun l => acc_grad m c t h r l ⟨1024 * (t.val / 4) + r, by omega⟩ rfl
  exact dxRow_congr (funext e2) (funext e1) (funext e3) e4 k

/-- The first output array after the run. -/
theorem dx_final (c : Dev nD) : (dats m 0 c).arrAt 7 cfg0.N = Cert.Reference3Ideal.Value.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  exact point7 m c t ((flush0_7 t).mp hf) y

/-- The second output array after the run. -/
theorem dg_final (c : Dev nD) : (dats m 0 c).arrAt 8 cfg0.N = Cert.Reference3Ideal.Value.DG (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_covers 8 _ (by decide +kernel) fun t hf y => ?_
  blk_simp
  rw [after0_8]
  have e : ((cfg0.win 8).blk t).view.emb y = y := by
    blk_ext [idx t] <;> omega
  rw [e]
  have h8 := (flush0_8 t).mp hf
  have : t.val < 32 := t.isLt
  exact out8_last m c t (by omega) y

/-- The precondition says every argument is an array of real numbers. -/
theorem fins_of_pre (h : Cert.Pre_Kernel3Ideal_finite3 m) (c : Dev nD) :
    Fins (s := S8192x1024) (m ((c : Thread nD τ).loc main_arg0))
      ∧ Fins (s := S8192x9216) (m ((c : Thread nD τ).loc main_arg1))
      ∧ Fins (s := S8192x128) (m ((c : Thread nD τ).loc main_arg2))
      ∧ Fins (s := S8192x1024) (m ((c : Thread nD τ).loc main_arg3))
      ∧ Fins (s := S1024) (m ((c : Thread nD τ).loc main_arg4))
      ∧ Fins (s := S1024x9216) (m ((c : Thread nD τ).loc main_arg5))
      ∧ Fins (s := S1024x128) (m ((c : Thread nD τ).loc main_arg6)) := by
  obtain ⟨h0, h1, h2, h3, h4, h5, h6, h7, h8, h9, h10, h11, h12, h13⟩ := h c
  refine ⟨fun i => ?_, fun i => ?_, fun i => ?_, fun i => ?_, fun i => ?_, fun i => ?_, fun i => ?_⟩
  · exact real_of_cmp top_word bot_word (congrFun h0 i) (congrFun h1 i)
  · exact real_of_cmp top_word16 bot_word16 (congrFun h2 i) (congrFun h3 i)
  · exact real_of_cmp top_word16 bot_word16 (congrFun h4 i) (congrFun h5 i)
  · exact real_of_cmp top_word bot_word (congrFun h6 i) (congrFun h7 i)
  · exact real_of_cmp top_word bot_word (congrFun h8 i) (congrFun h9 i)
  · exact real_of_cmp top_word16 bot_word16 (congrFun h10 i) (congrFun h11 i)
  · exact real_of_cmp top_word16 bot_word16 (congrFun h12 i) (congrFun h13 i)

end Cert.Kernel3Ideal.Value

/-- The kernel and the reference leave the same two arrays. -/
theorem Cert.rms_algebraic : Cert.algebraic_Kernel3Ideal_Reference3Ideal_pre_finite3 := by
  intro m g m' g' hp hm
  refine ⟨fun c => Cert.Reference3Ideal.Value.DX
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)),
    fun c => Cert.Reference3Ideal.Value.DG
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)), ?_, ?_⟩
  · refine (θ_run _ _ _).mono (fun r h c => ?_) (Cert.Kernel3Ideal.Value.run_blocks m g)
    exact ⟨(h c).1.trans (Cert.Kernel3Ideal.Value.dx_final m c), (h c).2.1.trans (Cert.Kernel3Ideal.Value.dg_final m c), (h c).2.2⟩
  · refine (θ_run _ _ _).mono (fun r h c => ?_) (Cert.Reference3Ideal.Value.run m' g')
    obtain ⟨h0, h1, h2, h3, h4, h5, h6⟩ := Cert.Kernel3Ideal.Value.fins_of_pre m hp c
    obtain ⟨e0, e1, e2, e3, e4, e5, e6⟩ := hm c
    refine ⟨(h c).1.trans ?_, (h c).2.1.trans ?_, (h c).2.2⟩
    · rw [Cert.Reference3Ideal.Value.res_main_v45, e0, e1, e2, e3, e4, e5, e6]
      exact Cert.Reference3Ideal.Value.ref_dx _ _ _ _ _ _ _ h0 h1 h2 h3 h4 h5 h6
    · rw [e1, e2, e3, e5, e6]
      exact Cert.Reference3Ideal.Value.ref_dg _ _ _ _ _
-- ==== Proof.RmsFfnValue.lean ====
/- The gradient of the feed-forward input projection and the norm before it: what the kernel leaves is the reference's term. -/
module

public import proofs.«01_k».proof.Defs
public import proofs.«01_k».proof.Proof.Gen.Pre_finite4
public import proofs.«01_k».proof.Proof.Gen.Kernel4Ideal.Value
public import proofs.«01_k».proof.Proof.Gen.Reference4Ideal.Run
public import proofs.«01_k».proof.Proof.RmsScalars
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Reference4Ideal.Value

open Cert.Reference4Ideal Cert.Reference4Ideal.Gen Cert.Scalars

variable (dres : FVec Ideal S8192x1024 .f32) (dp : FVec Ideal S8192x5632 .bf16) (h : FVec Ideal S8192x1024 .f32)
  (g : FVec Ideal S1024 .f32) (w : FVec Ideal S4x1024x1408 .bf16)

/-- The gradient of the normed row: the projection's gradient brought back. -/
def grad (r : Fin 8192) (k : Fin 1024) : EReal :=
  ∑ l : Fin 5632, dp (ix2 r l) * w (ix3 (⟨l.val / 1408, by omega⟩ : Fin 4) k (⟨l.val % 1408, Nat.mod_lt _ (by decide)⟩ : Fin 1408))

/-- The array the kernel leaves first. -/
def DX : FVec Ideal S8192x1024 .f32 := fun i =>
  dxRow (fun j : Fin 1024 => h (ix2 (i 0) j)) (grad dp w (i 0)) (fun j => g (ix1 j)) (dres i) (i 1)

/-- The array the kernel leaves second: the gain's gradient in row 0, zeros below. -/
def DG : FVec Ideal S8x1024 .f32 := fun i =>
  if (i 0).val = 0 then
    ∑ r : Fin 8192, grad dp w r (i 1) * (h (ix2 r (i 1)) * Ideal.rsqrt (var fun j : Fin 1024 => h (ix2 r j)))
  else 0

/-- The reference's first result. -/
abbrev REF0 : FVec Ideal S8192x1024 .f32 :=
  addf (addf (addf dres (mulf (mulf (Host.dotGeneral dot_S8192x5632_S1024x5632_S8192x1024_1_1_0_0_n_n none (extf .f32 dp bitsLt_bf16_f32) (shapeCast _ (transpose S1024x4x1408 [1, 0, 2] (extf .f32 w bitsLt_bf16_f32) transposes_S4x1024x1408_S1024x4x1408_1_0_2) shapeCasts_S1024x4x1408_S1024x5632)) (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf h (broadcastInDim S8192x1024 ![0] bcast_S8192_S8192x1024_0 (Host.reduceAdd (Host.divf (mulf (shapeCast _ (Host.reduceAdd (mulf h (mulf (Host.dotGeneral dot_S8192x5632_S1024x5632_S8192x1024_1_1_0_0_n_n none (extf .f32 dp bitsLt_bf16_f32) (shapeCast _ (transpose S1024x4x1408 [1, 0, 2] (extf .f32 w bitsLt_bf16_f32) transposes_S4x1024x1408_S1024x4x1408_1_0_2) shapeCasts_S1024x4x1408_S1024x5632)) (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf h (mulf (Host.dotGeneral dot_S8192x5632_S1024x5632_S8192x1024_1_1_0_0_n_n none (extf .f32 dp bitsLt_bf16_f32) (shapeCast _ (transpose S1024x4x1408 [1, 0, 2] (extf .f32 w bitsLt_bf16_f32) transposes_S4x1024x1408_S1024x4x1408_1_0_2) shapeCasts_S1024x4x1408_S1024x5632)) (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) h)

/-- The reference's second result. -/
abbrev REF1 : FVec Ideal S8x1024 .f32 :=
  concatenate S8x1024 0 [⟨S1x1024, (shapeCast _ (Host.reduceAdd (shapeCast _ (Host.reduceAdd (mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x5632_S1024x5632_S8192x1024_1_1_0_0_n_n none (extf .f32 dp bitsLt_bf16_f32) (shapeCast _ (transpose S1024x4x1408 [1, 0, 2] (extf .f32 w bitsLt_bf16_f32) transposes_S4x1024x1408_S1024x4x1408_1_0_2) shapeCasts_S1024x4x1408_S1024x5632))) (constant S_ .f32 0x00000000#32) reducesTo_S8192x1024_S1024_d0 h_S_) shapeCasts_S1024_S1x1024) (constant S_ .f32 0x00000000#32) reducesTo_S1x1024_S1024_d0 h_S_) shapeCasts_S1024_S1x1024)⟩, ⟨S7x1024, (broadcastInDim S7x1024 ![] bcast_S_S7x1024 (constant S_ .f32 0x00000000#32))⟩] concatenates_S1x1024_S7x1024_S8x1024_d0

/-- The reference's first result is the array `DX`, on arrays of real numbers. -/
theorem ref_dx (h0 : Fins dres) (h1 : Fins dp) (h3 : Fins h) (h4 : Fins g) (h5 : Fins w) :
    REF0 dres dp h g w = DX dres dp h g w := by
  funext i
  obtain ⟨r, k, rfl⟩ : ∃ (r : Fin 8192) (k : Fin 1024), i = ix2 r k := ⟨i 0, i 1, eq_ix2 i⟩
  have e2 := rms_row (fun j : Fin 1024 => h (ix2 r j)) (grad dp w r) (fun j => g (ix1 j)) (dres (ix2 r k)) (fun j => h3 _)
    (fun j => real_sum _ _ _ (fun _ => h1 _) (fun _ => h5 _))
    (fun j => h4 _) (h0 _) k _ rfl
  refine Eq.trans ?_ e2.symm
  unfold grad
  pointwise []
  simp only [Fin.sum_univ_one]

/-- The reference's second result is the array `DG`. -/
theorem ref_dg : REF1 dp h w = DG dp h w := by
  funext i
  obtain ⟨r, k, rfl⟩ : ∃ (r : Fin 8) (k : Fin 1024), i = ix2 r k := ⟨i 0, i 1, eq_ix2 i⟩
  by_cases hr : r.val = 0
  · obtain rfl : r = 0 := Fin.ext hr
    pointwise []
    rw [show DG dp h w (ix2 0 k) = _ from if_pos rfl, Fin.sum_univ_one]
    refine Finset.sum_congr rfl fun x _ => ?_
    rw [mul_comm]
    rfl
  · pointwise []
    rw [dif_neg (by omega)]
    exact (if_neg hr).symm

end Cert.Reference4Ideal.Value

namespace Cert.Kernel4Ideal.Value

open Cert.Kernel4Ideal Cert.Kernel4Ideal.Gen Cert.Scalars

variable (m : (ℓ : Loc nD τ sig) → Buf (Elt Ideal) ℓ)

/-- The zero fill of the accumulator. -/
theorem zero_acc (j : S1024x1024.Idx) : k0_pay1 (F := Ideal) j = 0 := by pointwise [k0_pay1]

/-- The zero fill of the gamma gradient. -/
theorem zero_dg (j : S8x1024.Idx) : k0_pay2 (F := Ideal) j = 0 := by pointwise [k0_pay2]

/-- One step of the accumulation. -/
theorem pay_acc (a : FVec Ideal S1024x1024 .f32) (x : FVec Ideal S1024x1408 .bf16) (w : FVec Ideal S1x1024x1408 .bf16) (r k : Fin 1024) :
    k0_pay3 (F := Ideal) a x w (ix2 r k) = a (ix2 r k) + ∑ l : Fin 1408, x (ix2 r l) * w (ix3 0 k l) := by
  pointwise [k0_pay3]

/-- The block indices of the seven windows at every grid point. -/
theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The accumulator at the last point of a run is the gradient of the normed row. -/
theorem acc_grad (c : Dev nD) (t : Fin cfg0.N) (h : t.val % 4 = 3) (r k : Fin 1024) (R : Fin 8192) (hR : R.val = 1024 * (t.val / 4) + r) :
    (outsAt0 m c t.val t.isLt).2.2 (ix2 r k) = Cert.Reference4Ideal.Value.grad (m ((c : Thread nD τ).loc main_arg1)) (m ((c : Thread nD τ).loc main_arg4)) R k := by
  have ht : t.val < 32 := t.isLt
  have hb : 1024 * (t.val / 4) + r.val < 8192 := by have := r.isLt; clear hR; omega
  obtain rfl : R = ⟨1024 * (t.val / 4) + r, hb⟩ := Fin.ext hR
  rw [Pipeline.eq_sum_fin_of_reset_step_apply_of_flush (fun n h => (outsAt0 m c n h).2.2) 4 (fun _ => 0)
    (fun p j => ∑ l : Fin 1408, (show FVec Ideal S1024x1408 .bf16 from iblk m c 0 p) (ix2 (j 0) l) * (show FVec Ideal S1x1024x1408 .bf16 from iblk m c 1 p) (ix3 0 (j 1) l))
    (fun p h0 j => by
      obtain ⟨r, k, rfl⟩ : ∃ (r k : Fin 1024), j = ix2 r k := ⟨j 0, j 1, eq_ix2 j⟩
      by_cases h1 : p.val % 32 = 0
      · rw [outsAt0_A m c p h0 h1 (by omega)]; frame_out; rw [pay_acc, zero_acc]; rfl
      · rw [outsAt0_D m c p h0 h1 (by omega)]; frame_out; rw [pay_acc, zero_acc]; rfl)
    (fun p h0 j => by
      obtain ⟨r, k, rfl⟩ : ∃ (r k : Fin 1024), j = ix2 r k := ⟨j 0, j 1, eq_ix2 j⟩
      by_cases h2 : p.val % 4 = 3
      · rw [outsAt0_C m c p h0 (by omega) h2]; frame_out; rw [pay_acc, read_unread_whole]; rfl
      · rw [outsAt0_B m c p h0 (by omega) h2]; frame_out; rw [pay_acc, read_unread_whole]; rfl)
    t h _, zero_add]
  refine Fin.sum_mul_add_congr fun s l hl => ?_
  have e1 : (⟨(s.val * 1408 + l.val) / 1408, by omega⟩ : Fin 4) = s := Fin.ext (by dsimp only; omega)
  have e2 : (⟨(s.val * 1408 + l.val) % 1408, by omega⟩ : Fin 1408) = l := Fin.ext (by dsimp only; omega)
  dsimp only
  rw [e1, e2]
  blk_point [iblk, V, idx t, idx ⟨_, Pipeline.run_point_lt_of_flush t h s⟩]

/-- The first output's payload at an index. -/
theorem pay_dx (a x d : FVec Ideal S1024x1024 .f32) (g : FVec Ideal S1x1024 .f32)
    (r k : Fin 1024) : k0_pay7 (F := Ideal) a x g d (ix2 r k) =
      dxRow (fun j : Fin 1024 => x (ix2 r j)) (fun j => a (ix2 r j)) (fun j => g (ix2 0 j)) (d (ix2 r k)) k := by
  pointwise [k0_pay4, k0_pay5, k0_pay7]
  rfl

/-- The second output's payload at an index. -/
theorem pay_dg (a x : FVec Ideal S1024x1024 .f32) (g : FVec Ideal S1x1024 .f32)
    (k : Fin 1024) : k0_pay6 (F := Ideal) a x g (ix2 (0 : Fin 1) k) =
      g (ix2 0 k) + ∑ r : Fin 1024, a (ix2 r k) * (x (ix2 r k) * Ideal.rsqrt (var fun j : Fin 1024 => x (ix2 r j))) := by
  pointwise [k0_pay4, k0_pay5, k0_pay6]
  rfl

/-- The accumulator at the last point of a run, one step unfolded. -/
theorem acc_last (c : Dev nD) (t : Fin cfg0.N) (h : t.val % 4 = 3) :
    (outsAt0 m c t.val t.isLt).2.2 = k0_pay3 (F := Ideal) (outsAt0 m c (t.val - 1) (Nat.lt_of_le_of_lt (Nat.sub_le _ _) t.isLt)).2.2 (iblk m c 0 t) (iblk m c 1 t) := by
  funext j
  rw [outsAt0_C m c t (by omega) (by omega) h]; dsimp only; frame_out; rw [read_unread_whole]

/-- What the last point of a run leaves in the first output's block. -/
theorem out5 (c : Dev nD) (t : Fin cfg0.N) (h : t.val % 4 = 3) (j : S1024x1024.Idx) :
    (outsAt0 m c t.val t.isLt).1 j = k0_pay7 (F := Ideal) (outsAt0 m c t.val t.isLt).2.2 (iblk m c 2 t) (iblk m c 3 t) (iblk m c 4 t) j := by
  rw [acc_last m c t h, outsAt0_C m c t (by omega) (by omega) h]; dsimp only; frame_out; rw [read_unread_whole]

/-- What a run adds to the second output: one row. -/
def inc (c : Dev nD) (t : Fin cfg0.N) (j : S8x1024.Idx) : EReal :=
  if t.val % 4 = 3 then
    if (j 0).val = 0 then
      ∑ r : Fin 1024, (outsAt0 m c t.val t.isLt).2.2 (ix2 r (j 1)) *
        ((show FVec Ideal S1024x1024 .f32 from iblk m c 2 t) (ix2 r (j 1)) * Ideal.rsqrt (var fun l : Fin 1024 => (show FVec Ideal S1024x1024 .f32 from iblk m c 2 t) (ix2 r l)))
    else 0
  else 0

/-- What a point other than the first does to the second output. -/
theorem out6 (c : Dev nD) (t : Fin cfg0.N) (h : ¬t.val % 32 = 0) (j : S8x1024.Idx) :
    (outsAt0 m c t.val t.isLt).2.1 j = (outsAt0 m c (t.val - 1) (Nat.lt_of_le_of_lt (Nat.sub_le _ _) t.isLt)).2.1 j + inc m c t j := by
  by_cases h2 : t.val % 4 = 3
  · obtain ⟨r, k, rfl⟩ : ∃ (r : Fin 8) (k : Fin 1024), j = ix2 r k := ⟨j 0, j 1, eq_ix2 j⟩
    rw [inc, if_pos h2, acc_last m c t h2, outsAt0_C m c t (by omega) h h2]; dsimp only; frame_out
    rw [read_unread_whole]
    by_cases hr : r.val = 0
    · obtain rfl : r = 0 := Fin.ext hr
      refine Eq.trans (View.read_writes_cons_rows_of_mem (o := 0) _ _ inb_S8x1024_S1x1024_0_0 _ [] (ix2 (0 : Fin 8) k)
        (ix2 (0 : Fin 1) k) rfl rfl rfl) ?_
      rw [pay_dg, View.ld_unit_apply_of _ _ _ _ _ (ix2 (0 : Fin 8) k) (Fin.forall_fin_two.mpr ⟨rfl, (Nat.zero_add _).symm⟩)]
      exact congrArg₂ (· + ·) rfl (if_pos rfl).symm
    · refine Eq.trans (View.read_writes_cons_rows_of_not_mem (o := 0) (W := 1) _ _ inb_S8x1024_S1x1024_0_0 _ [] (ix2 r k)
        rfl rfl (by right; show 0 + 1 ≤ r.val; omega)) ?_
      refine Eq.trans (congrFun (Memref.IsWhole.read_unread _ _) _) ?_
      exact (add_zero _).symm.trans (congrArg₂ (· + ·) rfl (if_neg hr).symm)
  · rw [inc, if_neg h2, add_zero]
    by_cases h0 : t.val % 4 = 0
    · rw [outsAt0_D m c t h0 h h2]; rfl
    · rw [outsAt0_B m c t h0 h h2]; rfl

/-- What a run adds to the second output, in the arguments. -/
theorem inc_eq (c : Dev nD) (t : Fin cfg0.N) (h : t.val % 4 = 3) (j : S8x1024.Idx) (hj : (j 0).val = 0) :
    inc m c t j = ∑ s : Fin 1024, (show EReal from
      Cert.Reference4Ideal.Value.grad (m ((c : Thread nD τ).loc main_arg1)) (m ((c : Thread nD τ).loc main_arg4)) (⟨1024 * (t.val / 4) + s, by have : t.val < 32 := t.isLt; omega⟩ : Fin 8192) (j 1)
        * ((show FVec Ideal S8192x1024 .f32 from m ((c : Thread nD τ).loc main_arg2)) (ix2 (⟨1024 * (t.val / 4) + s, by have : t.val < 32 := t.isLt; omega⟩ : Fin 8192) (j 1))
          * Ideal.rsqrt (var fun l : Fin 1024 => (show FVec Ideal S8192x1024 .f32 from m ((c : Thread nD τ).loc main_arg2)) (ix2 (⟨1024 * (t.val / 4) + s, by have : t.val < 32 := t.isLt; omega⟩ : Fin 8192) l)))) := by
  have ht : t.val < 32 := t.isLt
  have e : ∀ (s l : Fin 1024), (show FVec Ideal S1024x1024 .f32 from iblk m c 2 t) (ix2 s l)
      = (show FVec Ideal S8192x1024 .f32 from m ((c : Thread nD τ).loc main_arg2)) (ix2 (⟨1024 * (t.val / 4) + s, by omega⟩ : Fin 8192) l) := fun s l => by
    blk_point [iblk, V, idx t]
  rw [inc, if_pos h, if_pos hj]
  refine Finset.sum_congr rfl fun s _ => ?_
  rw [acc_grad m c t h s (j 1) ⟨1024 * (t.val / 4) + s, by omega⟩ rfl, e s (j 1)]
  refine congrArg₂ (· * ·) rfl (congrArg₂ (· * ·) rfl (congrArg Ideal.rsqrt (congrArg var (funext fun l => e s l))))

/-- The second output after the last point. -/
theorem out6_last (c : Dev nD) (t : Fin cfg0.N) (h : t.val + 1 = 32) (j : S8x1024.Idx) :
    (outsAt0 m c t.val t.isLt).2.1 j = Cert.Reference4Ideal.Value.DG (m ((c : Thread nD τ).loc main_arg1)) (m ((c : Thread nD τ).loc main_arg2)) (m ((c : Thread nD τ).loc main_arg4)) j := by
  rw [Pipeline.eq_sum_fin_of_reset_step_apply_last (fun n h => (outsAt0 m c n h).2.1) 32 (fun _ => 0) (fun p j => inc m c p j)
    (fun p h0 j => by
      have : p.val < 32 := p.isLt
      rw [outsAt0_A m c p (by omega) h0 (by omega), inc, if_neg (by omega)]; dsimp only; frame_out; rw [zero_dg, add_zero])
    (fun p h0 j => out6 m c p h0 j) (le_refl 32) t h j, zero_add]
  obtain ⟨r, k, rfl⟩ : ∃ (r : Fin 8) (k : Fin 1024), j = ix2 r k := ⟨j 0, j 1, eq_ix2 j⟩
  by_cases hr : r.val = 0
  · refine Eq.trans ?_ (if_pos hr).symm
    let G : Fin 8192 → EReal := fun R => Cert.Reference4Ideal.Value.grad (m ((c : Thread nD τ).loc main_arg1)) (m ((c : Thread nD τ).loc main_arg4)) R k
      * ((show FVec Ideal S8192x1024 .f32 from m ((c : Thread nD τ).loc main_arg2)) (ix2 R k)
        * Ideal.rsqrt (var fun l : Fin 1024 => (show FVec Ideal S8192x1024 .f32 from m ((c : Thread nD τ).loc main_arg2)) (ix2 R l)))
    refine (Fin.sum_divmod_congr (A := 8) (S := 4)
      (f := fun a s => if s.val = 3 then ∑ q : Fin 1024, G ⟨a.val * 1024 + q.val, by omega⟩ else 0) (fun p ha hs => ?_)).trans ?_
    · by_cases h3 : p.val % 4 = 3
      · rw [inc_eq m c p h3 _ hr]
        refine Eq.trans (Finset.sum_congr rfl fun q _ => ?_) (if_pos h3).symm
        exact congrArg G (Fin.ext (congrArg (· + q.val) (Nat.mul_comm _ _)))
      · rw [inc, if_neg h3]
        exact (if_neg h3).symm
    · refine (Finset.sum_congr rfl fun a _ => ?_).trans (Fin.sum_mul_add_congr (S := 8) (n := 1024) (f := G)
        (F := fun a q => G ⟨a.val * 1024 + q.val, by omega⟩) fun s q hl => rfl)
      rw [Fin.sum_univ_four]
      simp
  · refine Eq.trans (Finset.sum_eq_zero fun p _ => ?_) (if_neg hr).symm
    rw [inc]
    split_ifs <;> first | rfl | contradiction

/-- The first output at the last point of a run. -/
theorem point5 (c : Dev nD) (t : Fin cfg0.N) (h : t.val % 4 = 3) (j : S1024x1024.Idx) :
    (outsAt0 m c t.val t.isLt).1 j = Cert.Reference4Ideal.Value.DX (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j) := by
  have ht : t.val < 32 := t.isLt
  obtain ⟨r, k, rfl⟩ : ∃ (r k : Fin 1024), j = ix2 r k := ⟨j 0, j 1, eq_ix2 j⟩
  have e : ((cfg0.win 5).blk t).view.emb (ix2 r k) = ix2 (⟨1024 * (t.val / 4) + r, by omega⟩ : Fin 8192) (⟨k, by omega⟩ : Fin 1024) := by
    blk_ext [idx t] <;> omega
  rw [e, out5 m c t h, pay_dx]
  have e2 : ∀ l : Fin 1024, (show FVec Ideal S1024x1024 .f32 from iblk m c 2 t) (ix2 r l)
      = (show FVec Ideal S8192x1024 .f32 from m ((c : Thread nD τ).loc main_arg2)) (ix2 (⟨1024 * (t.val / 4) + r, by omega⟩ : Fin 8192) l) := fun l => by
    blk_point [iblk, V, idx t]
  have e3 : ∀ l : Fin 1024, (show FVec Ideal S1x1024 .f32 from iblk m c 3 t) (ix2 0 l)
      = (show FVec Ideal S1024 .f32 from m ((c : Thread nD τ).loc main_arg3)) (ix1 l) := fun l => by
    blk_point [iblk, V, idx t]
  have e4 : (show FVec Ideal S1024x1024 .f32 from iblk m c 4 t) (ix2 r k)
      = (show FVec Ideal S8192x1024 .f32 from m ((c : Thread nD τ).loc main_arg0)) (ix2 (⟨1024 * (t.val / 4) + r, by omega⟩ : Fin 8192) k) := by
    blk_point [iblk, V, idx t]
  have e1 : ∀ l : Fin 1024, _ = _ := fun l => acc_grad m c t h r l ⟨1024 * (t.val / 4) + r, by omega⟩ rfl
  exact dxRow_congr (funext e2) (funext e1) (funext e3) e4 k

/-- The first output array after the run. -/
theorem dx_final (c : Dev nD) : (dats m 0 c).arrAt 5 cfg0.N = Cert.Reference4Ideal.Value.DX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point5 m c t ((flush0_5 t).mp hf) y

/-- The second output array after the run. -/
theorem dg_final (c : Dev nD) : (dats m 0 c).arrAt 6 cfg0.N = Cert.Reference4Ideal.Value.DG (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  have e : ((cfg0.win 6).blk t).view.emb y = y := by
    blk_ext [idx t] <;> omega
  rw [e]
  have h8 := (flush0_6 t).mp hf
  have : t.val < 32 := t.isLt
  exact out6_last m c t (by omega) y

/-- The precondition says every argument is an array of real numbers. -/
theorem fins_of_pre (h : Cert.Pre_Kernel4Ideal_finite4 m) (c : Dev nD) :
    Fins (s := S8192x1024) (m ((c : Thread nD τ).loc main_arg0))
      ∧ Fins (s := S8192x5632) (m ((c : Thread nD τ).loc main_arg1))
      ∧ Fins (s := S8192x1024) (m ((c : Thread nD τ).loc main_arg2))
      ∧ Fins (s := S1024) (m ((c : Thread nD τ).loc main_arg3))
      ∧ Fins (s := S4x1024x1408) (m ((c : Thread nD τ).loc main_arg4)) := by
  obtain ⟨h0, h1, h2, h3, h4, h5, h6, h7, h8, h9⟩ := h c
  refine ⟨fun i => ?_, fun i => ?_, fun i => ?_, fun i => ?_, fun i => ?_⟩
  · exact real_of_cmp top_word bot_word (congrFun h0 i) (congrFun h1 i)
  · exact real_of_cmp top_word16 bot_word16 (congrFun h2 i) (congrFun h3 i)
  · exact real_of_cmp top_word bot_word (congrFun h4 i) (congrFun h5 i)
  · exact real_of_cmp top_word bot_word (congrFun h6 i) (congrFun h7 i)
  · exact real_of_cmp top_word16 bot_word16 (congrFun h8 i) (congrFun h9 i)

end Cert.Kernel4Ideal.Value

/-- The kernel and the reference leave the same two arrays. -/
theorem Cert.rms_ffn_algebraic : Cert.algebraic_Kernel4Ideal_Reference4Ideal_pre_finite4 := by
  intro m g m' g' hp hm
  refine ⟨fun c => Cert.Reference4Ideal.Value.DX
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)),
    fun c => Cert.Reference4Ideal.Value.DG
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg4)), ?_, ?_⟩
  · refine (θ_run _ _ _).mono (fun r h c => ?_) (Cert.Kernel4Ideal.Value.run_blocks m g)
    exact ⟨(h c).1.trans (Cert.Kernel4Ideal.Value.dx_final m c), (h c).2.1.trans (Cert.Kernel4Ideal.Value.dg_final m c), (h c).2.2⟩
  · refine (θ_run _ _ _).mono (fun r h c => ?_) (Cert.Reference4Ideal.Value.run m' g')
    obtain ⟨h0, h1, h2, h3, h4⟩ := Cert.Kernel4Ideal.Value.fins_of_pre m hp c
    obtain ⟨e0, e1, e2, e3, e4⟩ := hm c
    refine ⟨(h c).1.trans ?_, (h c).2.1.trans ?_, (h c).2.2⟩
    · rw [Cert.Reference4Ideal.Value.res_main_v42, e0, e1, e2, e3, e4]
      exact Cert.Reference4Ideal.Value.ref_dx _ _ _ _ _ h0 h1 h2 h3 h4
    · rw [e1, e2, e4]
      exact Cert.Reference4Ideal.Value.ref_dg _ _ _
-- ==== Proof.Logistic.lean ====
/- The logistic function on every extended real: written with the hyperbolic tangent, and written with the exponential. -/
module

public import proofs.«01_k».proof.Proof.Scalars

@[expose] public section

set_option maxRecDepth 16384

noncomputable section

namespace Cert.Scalars

open Idealize.ShloMosaic

/-- Both spellings of the logistic function agree on every extended real, the infinities included. -/
theorem logistic_all (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_word]
  induction x using EReal.rec with
  | bot =>
    have e : Ideal.div 1 (1 + Ideal.exp (-⊥)) = 0 := Ideal.logistic_bot
    rw [e, EReal.coe_mul_bot_of_pos (by norm_num), Ideal.tanh_bot, ← EReal.coe_one, ← EReal.coe_neg, ← EReal.coe_mul, ← EReal.coe_add, ← EReal.coe_zero]
    norm_num
  | coe r => rw [tanh_sig, ← EReal.coe_one, div_sig]
  | top =>
    have e : Ideal.div 1 (1 + Ideal.exp (-⊤)) = 1 := Ideal.logistic_top
    rw [e, EReal.coe_mul_top_of_pos (by norm_num), Ideal.tanh_top, ← EReal.coe_one, ← EReal.coe_mul, ← EReal.coe_add]
    norm_num

end Cert.Scalars
-- ==== Proof.BranchBValue.lean ====
/- The gradient brought back through the second branch's projection: what the kernel leaves is the reference's term. -/
module

public import proofs.«01_k».proof.Defs
public import proofs.«01_k».proof.Proof.Gen.Kernel5Ideal.Value
public import proofs.«01_k».proof.Proof.Gen.Reference5Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference5Ideal.Value

open Cert.Reference5Ideal Cert.Reference5Ideal.Gen

variable (d : FVec Ideal S8192x1024 .bf16) (w : FVec Ideal S2048x1024 .bf16)

/-- The reference's result 0. -/
abbrev REF0 : FVec Ideal S8192x2048 .f32 :=
  Host.dotGeneral dot_S8192x1024_S2048x1024_S8192x2048_1_1_0_0_n_n none (extf .f32 d bitsLt_bf16_f32) (extf .f32 w bitsLt_bf16_f32)

end Cert.Reference5Ideal.Value

namespace Cert.Kernel5Ideal.Value

open Cert.Kernel5Ideal Cert.Kernel5Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The payload at an index. -/
theorem pay (x : FVec Ideal S512x1024 .bf16) (w : FVec Ideal S2048x1024 .bf16) (r : Fin 512) (k : Fin 2048) :
    k0_pay1 (F := Ideal) x w (ix2 r k) = ∑ l : Fin 1024, x (ix2 r l) * w (ix2 k l) := by
  pointwise [k0_pay1]

/-- The reference's term at an index. -/
theorem ref_at (d : FVec Ideal S8192x1024 .bf16) (w : FVec Ideal S2048x1024 .bf16) (r : Fin 8192) (k : Fin 2048) :
    Cert.Reference5Ideal.Value.REF0 d w (ix2 r k) = ∑ l : Fin 1024, d (ix2 r l) * w (ix2 k l) := by
  pointwise [Cert.Reference5Ideal.Value.REF0]

/-- What a grid point writes back of result 0 is the reference's term at the place of the array the window puts it. -/
theorem point0 (c : Dev nD) (t : Fin cfg0.N) (y : S512x2048.Idx) :
    out0_2 (iblk m c 0 t) (iblk m c 1 t) y = Cert.Reference5Ideal.Value.REF0 (m ((c : Thread nD τ).loc main_arg0)) (m ((c : Thread nD τ).loc main_arg1)) (((cfg0.win 2).blk t).view.emb y) := by
  have ht : t.val < 16 := t.isLt
  canon_tiles x h
  obtain ⟨r, k, rfl⟩ : ∃ (r : Fin 512) (k : Fin 2048), x = ix2 r k := ⟨x 0, x 1, eq_ix2 x⟩
  have e : ((cfg0.win 2).blk t).view.emb y = ix2 (⟨512 * t.val + r, by omega⟩ : Fin 8192) k := by
    replace h0 : (y 0 : ℕ) = r := h0
    replace h1 : (y 1 : ℕ) = k := h1
    blk_ext [idx t] <;> omega
  rw [e]
  rw [pay, ref_at]
  blk_point [iblk, V, idx t]

/-- The output array 0 after the run. -/
theorem final0 (c : Dev nD) : (dats m 0 c).arrAt 2 cfg0.N = Cert.Reference5Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t y

end Cert.Kernel5Ideal.Value

/-- The kernel and the reference leave the same arrays. -/
theorem Cert.branch_b_algebraic : Cert.algebraic_Kernel5Ideal_Reference5Ideal := by
  intro m g m' g' hp hm
  refine ⟨fun c => Cert.Reference5Ideal.Value.REF0 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r h c => ?_) (Cert.Kernel5Ideal.Value.run_blocks m g)
    exact ⟨(h c).1.trans (Cert.Kernel5Ideal.Value.final0 m c), (h c).2⟩
  · refine (θ_run _ _ _).mono (fun r h c => ?_) (Cert.Reference5Ideal.Value.run m' g')
    obtain ⟨e0, e1⟩ := hm c
    refine ⟨(h c).1.trans ?_, (h c).2⟩
    · rw [e0, e1]
-- ==== Proof.BranchAValue.lean ====
/- The gradient brought back through the first branch's projection: what the kernel leaves is the reference's term. -/
module

public import proofs.«01_k».proof.Defs
public import proofs.«01_k».proof.Proof.Gen.Kernel6Ideal.Value
public import proofs.«01_k».proof.Proof.Gen.Reference6Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference6Ideal.Value

open Cert.Reference6Ideal Cert.Reference6Ideal.Gen

variable (d : FVec Ideal S8192x1024 .bf16) (w : FVec Ideal S1024x1024 .bf16)

/-- The reference's result 0. -/
abbrev REF0 : FVec Ideal S8192x1024 .f32 :=
  Host.dotGeneral dot_S8192x1024_S1024x1024_S8192x1024_1_1_0_0_n_n none (extf .f32 d bitsLt_bf16_f32) (extf .f32 w bitsLt_bf16_f32)

end Cert.Reference6Ideal.Value

namespace Cert.Kernel6Ideal.Value

open Cert.Kernel6Ideal Cert.Kernel6Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The payload at an index. -/
theorem pay (x : FVec Ideal S512x1024 .bf16) (w : FVec Ideal S1024x1024 .bf16) (r : Fin 512) (k : Fin 1024) :
    k0_pay1 (F := Ideal) x w (ix2 r k) = ∑ l : Fin 1024, x (ix2 r l) * w (ix2 k l) := by
  pointwise [k0_pay1]

/-- The reference's term at an index. -/
theorem ref_at (d : FVec Ideal S8192x1024 .bf16) (w : FVec Ideal S1024x1024 .bf16) (r : Fin 8192) (k : Fin 1024) :
    Cert.Reference6Ideal.Value.REF0 d w (ix2 r k) = ∑ l : Fin 1024, d (ix2 r l) * w (ix2 k l) := by
  pointwise [Cert.Reference6Ideal.Value.REF0]

/-- What a grid point writes back of result 0 is the reference's term at the place of the array the window puts it. -/
theorem point0 (c : Dev nD) (t : Fin cfg0.N) (y : S512x1024.Idx) :
    out0_2 (iblk m c 0 t) (iblk m c 1 t) y = Cert.Reference6Ideal.Value.REF0 (m ((c : Thread nD τ).loc main_arg0)) (m ((c : Thread nD τ).loc main_arg1)) (((cfg0.win 2).blk t).view.emb y) := by
  have ht : t.val < 16 := t.isLt
  canon_tiles x h
  obtain ⟨r, k, rfl⟩ : ∃ (r : Fin 512) (k : Fin 1024), x = ix2 r k := ⟨x 0, x 1, eq_ix2 x⟩
  have e : ((cfg0.win 2).blk t).view.emb y = ix2 (⟨512 * t.val + r, by omega⟩ : Fin 8192) k := by
    replace h0 : (y 0 : ℕ) = r := h0
    replace h1 : (y 1 : ℕ) = k := h1
    blk_ext [idx t] <;> omega
  rw [e]
  rw [pay, ref_at]
  blk_point [iblk, V, idx t]

/-- The output array 0 after the run. -/
theorem final0 (c : Dev nD) : (dats m 0 c).arrAt 2 cfg0.N = Cert.Reference6Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t y

end Cert.Kernel6Ideal.Value

/-- The kernel and the reference leave the same arrays. -/
theorem Cert.branch_a_algebraic : Cert.algebraic_Kernel6Ideal_Reference6Ideal := by
  intro m g m' g' hp hm
  refine ⟨fun c => Cert.Reference6Ideal.Value.REF0 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run _ _ _).mono (fun r h c => ?_) (Cert.Kernel6Ideal.Value.run_blocks m g)
    exact ⟨(h c).1.trans (Cert.Kernel6Ideal.Value.final0 m c), (h c).2⟩
  · refine (θ_run _ _ _).mono (fun r h c => ?_) (Cert.Reference6Ideal.Value.run m' g')
    obtain ⟨e0, e1⟩ := hm c
    refine ⟨(h c).1.trans ?_, (h c).2⟩
    · rw [e0, e1]
-- ==== Proof.GateValue.lean ====
/- The gradient of the output projection and of the gated sum before it: what the kernel leaves is the reference's terms. -/
module

public import proofs.«01_k».proof.Defs
public import proofs.«01_k».proof.Proof.Gen.Kernel7Ideal.Value
public import proofs.«01_k».proof.Proof.Gen.Reference7Ideal.Run
public import proofs.«01_k».proof.Proof.Logistic
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Reference7Ideal.Value

open Cert.Reference7Ideal Cert.Reference7Ideal.Gen

variable (dh : FVec Ideal S8192x1024 .f32) (w : FVec Ideal S1024x1024 .bf16) (ta : FVec Ideal S8192x1024 .bf16) (tb : FVec Ideal S8192x1024 .bf16) (proj : FVec Ideal S8192x9216 .f32) (bg : FVec Ideal S2048 .f32)

/-- The reference's result 0. -/
abbrev REF0 : FVec Ideal S8192x1024 .bf16 :=
  truncf .bf16 (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg))))))) slices_S8192x2048_S8192x1024_0_0) (Host.dotGeneral dot_S8192x1024_S1024x1024_S8192x1024_1_1_0_0_n_n none dh (extf .f32 w bitsLt_bf16_f32))) bitsLt_bf16_f32

/-- The reference's result 1. -/
abbrev REF1 : FVec Ideal S8192x1024 .bf16 :=
  truncf .bf16 (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg))))))) slices_S8192x2048_S8192x1024_0_1024) (Host.dotGeneral dot_S8192x1024_S1024x1024_S8192x1024_1_1_0_0_n_n none dh (extf .f32 w bitsLt_bf16_f32))) bitsLt_bf16_f32

/-- The reference's result 2. -/
abbrev REF2 : FVec Ideal S8x2048 .f32 :=
  concatenate S8x2048 0 [⟨S1x2048, (shapeCast _ (Host.reduceAdd (shapeCast _ (Host.reduceAdd (mulf (concatenate S8192x2048 1 [⟨S8192x1024, (mulf (Host.dotGeneral dot_S8192x1024_S1024x1024_S8192x1024_1_1_0_0_n_n none dh (extf .f32 w bitsLt_bf16_f32)) (extf .f32 ta bitsLt_bf16_f32))⟩, ⟨S8192x1024, (mulf (Host.dotGeneral dot_S8192x1024_S1024x1024_S8192x1024_1_1_0_0_n_n none dh (extf .f32 w bitsLt_bf16_f32)) (extf .f32 tb bitsLt_bf16_f32))⟩] concatenates_S8192x1024_S8192x1024_S8192x2048_d1) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg))))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg)))))))))) (constant S_ .f32 0x00000000#32) reducesTo_S8192x2048_S2048_d0 h_S_) shapeCasts_S2048_S1x2048) (constant S_ .f32 0x00000000#32) reducesTo_S1x2048_S2048_d0 h_S_) shapeCasts_S2048_S1x2048)⟩, ⟨S7x2048, (broadcastInDim S7x2048 ![] bcast_S_S7x2048 (constant S_ .f32 0x00000000#32))⟩] concatenates_S1x2048_S7x2048_S8x2048_d0

/-- The gate at a row and column. -/
def gate (r : Fin 8192) (k : Fin 2048) : EReal :=
  Ideal.div 1 (1 + Ideal.exp (-(proj (ix2 r ⟨6144 + k, by omega⟩) + bg (ix1 k))))

/-- The gradient of the gated sum at a row and column. -/
def dm (r : Fin 8192) (k : Fin 1024) : EReal := ∑ l : Fin 1024, dh (ix2 r l) * w (ix2 k l)

/-- What a row adds to the first half of the bias's gradient. -/
def incA (r : Fin 8192) (k : Fin 1024) : EReal :=
  dm dh w r k * ta (ix2 r k) * gate proj bg r ⟨k, by omega⟩ * (1 - gate proj bg r ⟨k, by omega⟩)

/-- What a row adds to the second half of the bias's gradient. -/
def incB (r : Fin 8192) (k : Fin 1024) : EReal :=
  dm dh w r k * tb (ix2 r k) * gate proj bg r ⟨1024 + k, by omega⟩ * (1 - gate proj bg r ⟨1024 + k, by omega⟩)

/-- The reference's first term at an index. -/
theorem ref_a (r : Fin 8192) (k : Fin 1024) : REF0 dh w proj bg (ix2 r k) = dm dh w r k * gate proj bg r ⟨k, by omega⟩ := by
  rw [mul_comm]; unfold gate dm
  pointwise [REF0]

/-- The reference's second term at an index. -/
theorem ref_b (r : Fin 8192) (k : Fin 1024) : REF1 dh w proj bg (ix2 r k) = dm dh w r k * gate proj bg r ⟨1024 + k, by omega⟩ := by
  rw [mul_comm]; unfold gate dm
  pointwise [REF1]

/-- The reference's third term in the first half of its first row. -/
theorem ref_da (k : Fin 1024) : REF2 dh w ta tb proj bg (ix2 0 ⟨k, by omega⟩) = ∑ r : Fin 8192, incA dh w ta proj bg r k := by
  unfold incA gate dm
  simp only [mul_assoc]
  pointwise [REF2]
  simp only [Fin.sum_univ_one, mul_assoc]

/-- The reference's third term in the second half of its first row. -/
theorem ref_db (k : Fin 1024) : REF2 dh w ta tb proj bg (ix2 0 ⟨1024 + k, by omega⟩) = ∑ r : Fin 8192, incB dh w tb proj bg r k := by
  unfold incB gate dm
  simp only [mul_assoc]
  pointwise [REF2]
  simp only [Fin.sum_univ_one, mul_assoc]

/-- The reference's third term below its first row. -/
theorem ref_dz (r : Fin 8) (hr : ¬r.val = 0) (k : Fin 2048) : REF2 dh w ta tb proj bg (ix2 r k) = 0 := by
  pointwise [REF2]
  rw [dif_neg (by omega)]

end Cert.Reference7Ideal.Value

namespace Cert.Kernel7Ideal.Value

open Cert.Kernel7Ideal Cert.Kernel7Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 3]
    ∧ win0_5.index t = ![0, 0]
    ∧ win0_6.index t = ![t.val, 0]
    ∧ win0_7.index t = ![t.val, 0]
    ∧ win0_9.index t = ![0, 0] :=
  (by decide +kernel : ∀ t : Fin grid0.N, _)

/-- The gate of a block at a row and column. -/
theorem pay_ga (p : FVec Ideal S512x1024 .f32) (b : FVec Ideal S1x1024 .f32) (r : Fin 512) (k : Fin 1024) :
    k0_pay3 (F := Ideal) p b (ix2 r k) = Ideal.div 1 (1 + Ideal.exp (-(p (ix2 r k) + b (ix2 0 k)))) := by
  rw [← logistic_all]
  pointwise [k0_pay3]

/-- The second gate of a block at a row and column. -/
theorem pay_gb (p : FVec Ideal S512x1024 .f32) (b : FVec Ideal S1x1024 .f32) (r : Fin 512) (k : Fin 1024) :
    k0_pay4 (F := Ideal) p b (ix2 r k) = Ideal.div 1 (1 + Ideal.exp (-(p (ix2 r k) + b (ix2 0 k)))) := by
  rw [← logistic_all]
  pointwise [k0_pay4]

/-- The gradient of the gated sum of a block at a row and column. -/
theorem pay_dm (x : FVec Ideal S512x1024 .f32) (w : FVec Ideal S1024x1024 .bf16) (r : Fin 512) (k : Fin 1024) :
    k0_pay2 (F := Ideal) x w (ix2 r k) = ∑ l : Fin 1024, x (ix2 r l) * w (ix2 k l) := by
  pointwise [k0_pay2]

/-- The first payload at an index. -/
theorem pay_a (x : FVec Ideal S512x1024 .f32) (w : FVec Ideal S1024x1024 .bf16) (p : FVec Ideal S512x1024 .f32) (b : FVec Ideal S1x1024 .f32)
    (r : Fin 512) (k : Fin 1024) : k0_pay5 (F := Ideal) x w p b (ix2 r k) =
      (∑ l : Fin 1024, x (ix2 r l) * w (ix2 k l)) * Ideal.div 1 (1 + Ideal.exp (-(p (ix2 r k) + b (ix2 0 k)))) := by
  rw [← pay_dm, ← pay_ga]
  pointwise [k0_pay5]

/-- The second payload at an index. -/
theorem pay_b (x g : FVec Ideal S512x1024 .f32)
    (r : Fin 512) (k : Fin 1024) : k0_pay6 (F := Ideal) x g (ix2 r k) = x (ix2 r k) * g (ix2 r k) := by
  pointwise [k0_pay6]

/-- One step of the first half of the bias's gradient. -/
theorem pay_da (x g : FVec Ideal S512x1024 .f32) (a : FVec Ideal S512x1024 .bf16) (z : FVec Ideal S1x1024 .f32) (k : Fin 1024) :
    k0_pay11 (F := Ideal) x g a z (ix2 (0 : Fin 1) k) = z (ix2 0 k) + ∑ r : Fin 512, x (ix2 r k) * a (ix2 r k) * g (ix2 r k) * (1 - g (ix2 r k)) := by
  pointwise [k0_pay11, k0_pay7]

/-- One step of the second half of the bias's gradient. -/
theorem pay_db (x g : FVec Ideal S512x1024 .f32) (a : FVec Ideal S512x1024 .bf16) (z : FVec Ideal S1x1024 .f32) (k : Fin 1024) :
    k0_pay12 (F := Ideal) x g a z (ix2 (0 : Fin 1) k) = z (ix2 0 k) + ∑ r : Fin 512, x (ix2 r k) * a (ix2 r k) * g (ix2 r k) * (1 - g (ix2 r k)) := by
  pointwise [k0_pay12, k0_pay8]

/-- The zero fill. -/
theorem zero_db (j : S8x2048.Idx) : k0_pay1 (F := Ideal) j = 0 := by pointwise [k0_pay1]

/-- The block of the gate columns at an index. -/
theorem proj_blk (c : Dev nD) (t : Fin cfg0.N) (r : Fin 512) (k : Fin 2048) (R : Fin 8192) (hR : R.val = 512 * t.val + r) :
    (show FVec Ideal S512x2048 .f32 from X0_4 m c t) (ix2 r k) = (show FVec Ideal S8192x9216 .f32 from (m ((c : Thread nD τ).loc main_arg4))) (ix2 R ⟨6144 + k, by omega⟩) := by
  have ht : t.val < 16 := t.isLt
  show X0_4 m c t (ix2 r k) = _
  unfold X0_4 Pipeline.Window.fill
  rw [dif_pos (moved0_4 t _)]
  have hb : 512 * t.val + r.val < 8192 := by have := r.isLt; clear hR; omega
  obtain rfl : R = ⟨512 * t.val + r, hb⟩ := Fin.ext hR
  blk_point [iblk, V, idx t]

/-- The left half of the gate columns, read by the body. -/
theorem ld_a (c : Dev nD) (t : Fin cfg0.N) (r : Fin 512) (k : Fin 1024) (R : Fin 8192) (hR : R.val = 512 * t.val + r) :
    (show FVec Ideal S512x1024 .f32 from View.ld (X0_4 m c t) (Rect.unit ![0, 0] ![512, 1024] inb_S512x2048_S512x1024_0_0)) (ix2 r k)
      = (show FVec Ideal S8192x9216 .f32 from (m ((c : Thread nD τ).loc main_arg4))) (ix2 R ⟨6144 + k, by omega⟩) := by
  show View.ld (X0_4 m c t) (Rect.unit ![0, 0] ![512, 1024] inb_S512x2048_S512x1024_0_0) (ix2 r k) = _
  rw [View.ld_unit_apply_of _ _ _ _ _ (ix2 r (⟨k, by omega⟩ : Fin 2048)) (Fin.forall_fin_two.mpr ⟨(Nat.zero_add _).symm, (Nat.zero_add _).symm⟩)]
  exact proj_blk m c t r ⟨k, by omega⟩ R hR

/-- The right half of the gate columns, read by the body. -/
theorem ld_b (c : Dev nD) (t : Fin cfg0.N) (r : Fin 512) (k : Fin 1024) (R : Fin 8192) (hR : R.val = 512 * t.val + r) :
    (show FVec Ideal S512x1024 .f32 from View.ld (X0_4 m c t) (Rect.unit ![0, 1024] ![512, 1024] inb_S512x2048_S512x1024_0_1024)) (ix2 r k)
      = (show FVec Ideal S8192x9216 .f32 from (m ((c : Thread nD τ).loc main_arg4))) (ix2 R ⟨6144 + (1024 + k), by omega⟩) := by
  show View.ld (X0_4 m c t) (Rect.unit ![0, 1024] ![512, 1024] inb_S512x2048_S512x1024_0_1024) (ix2 r k) = _
  rw [View.ld_unit_apply_of _ _ _ _ _ (ix2 r (⟨1024 + k, by omega⟩ : Fin 2048)) (Fin.forall_fin_two.mpr ⟨(Nat.zero_add _).symm, rfl⟩)]
  exact proj_blk m c t r ⟨1024 + k, by omega⟩ R hR

/-- The left half of the bias, read by the body. -/
theorem bias_a (c : Dev nD) (t : Fin cfg0.N) (k : Fin 1024) :
    (show FVec Ideal S1x1024 .f32 from View.ld (iblk m c 5 t) (Rect.unit ![0, 0] ![1, 1024] inb_S1x2048_S1x1024_0_0)) (ix2 0 k)
      = (show FVec Ideal S2048 .f32 from (m ((c : Thread nD τ).loc main_arg5))) (ix1 ⟨k, by omega⟩) := by
  show View.ld (iblk m c 5 t) (Rect.unit ![0, 0] ![1, 1024] inb_S1x2048_S1x1024_0_0) (ix2 0 k) = _
  rw [View.ld_unit_apply_of _ _ _ _ _ (ix2 (0 : Fin 1) (⟨k, by omega⟩ : Fin 2048)) (Fin.forall_fin_two.mpr ⟨rfl, (Nat.zero_add _).symm⟩)]
  blk_point [iblk, V, idx t]

/-- The right half of the bias, read by the body. -/
theorem bias_b (c : Dev nD) (t : Fin cfg0.N) (k : Fin 1024) :
    (show FVec Ideal S1x1024 .f32 from View.ld (iblk m c 5 t) (Rect.unit ![0, 1024] ![1, 1024] inb_S1x2048_S1x1024_0_1024)) (ix2 0 k)
      = (show FVec Ideal S2048 .f32 from (m ((c : Thread nD τ).loc main_arg5))) (ix1 ⟨1024 + k, by omega⟩) := by
  show View.ld (iblk m c 5 t) (Rect.unit ![0, 1024] ![1, 1024] inb_S1x2048_S1x1024_0_1024) (ix2 0 k) = _
  rw [View.ld_unit_apply_of _ _ _ _ _ (ix2 (0 : Fin 1) (⟨1024 + k, by omega⟩ : Fin 2048)) (Fin.forall_fin_two.mpr ⟨rfl, rfl⟩)]
  blk_point [iblk, V, idx t]

/-- The first gate of a block. -/
theorem gate_a (c : Dev nD) (t : Fin cfg0.N) (r : Fin 512) (k : Fin 1024) (R : Fin 8192) (hR : R.val = 512 * t.val + r) :
    k0_pay3 (F := Ideal) (View.ld (X0_4 m c t) (Rect.unit ![0, 0] ![512, 1024] inb_S512x2048_S512x1024_0_0))
      (View.ld (iblk m c 5 t) (Rect.unit ![0, 0] ![1, 1024] inb_S1x2048_S1x1024_0_0)) (ix2 r k) = Cert.Reference7Ideal.Value.gate (m ((c : Thread nD τ).loc main_arg4)) (m ((c : Thread nD τ).loc main_arg5)) R ⟨k, by omega⟩ := by
  refine (pay_ga _ _ r k).trans ?_
  refine congrArg (fun z => Ideal.div 1 (1 + Ideal.exp (-z))) (congrArg₂ (· + ·) (ld_a m c t r k R hR) (bias_a m c t k))

/-- The second gate of a block. -/
theorem gate_b (c : Dev nD) (t : Fin cfg0.N) (r : Fin 512) (k : Fin 1024) (R : Fin 8192) (hR : R.val = 512 * t.val + r) :
    k0_pay4 (F := Ideal) (View.ld (X0_4 m c t) (Rect.unit ![0, 1024] ![512, 1024] inb_S512x2048_S512x1024_0_1024))
      (View.ld (iblk m c 5 t) (Rect.unit ![0, 1024] ![1, 1024] inb_S1x2048_S1x1024_0_1024)) (ix2 r k) = Cert.Reference7Ideal.Value.gate (m ((c : Thread nD τ).loc main_arg4)) (m ((c : Thread nD τ).loc main_arg5)) R ⟨1024 + k, by omega⟩ := by
  refine (pay_gb _ _ r k).trans ?_
  refine congrArg (fun z => Ideal.div 1 (1 + Ideal.exp (-z))) (congrArg₂ (· + ·) (ld_b m c t r k R hR) (bias_b m c t k))

/-- The gradient of the gated sum of a block. -/
theorem dm_blk (c : Dev nD) (t : Fin cfg0.N) (r : Fin 512) (k : Fin 1024) (R : Fin 8192) (hR : R.val = 512 * t.val + r) :
    k0_pay2 (F := Ideal) (iblk m c 0 t) (iblk m c 1 t) (ix2 r k) = Cert.Reference7Ideal.Value.dm (m ((c : Thread nD τ).loc main_arg0)) (m ((c : Thread nD τ).loc main_arg1)) R k := by
  have ht : t.val < 16 := t.isLt
  have hb : 512 * t.val + r.val < 8192 := by have := r.isLt; clear hR; omega
  obtain rfl : R = ⟨512 * t.val + r, hb⟩ := Fin.ext hR
  refine (pay_dm _ _ r k).trans ?_
  unfold Cert.Reference7Ideal.Value.dm
  blk_point [iblk, V, idx t]

/-- The first branch's rows of a block. -/
theorem ta_blk (c : Dev nD) (t : Fin cfg0.N) (r : Fin 512) (k : Fin 1024) (R : Fin 8192) (hR : R.val = 512 * t.val + r) :
    (show FVec Ideal S512x1024 .bf16 from iblk m c 2 t) (ix2 r k) = (show FVec Ideal S8192x1024 .bf16 from (m ((c : Thread nD τ).loc main_arg2))) (ix2 R k) := by
  have ht : t.val < 16 := t.isLt
  have hb : 512 * t.val + r.val < 8192 := by have := r.isLt; clear hR; omega
  obtain rfl : R = ⟨512 * t.val + r, hb⟩ := Fin.ext hR
  blk_point [iblk, V, idx t]

/-- The second branch's rows of a block. -/
theorem tb_blk (c : Dev nD) (t : Fin cfg0.N) (r : Fin 512) (k : Fin 1024) (R : Fin 8192) (hR : R.val = 512 * t.val + r) :
    (show FVec Ideal S512x1024 .bf16 from iblk m c 3 t) (ix2 r k) = (show FVec Ideal S8192x1024 .bf16 from (m ((c : Thread nD τ).loc main_arg3))) (ix2 R k) := by
  have ht : t.val < 16 := t.isLt
  have hb : 512 * t.val + r.val < 8192 := by have := r.isLt; clear hR; omega
  obtain rfl : R = ⟨512 * t.val + r, hb⟩ := Fin.ext hR
  blk_point [iblk, V, idx t]

/-- What a point leaves of result 0. -/
theorem point0 (c : Dev nD) (t : Fin cfg0.N) (y : S512x1024.Idx) :
    (outsAt0 m c t.val t.isLt).1 y = Cert.Reference7Ideal.Value.REF0 (m ((c : Thread nD τ).loc main_arg0)) (m ((c : Thread nD τ).loc main_arg1)) (m ((c : Thread nD τ).loc main_arg4)) (m ((c : Thread nD τ).loc main_arg5)) (((cfg0.win 6).blk t).view.emb y) := by
  have ht : t.val < 16 := t.isLt
  obtain ⟨r, k, rfl⟩ : ∃ (r : Fin 512) (k : Fin 1024), y = ix2 r k := ⟨y 0, y 1, eq_ix2 y⟩
  have e : ((cfg0.win 6).blk t).view.emb (ix2 r k) = ix2 (⟨512 * t.val + r, by omega⟩ : Fin 8192) k := by
    blk_ext [idx t] <;> omega
  rw [e]
  refine Eq.trans ?_ (Cert.Reference7Ideal.Value.ref_a (m ((c : Thread nD τ).loc main_arg0)) (m ((c : Thread nD τ).loc main_arg1)) (m ((c : Thread nD τ).loc main_arg4)) (m ((c : Thread nD τ).loc main_arg5)) _ _).symm
  rw [← dm_blk m c t r k _ rfl, ← gate_a m c t r k _ rfl]
  by_cases h0 : t.val % 16 = 0
  · rw [outsAt0_A m c t h0]; dsimp only; frame_out
    rw [pay_a, pay_dm, pay_ga]
  · rw [outsAt0_B m c t h0]; dsimp only; frame_out
    rw [pay_a, pay_dm, pay_ga]

/-- What a point leaves of result 1. -/
theorem point1 (c : Dev nD) (t : Fin cfg0.N) (y : S512x1024.Idx) :
    (outsAt0 m c t.val t.isLt).2.1 y = Cert.Reference7Ideal.Value.REF1 (m ((c : Thread nD τ).loc main_arg0)) (m ((c : Thread nD τ).loc main_arg1)) (m ((c : Thread nD τ).loc main_arg4)) (m ((c : Thread nD τ).loc main_arg5)) (((cfg0.win 7).blk t).view.emb y) := by
  have ht : t.val < 16 := t.isLt
  obtain ⟨r, k, rfl⟩ : ∃ (r : Fin 512) (k : Fin 1024), y = ix2 r k := ⟨y 0, y 1, eq_ix2 y⟩
  have e : ((cfg0.win 7).blk t).view.emb (ix2 r k) = ix2 (⟨512 * t.val + r, by omega⟩ : Fin 8192) k := by
    blk_ext [idx t] <;> omega
  rw [e]
  refine Eq.trans ?_ (Cert.Reference7Ideal.Value.ref_b (m ((c : Thread nD τ).loc main_arg0)) (m ((c : Thread nD τ).loc main_arg1)) (m ((c : Thread nD τ).loc main_arg4)) (m ((c : Thread nD τ).loc main_arg5)) _ _).symm
  rw [← dm_blk m c t r k _ rfl, ← gate_b m c t r k _ rfl]
  by_cases h0 : t.val % 16 = 0
  · rw [outsAt0_A m c t h0]; dsimp only; frame_out
    exact pay_b _ _ _ _
  · rw [outsAt0_B m c t h0]; dsimp only; frame_out
    exact pay_b _ _ _ _

/-- A column of the gate is in its left half or in its right half. -/
theorem halves (k : Fin 2048) : (∃ i : Fin 1024, k = ⟨i, Nat.lt_trans i.isLt (by decide)⟩) ∨ ∃ i : Fin 1024, k = ⟨1024 + i, Nat.add_lt_add_left i.isLt 1024⟩ := by
  by_cases hk : k.val < 1024
  · exact Or.inl ⟨⟨k.val, hk⟩, rfl⟩
  · exact Or.inr ⟨⟨k.val - 1024, by omega⟩, Fin.ext (by show k.val = 1024 + (k.val - 1024); omega)⟩

/-- What a point adds to the bias's gradient. -/
def inc (c : Dev nD) (t : Fin cfg0.N) (j : S8x2048.Idx) : EReal :=
  if (j 0).val = 0 then
    if h : (j 1).val < 1024 then ∑ r : Fin 512, Cert.Reference7Ideal.Value.incA (m ((c : Thread nD τ).loc main_arg0)) (m ((c : Thread nD τ).loc main_arg1)) (m ((c : Thread nD τ).loc main_arg2)) (m ((c : Thread nD τ).loc main_arg4)) (m ((c : Thread nD τ).loc main_arg5)) ⟨512 * t.val + r, by have : t.val < 16 := t.isLt; omega⟩ ⟨(j 1).val, h⟩
    else ∑ r : Fin 512, Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) ⟨512 * t.val + r, by have : t.val < 16 := t.isLt; omega⟩ ⟨(j 1).val - 1024, by have : (j 1).val < 2048 := (j 1).isLt; omega⟩
  else 0

/-- One step of the left half of the bias's gradient, in the arguments. -/
theorem step_a (c : Dev nD) (t : Fin cfg0.N) (z : FVec Ideal S1x1024 .f32) (k : Fin 1024) :
    k0_pay11 (F := Ideal) (k0_pay2 (iblk m c 0 t) (iblk m c 1 t))
      (k0_pay3 (View.ld (X0_4 m c t) (Rect.unit ![0, 0] ![512, 1024] inb_S512x2048_S512x1024_0_0))
        (View.ld (iblk m c 5 t) (Rect.unit ![0, 0] ![1, 1024] inb_S1x2048_S1x1024_0_0))) (iblk m c 2 t) z (ix2 (0 : Fin 1) k)
      = z (ix2 0 k) + ∑ r : Fin 512, Cert.Reference7Ideal.Value.incA (m ((c : Thread nD τ).loc main_arg0)) (m ((c : Thread nD τ).loc main_arg1)) (m ((c : Thread nD τ).loc main_arg2)) (m ((c : Thread nD τ).loc main_arg4)) (m ((c : Thread nD τ).loc main_arg5)) ⟨512 * t.val + r, by have : t.val < 16 := t.isLt; omega⟩ k := by
  refine (pay_da _ _ _ z k).trans (congrArg (z (ix2 0 k) + ·) (Finset.sum_congr rfl fun r _ => ?_))
  have e1 := dm_blk m c t r k ⟨512 * t.val + r, by have : t.val < 16 := t.isLt; omega⟩ rfl
  have e2 := gate_a m c t r k ⟨512 * t.val + r, by have : t.val < 16 := t.isLt; omega⟩ rfl
  have e3 := ta_blk m c t r k ⟨512 * t.val + r, by have : t.val < 16 := t.isLt; omega⟩ rfl
  exact congrArg₂ (· * ·) (congrArg₂ (· * ·) (congrArg₂ (· * ·) e1 e3) e2) (congrArg (1 - ·) e2)

/-- One step of the right half of the bias's gradient, in the arguments. -/
theorem step_b (c : Dev nD) (t : Fin cfg0.N) (z : FVec Ideal S1x1024 .f32) (k : Fin 1024) :
    k0_pay12 (F := Ideal) (k0_pay2 (iblk m c 0 t) (iblk m c 1 t))
      (k0_pay4 (View.ld (X0_4 m c t) (Rect.unit ![0, 1024] ![512, 1024] inb_S512x2048_S512x1024_0_1024))
        (View.ld (iblk m c 5 t) (Rect.unit ![0, 1024] ![1, 1024] inb_S1x2048_S1x1024_0_1024))) (iblk m c 3 t) z (ix2 (0 : Fin 1) k)
      = z (ix2 0 k) + ∑ r : Fin 512, Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) ⟨512 * t.val + r, by have : t.val < 16 := t.isLt; omega⟩ k := by
  refine (pay_db _ _ _ z k).trans (congrArg (z (ix2 0 k) + ·) (Finset.sum_congr rfl fun r _ => ?_))
  have e1 := dm_blk m c t r k ⟨512 * t.val + r, by have : t.val < 16 := t.isLt; omega⟩ rfl
  have e2 := gate_b m c t r k ⟨512 * t.val + r, by have : t.val < 16 := t.isLt; omega⟩ rfl
  have e3 := tb_blk m c t r k ⟨512 * t.val + r, by have : t.val < 16 := t.isLt; omega⟩ rfl
  exact congrArg₂ (· * ·) (congrArg₂ (· * ·) (congrArg₂ (· * ·) e1 e3) e2) (congrArg (1 - ·) e2)

/-- What a point adds in the left half of the first row. -/
theorem inc_a (c : Dev nD) (t : Fin cfg0.N) (k : Fin 1024) : inc m c t (ix2 (0 : Fin 8) (⟨k, by omega⟩ : Fin 2048)) = ∑ r : Fin 512, Cert.Reference7Ideal.Value.incA (m ((c : Thread nD τ).loc main_arg0)) (m ((c : Thread nD τ).loc main_arg1)) (m ((c : Thread nD τ).loc main_arg2)) (m ((c : Thread nD τ).loc main_arg4)) (m ((c : Thread nD τ).loc main_arg5)) ⟨512 * t.val + r, by have : t.val < 16 := t.isLt; omega⟩ k :=
  (if_pos rfl).trans (dif_pos k.isLt)

/-- What a point adds in the right half of the first row. -/
theorem inc_b (c : Dev nD) (t : Fin cfg0.N) (k : Fin 1024) : inc m c t (ix2 (0 : Fin 8) (⟨1024 + k, by omega⟩ : Fin 2048)) = ∑ r : Fin 512, Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) ⟨512 * t.val + r, by have : t.val < 16 := t.isLt; omega⟩ k := by
  refine (if_pos rfl).trans ((dif_neg (show ¬(1024 + k.val < 1024) by omega)).trans ?_)
  have e : ∀ h, (⟨1024 + k.val - 1024, h⟩ : Fin 1024) = k := fun h => Fin.ext (by show 1024 + k.val - 1024 = k.val; omega)
  refine Finset.sum_congr rfl fun r _ => congrArg (Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) ⟨512 * t.val + r, by have : t.val < 16 := t.isLt; omega⟩) (e _)

/-- What a point other than the first does to the bias's gradient. -/
theorem out9 (c : Dev nD) (t : Fin cfg0.N) (h0 : ¬t.val % 16 = 0) (j : S8x2048.Idx) :
    (outsAt0 m c t.val t.isLt).2.2.2 j = (outsAt0 m c (t.val - 1) (Nat.lt_of_le_of_lt (Nat.sub_le _ _) t.isLt)).2.2.2 j + inc m c t j := by
  obtain ⟨r, k, rfl⟩ : ∃ (r : Fin 8) (k : Fin 2048), j = ix2 r k := ⟨j 0, j 1, eq_ix2 j⟩
  rw [outsAt0_B m c t h0]; dsimp only; frame_out
  by_cases hr : r.val = 0
  · obtain rfl : r = 0 := Fin.ext hr
    rcases halves k with ⟨k, rfl⟩ | ⟨k, rfl⟩
    · rw [inc_a]
      refine Eq.trans (View.read_writes_cons_unit_of_not_mem _ _ inb_S8x2048_S1x1024_0_1024 _ _ (ix2 (0 : Fin 8) (⟨k, by omega⟩ : Fin 2048)) rfl (1 : Fin 2) (Or.inl k.isLt)) ?_
      refine Eq.trans (View.read_writes_cons_unit_of_mem _ _ inb_S8x2048_S1x1024_0_0 _ _ (ix2 (0 : Fin 8) (⟨k, by omega⟩ : Fin 2048)) (ix2 (0 : Fin 1) k) rfl
        (Fin.forall_fin_two.mpr ⟨rfl, (Nat.zero_add _).symm⟩)) ?_
      refine (step_a m c t _ k).trans (congrArg (· + _) ?_)
      exact View.ld_unit_apply_of _ _ _ _ _ (ix2 (0 : Fin 8) (⟨k, by omega⟩ : Fin 2048)) (Fin.forall_fin_two.mpr ⟨rfl, (Nat.zero_add _).symm⟩)
    · rw [inc_b]
      refine Eq.trans (View.read_writes_cons_unit_of_mem _ _ inb_S8x2048_S1x1024_0_1024 _ _ (ix2 (0 : Fin 8) (⟨1024 + k, by omega⟩ : Fin 2048)) (ix2 (0 : Fin 1) k) rfl
        (Fin.forall_fin_two.mpr ⟨rfl, rfl⟩)) ?_
      refine (step_b m c t _ k).trans (congrArg (· + _) ?_)
      exact View.ld_unit_apply_of _ _ _ _ _ (ix2 (0 : Fin 8) (⟨1024 + k, by omega⟩ : Fin 2048)) (Fin.forall_fin_two.mpr ⟨rfl, rfl⟩)
  · rw [inc, if_neg (show ¬((ix2 r k : S8x2048.Idx) 0).val = 0 from hr), add_zero]
    refine Eq.trans (View.read_writes_cons_unit_of_not_mem _ _ inb_S8x2048_S1x1024_0_1024 _ _ (ix2 r k) rfl (0 : Fin 2) (Or.inr (by show 0 + 1 ≤ r.val; omega))) ?_
    refine Eq.trans (View.read_writes_cons_unit_of_not_mem _ _ inb_S8x2048_S1x1024_0_0 _ _ (ix2 r k) rfl (0 : Fin 2) (Or.inr (by show 0 + 1 ≤ r.val; omega))) ?_
    exact congrFun (Memref.IsWhole.read_unread _ _) _

/-- A store's place is missed by an index below its row. -/
theorem miss {off size : Fin 2 → ℕ} (inb : ∀ a, off a + size a ≤ S8x2048.size a) (w : (Rect.unit (s := S8x2048) off size inb).shape.Idx → EReal)
    (L : List (View.Piece (Elt Ideal) S8x2048 .f32)) (y : S8x2048.Idx) (a : Fin 2) (h : (y a).val < off a ∨ off a + size a ≤ (y a).val) :
    View.canon ((⟨Rect.unit (s := S8x2048) off size inb, w⟩ : View.Piece (Elt Ideal) S8x2048 .f32) :: L) y = View.canon L y := by
  refine View.canon_cons_of_not_mem _ _ ?_
  show y ∉ (Rect.unit (s := S8x2048) off size inb).set
  rw [Rect.mem_set_unit]
  exact fun hy => by have := hy a; omega

/-- A store's place is met by an index inside it. -/
theorem meet {off size : Fin 2 → ℕ} (inb : ∀ a, off a + size a ≤ S8x2048.size a) (w : (Rect.unit (s := S8x2048) off size inb).shape.Idx → EReal)
    (L : List (View.Piece (Elt Ideal) S8x2048 .f32)) (y : S8x2048.Idx) (x : (Rect.unit (s := S8x2048) off size inb).shape.Idx)
    (h : ∀ a, (y a).val = off a + (x a).val) :
    View.canon ((⟨Rect.unit (s := S8x2048) off size inb, w⟩ : View.Piece (Elt Ideal) S8x2048 .f32) :: L) y = w x := by
  obtain rfl : (Rect.unit (s := S8x2048) off size inb).emb x = y := funext fun a => Fin.ext (by
    show off a + 1 * (x a).val = (y a).val
    rw [h a, Nat.one_mul])
  exact View.canon_cons_emb _ _ _ _

/-- What the first point leaves of the bias's gradient. -/
theorem out9_first (c : Dev nD) (t : Fin cfg0.N) (h0 : t.val % 16 = 0) (j : S8x2048.Idx) :
    (outsAt0 m c t.val t.isLt).2.2.2 j = 0 + inc m c t j := by
  obtain ⟨r, k, rfl⟩ : ∃ (r : Fin 8) (k : Fin 2048), j = ix2 r k := ⟨j 0, j 1, eq_ix2 j⟩
  have z : ∀ (r : Fin 8) (k : Fin 2048), View.canon [(⟨Rect.unit (s := S8x2048) ![0, 0] ![8, 2048] inb_S8x2048_S8x2048_0_0, k0_pay1 (F := Ideal)⟩ : View.Piece (Elt Ideal) S8x2048 .f32)] (ix2 r k) = 0 := fun r k =>
    (meet inb_S8x2048_S8x2048_0_0 _ _ _ (ix2 r k) (Fin.forall_fin_two.mpr ⟨(Nat.zero_add _).symm, (Nat.zero_add _).symm⟩)).trans (zero_db _)
  rw [outsAt0_A m c t h0]; dsimp only; frame_out
  by_cases hr : r.val = 0
  · obtain rfl : r = 0 := Fin.ext hr
    rcases halves k with ⟨k, rfl⟩ | ⟨k, rfl⟩
    · rw [inc_a]
      refine Eq.trans (miss inb_S8x2048_S1x1024_0_1024 _ _ _ (1 : Fin 2) (Or.inl k.isLt)) ?_
      refine Eq.trans (meet inb_S8x2048_S1x1024_0_0 _ _ _ (ix2 (0 : Fin 1) k) (Fin.forall_fin_two.mpr ⟨rfl, (Nat.zero_add _).symm⟩)) ?_
      refine (step_a m c t _ k).trans (congrArg (· + _) ?_)
      refine Eq.trans (congrFun (View.readAt_writes_junk_eq_canon _ _ _) _) ?_
      refine Eq.trans (congrArg (View.canon _) ?_) (z 0 ⟨k, by omega⟩)
      exact funext (Fin.forall_fin_two.mpr ⟨rfl, Fin.ext (by show 0 + 1 * k.val = k.val; omega)⟩)
    · rw [inc_b]
      refine Eq.trans (meet inb_S8x2048_S1x1024_0_1024 _ _ _ (ix2 (0 : Fin 1) k) (Fin.forall_fin_two.mpr ⟨rfl, rfl⟩)) ?_
      refine (step_b m c t _ k).trans (congrArg (· + _) ?_)
      refine Eq.trans (congrFun (View.readAt_writes_junk_eq_canon _ _ _) _) ?_
      refine Eq.trans (congrArg (View.canon _) (a₂ := ix2 (0 : Fin 8) (⟨1024 + k, by omega⟩ : Fin 2048)) ?_) ?_
      · exact funext (Fin.forall_fin_two.mpr ⟨rfl, Fin.ext (by show 1024 + 1 * k.val = 1024 + k.val; omega)⟩)
      refine Eq.trans (miss inb_S8x2048_S1x1024_0_0 _ _ _ (1 : Fin 2) (Or.inr (by show 0 + 1024 ≤ 1024 + k.val; omega))) ?_
      exact z _ _
  · rw [inc, if_neg (show ¬((ix2 r k : S8x2048.Idx) 0).val = 0 from hr), add_zero]
    refine Eq.trans (miss inb_S8x2048_S1x1024_0_1024 _ _ _ (0 : Fin 2) (Or.inr (by show 0 + 1 ≤ r.val; omega))) ?_
    refine Eq.trans (miss inb_S8x2048_S1x1024_0_0 _ _ _ (0 : Fin 2) (Or.inr (by show 0 + 1 ≤ r.val; omega))) ?_
    exact z r k

/-- The bias's gradient after the last point. -/
theorem out9_last (c : Dev nD) (t : Fin cfg0.N) (h : t.val + 1 = 16) (j : S8x2048.Idx) :
    (outsAt0 m c t.val t.isLt).2.2.2 j = Cert.Reference7Ideal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Pipeline.eq_sum_fin_of_reset_step_apply_last (fun n h => (outsAt0 m c n h).2.2.2) 16 (fun _ => 0) (fun p j => inc m c p j)
    (fun p h0 j => out9_first m c p h0 j)
    (fun p h0 j => out9 m c p h0 j) (le_refl 16) t h j, zero_add]
  obtain ⟨r, k, rfl⟩ : ∃ (r : Fin 8) (k : Fin 2048), j = ix2 r k := ⟨j 0, j 1, eq_ix2 j⟩
  by_cases hr : r.val = 0
  · obtain rfl : r = 0 := Fin.ext hr
    rcases halves k with ⟨k, rfl⟩ | ⟨k, rfl⟩
    · refine Eq.trans ?_ (Cert.Reference7Ideal.Value.ref_da (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k).symm
      simp only [inc_a]
      exact Fin.sum_mul_add_congr (S := 16) (n := 512) (f := fun q => Cert.Reference7Ideal.Value.incA (m ((c : Thread nD τ).loc main_arg0)) (m ((c : Thread nD τ).loc main_arg1)) (m ((c : Thread nD τ).loc main_arg2)) (m ((c : Thread nD τ).loc main_arg4)) (m ((c : Thread nD τ).loc main_arg5)) q k) fun s q hl => congrArg (fun z => Cert.Reference7Ideal.Value.incA (m ((c : Thread nD τ).loc main_arg0)) (m ((c : Thread nD τ).loc main_arg1)) (m ((c : Thread nD τ).loc main_arg2)) (m ((c : Thread nD τ).loc main_arg4)) (m ((c : Thread nD τ).loc main_arg5)) z k) (Fin.ext (congrArg (· + q.val) (Nat.mul_comm _ _)))
    · refine Eq.trans ?_ (Cert.Reference7Ideal.Value.ref_db (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k).symm
      simp only [inc_b]
      exact Fin.sum_mul_add_congr (S := 16) (n := 512) (f := fun q => Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) q k) fun s q hl => congrArg (fun z => Cert.Reference7Ideal.Value.incB (m ((c : Thread nD τ).loc main_arg0)) (m ((c : Thread nD τ).loc main_arg1)) (m ((c : Thread nD τ).loc main_arg3)) (m ((c : Thread nD τ).loc main_arg4)) (m ((c : Thread nD τ).loc main_arg5)) z k) (Fin.ext (congrArg (· + q.val) (Nat.mul_comm _ _)))
  · refine Eq.trans (Finset.sum_eq_zero fun p _ => ?_) (Cert.Reference7Ideal.Value.ref_dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r hr k).symm
    exact if_neg hr

/-- The output array 0 after the run. -/
theorem final0 (c : Dev nD) : (dats m 0 c).arrAt 6 cfg0.N = Cert.Reference7Ideal.Value.REF0 (m ((c : Thread nD τ).loc main_arg0)) (m ((c : Thread nD τ).loc main_arg1)) (m ((c : Thread nD τ).loc main_arg4)) (m ((c : Thread nD τ).loc main_arg5)) := by
  refine (dats m 0 c).arrAt_eq_of_covers 6 _ (by decide +kernel) fun t hf y => ?_
  blk_simp
  rw [after0_6]
  exact point0 m c t y

/-- The output array 1 after the run. -/
theorem final1 (c : Dev nD) : (dats m 0 c).arrAt 7 cfg0.N = Cert.Reference7Ideal.Value.REF1 (m ((c : Thread nD τ).loc main_arg0)) (m ((c : Thread nD τ).loc main_arg1)) (m ((c : Thread nD τ).loc main_arg4)) (m ((c : Thread nD τ).loc main_arg5)) := by
  refine (dats m 0 c).arrAt_eq_of_covers 7 _ (by decide +kernel) fun t hf y => ?_
  blk_simp
  rw [after0_7]
  exact point1 m c t y

/-- The bias's gradient after the run. -/
theorem final2 (c : Dev nD) : (dats m 0 c).arrAt 9 cfg0.N = Cert.Reference7Ideal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have ht : t.val < 16 := t.isLt
  have h15 : t.val + 1 = 16 := by have := (flush0_9 t).mp hf; omega
  blk_simp
  rw [after0_9]
  refine (out9_last m c t h15 y).trans (congrArg _ ?_)
  obtain ⟨r, k, rfl⟩ : ∃ (r : Fin 8) (k : Fin 2048), y = ix2 r k := ⟨y 0, y 1, eq_ix2 y⟩
  have e : ((cfg0.win 9).blk t).view.emb (ix2 r k) = ix2 r k := by
    blk_ext [idx t] <;> omega
  exact e.symm

end Cert.Kernel7Ideal.Value

/-- The kernel and the reference leave the same arrays. -/
theorem Cert.gate_algebraic : Cert.algebraic_Kernel7Ideal_Reference7Ideal := by
  intro m g m' g' hp hm
  refine ⟨fun c => Cert.Reference7Ideal.Value.REF0 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)), fun c => Cert.Reference7Ideal.Value.REF1 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)), fun c => Cert.Reference7Ideal.Value.REF2 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)), ?_, ?_⟩
  · refine (θ_run _ _ _).mono (fun r h c => ?_) (Cert.Kernel7Ideal.Value.run_blocks m g)
    exact ⟨(h c).1.trans (Cert.Kernel7Ideal.Value.final0 m c), (h c).2.1.trans (Cert.Kernel7Ideal.Value.final1 m c), (h c).2.2.2.1.trans (Cert.Kernel7Ideal.Value.final2 m c), (h c).2.2.2.2⟩
  · refine (θ_run _ _ _).mono (fun r h c => ?_) (Cert.Reference7Ideal.Value.run m' g')
    obtain ⟨e0, e1, e2, e3, e4, e5⟩ := hm c
    refine ⟨(h c).1.trans ?_, (h c).2.1.trans ?_, (h c).2.2.1.trans ?_, (h c).2.2.2⟩
    · rw [e0, e1, e4, e5]
    · rw [e0, e1, e4, e5]
    · rw [e0, e1, e2, e3, e4, e5]
-- ==== Proof.SwigluValue.lean ====
/- The SwiGLU product and the projection after it: what the kernel leaves is the reference's terms. -/
module

public import proofs.«01_k».proof.Defs
public import proofs.«01_k».proof.Proof.Gen.Kernel10Ideal.Value
public import proofs.«01_k».proof.Proof.Gen.Reference10Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference10Ideal.Value

open Cert.Reference10Ideal Cert.Reference10Ideal.Gen

variable (gu : FVec Ideal S8192x5632 .bf16) (w : FVec Ideal S2816x1024 .bf16) (h : FVec Ideal S8192x1024 .f32)

/-- The reference's result 0. -/
abbrev REF0 : FVec Ideal S8192x2816 .bf16 :=
  truncf .bf16 (mulf (mulf (extractStridedSlice S8192x2816 ![0, 0] (extf .f32 gu bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0)))))) (extractStridedSlice S8192x2816 ![0, 2816] (extf .f32 gu bitsLt_bf16_f32) slices_S8192x5632_S8192x2816_0_2816)) bitsLt_bf16_f32

/-- The reference's result 1. -/
abbrev REF1 : FVec Ideal S8192x1024 .f32 :=
  addf h (Host.dotGeneral dot_S8192x2816_S2816x1024_S8192x1024_1_0_0_1_n_n none (mulf (mulf (extractStridedSlice S8192x2816 ![0, 0] (extf .f32 gu bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 gu bitsLt_bf16_f32) slices_S8192x5632_S8192x2816_0_0)))))) (extractStridedSlice S8192x2816 ![0, 2816] (extf .f32 gu bitsLt_bf16_f32) slices_S8192x5632_S8192x2816_0_2816)) (extf .f32 w bitsLt_bf16_f32))

end Cert.Reference10Ideal.Value

namespace Cert.Kernel10Ideal.Value

open Cert.Kernel10Ideal Cert.Kernel10Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0] :=
  (by decide +kernel : ∀ t : Fin grid0.N, _)

/-- The gated product of one row at one column. -/
def act (gu : FVec Ideal S8192x5632 .bf16) (r : Fin 8192) (k : Fin 2816) : EReal :=
  gu (ix2 r ⟨k, by omega⟩) * Ideal.div 1 (1 + Ideal.exp (-gu (ix2 r ⟨k, by omega⟩))) * gu (ix2 r ⟨2816 + k, by omega⟩)

/-- The first payload at an index. -/
theorem pay_act (g u : FVec Ideal S512x2816 .bf16) (r : Fin 512) (k : Fin 2816) :
    k0_pay1 (F := Ideal) g u (ix2 r k) = g (ix2 r k) * Ideal.div 1 (1 + Ideal.exp (-g (ix2 r k))) * u (ix2 r k) := by
  rw [← logistic_all]
  pointwise [k0_pay1]

/-- The second payload at an index. -/
theorem pay_out (a : FVec Ideal S512x2816 .bf16) (w : FVec Ideal S2816x1024 .bf16) (h : FVec Ideal S512x1024 .f32) (r : Fin 512) (k : Fin 1024) :
    k0_pay2 (F := Ideal) a w h (ix2 r k) = h (ix2 r k) + ∑ l : Fin 2816, a (ix2 r l) * w (ix2 l k) := by
  pointwise [k0_pay2]
  rw [add_comm]

/-- The reference's first term at an index. -/
theorem ref_act (gu : FVec Ideal S8192x5632 .bf16) (r : Fin 8192) (k : Fin 2816) :
    Cert.Reference10Ideal.Value.REF0 gu (ix2 r k) = act gu r k := by
  unfold act
  pointwise [Cert.Reference10Ideal.Value.REF0]

/-- The reference's second term at an index. -/
theorem ref_out (gu : FVec Ideal S8192x5632 .bf16) (w : FVec Ideal S2816x1024 .bf16) (h : FVec Ideal S8192x1024 .f32) (r : Fin 8192) (k : Fin 1024) :
    Cert.Reference10Ideal.Value.REF1 gu w h (ix2 r k) = h (ix2 r k) + ∑ l : Fin 2816, act gu r l * w (ix2 l k) := by
  unfold act
  pointwise [Cert.Reference10Ideal.Value.REF1]

/-- What a grid point leaves of result 0. -/
theorem point0 (c : Dev nD) (t : Fin cfg0.N) (y : S512x2816.Idx) :
    (outsAt0 m c t).1 y = Cert.Reference10Ideal.Value.REF0 (m ((c : Thread nD τ).loc main_arg0)) (((cfg0.win 3).blk t).view.emb y) := by
  have ht : t.val < 16 := t.isLt
  obtain ⟨r, k, rfl⟩ : ∃ (r : Fin 512) (k : Fin 2816), y = ix2 r k := ⟨y 0, y 1, eq_ix2 y⟩
  have e : ((cfg0.win 3).blk t).view.emb (ix2 r k) = ix2 (⟨512 * t.val + r, by omega⟩ : Fin 8192) k := by
    blk_ext [idx t] <;> omega
  rw [e, ref_act]
  unfold outsAt0; frame_out
  rw [pay_act]
  unfold act
  blk_point [iblk, V, idx t]

/-- What a grid point leaves of result 1. -/
theorem point1 (c : Dev nD) (t : Fin cfg0.N) (y : S512x1024.Idx) :
    (outsAt0 m c t).2 y = Cert.Reference10Ideal.Value.REF1 (m ((c : Thread nD τ).loc main_arg0)) (m ((c : Thread nD τ).loc main_arg1)) (m ((c : Thread nD τ).loc main_arg2)) (((cfg0.win 4).blk t).view.emb y) := by
  have ht : t.val < 16 := t.isLt
  obtain ⟨r, k, rfl⟩ : ∃ (r : Fin 512) (k : Fin 1024), y = ix2 r k := ⟨y 0, y 1, eq_ix2 y⟩
  have e : ((cfg0.win 4).blk t).view.emb (ix2 r k) = ix2 (⟨512 * t.val + r, by omega⟩ : Fin 8192) k := by
    blk_ext [idx t] <;> omega
  rw [e]
  refine Eq.trans ?_ (ref_out (m ((c : Thread nD τ).loc main_arg0)) (m ((c : Thread nD τ).loc main_arg1)) (m ((c : Thread nD τ).loc main_arg2)) _ _).symm
  unfold outsAt0; frame_out
  rw [pay_out]
  simp only [pay_act, act]
  blk_point [iblk, V, idx t]

/-- The output array 0 after the run. -/
theorem final0 (c : Dev nD) : (dats m 0 c).arrAt 3 cfg0.N = Cert.Reference10Ideal.Value.REF0 (m ((c : Thread nD τ).loc main_arg0)) := by
  refine (dats m 0 c).arrAt_eq_of_covers 3 _ (by decide +kernel) fun t hf y => ?_
  blk_simp
  rw [after0_3]
  exact point0 m c t y

/-- The output array 1 after the run. -/
theorem final1 (c : Dev nD) : (dats m 0 c).arrAt 4 cfg0.N = Cert.Reference10Ideal.Value.REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point1 m c t y

end Cert.Kernel10Ideal.Value

/-- The kernel and the reference leave the same arrays. -/
theorem Cert.swiglu_algebraic : Cert.algebraic_Kernel10Ideal_Reference10Ideal := by
  intro m g m' g' hp hm
  refine ⟨fun c => Cert.Reference10Ideal.Value.REF0 (m ((c.tc : Thread Cert.Kernel10Ideal.nD Cert.Kernel10Ideal.τ).loc Cert.Kernel10Ideal.main_arg0)), fun c => Cert.Reference10Ideal.Value.REF1 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)), ?_, ?_⟩
  · refine (θ_run _ _ _).mono (fun r h c => ?_) (Cert.Kernel10Ideal.Value.run_blocks m g)
    exact ⟨(h c).1.trans (Cert.Kernel10Ideal.Value.final0 m c), (h c).2.1.trans (Cert.Kernel10Ideal.Value.final1 m c), (h c).2.2⟩
  · refine (θ_run _ _ _).mono (fun r h c => ?_) (Cert.Reference10Ideal.Value.run m' g')
    obtain ⟨e0, e1, e2⟩ := hm c
    refine ⟨(h c).1.trans ?_, (h c).2.1.trans ?_, (h c).2.2⟩
    · rw [e0]
    · rw [e0, e1, e2]
-- ==== Proof.OutProjValue.lean ====
/- The output projection with its residual: what the kernel leaves is the reference's term. -/
module

public import proofs.«01_k».proof.Defs
public import proofs.«01_k».proof.Proof.Gen.Kernel11Ideal.Value
public import proofs.«01_k».proof.Proof.Gen.Reference11Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference11Ideal.Value

open Cert.Reference11Ideal Cert.Reference11Ideal.Gen

variable (a : FVec Ideal S8192x1024 .bf16) (w : FVec Ideal S1024x1024 .bf16) (h : FVec Ideal S8192x1024 .f32)

/-- The reference's result 0. -/
abbrev REF0 : FVec Ideal S8192x1024 .f32 :=
  addf h (Host.dotGeneral dot_S8192x1024_S1024x1024_S8192x1024_1_0_0_1_n_n none (extf .f32 a bitsLt_bf16_f32) (extf .f32 w bitsLt_bf16_f32))

end Cert.Reference11Ideal.Value

namespace Cert.Kernel11Ideal.Value

open Cert.Kernel11Ideal Cert.Kernel11Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The payload at an index. -/
theorem pay (x w : FVec Ideal S1024x1024 .bf16) (h : FVec Ideal S1024x1024 .f32) (r k : Fin 1024) :
    k0_pay1 (F := Ideal) x w h (ix2 r k) = h (ix2 r k) + ∑ l : Fin 1024, x (ix2 r l) * w (ix2 l k) := by
  pointwise [k0_pay1]
  rw [add_comm]

/-- The reference's term at an index. -/
theorem ref_at (a : FVec Ideal S8192x1024 .bf16) (w : FVec Ideal S1024x1024 .bf16) (h : FVec Ideal S8192x1024 .f32) (r : Fin 8192) (k : Fin 1024) :
    Cert.Reference11Ideal.Value.REF0 a w h (ix2 r k) = h (ix2 r k) + ∑ l : Fin 1024, a (ix2 r l) * w (ix2 l k) := by
  pointwise [Cert.Reference11Ideal.Value.REF0]

/-- What a grid point writes back of result 0 is the reference's term at the place of the array the window puts it. -/
theorem point0 (c : Dev nD) (t : Fin cfg0.N) (y : S1024x1024.Idx) :
    out0_3 (iblk m c 0 t) (iblk m c 1 t) (iblk m c 2 t) y = Cert.Reference11Ideal.Value.REF0 (m ((c : Thread nD τ).loc main_arg0)) (m ((c : Thread nD τ).loc main_arg1)) (m ((c : Thread nD τ).loc main_arg2)) (((cfg0.win 3).blk t).view.emb y) := by
  have ht : t.val < 8 := t.isLt
  canon_tiles x h
  obtain ⟨r, k, rfl⟩ : ∃ (r : Fin 1024) (k : Fin 1024), x = ix2 r k := ⟨x 0, x 1, eq_ix2 x⟩
  have e : ((cfg0.win 3).blk t).view.emb y = ix2 (⟨1024 * t.val + r, by omega⟩ : Fin 8192) k := by
    replace h0 : (y 0 : ℕ) = r := h0
    replace h1 : (y 1 : ℕ) = k := h1
    blk_ext [idx t] <;> omega
  rw [e]
  rw [pay, ref_at]
  blk_point [iblk, V, idx t]

/-- The output array 0 after the run. -/
theorem final0 (c : Dev nD) : (dats m 0 c).arrAt 3 cfg0.N = Cert.Reference11Ideal.Value.REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point0 m c t y

end Cert.Kernel11Ideal.Value

/-- The kernel and the reference leave the same arrays. -/
theorem Cert.out_proj_algebraic : Cert.algebraic_Kernel11Ideal_Reference11Ideal := by
  intro m g m' g' hp hm
  refine ⟨fun c => Cert.Reference11Ideal.Value.REF0 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)), ?_, ?_⟩
  · refine (θ_run _ _ _).mono (fun r h c => ?_) (Cert.Kernel11Ideal.Value.run_blocks m g)
    exact ⟨(h c).1.trans (Cert.Kernel11Ideal.Value.final0 m c), (h c).2⟩
  · refine (θ_run _ _ _).mono (fun r h c => ?_) (Cert.Reference11Ideal.Value.run m' g')
    obtain ⟨e0, e1, e2⟩ := hm c
    refine ⟨(h c).1.trans ?_, (h c).2⟩
    · rw [e0, e1, e2]
-- ==== Proof.MergeValue.lean ====
/- The two branch projections and their gated sum: what the kernel leaves is the reference's terms. -/
module

public import proofs.«01_k».proof.Defs
public import proofs.«01_k».proof.Proof.Gen.Kernel12Ideal.Value
public import proofs.«01_k».proof.Proof.Gen.Reference12Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference12Ideal.Value

open Cert.Reference12Ideal Cert.Reference12Ideal.Gen

variable (ya : FVec Ideal S8192x1024 .bf16) (yb : FVec Ideal S8192x2048 .bf16) (proj : FVec Ideal S8192x9216 .f32) (wba : FVec Ideal S1024x1024 .bf16) (wbb : FVec Ideal S2048x1024 .bf16) (bg : FVec Ideal S2048 .f32)

/-- The reference's result 0. -/
abbrev REF0 : FVec Ideal S8192x1024 .bf16 :=
  truncf .bf16 (Host.dotGeneral dot_S8192x1024_S1024x1024_S8192x1024_1_0_0_1_n_n none (extf .f32 ya bitsLt_bf16_f32) (extf .f32 wba bitsLt_bf16_f32)) bitsLt_bf16_f32

/-- The reference's result 1. -/
abbrev REF1 : FVec Ideal S8192x1024 .bf16 :=
  truncf .bf16 (Host.dotGeneral dot_S8192x2048_S2048x1024_S8192x1024_1_0_0_1_n_n none (extf .f32 yb bitsLt_bf16_f32) (extf .f32 wbb bitsLt_bf16_f32)) bitsLt_bf16_f32

/-- The reference's result 2. -/
abbrev REF2 : FVec Ideal S8192x1024 .bf16 :=
  truncf .bf16 (addf (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg))))))) slices_S8192x2048_S8192x1024_0_0) (Host.dotGeneral dot_S8192x1024_S1024x1024_S8192x1024_1_0_0_1_n_n none (extf .f32 ya bitsLt_bf16_f32) (extf .f32 wba bitsLt_bf16_f32))) (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 6144] proj slices_S8192x9216_S8192x2048_0_6144) (broadcastInDim S8192x2048 ![0, 1] bcast_S1x2048_S8192x2048_0_1 (broadcastInDim S1x2048 ![1] bcast_S2048_S1x2048_1 bg))))))) slices_S8192x2048_S8192x1024_0_1024) (Host.dotGeneral dot_S8192x2048_S2048x1024_S8192x1024_1_0_0_1_n_n none (extf .f32 yb bitsLt_bf16_f32) (extf .f32 wbb bitsLt_bf16_f32)))) bitsLt_bf16_f32

end Cert.Reference12Ideal.Value

namespace Cert.Kernel12Ideal.Value

open Cert.Kernel12Ideal Cert.Kernel12Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![t.val, 0]
    ∧ win0_2.index t = ![t.val, 6]
    ∧ win0_3.index t = ![t.val, 7]
    ∧ win0_4.index t = ![0, 0]
    ∧ win0_5.index t = ![0, 0]
    ∧ win0_6.index t = ![0, 0]
    ∧ win0_7.index t = ![0, 1]
    ∧ win0_8.index t = ![t.val, 0]
    ∧ win0_9.index t = ![t.val, 0]
    ∧ win0_10.index t = ![t.val, 0] :=
  (by decide +kernel : ∀ t : Fin grid0.N, _)

/-- The first payload at an index. -/
theorem pay_a (x w : FVec Ideal S1024x1024 .bf16) (r k : Fin 1024) :
    k0_pay4 (F := Ideal) x w (ix2 r k) = ∑ l : Fin 1024, x (ix2 r l) * w (ix2 l k) := by
  pointwise [k0_pay4, k0_pay2]

/-- The second payload at an index. -/
theorem pay_b (x : FVec Ideal S1024x2048 .bf16) (w : FVec Ideal S2048x1024 .bf16) (r k : Fin 1024) :
    k0_pay5 (F := Ideal) x w (ix2 r k) = ∑ l : Fin 2048, x (ix2 r l) * w (ix2 l k) := by
  pointwise [k0_pay5, k0_pay3]

/-- The third payload at an index. -/
theorem pay_m (x w : FVec Ideal S1024x1024 .bf16) (x' : FVec Ideal S1024x2048 .bf16) (w' : FVec Ideal S2048x1024 .bf16)
    (p p' : FVec Ideal S1024x1024 .f32) (b b' : FVec Ideal S1x1024 .f32) (r k : Fin 1024) :
    k0_pay1 (F := Ideal) (k0_pay2 x w) (k0_pay3 x' w') (k0_pay6 p b) (k0_pay7 p' b') (ix2 r k) =
      Ideal.div 1 (1 + Ideal.exp (-(p (ix2 r k) + b (ix2 0 k)))) * (∑ l : Fin 1024, x (ix2 r l) * w (ix2 l k))
      + Ideal.div 1 (1 + Ideal.exp (-(p' (ix2 r k) + b' (ix2 0 k)))) * ∑ l : Fin 2048, x' (ix2 r l) * w' (ix2 l k) := by
  rw [← logistic_all, ← logistic_all]
  pointwise [k0_pay1, k0_pay2, k0_pay3, k0_pay6, k0_pay7]

/-- The reference's first term at an index. -/
theorem ref_a (ya : FVec Ideal S8192x1024 .bf16) (yb : FVec Ideal S8192x2048 .bf16) (proj : FVec Ideal S8192x9216 .f32) (wba : FVec Ideal S1024x1024 .bf16) (wbb : FVec Ideal S2048x1024 .bf16) (bg : FVec Ideal S2048 .f32) (r : Fin 8192) (k : Fin 1024) :
    Cert.Reference12Ideal.Value.REF0 ya wba (ix2 r k) = ∑ l : Fin 1024, ya (ix2 r l) * wba (ix2 l k) := by
  pointwise [Cert.Reference12Ideal.Value.REF0]

/-- The reference's second term at an index. -/
theorem ref_b (ya : FVec Ideal S8192x1024 .bf16) (yb : FVec Ideal S8192x2048 .bf16) (proj : FVec Ideal S8192x9216 .f32) (wba : FVec Ideal S1024x1024 .bf16) (wbb : FVec Ideal S2048x1024 .bf16) (bg : FVec Ideal S2048 .f32) (r : Fin 8192) (k : Fin 1024) :
    Cert.Reference12Ideal.Value.REF1 yb wbb (ix2 r k) = ∑ l : Fin 2048, yb (ix2 r l) * wbb (ix2 l k) := by
  pointwise [Cert.Reference12Ideal.Value.REF1]

/-- The reference's third term at an index. -/
theorem ref_m (ya : FVec Ideal S8192x1024 .bf16) (yb : FVec Ideal S8192x2048 .bf16) (proj : FVec Ideal S8192x9216 .f32) (wba : FVec Ideal S1024x1024 .bf16) (wbb : FVec Ideal S2048x1024 .bf16) (bg : FVec Ideal S2048 .f32) (r : Fin 8192) (k : Fin 1024) :
    Cert.Reference12Ideal.Value.REF2 ya yb proj wba wbb bg (ix2 r k) =
      Ideal.div 1 (1 + Ideal.exp (-(proj (ix2 r ⟨6144 + k, by omega⟩) + bg (ix1 ⟨k, by omega⟩)))) * (∑ l : Fin 1024, ya (ix2 r l) * wba (ix2 l k))
      + Ideal.div 1 (1 + Ideal.exp (-(proj (ix2 r ⟨6144 + (1024 + k), by omega⟩) + bg (ix1 ⟨1024 + k, by omega⟩)))) * ∑ l : Fin 2048, yb (ix2 r l) * wbb (ix2 l k) := by
  pointwise [Cert.Reference12Ideal.Value.REF2]

/-- The first half of the bias, as the kernel's window holds it. -/
theorem bias6 (c : Dev nD) (t : Fin cfg0.N) (k : Fin 1024) :
    (show FVec Ideal S1x1024 .f32 from View.ld (iblk m c 6 t) r0_3) (ix2 0 k) = (show FVec Ideal S2048 .f32 from m ((c : Thread nD τ).loc main_arg5)) (ix1 ⟨k, by omega⟩) := by
  show View.ld (iblk m c 6 t) r0_3 (ix2 0 k) = _
  rw [View.ld_unit_apply_of _ _ _ _ _ (ix2 (0 : Fin 1) k) (Fin.forall_fin_two.mpr ⟨rfl, (Nat.zero_add _).symm⟩)]
  blk_point [iblk, V, idx t]

/-- The second half of the bias, as the kernel's window holds it. -/
theorem bias7 (c : Dev nD) (t : Fin cfg0.N) (k : Fin 1024) :
    (show FVec Ideal S1x1024 .f32 from View.ld (iblk m c 7 t) r0_3) (ix2 0 k) = (show FVec Ideal S2048 .f32 from m ((c : Thread nD τ).loc main_arg5)) (ix1 ⟨1024 + k, by omega⟩) := by
  show View.ld (iblk m c 7 t) r0_3 (ix2 0 k) = _
  rw [View.ld_unit_apply_of _ _ _ _ _ (ix2 (0 : Fin 1) k) (Fin.forall_fin_two.mpr ⟨rfl, (Nat.zero_add _).symm⟩)]
  blk_point [iblk, V, idx t]

/-- What a grid point writes back of result 0 is the reference's term at the place of the array the window puts it. -/
theorem point0 (c : Dev nD) (t : Fin cfg0.N) (y : S1024x1024.Idx) :
    out0_8 (iblk m c 0 t) (iblk m c 1 t) (iblk m c 2 t) (iblk m c 3 t) (iblk m c 4 t) (iblk m c 5 t) (iblk m c 6 t) (iblk m c 7 t) y = Cert.Reference12Ideal.Value.REF0 (m ((c : Thread nD τ).loc main_arg0)) (m ((c : Thread nD τ).loc main_arg3)) (((cfg0.win 8).blk t).view.emb y) := by
  have ht : t.val < 8 := t.isLt
  canon_tiles x h
  obtain ⟨r, k, rfl⟩ : ∃ (r : Fin 1024) (k : Fin 1024), x = ix2 r k := ⟨x 0, x 1, eq_ix2 x⟩
  have e : ((cfg0.win 8).blk t).view.emb y = ix2 (⟨1024 * t.val + r, by omega⟩ : Fin 8192) k := by
    replace h0 : (y 0 : ℕ) = r := h0
    replace h1 : (y 1 : ℕ) = k := h1
    blk_ext [idx t] <;> omega
  rw [e]
  rw [pay_a]
  refine Eq.trans ?_ (ref_a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _).symm
  blk_point [iblk, V, idx t]

/-- What a grid point writes back of result 1 is the reference's term at the place of the array the window puts it. -/
theorem point1 (c : Dev nD) (t : Fin cfg0.N) (y : S1024x1024.Idx) :
    out0_9 (iblk m c 0 t) (iblk m c 1 t) (iblk m c 2 t) (iblk m c 3 t) (iblk m c 4 t) (iblk m c 5 t) (iblk m c 6 t) (iblk m c 7 t) y = Cert.Reference12Ideal.Value.REF1 (m ((c : Thread nD τ).loc main_arg1)) (m ((c : Thread nD τ).loc main_arg4)) (((cfg0.win 9).blk t).view.emb y) := by
  have ht : t.val < 8 := t.isLt
  canon_tiles x h
  obtain ⟨r, k, rfl⟩ : ∃ (r : Fin 1024) (k : Fin 1024), x = ix2 r k := ⟨x 0, x 1, eq_ix2 x⟩
  have e : ((cfg0.win 9).blk t).view.emb y = ix2 (⟨1024 * t.val + r, by omega⟩ : Fin 8192) k := by
    replace h0 : (y 0 : ℕ) = r := h0
    replace h1 : (y 1 : ℕ) = k := h1
    blk_ext [idx t] <;> omega
  rw [e]
  rw [pay_b]
  refine Eq.trans ?_ (ref_b (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _).symm
  blk_point [iblk, V, idx t]

/-- What a grid point writes back of result 2 is the reference's term at the place of the array the window puts it. -/
theorem point2 (c : Dev nD) (t : Fin cfg0.N) (y : S1024x1024.Idx) :
    out0_10 (iblk m c 0 t) (iblk m c 1 t) (iblk m c 2 t) (iblk m c 3 t) (iblk m c 4 t) (iblk m c 5 t) (iblk m c 6 t) (iblk m c 7 t) y = Cert.Reference12Ideal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  have ht : t.val < 8 := t.isLt
  canon_tiles x h
  obtain ⟨r, k, rfl⟩ : ∃ (r : Fin 1024) (k : Fin 1024), x = ix2 r k := ⟨x 0, x 1, eq_ix2 x⟩
  have e : ((cfg0.win 10).blk t).view.emb y = ix2 (⟨1024 * t.val + r, by omega⟩ : Fin 8192) k := by
    replace h0 : (y 0 : ℕ) = r := h0
    replace h1 : (y 1 : ℕ) = k := h1
    blk_ext [idx t] <;> omega
  rw [e]
  rw [pay_m]
  refine Eq.trans ?_ (ref_m (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _).symm
  blk_point [iblk, V, idx t]
  · exact bias6 m c t k
  · exact bias7 m c t k

/-- The output array 0 after the run. -/
theorem final0 (c : Dev nD) : (dats m 0 c).arrAt 8 cfg0.N = Cert.Reference12Ideal.Value.REF0 (m ((c : Thread nD τ).loc main_arg0)) (m ((c : Thread nD τ).loc main_arg3)) := by
  refine (dats m 0 c).arrAt_eq_of_covers 8 _ (by decide +kernel) fun t hf y => ?_
  blk_simp
  rw [after0_8]
  exact point0 m c t y

/-- The output array 1 after the run. -/
theorem final1 (c : Dev nD) : (dats m 0 c).arrAt 9 cfg0.N = Cert.Reference12Ideal.Value.REF1 (m ((c : Thread nD τ).loc main_arg1)) (m ((c : Thread nD τ).loc main_arg4)) := by
  refine (dats m 0 c).arrAt_eq_of_covers 9 _ (by decide +kernel) fun t hf y => ?_
  blk_simp
  rw [after0_9]
  exact point1 m c t y

/-- The output array 2 after the run. -/
theorem final2 (c : Dev nD) : (dats m 0 c).arrAt 10 cfg0.N = Cert.Reference12Ideal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  exact point2 m c t y

end Cert.Kernel12Ideal.Value

/-- The kernel and the reference leave the same arrays. -/
theorem Cert.merge_algebraic : Cert.algebraic_Kernel12Ideal_Reference12Ideal := by
  intro m g m' g' hp hm
  refine ⟨fun c => Cert.Reference12Ideal.Value.REF0 (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg3)), fun c => Cert.Reference12Ideal.Value.REF1 (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg4)), fun c => Cert.Reference12Ideal.Value.REF2 (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)), ?_, ?_⟩
  · refine (θ_run _ _ _).mono (fun r h c => ?_) (Cert.Kernel12Ideal.Value.run_blocks m g)
    exact ⟨(h c).1.trans (Cert.Kernel12Ideal.Value.final0 m c), (h c).2.1.trans (Cert.Kernel12Ideal.Value.final1 m c), (h c).2.2.1.trans (Cert.Kernel12Ideal.Value.final2 m c), (h c).2.2.2⟩
  · refine (θ_run _ _ _).mono (fun r h c => ?_) (Cert.Reference12Ideal.Value.run m' g')
    obtain ⟨e0, e1, e2, e3, e4, e5⟩ := hm c
    refine ⟨(h c).1.trans ?_, (h c).2.1.trans ?_, (h c).2.2.1.trans ?_, (h c).2.2.2⟩
    · rw [e0, e3]
    · rw [e1, e4]
    · rw [e0, e1, e2, e3, e4, e5]
-- ==== Proof.Accum.lean ====
/- A body that clears a block at the first of a row of points and adds to it at every point: its two runs, for buffers of any shape, and the contents they leave point by point. -/
module

public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ₀ : Labels}

/-- A store of a whole buffer, the last of a line of stores, read back. -/
theorem read_store {S : Shape} {e : EltTy} (v : View sig .tc .vmem S e) (f : v.ty.Contents (Elt F)) (off : Fin S.rank → ℕ) (h0 : ∀ a, off a = 0) (inb : ∀ a, off a + S.size a ≤ S.size a)
    (w : S.Idx → Elt F e) (ws : List (View.Piece (Elt F) S e)) : v.read (Elt F) (v.writes (Elt F) f (⟨Rect.unit (s := S) off S.size inb, w⟩ :: ws)) = w :=
  funext fun y => View.read_writes_cons_unit_of_mem v f inb w ws y y rfl fun a => by rw [h0 a, Nat.zero_add]

/-- A load of a whole buffer. -/
theorem ld_whole {S : Shape} {e : EltTy} (x : S.Idx → Elt F e) (off : Fin S.rank → ℕ) (h0 : ∀ a, off a = 0) (inb : ∀ a, off a + S.size a ≤ S.size a) :
    View.ld x (Rect.unit (s := S) off S.size inb) = x :=
  funext fun y => View.ld_unit_apply_of _ _ _ _ _ y fun a => by rw [h0 a, Nat.zero_add]

/-- A load of a whole buffer holding `x`. -/
theorem load_unread {S : Shape} {e : EltTy} (M : Memref sig .tc .vmem S e) (h : M.IsWhole) (x : S.Idx → Elt F e) (off : Fin S.rank → ℕ) (h0 : ∀ a, off a = 0)
    (inb : ∀ a, off a + S.size a ≤ S.size a) : M.view.readAt (Elt F) (Rect.unit (s := S) off S.size inb).toLoadRect (h.unread x) = x :=
  (congrArg (fun z => View.ld z (Rect.unit (s := S) off S.size inb)) (h.read_unread x)).trans (ld_whole x off h0 inb)

section Body

variable {SA SB SO : Shape} {eA eB : EltTy}
  (q : BitVec 1) (a : Memref sig .tc .vmem SA eA) (b : Memref sig .tc .vmem SB eB) (o : Memref sig .tc .vmem SO .f32)
  (offA : Fin SA.rank → ℕ) (inbA : ∀ i, offA i + SA.size i ≤ SA.size i) (hA : 0 < SA.numel)
  (offB : Fin SB.rank → ℕ) (inbB : ∀ i, offB i + SB.size i ≤ SB.size i) (hB : 0 < SB.numel)
  (offO : Fin SO.rank → ℕ) (inbO : ∀ i, offO i + SO.size i ≤ SO.size i) (hO : 0 < SO.numel)
  (z : Vec F SO .f32) (p : Vec F SO .f32 → Vec F SA eA → Vec F SB eB → Vec F SO .f32)

/-- The body: under the condition `z` is stored, and then what `p` makes of the three buffers. -/
def body : Prog (TpuEff nD τ sig (Elt F) Λ₀ .tc) PUnit := do
  if _h : q = 1#1 then do
    let _x : Vec F SO .f32 ← Prog.lift (.load o (Rect.unit (s := SO) offO SO.size inbO).toLoadRect (View.loadsAt_vmem hO))
    Prog.lift (.store o (Rect.unit (s := SO) offO SO.size inbO) z Finset.univ (View.stores_vmem_bits_univ hO rfl) (.inl rfl))
    pure ⟨⟩
  else do
    pure ⟨⟩
  let x : Vec F SO .f32 ← Prog.lift (.load o (Rect.unit (s := SO) offO SO.size inbO).toLoadRect (View.loadsAt_vmem hO))
  let y : Vec F SA eA ← Prog.lift (.load a (Rect.unit (s := SA) offA SA.size inbA).toLoadRect (View.loadsAt_vmem hA))
  let w : Vec F SB eB ← Prog.lift (.load b (Rect.unit (s := SB) offB SB.size inbB).toLoadRect (View.loadsAt_vmem hB))
  let _x : Vec F SO .f32 ← Prog.lift (.load o (Rect.unit (s := SO) offO SO.size inbO).toLoadRect (View.loadsAt_vmem hO))
  Prog.lift (.store o (Rect.unit (s := SO) offO SO.size inbO) (p x y w) Finset.univ (View.stores_vmem_bits_univ hO rfl) (.inl rfl))
  pure ⟨⟩

variable (ha : a.IsWhole) (hb : b.IsWhole) (ho : o.IsWhole)
  (hA0 : ∀ i, offA i = 0) (hB0 : ∀ i, offB i = 0) (hO0 : ∀ i, offO i = 0)
  (D : Defs nD τ sig (Elt F) Λ₀) (c : Dev nD) (x0 : Vec F SA eA) (x1 : Vec F SB eB) (E : Set ℕ)
  (K : PUnit → sProp (MT nD τ sig Unit (Elt F) ℕ (UR sig nD τ) ℕ))

include ha hb hA0 hB0 hO0

set_option maxHeartbeats 1000000 in
/-- The body where the condition holds: the result is `p` of `z` and the two operands. -/
theorem run_first (hq : q = 1#1) :
    iprop(owns (c : Thread nD τ) a fullShare x0 ∗ owns (c : Thread nD τ) b fullShare x1 ∗ (∃ d, owns (c : Thread nD τ) o fullShare d)
        ∗ (iprop(owns (c : Thread nD τ) a fullShare x0 ∗ owns (c : Thread nD τ) b fullShare x1 ∗ owns (c : Thread nD τ) o fullShare (p z x0 x1)) -∗ K ⟨⟩))
      ⊢ wp frame (wpE D Variants.none c none) E (body q a b o offA inbA hA offB inbB hB offO inbO hO z p) K := by
  unfold body
  unfold owns
  iintro ⟨⟨%f0, %hf0, H0⟩, ⟨%f1, %hf1, H1⟩, ⟨%d2, %f2, -, H2⟩, Hk⟩
  obtain rfl := ha.eq_unread hf0; obtain rfl := hb.eq_unread hf1
  sl_exec (disch := first | sl_exact hq)
  sl_step
  iapply Hk
  isplitl [H0]
  · iexists _; isplitr; · ipureintro; exact ha.read_unread _
    iexact H0
  isplitl [H1]
  · iexists _; isplitr; · ipureintro; exact hb.read_unread _
    iexact H1
  iexists _; isplitr
  swap; · iexact H2
  ipureintro
  refine (read_store o.view f2 offO hO0 inbO _ _).trans ?_
  refine congr (congr (congrArg p ?_) (load_unread a ha x0 _ hA0 _)) (load_unread b hb x1 _ hB0 _)
  exact (congrArg (fun u => View.ld u (Rect.unit (s := SO) offO SO.size inbO)) (read_store o.view f2 offO hO0 inbO z [])).trans (ld_whole z offO hO0 inbO)

include ho

set_option maxHeartbeats 1000000 in
/-- The body where it does not: the result is `p` of what the buffer held and the two operands. -/
theorem run_later (hq : ¬q = 1#1) (x2 : Vec F SO .f32) :
    iprop(owns (c : Thread nD τ) a fullShare x0 ∗ owns (c : Thread nD τ) b fullShare x1 ∗ owns (c : Thread nD τ) o fullShare x2
        ∗ (iprop(owns (c : Thread nD τ) a fullShare x0 ∗ owns (c : Thread nD τ) b fullShare x1 ∗ owns (c : Thread nD τ) o fullShare (p x2 x0 x1)) -∗ K ⟨⟩))
      ⊢ wp frame (wpE D Variants.none c none) E (body q a b o offA inbA hA offB inbB hB offO inbO hO z p) K := by
  unfold body
  unfold owns
  iintro ⟨⟨%f0, %hf0, H0⟩, ⟨%f1, %hf1, H1⟩, ⟨%f2, %hf2, H2⟩, Hk⟩
  obtain rfl := ha.eq_unread hf0; obtain rfl := hb.eq_unread hf1; obtain rfl := ho.eq_unread hf2
  sl_exec (disch := first | sl_exact hq)
  sl_step
  iapply Hk
  isplitl [H0]
  · iexists _; isplitr; · ipureintro; exact ha.read_unread _
    iexact H0
  isplitl [H1]
  · iexists _; isplitr; · ipureintro; exact hb.read_unread _
    iexact H1
  iexists _; isplitr
  swap; · iexact H2
  ipureintro
  refine (read_store o.view _ offO hO0 inbO _ _).trans ?_
  exact congr (congr (congrArg p (load_unread o ho x2 _ hO0 _)) (load_unread a ha x0 _ hA0 _)) (load_unread b hb x1 _ hB0 _)

set_option maxHeartbeats 1000000 in
/-- The body in either case, with what it doesn't touch carried along: `r` is what it leaves in the result's buffer, whose contents before it are `d₂ ↦ x2 d₂`. -/
theorem run {δ₀ δ₁ δ₂ : Type} (Φ O : sProp (MT nD τ sig Unit (Elt F) ℕ (UR sig nD τ) ℕ)) (x2 : δ₂ → Vec F SO .f32) (r : Vec F SO .f32)
    (hf : q = 1#1 → r = p z x0 x1) (hl : ¬q = 1#1 → ∀ d, r = p (x2 d) x0 x1) :
    iprop(Φ ∗ O ∗ (∃ _ : δ₀, owns (c : Thread nD τ) a fullShare x0) ∗ (∃ _ : δ₁, owns (c : Thread nD τ) b fullShare x1) ∗ (∃ d, owns (c : Thread nD τ) o fullShare (x2 d)))
      ⊢ wp frame (wpE D Variants.none c none) E (body q a b o offA inbA hA offB inbB hB offO inbO hO z p)
        (fun _ => iprop(Φ ∗ O ∗ owns (c : Thread nD τ) a fullShare x0 ∗ owns (c : Thread nD τ) b fullShare x1 ∗ owns (c : Thread nD τ) o fullShare r)) := by
  by_cases hq : q = 1#1
  · iintro ⟨HΦ, Ho, ⟨%d0, H0⟩, ⟨%d1, H1⟩, ⟨%d2, H2⟩⟩
    iapply (run_first q a b o offA inbA hA offB inbB hB offO inbO hO z p ha hb hA0 hB0 hO0 D c x0 x1 E _ hq)
    isplitl [H0]; · iexact H0
    isplitl [H1]; · iexact H1
    isplitl [H2]; · iexists _; iexact H2
    rw [hf hq]
    iintro ⟨H0, H1, H2⟩
    isplitl [HΦ]; · iexact HΦ
    isplitl [Ho]; · iexact Ho
    isplitl [H0]; · iexact H0
    isplitl [H1]; · iexact H1
    iexact H2
  · iintro ⟨HΦ, Ho, ⟨%d0, H0⟩, ⟨%d1, H1⟩, ⟨%d2, H2⟩⟩
    iapply (run_later q a b o offA inbA hA offB inbB hB offO inbO hO z p ha hb ho hA0 hB0 hO0 D c x0 x1 E _ hq (x2 d2))
    isplitl [H0]; · iexact H0
    isplitl [H1]; · iexact H1
    isplitl [H2]; · iexact H2
    rw [hl hq d2]
    iintro ⟨H0, H1, H2⟩
    isplitl [HΦ]; · iexact HΦ
    isplitl [Ho]; · iexact Ho
    isplitl [H0]; · iexact H0
    isplitl [H1]; · iexact H1
    iexact H2

end Body

/-- A result written back after every eighth point holds nothing yet at the first of eight points only. -/
theorem fresh_eight (cfg : Pipeline.Cfg sig Λ₀) (w : Fin cfg.W) (hi : ∀ t : Fin cfg.N, cfg.idle w (cfg.grid.coords t) = false) (hw : ∀ t : Fin cfg.N, (cfg.win w).flush t = decide (t.val % 8 = 7)) (n : ℕ) (hn : n ≤ cfg.N) :
    cfg.fresh w n = decide (n % 8 = 0) := by
  refine cfg.fresh_tab w (fun n => decide (n % 8 = 0)) rfl (fun t => ?_) n hn
  rw [hw, hi]
  by_cases h : t.val % 8 = 7
  · have : (t.val + 1) % 8 = 0 := by omega
    simp [h, this]
  · have : ¬(t.val + 1) % 8 = 0 := by omega
    simp [h, this]

section Sum

variable {SA SB SO : Shape} {eA eB : EltTy} {N : ℕ} (z : Vec F SO .f32) (p : Vec F SO .f32 → Vec F SA eA → Vec F SB eB → Vec F SO .f32)
  (A : Fin N → Vec F SA eA) (B : Fin N → Vec F SB eB)

/-- The result's block after a point: what was added up since it was last cleared, at every eighth point. -/
def sumAt : (n : ℕ) → n < N → Vec F SO .f32
  | 0, h => p z (A ⟨0, h⟩) (B ⟨0, h⟩)
  | n + 1, h => p (if (n + 1) % 8 = 0 then z else sumAt n (Nat.lt_of_succ_lt h)) (A ⟨n + 1, h⟩) (B ⟨n + 1, h⟩)

/-- At the first of eight points it is what the point adds. -/
theorem sumAt_first (n : ℕ) (hn : n < N) (h0 : n % 8 = 0) : sumAt z p A B n hn = p z (A ⟨n, hn⟩) (B ⟨n, hn⟩) := by
  cases n with
  | zero => rfl
  | succ n => rw [sumAt, if_pos h0]

/-- At a later point the point adds to it. -/
theorem sumAt_later (n : ℕ) (hn : n < N) (h0 : ¬n % 8 = 0) : sumAt z p A B n hn = p (sumAt z p A B (n - 1) (Nat.lt_of_le_of_lt (Nat.sub_le _ _) hn)) (A ⟨n, hn⟩) (B ⟨n, hn⟩) := by
  cases n with
  | zero => exact absurd rfl h0
  | succ n => rw [sumAt, if_neg h0]; rfl

end Sum

end Cert.Accum

end
-- ==== Proof.Kept.lean ====
/- A body that stores rows at the first of a row of points, keeps them for the others, and at every point multiplies what it keeps: its two runs, for buffers of any shape, and when the kept rows' buffer holds nothing yet. -/
module

public import proofs.«01_k».proof.Proof.Accum

@[expose] public section

set_option maxRecDepth 16384

noncomputable section

namespace Cert.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Accum (read_store ld_whole load_unread)

variable {F : FTy → Type} [FloatOps F] {nD : ℕ} {τ : Topo} {sig : RefSig} {Λ₀ : Labels}

section Body

variable {SA SB SW SN SO : Shape} {eA eB eW eN eO : EltTy}
  (q : BitVec 1) (a : Memref sig .tc .vmem SA eA) (b : Memref sig .tc .vmem SB eB) (w : Memref sig .tc .vmem SW eW) (n : Memref sig .tc .vmem SN eN) (o : Memref sig .tc .vmem SO eO)
  (offA : Fin SA.rank → ℕ) (inbA : ∀ i, offA i + SA.size i ≤ SA.size i) (hA : 0 < SA.numel)
  (offB : Fin SB.rank → ℕ) (inbB : ∀ i, offB i + SB.size i ≤ SB.size i) (hB : 0 < SB.numel)
  (offW : Fin SW.rank → ℕ) (inbW : ∀ i, offW i + SW.size i ≤ SW.size i) (hW : 0 < SW.numel)
  (offN : Fin SN.rank → ℕ) (inbN : ∀ i, offN i + SN.size i ≤ SN.size i) (hN : 0 < SN.numel)
  (offO : Fin SO.rank → ℕ) (inbO : ∀ i, offO i + SO.size i ≤ SO.size i) (hO : 0 < SO.numel)
  (sN : (n.access (Rect.unit (s := SN) offN SN.size inbN)).Stores Finset.univ) (sO : (o.access (Rect.unit (s := SO) offO SO.size inbO)).Stores Finset.univ)
  (p₁ : Vec F SA eA → Vec F SB eB → Vec F SN eN) (p₂ : Vec F SN eN → Vec F SW eW → Vec F SO eO)

/-- The body: under the condition the rows `p₁` makes of the first two buffers are stored, and then what `p₂` makes of the rows kept and the third. -/
def body : Prog (TpuEff nD τ sig (Elt F) Λ₀ .tc) PUnit := do
  if _h : q = 1#1 then do
    let x : Vec F SA eA ← Prog.lift (.load a (Rect.unit (s := SA) offA SA.size inbA).toLoadRect (View.loadsAt_vmem hA))
    let y : Vec F SB eB ← Prog.lift (.load b (Rect.unit (s := SB) offB SB.size inbB).toLoadRect (View.loadsAt_vmem hB))
    let _x : Vec F SN eN ← Prog.lift (.load n (Rect.unit (s := SN) offN SN.size inbN).toLoadRect (View.loadsAt_vmem hN))
    Prog.lift (.store n (Rect.unit (s := SN) offN SN.size inbN) (p₁ x y) Finset.univ sN (.inl rfl))
    pure ⟨⟩
  else do
    pure ⟨⟩
  let x : Vec F SN eN ← Prog.lift (.load n (Rect.unit (s := SN) offN SN.size inbN).toLoadRect (View.loadsAt_vmem hN))
  let y : Vec F SW eW ← Prog.lift (.load w (Rect.unit (s := SW) offW SW.size inbW).toLoadRect (View.loadsAt_vmem hW))
  let _x : Vec F SO eO ← Prog.lift (.load o (Rect.unit (s := SO) offO SO.size inbO).toLoadRect (View.loadsAt_vmem hO))
  Prog.lift (.store o (Rect.unit (s := SO) offO SO.size inbO) (p₂ x y) Finset.univ sO (.inl rfl))
  pure ⟨⟩

variable (ha : a.IsWhole) (hb : b.IsWhole) (hw : w.IsWhole) (hn : n.IsWhole)
  (hA0 : ∀ i, offA i = 0) (hB0 : ∀ i, offB i = 0) (hW0 : ∀ i, offW i = 0) (hN0 : ∀ i, offN i = 0) (hO0 : ∀ i, offO i = 0)
  (D : Defs nD τ sig (Elt F) Λ₀) (c : Dev nD) (x0 : Vec F SA eA) (x1 : Vec F SB eB) (x2 : Vec F SW eW) (E : Set ℕ)
  (K : PUnit → sProp (MT nD τ sig Unit (Elt F) ℕ (UR sig nD τ) ℕ))

include ha hb hw hA0 hB0 hW0 hN0 hO0

set_option maxHeartbeats 1000000 in
/-- The body where the condition holds: the rows are stored, read back and multiplied. -/
theorem run_first (hq : q = 1#1) :
    iprop(owns (c : Thread nD τ) a fullShare x0 ∗ owns (c : Thread nD τ) b fullShare x1 ∗ owns (c : Thread nD τ) w fullShare x2 ∗ (∃ d, owns (c : Thread nD τ) n fullShare d) ∗ (∃ d, owns (c : Thread nD τ) o fullShare d)
        ∗ (iprop(owns (c : Thread nD τ) a fullShare x0 ∗ owns (c : Thread nD τ) b fullShare x1 ∗ owns (c : Thread nD τ) w fullShare x2 ∗ owns (c : Thread nD τ) n fullShare (p₁ x0 x1)
            ∗ owns (c : Thread nD τ) o fullShare (p₂ (p₁ x0 x1) x2)) -∗ K ⟨⟩))
      ⊢ wp frame (wpE D Variants.none c none) E (body q a b w n o offA inbA hA offB inbB hB offW inbW hW offN inbN hN offO inbO hO sN sO p₁ p₂) K := by
  unfold body
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := ha.eq_unread hf0; obtain rfl := hb.eq_unread hf1; obtain rfl := hw.eq_unread hf2
  sl_exec (disch := first | sl_exact hq)
  sl_step
  iapply Hk
  isplitl [H0]
  · iexists _; isplitr; · ipureintro; exact ha.read_unread _
    iexact H0
  isplitl [H1]
  · iexists _; isplitr; · ipureintro; exact hb.read_unread _
    iexact H1
  isplitl [H2]
  · iexists _; isplitr; · ipureintro; exact hw.read_unread _
    iexact H2
  isplitl [H3]
  · iexists _; isplitr
    swap; · iexact H3
    ipureintro
    refine (read_store n.view f3 offN hN0 inbN _ _).trans ?_
    exact congrArg₂ p₁ (load_unread a ha x0 _ hA0 _) (load_unread b hb x1 _ hB0 _)
  iexists _; isplitr
  swap; · iexact H4
  ipureintro
  refine (read_store o.view f4 offO hO0 inbO _ _).trans ?_
  refine congrArg₂ p₂ ?_ (load_unread w hw x2 _ hW0 _)
  refine ((congrArg (fun u => View.ld u (Rect.unit (s := SN) offN SN.size inbN)) (read_store n.view f3 offN hN0 inbN _ [])).trans (ld_whole _ offN hN0 inbN)).trans ?_
  exact congrArg₂ p₁ (load_unread a ha x0 _ hA0 _) (load_unread b hb x1 _ hB0 _)

include hn

set_option maxHeartbeats 1000000 in
/-- The body where it does not: the rows kept are read back and multiplied. -/
theorem run_later (hq : ¬q = 1#1) (x3 : Vec F SN eN) :
    iprop(owns (c : Thread nD τ) a fullShare x0 ∗ owns (c : Thread nD τ) b fullShare x1 ∗ owns (c : Thread nD τ) w fullShare x2 ∗ owns (c : Thread nD τ) n fullShare x3 ∗ (∃ d, owns (c : Thread nD τ) o fullShare d)
        ∗ (iprop(owns (c : Thread nD τ) a fullShare x0 ∗ owns (c : Thread nD τ) b fullShare x1 ∗ owns (c : Thread nD τ) w fullShare x2 ∗ owns (c : Thread nD τ) n fullShare x3
            ∗ owns (c : Thread nD τ) o fullShare (p₂ x3 x2)) -∗ K ⟨⟩))
      ⊢ wp frame (wpE D Variants.none c none) E (body q a b w n o offA inbA hA offB inbB hB offW inbW hW offN inbN hN offO inbO hO sN sO p₁ p₂) K := by
  unfold body
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := ha.eq_unread hf0; obtain rfl := hb.eq_unread hf1; obtain rfl := hw.eq_unread hf2; obtain rfl := hn.eq_unread hf3
  sl_exec (disch := first | sl_exact hq)
  sl_step
  iapply Hk
  isplitl [H0]
  · iexists _; isplitr; · ipureintro; exact ha.read_unread _
    iexact H0
  isplitl [H1]
  · iexists _; isplitr; · ipureintro; exact hb.read_unread _
    iexact H1
  isplitl [H2]
  · iexists _; isplitr; · ipureintro; exact hw.read_unread _
    iexact H2
  isplitl [H3]
  · iexists _; isplitr; · ipureintro; exact hn.read_unread _
    iexact H3
  iexists _; isplitr
  swap; · iexact H4
  ipureintro
  refine (read_store o.view f4 offO hO0 inbO _ _).trans ?_
  exact congrArg₂ p₂ (load_unread n hn x3 _ hN0 _) (load_unread w hw x2 _ hW0 _)

set_option maxHeartbeats 1000000 in
/-- The body in either case, with what it doesn't touch carried along: `x` are the rows in their buffer afterwards, and `L` is what is owed of that buffer. -/
theorem run {δ₀ δ₁ δ₂ δ₃ δ₄ : Type} (Φ O L : sProp (MT nD τ sig Unit (Elt F) ℕ (UR sig nD τ) ℕ)) (x3 : δ₃ → Vec F SN eN) (x4 : δ₄ → Vec F SO eO) (x : Vec F SN eN)
    (hf : q = 1#1 → x = p₁ x0 x1) (hl : ¬q = 1#1 → ∀ d, x3 d = x) (hL : owns (c : Thread nD τ) n fullShare x ⊢ L) :
    iprop(Φ ∗ O ∗ (∃ _ : δ₀, owns (c : Thread nD τ) a fullShare x0) ∗ (∃ _ : δ₁, owns (c : Thread nD τ) b fullShare x1) ∗ (∃ _ : δ₂, owns (c : Thread nD τ) w fullShare x2)
        ∗ (∃ d, owns (c : Thread nD τ) n fullShare (x3 d)) ∗ (∃ d, owns (c : Thread nD τ) o fullShare (x4 d)))
      ⊢ wp frame (wpE D Variants.none c none) E (body q a b w n o offA inbA hA offB inbB hB offW inbW hW offN inbN hN offO inbO hO sN sO p₁ p₂)
        (fun _ => iprop(Φ ∗ O ∗ owns (c : Thread nD τ) a fullShare x0 ∗ owns (c : Thread nD τ) b fullShare x1 ∗ owns (c : Thread nD τ) w fullShare x2 ∗ L ∗ owns (c : Thread nD τ) o fullShare (p₂ x x2))) := by
  by_cases hq : q = 1#1
  · iintro ⟨HΦ, Ho, ⟨%d0, H0⟩, ⟨%d1, H1⟩, ⟨%d2, H2⟩, ⟨%d3, H3⟩, ⟨%d4, H4⟩⟩
    iapply (run_first q a b w n o offA inbA hA offB inbB hB offW inbW hW offN inbN hN offO inbO hO sN sO p₁ p₂ ha hb hw hA0 hB0 hW0 hN0 hO0 D c x0 x1 x2 E _ hq)
    isplitl [H0]; · iexact H0
    isplitl [H1]; · iexact H1
    isplitl [H2]; · iexact H2
    isplitl [H3]; · iexists _; iexact H3
    isplitl [H4]; · iexists _; iexact H4
    rw [← hf hq]
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply hL
      iexact H3
    iexact H4
  · simp only [hl hq]
    iintro ⟨HΦ, Ho, ⟨%d0, H0⟩, ⟨%d1, H1⟩, ⟨%d2, H2⟩, ⟨%d3, H3⟩, ⟨%d4, H4⟩⟩
    iapply (run_later q a b w n o offA inbA hA offB inbB hB offW inbW hW offN inbN hN offO inbO hO sN sO p₁ p₂ ha hb hw hn hA0 hB0 hW0 hN0 hO0 D c x0 x1 x2 E _ hq x)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply hL
      iexact H3
    iexact H4

end Body

/-- Rows stored at the first of every `L` points and written back after the last hold nothing yet at the first only. -/
theorem fresh_kept (cfg : Pipeline.Cfg sig Λ₀) (w : Fin cfg.W) (L : ℕ) (hL : 1 < L) (hi : ∀ t : Fin cfg.N, cfg.idle w (cfg.grid.coords t) = !decide (t.val % L = 0))
    (hw : ∀ t : Fin cfg.N, (cfg.win w).flush t = true ↔ t.val % L = L - 1) (n : ℕ) (hn : n ≤ cfg.N) : cfg.fresh w n = decide (n % L = 0) := by
  refine cfg.fresh_tab w (fun n => decide (n % L = 0)) (by simp) (fun t => ?_) n hn
  have hlt : t.val % L < L := Nat.mod_lt _ (by omega)
  have hadd : (t.val + 1) % L = (t.val % L + 1) % L := (Nat.mod_add_mod _ _ _).symm
  rw [hi]
  by_cases h : t.val % L = L - 1
  · have : (t.val + 1) % L = 0 := by rw [hadd, h, Nat.sub_add_cancel (by omega), Nat.mod_self]
    rw [(hw t).mpr h]
    simp [this]
  · have : ¬(t.val + 1) % L = 0 := by rw [hadd, Nat.mod_eq_of_lt (by omega)]; omega
    rw [Bool.eq_false_iff.mpr fun h' => h ((hw t).mp h')]
    by_cases h' : t.val % L = 0 <;> simp [h', this]

end Cert.Kept
-- ==== Proof.NormProjFrameIdeal.lean ====
/- The frame of `Kernel8Ideal`, the norm and the input projection: what the body leaves at every point, and the run. -/
module

public import proofs.«01_k».proof.Proof.Gen.Kernel8Ideal.Frame
public import proofs.«01_k».proof.Proof.Gen.Kernel8Ideal.Skeleton
public import proofs.«01_k».proof.Proof.Kept
public import Idealize.ShloMosaic.Lib.Pipeline.TableIdle
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body normalises at the first column block of each row block. -/
theorem hcond : ∀ t : Fin cfg0.N, k0_cond1 (grid0.coords t) = 1#1 ↔ t.val % 9 = 0 :=
  (fun t => by
    have ht : t.val < 36 := Nat.lt_of_lt_of_eq t.isLt N_0
    have e1 : (grid0.coords t 1).val = t.val / 1 % 9 := Pipeline.Grid.coords_val t 1 (by decide) rfl
    unfold k0_cond1
    simp only [e1]
    word_cmp
   : ∀ t : Fin grid0.N, k0_cond1 (grid0.coords t) = 1#1 ↔ t.val % 9 = 0)

variable (m : (ℓ : Loc nD τ sig) → Buf (Elt F) ℓ) (ρ : Dev nD → PrngReg)

/-- The first point of a point's row block. -/
def first (t : Fin cfg0.N) : Fin cfg0.N := ⟨9 * (t.val / 9), Nat.lt_of_le_of_lt (Nat.mul_div_le _ _) t.isLt⟩

/-- A row block's normed rows. -/
def xnAt (c : Dev nD) (t : Fin cfg0.N) : Vec F S2048x1024 .bf16 := k0_pay1 (iblk m c 0 (first t)) (iblk m c 1 (first t))

/-- A point's block of the product. -/
def oAt (c : Dev nD) (t : Fin cfg0.N) : Vec F S2048x1024 .f32 := k0_pay2 (xnAt m c t) (iblk m c 2 t)

/-- At the first column block the normed rows are of the point's own blocks. -/
theorem xnAt_first (c : Dev nD) (t : Fin cfg0.N) (h0 : t.val % 9 = 0) : xnAt m c t = k0_pay1 (iblk m c 0 t) (iblk m c 1 t) := by
  have e : first t = t := Fin.ext (by show 9 * (t.val / 9) = t.val; omega)
  unfold xnAt; rw [e]

/-- At a later column block the normed rows are those of the point before. -/
theorem xnAt_later (c : Dev nD) (t : Fin cfg0.N) (h0 : ¬t.val % 9 = 0) (hp : t.val - 1 < cfg0.N) : xnAt m c t = xnAt m c ⟨t.val - 1, hp⟩ := by
  have e : first t = first ⟨t.val - 1, hp⟩ := Fin.ext (by show 9 * (t.val / 9) = 9 * ((t.val - 1) / 9); omega)
  unfold xnAt; rw [e]

/-- The pipeline's proof data: the inputs' buffers at their blocks, the outputs' at the normed rows and the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => xnAt m c t
    | ⟨4, _⟩ => oAt m c t
  Φ _ := Pipeline.ΦA spec0 c
  q _ := fullShare
  owed _ := 0

/-- The arrays are the contents the region finds. -/
theorem A_eq (c : Dev nD) (w : Fin cfg0.W) : (dats m 0 c).A w = V m c (Pipeline.arrRef spec0 w) := by
  dsimp only [dats]

/-- What the body leaves in the first input's buffer. -/
theorem after0_0 (c : Dev nD) (t : Fin cfg0.N) : (dats m 0 c).after 0 t = iblk m c 0 t := by dsimp only [dats]
/-- What the body leaves in the second input's buffer. -/
theorem after0_1 (c : Dev nD) (t : Fin cfg0.N) : (dats m 0 c).after 1 t = iblk m c 1 t := by dsimp only [dats]
/-- What the body leaves in the third input's buffer. -/
theorem after0_2 (c : Dev nD) (t : Fin cfg0.N) : (dats m 0 c).after 2 t = iblk m c 2 t := by dsimp only [dats]
/-- What the body leaves in the normed rows' buffer. -/
theorem after0_3 (c : Dev nD) (t : Fin cfg0.N) : (dats m 0 c).after 3 t = xnAt m c t := by dsimp only [dats]
/-- What the body leaves in the product's buffer. -/
theorem after0_4 (c : Dev nD) (t : Fin cfg0.N) : (dats m 0 c).after 4 t = oAt m c t := by dsimp only [dats]

/-- The first input's buffer holds its block at every point. -/
theorem before0_0 (c : Dev nD) (t : Fin cfg0.N) (d) : (dats m 0 c).before 0 t d = iblk m c 0 t :=
  before0_0_of m (dats m 0 c) (A_eq m c 0) (after0_0 m c) t d
/-- The second input's buffer holds its block at every point. -/
theorem before0_1 (c : Dev nD) (t : Fin cfg0.N) (d) : (dats m 0 c).before 1 t d = iblk m c 1 t :=
  before0_1_of m (dats m 0 c) (A_eq m c 1) (after0_1 m c) t d
/-- The third input's buffer holds its block at every point. -/
theorem before0_2 (c : Dev nD) (t : Fin cfg0.N) (d) : (dats m 0 c).before 2 t d = iblk m c 2 t :=
  before0_2_of m (dats m 0 c) (A_eq m c 2) (after0_2 m c) t d

/-- The normed rows are stored at the first column block only. -/
theorem idle3 (t : Fin cfg0.N) : cfg0.idle 3 (cfg0.grid.coords t) = !(decide (t.val % 9 = 0)) := by
  show (!(k0_cond1 (grid0.coords t) == 1#1)) = _
  refine congrArg (! ·) ?_
  by_cases h : t.val % 9 = 0
  · rw [(hcond t).mpr h]; simp [h]
  · simp [h, mt (hcond t).mp h]

/-- Their buffer holds nothing yet at the first column block only. -/
theorem fresh3 (n : ℕ) (hn : n ≤ cfg0.N) : cfg0.fresh 3 n = decide (n % 9 = 0) :=
  Kept.fresh_kept cfg0 3 9 (by decide) idle3 flush0_3 n hn

/-- At a later column block the buffer holds the row block's normed rows. -/
theorem before0_3 (c : Dev nD) (t : Fin cfg0.N) (h0 : ¬t.val % 9 = 0) (d) : (dats m 0 c).before 3 t d = xnAt m c t := by
  have h := (dats m 0 c).before_out_traj 3 rfl (fun _ _ => rfl) (fun t ht hi hfr => by
    rw [after0_3, after0_3]
    refine xnAt_later m c t (fun h => ?_) _
    rw [idle3 t, h] at hi
    exact Bool.false_ne_true hi) t.val t rfl d
  rw [h, fresh3 _ (Nat.le_of_lt t.isLt), decide_eq_false h0, if_neg Bool.false_ne_true, after0_3]
  exact (xnAt_later m c t h0 _).symm

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

/-- The normed rows in their buffer are what the body is to leave there. -/
theorem leaves3 (c : Dev nD) (t : Fin cfg0.N) : owns (c : Thread nD τ) (st0_3 t) fullShare (xnAt m c t) ⊢ (dats m 0 c).leavesExact 3 t := by
  have hx : (dats m 0 c).after 3 t = xnAt m c t := after0_3 m c t
  by_cases h0 : t.val % 9 = 0
  · unfold Dat.leavesExact
    rw [idle3 t, decide_eq_true h0, hx]
    exact .rfl
  · by_cases h8 : t.val % 9 = 8
    · unfold Dat.leavesExact
      rw [idle3 t, decide_eq_false h0, (flush0_3 t).mpr h8, hx]
      exact .rfl
    · rw [(dats m 0 c).leavesExact_idle 3 t (by rw [idle3 t, decide_eq_false h0]; rfl) (Bool.eq_false_iff.mpr fun h' => h8 ((flush0_3 t).mp h'))]
      iintro H
      iexists xnAt m c t
      rw [before0_3 m c t h0]
      iexact H

/-- The body at a point is the one that keeps rows and multiplies. -/
theorem bodyAt0_eq (t : Fin cfg0.N) : bodyAt0 t = Kept.body (k0_cond1 (grid0.coords t)) (st0_0 t) (st0_1 t) (st0_2 t) (st0_3 t) (st0_4 t)
    ![0, 0] inb_S2048x1024_S2048x1024_0_0 h_S2048x1024 ![0, 0] inb_S1x1024_S1x1024_0_0 h_S1x1024 ![0, 0] inb_S1024x1024_S1024x1024_0_0 h_S1024x1024 ![0, 0] inb_S2048x1024_S2048x1024_0_0 h_S2048x1024 ![0, 0] inb_S2048x1024_S2048x1024_0_0 h_S2048x1024
    (View.stores_vmem h_S2048x1024 ((hstage0_3 ((cfg0.slots t 3).cast nbuf0_3)).storeExact_slice rfl _ packedbf16_S2048x1024_S2048x1024_0_0) (fun _ => rfl))
    (View.stores_vmem_bits_univ h_S2048x1024 rfl) (k0_pay1 (F := F)) k0_pay2 := by
  unfold bodyAt0; rw [cc0_l0_in_proj_eq_skeleton]; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  rw [bodyAt0_eq]
  exact Kept.run _ _ _ _ _ _ _ _ _ _ _ _ _ _ _ _ _ _ _ _ _ _ _ _ _
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3))
    (by decide) (by decide) (by decide) (by decide) (by decide) _ c (iblk m c 0 t) (iblk m c 1 t) (iblk m c 2 t) Set.univ _ _ _ _ _ (xnAt m c t)
    (fun h => xnAt_first m c t ((hcond t).mp h)) (fun h d => before0_3 m c t (fun h0 => h ((hcond t).mpr h0)) d) (leaves3 m c t)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every array ends as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel8Ideal.Hand

end
-- ==== Proof.NormProjFrame.lean ====
/- The frame of `Kernel8`, the norm and the input projection: its program is the idealized one's at the words, so its frame is that one's. -/
module

public import proofs.«01_k».proof.Proof.Gen.Kernel8
public import proofs.«01_k».proof.Proof.NormProjFrameIdeal

@[expose] public section

set_option maxRecDepth 16384

noncomputable section

namespace Cert.Kernel8.Hand

open Cert.Kernel8 Cert.Kernel8.Gen
open Idealize.ShloMosaic Idealize.ShloMosaic.TcCoe
open Idealize.SL.Sem

variable {F : FTy → Type} [FloatOps F]

/-- The body tables of the two programs are the same. -/
theorem bodies_eq : @defs₀ F _ _ = @Cert.Kernel8Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel8Ideal.defs F _ _ := congrArg (Pipeline.defs pcfgs) bodies_eq

/-- The two programs are the same. -/
theorem main_eq : main (F := F) = Cert.Kernel8Ideal.main := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.Kernel8Ideal.Hand.frame m ρ

end Cert.Kernel8.Hand

end
-- ==== Proof.NormFfnFrameIdeal.lean ====
/- The frame of `Kernel9Ideal`, the norm and the feed-forward input product: what the body leaves at every point, and the run. -/
module

public import proofs.«01_k».proof.Proof.Gen.Kernel9Ideal.Frame
public import proofs.«01_k».proof.Proof.Gen.Kernel9Ideal.Skeleton
public import proofs.«01_k».proof.Proof.Kept
public import Idealize.ShloMosaic.Lib.Pipeline.TableIdle
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body normalises at the first column block of each row block. -/
theorem hcond : ∀ t : Fin cfg0.N, k0_cond1 (grid0.coords t) = 1#1 ↔ t.val % 4 = 0 :=
  (fun t => by
    have ht : t.val < 16 := Nat.lt_of_lt_of_eq t.isLt N_0
    have e1 : (grid0.coords t 1).val = t.val / 1 % 4 := Pipeline.Grid.coords_val t 1 (by decide) rfl
    unfold k0_cond1
    simp only [e1]
    word_cmp
   : ∀ t : Fin grid0.N, k0_cond1 (grid0.coords t) = 1#1 ↔ t.val % 4 = 0)

variable (m : (ℓ : Loc nD τ sig) → Buf (Elt F) ℓ) (ρ : Dev nD → PrngReg)

/-- The first point of a point's row block. -/
def first (t : Fin cfg0.N) : Fin cfg0.N := ⟨4 * (t.val / 4), Nat.lt_of_le_of_lt (Nat.mul_div_le _ _) t.isLt⟩

/-- A row block's normed rows. -/
def xnAt (c : Dev nD) (t : Fin cfg0.N) : Vec F S2048x1024 .bf16 := k0_pay1 (iblk m c 0 (first t)) (iblk m c 1 (first t))

/-- A point's block of the product. -/
def oAt (c : Dev nD) (t : Fin cfg0.N) : Vec F S2048x1408 .bf16 := k0_pay2 (xnAt m c t) (iblk m c 2 t)

/-- At the first column block the normed rows are of the point's own blocks. -/
theorem xnAt_first (c : Dev nD) (t : Fin cfg0.N) (h0 : t.val % 4 = 0) : xnAt m c t = k0_pay1 (iblk m c 0 t) (iblk m c 1 t) := by
  have e : first t = t := Fin.ext (by show 4 * (t.val / 4) = t.val; omega)
  unfold xnAt; rw [e]

/-- At a later column block the normed rows are those of the point before. -/
theorem xnAt_later (c : Dev nD) (t : Fin cfg0.N) (h0 : ¬t.val % 4 = 0) (hp : t.val - 1 < cfg0.N) : xnAt m c t = xnAt m c ⟨t.val - 1, hp⟩ := by
  have e : first t = first ⟨t.val - 1, hp⟩ := Fin.ext (by show 4 * (t.val / 4) = 4 * ((t.val - 1) / 4); omega)
  unfold xnAt; rw [e]

/-- The pipeline's proof data: the inputs' buffers at their blocks, the outputs' at the normed rows and the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => xnAt m c t
    | ⟨4, _⟩ => oAt m c t
  Φ _ := Pipeline.ΦA spec0 c
  q _ := fullShare
  owed _ := 0

/-- The arrays are the contents the region finds. -/
theorem A_eq (c : Dev nD) (w : Fin cfg0.W) : (dats m 0 c).A w = V m c (Pipeline.arrRef spec0 w) := by
  dsimp only [dats]

/-- What the body leaves in the first input's buffer. -/
theorem after0_0 (c : Dev nD) (t : Fin cfg0.N) : (dats m 0 c).after 0 t = iblk m c 0 t := by dsimp only [dats]
/-- What the body leaves in the second input's buffer. -/
theorem after0_1 (c : Dev nD) (t : Fin cfg0.N) : (dats m 0 c).after 1 t = iblk m c 1 t := by dsimp only [dats]
/-- What the body leaves in the third input's buffer. -/
theorem after0_2 (c : Dev nD) (t : Fin cfg0.N) : (dats m 0 c).after 2 t = iblk m c 2 t := by dsimp only [dats]
/-- What the body leaves in the normed rows' buffer. -/
theorem after0_3 (c : Dev nD) (t : Fin cfg0.N) : (dats m 0 c).after 3 t = xnAt m c t := by dsimp only [dats]
/-- What the body leaves in the product's buffer. -/
theorem after0_4 (c : Dev nD) (t : Fin cfg0.N) : (dats m 0 c).after 4 t = oAt m c t := by dsimp only [dats]

/-- The first input's buffer holds its block at every point. -/
theorem before0_0 (c : Dev nD) (t : Fin cfg0.N) (d) : (dats m 0 c).before 0 t d = iblk m c 0 t :=
  before0_0_of m (dats m 0 c) (A_eq m c 0) (after0_0 m c) t d
/-- The second input's buffer holds its block at every point. -/
theorem before0_1 (c : Dev nD) (t : Fin cfg0.N) (d) : (dats m 0 c).before 1 t d = iblk m c 1 t :=
  before0_1_of m (dats m 0 c) (A_eq m c 1) (after0_1 m c) t d
/-- The third input's buffer holds its block at every point. -/
theorem before0_2 (c : Dev nD) (t : Fin cfg0.N) (d) : (dats m 0 c).before 2 t d = iblk m c 2 t :=
  before0_2_of m (dats m 0 c) (A_eq m c 2) (after0_2 m c) t d

/-- The normed rows are stored at the first column block only. -/
theorem idle3 (t : Fin cfg0.N) : cfg0.idle 3 (cfg0.grid.coords t) = !(decide (t.val % 4 = 0)) := by
  show (!(k0_cond1 (grid0.coords t) == 1#1)) = _
  refine congrArg (! ·) ?_
  by_cases h : t.val % 4 = 0
  · rw [(hcond t).mpr h]; simp [h]
  · simp [h, mt (hcond t).mp h]

/-- Their buffer holds nothing yet at the first column block only. -/
theorem fresh3 (n : ℕ) (hn : n ≤ cfg0.N) : cfg0.fresh 3 n = decide (n % 4 = 0) :=
  Kept.fresh_kept cfg0 3 4 (by decide) idle3 flush0_3 n hn

/-- At a later column block the buffer holds the row block's normed rows. -/
theorem before0_3 (c : Dev nD) (t : Fin cfg0.N) (h0 : ¬t.val % 4 = 0) (d) : (dats m 0 c).before 3 t d = xnAt m c t := by
  have h := (dats m 0 c).before_out_traj 3 rfl (fun _ _ => rfl) (fun t ht hi hfr => by
    rw [after0_3, after0_3]
    refine xnAt_later m c t (fun h => ?_) _
    rw [idle3 t, h] at hi
    exact Bool.false_ne_true hi) t.val t rfl d
  rw [h, fresh3 _ (Nat.le_of_lt t.isLt), decide_eq_false h0, if_neg Bool.false_ne_true, after0_3]
  exact (xnAt_later m c t h0 _).symm

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at a point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

/-- The normed rows in their buffer are what the body is to leave there. -/
theorem leaves3 (c : Dev nD) (t : Fin cfg0.N) : owns (c : Thread nD τ) (st0_3 t) fullShare (xnAt m c t) ⊢ (dats m 0 c).leavesExact 3 t := by
  have hx : (dats m 0 c).after 3 t = xnAt m c t := after0_3 m c t
  by_cases h0 : t.val % 4 = 0
  · unfold Dat.leavesExact
    rw [idle3 t, decide_eq_true h0, hx]
    exact .rfl
  · by_cases h8 : t.val % 4 = 3
    · unfold Dat.leavesExact
      rw [idle3 t, decide_eq_false h0, (flush0_3 t).mpr h8, hx]
      exact .rfl
    · rw [(dats m 0 c).leavesExact_idle 3 t (by rw [idle3 t, decide_eq_false h0]; rfl) (Bool.eq_false_iff.mpr fun h' => h8 ((flush0_3 t).mp h'))]
      iintro H
      iexists xnAt m c t
      rw [before0_3 m c t h0]
      iexact H

/-- The body at a point is the one that keeps rows and multiplies. -/
theorem bodyAt0_eq (t : Fin cfg0.N) : bodyAt0 t = Kept.body (k0_cond1 (grid0.coords t)) (st0_0 t) (st0_1 t) (st0_2 t) (st0_3 t) (st0_4 t)
    ![0, 0] inb_S2048x1024_S2048x1024_0_0 h_S2048x1024 ![0, 0] inb_S1x1024_S1x1024_0_0 h_S1x1024 ![0, 0, 0] inb_S1x1024x1408_S1x1024x1408_0_0_0 h_S1x1024x1408 ![0, 0] inb_S2048x1024_S2048x1024_0_0 h_S2048x1024 ![0, 0] inb_S2048x1408_S2048x1408_0_0 h_S2048x1408
    (View.stores_vmem h_S2048x1024 ((hstage0_3 ((cfg0.slots t 3).cast nbuf0_3)).storeExact_slice rfl _ packedbf16_S2048x1024_S2048x1024_0_0) (fun _ => rfl))
    (View.stores_vmem h_S2048x1408 ((hstage0_4 ((cfg0.slots t 4).cast nbuf0_4)).storeExact_slice rfl _ packedbf16_S2048x1408_S2048x1408_0_0) (fun _ => rfl)) (k0_pay1 (F := F)) k0_pay2 := by
  unfold bodyAt0; rw [cc0_l0_ffn_in_eq_skeleton]; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  rw [bodyAt0_eq]
  exact Kept.run _ _ _ _ _ _ _ _ _ _ _ _ _ _ _ _ _ _ _ _ _ _ _ _ _
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3))
    (by decide) (by decide) (by decide) (by decide) (by decide) _ c (iblk m c 0 t) (iblk m c 1 t) (iblk m c 2 t) Set.univ _ _ _ _ _ (xnAt m c t)
    (fun h => xnAt_first m c t ((hcond t).mp h)) (fun h d => before0_3 m c t (fun h0 => h ((hcond t).mpr h0)) d) (leaves3 m c t)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every array ends as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel9Ideal.Hand

end
-- ==== Proof.NormFfnFrame.lean ====
/- The frame of `Kernel9`, the norm and the feed-forward input product: its program is the idealized one's at the words, so its frame is that one's. -/
module

public import proofs.«01_k».proof.Proof.Gen.Kernel9
public import proofs.«01_k».proof.Proof.NormFfnFrameIdeal

@[expose] public section

set_option maxRecDepth 16384

noncomputable section

namespace Cert.Kernel9.Hand

open Cert.Kernel9 Cert.Kernel9.Gen
open Idealize.ShloMosaic Idealize.ShloMosaic.TcCoe
open Idealize.SL.Sem

variable {F : FTy → Type} [FloatOps F]

/-- The body tables of the two programs are the same. -/
theorem bodies_eq : @defs₀ F _ _ = @Cert.Kernel9Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel9Ideal.defs F _ _ := congrArg (Pipeline.defs pcfgs) bodies_eq

/-- The two programs are the same. -/
theorem main_eq : main (F := F) = Cert.Kernel9Ideal.main := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.Kernel9Ideal.Hand.frame m ρ

end Cert.Kernel9.Hand

end
-- ==== Proof.NormProjValue.lean ====
/- The norm and the input projection: what the kernel leaves is the reference's term. -/
module

public import proofs.«01_k».proof.Defs
public import proofs.«01_k».proof.Proof.Gen.Kernel8Ideal
public import Idealize.ShloMosaic.Lib.Pipeline.ValueKit.Tiles
public import proofs.«01_k».proof.Proof.Gen.Reference8Ideal.Run
public import proofs.«01_k».proof.Proof.Logistic
public import proofs.«01_k».proof.Proof.RmsScalars
public import proofs.«01_k».proof.Proof.NormProjFrameIdeal

@[expose] public section

set_option maxRecDepth 16384

noncomputable section

open Idealize.ShloMosaic Idealize.ShloMosaic.TcCoe Idealize.SL.Sem
open Idealize.ShloMosaic.Pipeline (Dat)

namespace Cert.Reference8Ideal.Value

open Cert.Reference8Ideal Cert.Reference8Ideal.Gen

variable (x : FVec Ideal S8192x1024 .f32) (g : FVec Ideal S1024 .f32) (w : FVec Ideal S1024x9216 .bf16)

/-- The reference's result 0. -/
abbrev REF0 : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

/-- The reference's result 1. -/
abbrev REF1 : FVec Ideal S8192x9216 .f32 :=
  Host.dotGeneral dot_S8192x1024_S1024x9216_S8192x9216_1_0_0_1_n_n none (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (extf .f32 w bitsLt_bf16_f32)

end Cert.Reference8Ideal.Value

namespace Cert.Kernel8Ideal.Value

open Cert.Kernel8Ideal Cert.Kernel8Ideal.Gen Cert.Kernel8Ideal.Hand Cert.Scalars

variable (m : (ℓ : Loc nD τ sig) → Buf (Elt Ideal) ℓ)

/-- The block indices of the windows at every grid point. -/
theorem idx : ∀ t : Fin cfg0.N, win0_0.index t = ![t.val / 9, 0]
    ∧ win0_1.index t = ![0, 0]
    ∧ win0_2.index t = ![0, t.val % 9]
    ∧ win0_3.index t = ![t.val / 9, 0]
    ∧ win0_4.index t = ![t.val / 9, t.val % 9] :=
  (by decide +kernel : ∀ t : Fin grid0.N, _)

/-- The normed rows at an index. -/
theorem pay_norm (x : FVec Ideal S2048x1024 .f32) (g : FVec Ideal S1x1024 .f32) (r : Fin 2048) (k : Fin 1024) :
    k0_pay1 (F := Ideal) x g (ix2 r k) = x (ix2 r k) * Ideal.rsqrt (var fun j : Fin 1024 => x (ix2 r j)) * g (ix2 0 k) := by
  pointwise [k0_pay1]
  rfl

/-- The product at an index. -/
theorem pay_mm (x : FVec Ideal S2048x1024 .bf16) (w : FVec Ideal S1024x1024 .bf16) (r : Fin 2048) (k : Fin 1024) :
    k0_pay2 (F := Ideal) x w (ix2 r k) = ∑ l : Fin 1024, x (ix2 r l) * w (ix2 l k) := by
  pointwise [k0_pay2]

/-- The reference's normed rows at an index. -/
theorem ref_norm (x : FVec Ideal S8192x1024 .f32) (g : FVec Ideal S1024 .f32) (r : Fin 8192) (k : Fin 1024) :
    Cert.Reference8Ideal.Value.REF0 x g (ix2 r k) = x (ix2 r k) * Ideal.rsqrt (var fun j : Fin 1024 => x (ix2 r j)) * g (ix1 k) := by
  pointwise [Cert.Reference8Ideal.Value.REF0]
  rfl

/-- The reference's product at an index. -/
theorem ref_mm (x : FVec Ideal S8192x1024 .f32) (g : FVec Ideal S1024 .f32) (w : FVec Ideal S1024x9216 .bf16) (r : Fin 8192) (k : Fin 9216) :
    Cert.Reference8Ideal.Value.REF1 x g w (ix2 r k) = ∑ l : Fin 1024, x (ix2 r l) * Ideal.rsqrt (var fun j : Fin 1024 => x (ix2 r j)) * g (ix1 l) * w (ix2 l k) := by
  pointwise [Cert.Reference8Ideal.Value.REF1]
  rfl

/-- The normed rows of a point, from the arrays. -/
theorem normed (c : Dev nD) (t : Fin cfg0.N) (r : Fin 2048) (k : Fin 1024) (hr : 2048 * (t.val / 9) + r.val < 8192) :
    xnAt m c t (ix2 r k) = Cert.Reference8Ideal.Value.REF0 (m ((c : Thread nD τ).loc main_arg0)) (m ((c : Thread nD τ).loc main_arg1)) (ix2 (⟨2048 * (t.val / 9) + r.val, hr⟩ : Fin 8192) k) := by
  have ht : t.val < 36 := t.isLt
  have hf : (first t).val / 9 = t.val / 9 := by show 9 * (t.val / 9) / 9 = _; omega
  unfold xnAt
  rw [pay_norm, ref_norm]
  have hx : ∀ j : Fin 1024, (iblk m c 0 (first t) : FVec Ideal S2048x1024 .f32) (ix2 r j)
      = (m ((c : Thread nD τ).loc main_arg0) : FVec Ideal S8192x1024 .f32) (ix2 ⟨2048 * (t.val / 9) + r.val, hr⟩ j) := fun j => by
    blk_point [iblk, V, idx (first t)]
  have hg : (iblk m c 1 (first t) : FVec Ideal S1x1024 .f32) (ix2 0 k) = (m ((c : Thread nD τ).loc main_arg1) : FVec Ideal S1024 .f32) (ix1 k) := by
    blk_point [iblk, V, idx (first t)]
  simp only [hx, hg]

/-- What a grid point writes back of the normed rows is the reference's term at the place of the array the window puts it. -/
theorem point0 (c : Dev nD) (t : Fin cfg0.N) (y : S2048x1024.Idx) :
    xnAt m c t y = Cert.Reference8Ideal.Value.REF0 (m ((c : Thread nD τ).loc main_arg0)) (m ((c : Thread nD τ).loc main_arg1)) (((cfg0.win 3).blk t).view.emb y) := by
  have ht : t.val < 36 := t.isLt
  obtain ⟨r, k, rfl⟩ : ∃ (r : Fin 2048) (k : Fin 1024), y = ix2 r k := ⟨y 0, y 1, eq_ix2 y⟩
  have hr : 2048 * (t.val / 9) + r.val < 8192 := by omega
  have e : ((cfg0.win 3).blk t).view.emb (ix2 r k) = ix2 (⟨2048 * (t.val / 9) + r.val, hr⟩ : Fin 8192) k := by
    blk_ext [idx t] <;> omega
  rw [e]
  exact normed m c t r k hr

/-- What a grid point writes back of the product is the reference's term at the place of the array the window puts it. -/
theorem point1 (c : Dev nD) (t : Fin cfg0.N) (y : S2048x1024.Idx) :
    oAt m c t y = Cert.Reference8Ideal.Value.REF1 (m ((c : Thread nD τ).loc main_arg0)) (m ((c : Thread nD τ).loc main_arg1)) (m ((c : Thread nD τ).loc main_arg2)) (((cfg0.win 4).blk t).view.emb y) := by
  have ht : t.val < 36 := t.isLt
  obtain ⟨r, k, rfl⟩ : ∃ (r : Fin 2048) (k : Fin 1024), y = ix2 r k := ⟨y 0, y 1, eq_ix2 y⟩
  have hr : 2048 * (t.val / 9) + r.val < 8192 := by omega
  have hk : 1024 * (t.val % 9) + k.val < 9216 := by omega
  have e : ((cfg0.win 4).blk t).view.emb (ix2 r k) = ix2 (⟨2048 * (t.val / 9) + r.val, hr⟩ : Fin 8192) (⟨1024 * (t.val % 9) + k.val, hk⟩ : Fin 9216) := by
    blk_ext [idx t] <;> omega
  rw [e]
  unfold oAt
  rw [pay_mm, ref_mm]
  refine Finset.sum_congr rfl fun l _ => ?_
  rw [normed m c t r l hr, ref_norm]
  refine congrArg _ ?_
  blk_point [iblk, V, idx t]

/-- The output array 0 after the run. -/
theorem final0 (c : Dev nD) : (dats m 0 c).arrAt 3 cfg0.N = Cert.Reference8Ideal.Value.REF0 (m ((c : Thread nD τ).loc main_arg0)) (m ((c : Thread nD τ).loc main_arg1)) := by
  refine (dats m 0 c).arrAt_eq_of_covers 3 _ (by decide +kernel) fun t hf y => ?_
  blk_simp
  rw [after0_3]
  exact point0 m c t y

/-- The output array 1 after the run. -/
theorem final1 (c : Dev nD) : (dats m 0 c).arrAt 4 cfg0.N = Cert.Reference8Ideal.Value.REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point1 m c t y

/-- The launch: the two results' arrays and the arguments at the end. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, (h.1 c).1 4, h.2 c⟩)
    (θ_run_and (run_main m ρ) (frame_of m ρ (dats m) (A_eq m) (run_main m ρ)))

end Cert.Kernel8Ideal.Value

/-- The kernel and the reference leave the same arrays. -/
theorem Cert.norm_proj_algebraic : Cert.algebraic_Kernel8Ideal_Reference8Ideal := by
  intro m g m' g' hp hm
  refine ⟨fun c => Cert.Reference8Ideal.Value.REF0 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Value.REF1 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · refine (θ_run _ _ _).mono (fun r h c => ?_) (Cert.Kernel8Ideal.Value.run_blocks m g)
    exact ⟨(h c).1.trans (Cert.Kernel8Ideal.Value.final0 m c), (h c).2.1.trans (Cert.Kernel8Ideal.Value.final1 m c), (h c).2.2⟩
  · refine (θ_run _ _ _).mono (fun r h c => ?_) (Cert.Reference8Ideal.Value.run m' g')
    obtain ⟨e0, e1, e2⟩ := hm c
    refine ⟨(h c).1.trans ?_, (h c).2.1.trans ?_, (h c).2.2⟩
    · rw [e0, e1]
    · rw [e0, e1, e2]
-- ==== Proof.NormFfnValue.lean ====
/- The norm and the feed-forward input product: what the kernel leaves is the reference's term. -/
module

public import proofs.«01_k».proof.Defs
public import proofs.«01_k».proof.Proof.Gen.Kernel9Ideal
public import Idealize.ShloMosaic.Lib.Pipeline.ValueKit.Tiles
public import proofs.«01_k».proof.Proof.Gen.Reference9Ideal.Run
public import proofs.«01_k».proof.Proof.Logistic
public import proofs.«01_k».proof.Proof.RmsScalars
public import proofs.«01_k».proof.Proof.NormFfnFrameIdeal

@[expose] public section

set_option maxRecDepth 16384

noncomputable section

open Idealize.ShloMosaic Idealize.ShloMosaic.TcCoe Idealize.SL.Sem
open Idealize.ShloMosaic.Pipeline (Dat)

namespace Cert.Reference9Ideal.Value

open Cert.Reference9Ideal Cert.Reference9Ideal.Gen

variable (x : FVec Ideal S8192x1024 .f32) (g : FVec Ideal S1024 .f32) (w : FVec Ideal S4x1024x1408 .bf16)

/-- The reference's result 0. -/
abbrev REF0 : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

/-- The reference's result 1. -/
abbrev REF1 : FVec Ideal S8192x5632 .bf16 :=
  truncf .bf16 (Host.dotGeneral dot_S8192x1024_S1024x5632_S8192x5632_1_0_0_1_n_n none (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (shapeCast _ (transpose S1024x4x1408 [1, 0, 2] (extf .f32 w bitsLt_bf16_f32) transposes_S4x1024x1408_S1024x4x1408_1_0_2) shapeCasts_S1024x4x1408_S1024x5632)) bitsLt_bf16_f32

end Cert.Reference9Ideal.Value

namespace Cert.Kernel9Ideal.Value

open Cert.Kernel9Ideal Cert.Kernel9Ideal.Gen Cert.Kernel9Ideal.Hand Cert.Scalars

variable (m : (ℓ : Loc nD τ sig) → Buf (Elt Ideal) ℓ)

/-- The block indices of the windows at every grid point. -/
theorem idx : ∀ t : Fin cfg0.N, win0_0.index t = ![t.val / 4, 0]
    ∧ win0_1.index t = ![0, 0]
    ∧ win0_2.index t = ![t.val % 4, 0, 0]
    ∧ win0_3.index t = ![t.val / 4, 0]
    ∧ win0_4.index t = ![t.val / 4, t.val % 4] :=
  (by decide +kernel : ∀ t : Fin grid0.N, _)

/-- The normed rows at an index. -/
theorem pay_norm (x : FVec Ideal S2048x1024 .f32) (g : FVec Ideal S1x1024 .f32) (r : Fin 2048) (k : Fin 1024) :
    k0_pay1 (F := Ideal) x g (ix2 r k) = x (ix2 r k) * Ideal.rsqrt (var fun j : Fin 1024 => x (ix2 r j)) * g (ix2 0 k) := by
  pointwise [k0_pay1]
  rfl

/-- The product at an index. -/
theorem pay_mm (x : FVec Ideal S2048x1024 .bf16) (w : FVec Ideal S1x1024x1408 .bf16) (r : Fin 2048) (k : Fin 1408) :
    k0_pay2 (F := Ideal) x w (ix2 r k) = ∑ l : Fin 1024, x (ix2 r l) * w (ix3 0 l k) := by
  pointwise [k0_pay2]

/-- The reference's normed rows at an index. -/
theorem ref_norm (x : FVec Ideal S8192x1024 .f32) (g : FVec Ideal S1024 .f32) (r : Fin 8192) (k : Fin 1024) :
    Cert.Reference9Ideal.Value.REF0 x g (ix2 r k) = x (ix2 r k) * Ideal.rsqrt (var fun j : Fin 1024 => x (ix2 r j)) * g (ix1 k) := by
  pointwise [Cert.Reference9Ideal.Value.REF0]
  rfl

/-- The reference's product at an index. -/
theorem ref_mm (x : FVec Ideal S8192x1024 .f32) (g : FVec Ideal S1024 .f32) (w : FVec Ideal S4x1024x1408 .bf16) (r : Fin 8192) (k : Fin 5632) :
    Cert.Reference9Ideal.Value.REF1 x g w (ix2 r k) = ∑ l : Fin 1024, x (ix2 r l) * Ideal.rsqrt (var fun j : Fin 1024 => x (ix2 r j)) * g (ix1 l) * w (ix3 ⟨k / 1408, by have := k.isLt; omega⟩ l ⟨k % 1408, Nat.mod_lt _ (by omega)⟩) := by
  pointwise [Cert.Reference9Ideal.Value.REF1]
  rfl

/-- The normed rows of a point, from the arrays. -/
theorem normed (c : Dev nD) (t : Fin cfg0.N) (r : Fin 2048) (k : Fin 1024) (hr : 2048 * (t.val / 4) + r.val < 8192) :
    xnAt m c t (ix2 r k) = Cert.Reference9Ideal.Value.REF0 (m ((c : Thread nD τ).loc main_arg0)) (m ((c : Thread nD τ).loc main_arg1)) (ix2 (⟨2048 * (t.val / 4) + r.val, hr⟩ : Fin 8192) k) := by
  have ht : t.val < 16 := t.isLt
  have hf : (first t).val / 4 = t.val / 4 := by show 4 * (t.val / 4) / 4 = _; omega
  unfold xnAt
  rw [pay_norm, ref_norm]
  have hx : ∀ j : Fin 1024, (iblk m c 0 (first t) : FVec Ideal S2048x1024 .f32) (ix2 r j)
      = (m ((c : Thread nD τ).loc main_arg0) : FVec Ideal S8192x1024 .f32) (ix2 ⟨2048 * (t.val / 4) + r.val, hr⟩ j) := fun j => by
    blk_point [iblk, V, idx (first t)]
  have hg : (iblk m c 1 (first t) : FVec Ideal S1x1024 .f32) (ix2 0 k) = (m ((c : Thread nD τ).loc main_arg1) : FVec Ideal S1024 .f32) (ix1 k) := by
    blk_point [iblk, V, idx (first t)]
  simp only [hx, hg]

/-- What a grid point writes back of the normed rows is the reference's term at the place of the array the window puts it. -/
theorem point0 (c : Dev nD) (t : Fin cfg0.N) (y : S2048x1024.Idx) :
    xnAt m c t y = Cert.Reference9Ideal.Value.REF0 (m ((c : Thread nD τ).loc main_arg0)) (m ((c : Thread nD τ).loc main_arg1)) (((cfg0.win 3).blk t).view.emb y) := by
  have ht : t.val < 16 := t.isLt
  obtain ⟨r, k, rfl⟩ : ∃ (r : Fin 2048) (k : Fin 1024), y = ix2 r k := ⟨y 0, y 1, eq_ix2 y⟩
  have hr : 2048 * (t.val / 4) + r.val < 8192 := by omega
  have e : ((cfg0.win 3).blk t).view.emb (ix2 r k) = ix2 (⟨2048 * (t.val / 4) + r.val, hr⟩ : Fin 8192) k := by
    blk_ext [idx t] <;> omega
  rw [e]
  exact normed m c t r k hr

/-- What a grid point writes back of the product is the reference's term at the place of the array the window puts it. -/
theorem point1 (c : Dev nD) (t : Fin cfg0.N) (y : S2048x1408.Idx) :
    oAt m c t y = Cert.Reference9Ideal.Value.REF1 (m ((c : Thread nD τ).loc main_arg0)) (m ((c : Thread nD τ).loc main_arg1)) (m ((c : Thread nD τ).loc main_arg2)) (((cfg0.win 4).blk t).view.emb y) := by
  have ht : t.val < 16 := t.isLt
  obtain ⟨r, k, rfl⟩ : ∃ (r : Fin 2048) (k : Fin 1408), y = ix2 r k := ⟨y 0, y 1, eq_ix2 y⟩
  have hr : 2048 * (t.val / 4) + r.val < 8192 := by omega
  have hk : 1408 * (t.val % 4) + k.val < 5632 := by omega
  have e : ((cfg0.win 4).blk t).view.emb (ix2 r k) = ix2 (⟨2048 * (t.val / 4) + r.val, hr⟩ : Fin 8192) (⟨1408 * (t.val % 4) + k.val, hk⟩ : Fin 5632) := by
    blk_ext [idx t] <;> omega
  rw [e]
  unfold oAt
  rw [pay_mm, ref_mm]
  refine Finset.sum_congr rfl fun l _ => ?_
  rw [normed m c t r l hr, ref_norm]
  refine congrArg _ ?_
  blk_point [iblk, V, idx t]

/-- The output array 0 after the run. -/
theorem final0 (c : Dev nD) : (dats m 0 c).arrAt 3 cfg0.N = Cert.Reference9Ideal.Value.REF0 (m ((c : Thread nD τ).loc main_arg0)) (m ((c : Thread nD τ).loc main_arg1)) := by
  refine (dats m 0 c).arrAt_eq_of_covers 3 _ (by decide +kernel) fun t hf y => ?_
  blk_simp
  rw [after0_3]
  exact point0 m c t y

/-- The output array 1 after the run. -/
theorem final1 (c : Dev nD) : (dats m 0 c).arrAt 4 cfg0.N = Cert.Reference9Ideal.Value.REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point1 m c t y

/-- The launch: the two results' arrays and the arguments at the end. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, (h.1 c).1 4, h.2 c⟩)
    (θ_run_and (run_main m ρ) (frame_of m ρ (dats m) (A_eq m) (run_main m ρ)))

end Cert.Kernel9Ideal.Value

/-- The kernel and the reference leave the same arrays. -/
theorem Cert.norm_ffn_algebraic : Cert.algebraic_Kernel9Ideal_Reference9Ideal := by
  intro m g m' g' hp hm
  refine ⟨fun c => Cert.Reference9Ideal.Value.REF0 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Value.REF1 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · refine (θ_run _ _ _).mono (fun r h c => ?_) (Cert.Kernel9Ideal.Value.run_blocks m g)
    exact ⟨(h c).1.trans (Cert.Kernel9Ideal.Value.final0 m c), (h c).2.1.trans (Cert.Kernel9Ideal.Value.final1 m c), (h c).2.2⟩
  · refine (θ_run _ _ _).mono (fun r h c => ?_) (Cert.Reference9Ideal.Value.run m' g')
    obtain ⟨e0, e1, e2⟩ := hm c
    refine ⟨(h c).1.trans ?_, (h c).2.1.trans ?_, (h c).2.2⟩
    · rw [e0, e1]
    · rw [e0, e1, e2]
-- ==== Proof.OutProjGradFrameIdeal.lean ====
/- The frame of `Kernel16Ideal`, the weight gradient of the output projection: the tables' contents, what the body leaves at every point, and the run. -/
module

public import proofs.«01_k».proof.Proof.Gen.Kernel16Ideal.Launch
public import proofs.«01_k».proof.Proof.Gen.Kernel16Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel16Ideal.Hand

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, 0]

/-- The block indices of the result, one axis by the second table. -/
def ixO (i : grid0.Coords) : Fin 2 → ℕ := ![0, (BitVec.ofNat 32 (i 1).val).toNat]

/-- The contents of the two tables. -/
def tabs : pre0.Contents (Elt F) := fun
  | 0 => (constantI S1 32 0#32 : main_c.ty.Contents (Elt F))
  | 1 => (constantI S1 32 0#32 : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_2 k0_off1_inb numel1_S1 (tabs (F := F)) i = ixO i := rfl

/-- Every block of the first operand is inside its array, and of whole words. -/
theorem okA : ∀ i : grid0.Coords, ∃ h : (∀ a, (ixA i a + 1) * S1024x1024.size a ≤ S8192x1024.size a),
    EltTy.bits .bf16 = 32 ∨ (Rect.block (s := S8192x1024) S1024x1024.size (ixA i) h).WholeWords (EltTy.packing .bf16) := by decide +kernel

/-- Every block of the result is inside its array, and of whole words. -/
theorem okO : ∀ i : grid0.Coords, ∃ h : (∀ a, (ixO i a + 1) * S1024x1024.size a ≤ S1024x1024.size a),
    EltTy.bits .f32 = 32 ∨ (Rect.block (s := S1024x1024) S1024x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))

/-- The tables are what the host operations put in them. -/
theorem hpf (c : Dev nD) (k : Fin 2) : V m c (pre0.ref k) = tabs (F := F) k := by
  match k with
  | 0 =>
    show (StableHlo.nullary (τ := τ) main_c_0 (constantI S1 32 0#32)).result ((StableHlo.nullary main_c (constantI S1 32 0#32)).result fun b => m (c, b)) (Proc.devRef .tc main_c) = _
    rw [StableHlo.nullary_result_ne (r := main_c) (h := by decide)]
    exact StableHlo.nullary_result main_c _ _ _
  | 1 =>
    show (StableHlo.nullary (τ := τ) main_c_0 (constantI S1 32 0#32)).result ((StableHlo.nullary main_c (constantI S1 32 0#32)).result fun b => m (c, b)) (Proc.devRef .tc main_c_0) = _
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x1024 .bf16 := iblk m c 0 t

/-- The second operand's block at a point. -/
def blkB (c : Dev nD) (t : Fin grid0.N) : Vec F S1024x1024 .f32 := iblk m c 1 t

/-- The result's block after a point: the products added up since it was cleared. -/
def oAt (c : Dev nD) (n : ℕ) (hn : n < grid0.N) : Vec F S1024x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_out_proj_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x1024_S1024x1024_0_0 h_S1024x1024 ![0, 0] inb_S1024x1024_S1024x1024_0_0 h_S1024x1024 ![0, 0] inb_S1024x1024_S1024x1024_0_0 h_S1024x1024 (k0_pay1 (F := F)) k0_pay2 := by
  unfold bodyAt0; rw [cc0_l0_out_proj_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.Kernel16Ideal.Hand

end
-- ==== Proof.OutProjGradFrame.lean ====
/- The frame of `Kernel16`, the weight gradient of the output projection: its program is the idealized one's at the words, so its frame is that one's. -/
module

public import proofs.«01_k».proof.Proof.Gen.Kernel16
public import proofs.«01_k».proof.Proof.OutProjGradFrameIdeal

@[expose] public section

set_option maxRecDepth 16384

noncomputable section

namespace Cert.Kernel16.Hand

open Cert.Kernel16 Cert.Kernel16.Gen
open Idealize.ShloMosaic Idealize.ShloMosaic.TcCoe
open Idealize.SL.Sem

variable {F : FTy → Type} [FloatOps F]

/-- The body tables of the two programs are the same. -/
theorem bodies_eq : @defs₀ F _ _ = @Cert.Kernel16Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel16Ideal.defs F _ _ := congrArg (Pipeline.defs pcfgs) bodies_eq

/-- The two programs are the same. -/
theorem main_eq : @main F _ _ = @Cert.Kernel16Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel16Ideal.Hand.frame m ρ

end Cert.Kernel16.Hand

end
-- ==== Proof.AccumSum.lean ====
/- The contents a body that clears and adds leaves, over the reals: after the last of eight points they are sums over the whole axis. -/
module

public import proofs.«01_k».proof.Defs
public import Idealize.ShloMosaic.Lib.Pipeline.ValueKit.Tiles
public import proofs.«01_k».proof.Proof.Accum

@[expose] public section

set_option maxRecDepth 16384

noncomputable section

namespace Cert.Accum

open Idealize.ShloMosaic Idealize.ShloMosaic.TcCoe Idealize.SL.Sem

/-- After the last of eight points an entry of the result is the sum of the terms of all eight, those of the whole axis in its order. -/
theorem sumAt_all {SA SB SO : Shape} {eA eB : EltTy} {N : ℕ} (z : FVec Ideal SO .f32) (p : FVec Ideal SO .f32 → Vec Ideal SA eA → Vec Ideal SB eB → FVec Ideal SO .f32)
    (A : Fin N → Vec Ideal SA eA) (B : Fin N → Vec Ideal SB eB) (j : SO.Idx) (T : Fin N → Fin 1024 → Ideal .f32) (U : Fin 8192 → Ideal .f32) (t : Fin N) (h : t.val % 8 = 7)
    (hz : z j = 0) (hp : ∀ o t, p o (A t) (B t) j = o j + ∑ l : Fin 1024, T t l)
    (hT : ∀ q : Fin N, q.val / 8 = t.val / 8 → ∀ l : Fin 1024, T q l = U ⟨1024 * (q.val % 8) + l.val, by omega⟩) :
    sumAt (F := Ideal) z p A B t.val t.isLt j = ∑ l : Fin 8192, U l := by
  refine (Pipeline.eq_sum_fin_of_reset_step_apply_of_flush (fun n h (_ : Unit) => sumAt (F := Ideal) z p A B n h j) 8 (fun _ => 0) (fun q _ => ∑ l : Fin 1024, T q l)
    (fun q h0 _ => by rw [sumAt_first z p A B q.val q.isLt h0, hp, hz]) (fun q h0 _ => by rw [sumAt_later z p A B q.val q.isLt h0, hp]) t h ()).trans ?_
  rw [zero_add]
  refine Fin.sum_mul_add_congr fun s l hl => ?_
  have e1 : (8 * (t.val / 8) + s.val) / 8 = t.val / 8 := by omega
  have e2 : (8 * (t.val / 8) + s.val) % 8 = s.val := by omega
  refine (hT ⟨_, Pipeline.run_point_lt_of_flush t h s⟩ e1 l).trans (congrArg U (Fin.ext ?_))
  show 1024 * ((8 * (t.val / 8) + s.val) % 8) + l.val = s.val * 1024 + l.val
  rw [e2, Nat.mul_comm]

end Cert.Accum
-- ==== Proof.OutProjGradValue.lean ====
/- The weight gradient of the output projection: what the kernel leaves is the reference's term. -/
module

public import proofs.«01_k».proof.Defs
public import Idealize.ShloMosaic.Lib.Pipeline.ValueKit.Tiles
public import proofs.«01_k».proof.Proof.Gen.Reference16Ideal.Run
public import proofs.«01_k».proof.Proof.Logistic
public import proofs.«01_k».proof.Proof.OutProjGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference16Ideal.Value

open Cert.Reference16Ideal Cert.Reference16Ideal.Gen

variable (a : FVec Ideal S8192x1024 .bf16) (b : FVec Ideal S8192x1024 .f32)

/-- The reference's result 0. -/
abbrev REF0 : FVec Ideal S1024x1024 .f32 :=
  transpose S1024x1024 [1, 0] (Host.dotGeneral dot_S8192x1024_S8192x1024_S1024x1024_0_0_1_1_n_n none b (extf .f32 a bitsLt_bf16_f32)) transposes_S1024x1024_S1024x1024_1_0

end Cert.Reference16Ideal.Value

namespace Cert.Kernel16Ideal.Value

open Cert.Kernel16Ideal Cert.Kernel16Ideal.Gen Cert.Kernel16Ideal.Hand

variable (m : (ℓ : Loc nD τ sig) → Buf (Elt Ideal) ℓ)

/-- The cleared block. -/
theorem zero_pay (j : S1024x1024.Idx) : k0_pay1 (F := Ideal) j = 0 := by pointwise [k0_pay1]

/-- One step of the accumulation. -/
theorem pay_acc (o : FVec Ideal S1024x1024 .f32) (a : FVec Ideal S1024x1024 .bf16) (b : FVec Ideal S1024x1024 .f32) (r : Fin 1024) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, 0] ∧ ((cfgT (F := Ideal)).win 1).index t = ![t.val % 8, 0]
    ∧ ((cfgT (F := Ideal)).win 2).index t = ![0, 0] :=
  (by decide +kernel : ∀ t : Fin grid0.N, ixA (grid0.coords t) = ![t.val % 8, 0] ∧ cc0_transform_1 (grid0.coords t) = ![t.val % 8, 0] ∧ ixO (grid0.coords t) = ![0, 0])

/-- The first operand's block at an index. -/
theorem blkA_at (c : Dev nD) (t : Fin grid0.N) (l : Fin 1024) (r : Fin 1024) :
    blkA m c t (ix2 l r) = (show FVec Ideal S8192x1024 .bf16 from m ((c : Thread nD τ).loc main_arg0)) (ix2 (⟨1024 * (t.val % 8) + l.val, by omega⟩ : Fin 8192) r) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .f32 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 1024) (k : Fin 1024) :
    (((cfgT (F := Ideal)).win 2).blk t).view.emb (ix2 r k) = ix2 r k := by
  blk_ext [idx t] <;> omega

/-- After the last row block the result's block is the sum over every row. -/
theorem acc (c : Dev nD) (t : Fin grid0.N) (h : t.val % 8 = 7) (r : Fin 1024) (k : Fin 1024) :
    oAt m c t.val t.isLt (ix2 r k) = ∑ l : Fin 8192, (show FVec Ideal S8192x1024 .bf16 from m ((c : Thread nD τ).loc main_arg0)) (ix2 l r) * (show FVec Ideal S8192x1024 .f32 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]

/-- The reference's term at an index. -/
theorem ref_at (a : FVec Ideal S8192x1024 .bf16) (b : FVec Ideal S8192x1024 .f32) (r : Fin 1024) (k : Fin 1024) :
    Cert.Reference16Ideal.Value.REF0 a b (ix2 r k) = ∑ l : Fin 8192, a (ix2 l r) * b (ix2 l k) := by
  pointwise [Cert.Reference16Ideal.Value.REF0]
  exact Finset.sum_congr rfl fun l _ => mul_comm _ _

/-- What is written back of the result is the reference's term at the place of the array the window puts it. -/
theorem point0 (c : Dev nD) (t : Fin grid0.N) (h : t.val % 8 = 7) (y : S1024x1024.Idx) :
    oAt m c t.val t.isLt y = Cert.Reference16Ideal.Value.REF0 (m ((c : Thread nD τ).loc main_arg0)) (m ((c : Thread nD τ).loc main_arg1)) ((((cfgT (F := Ideal)).win 2).blk t).view.emb y) := by
  have ht : t.val < 8 := t.isLt
  obtain ⟨r, k, rfl⟩ : ∃ (r : Fin 1024) (k : Fin 1024), y = ix2 r k := ⟨y 0, y 1, eq_ix2 y⟩
  rw [emb, acc m c t h, ref_at]

/-- The result's array after the run. -/
theorem final0 (c : Dev nD) : (dats m 0 c).arrAt 2 (cfgT (F := Ideal)).N = Cert.Reference16Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t (of_decide_eq_true ((flush2 t).symm.trans hf)) y

end Cert.Kernel16Ideal.Value

/-- The kernel and the reference leave the same arrays. -/
theorem Cert.out_proj_grad_algebraic : Cert.algebraic_Kernel16Ideal_Reference16Ideal := by
  intro m g m' g' hp hm
  refine ⟨fun c => Cert.Reference16Ideal.Value.REF0 (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run _ _ _).mono (fun r h c => ?_) (Cert.Kernel16Ideal.Hand.run_blocks m g)
    exact ⟨(h.1 c).1.trans (Cert.Kernel16Ideal.Value.final0 m c), (h.1 c).2⟩
  · refine (θ_run _ _ _).mono (fun r h c => ?_) (Cert.Reference16Ideal.Value.run m' g')
    obtain ⟨e0, e1⟩ := hm c
    refine ⟨(h c).1.trans ?_, (h c).2⟩
    · rw [e0, e1]
-- ==== Proof.BranchAGradFrameIdeal.lean ====
/- The frame of `Kernel17Ideal`, the weight gradient of the first branch: the tables' contents, what the body leaves at every point, and the run. -/
module

public import proofs.«01_k».proof.Proof.Gen.Kernel17Ideal.Launch
public import proofs.«01_k».proof.Proof.Gen.Kernel17Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, 0]

/-- The block indices of the result, one axis by the second table. -/
def ixO (i : grid0.Coords) : Fin 2 → ℕ := ![0, (BitVec.ofNat 32 (i 1).val).toNat]

/-- The contents of the two tables. -/
def tabs : pre0.Contents (Elt F) := fun
  | 0 => (constantI S1 32 0#32 : main_c.ty.Contents (Elt F))
  | 1 => (constantI S1 32 0#32 : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_2 k0_off1_inb numel1_S1 (tabs (F := F)) i = ixO i := rfl

/-- Every block of the first operand is inside its array, and of whole words. -/
theorem okA : ∀ i : grid0.Coords, ∃ h : (∀ a, (ixA i a + 1) * S1024x1024.size a ≤ S8192x1024.size a),
    EltTy.bits .bf16 = 32 ∨ (Rect.block (s := S8192x1024) S1024x1024.size (ixA i) h).WholeWords (EltTy.packing .bf16) := by decide +kernel

/-- Every block of the result is inside its array, and of whole words. -/
theorem okO : ∀ i : grid0.Coords, ∃ h : (∀ a, (ixO i a + 1) * S1024x1024.size a ≤ S1024x1024.size a),
    EltTy.bits .f32 = 32 ∨ (Rect.block (s := S1024x1024) S1024x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))

/-- The tables are what the host operations put in them. -/
theorem hpf (c : Dev nD) (k : Fin 2) : V m c (pre0.ref k) = tabs (F := F) k := by
  match k with
  | 0 =>
    show (StableHlo.nullary (τ := τ) main_c_0 (constantI S1 32 0#32)).result ((StableHlo.nullary main_c (constantI S1 32 0#32)).result fun b => m (c, b)) (Proc.devRef .tc main_c) = _
    rw [StableHlo.nullary_result_ne (r := main_c) (h := by decide)]
    exact StableHlo.nullary_result main_c _ _ _
  | 1 =>
    show (StableHlo.nullary (τ := τ) main_c_0 (constantI S1 32 0#32)).result ((StableHlo.nullary main_c (constantI S1 32 0#32)).result fun b => m (c, b)) (Proc.devRef .tc main_c_0) = _
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x1024 .bf16 := iblk m c 0 t

/-- The second operand's block at a point. -/
def blkB (c : Dev nD) (t : Fin grid0.N) : Vec F S1024x1024 .bf16 := iblk m c 1 t

/-- The result's block after a point: the products added up since it was cleared. -/
def oAt (c : Dev nD) (n : ℕ) (hn : n < grid0.N) : Vec F S1024x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_branch_a_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x1024_S1024x1024_0_0 h_S1024x1024 ![0, 0] inb_S1024x1024_S1024x1024_0_0 h_S1024x1024 ![0, 0] inb_S1024x1024_S1024x1024_0_0 h_S1024x1024 (k0_pay1 (F := F)) k0_pay2 := by
  unfold bodyAt0; rw [cc0_l0_branch_a_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.Kernel17Ideal.Hand

end
-- ==== Proof.BranchAGradFrame.lean ====
/- The frame of `Kernel17`, the weight gradient of the first branch: its program is the idealized one's at the words, so its frame is that one's. -/
module

public import proofs.«01_k».proof.Proof.Gen.Kernel17
public import proofs.«01_k».proof.Proof.BranchAGradFrameIdeal

@[expose] public section

set_option maxRecDepth 16384

noncomputable section

namespace Cert.Kernel17.Hand

open Cert.Kernel17 Cert.Kernel17.Gen
open Idealize.ShloMosaic Idealize.ShloMosaic.TcCoe
open Idealize.SL.Sem

variable {F : FTy → Type} [FloatOps F]

/-- The body tables of the two programs are the same. -/
theorem bodies_eq : @defs₀ F _ _ = @Cert.Kernel17Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel17Ideal.defs F _ _ := congrArg (Pipeline.defs pcfgs) bodies_eq

/-- The two programs are the same. -/
theorem main_eq : @main F _ _ = @Cert.Kernel17Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel17Ideal.Hand.frame m ρ

end Cert.Kernel17.Hand

end
-- ==== Proof.BranchAGradValue.lean ====
/- The weight gradient of the first branch: what the kernel leaves is the reference's term. -/
module

public import proofs.«01_k».proof.Defs
public import Idealize.ShloMosaic.Lib.Pipeline.ValueKit.Tiles
public import proofs.«01_k».proof.Proof.Gen.Reference17Ideal.Run
public import proofs.«01_k».proof.Proof.Logistic
public import proofs.«01_k».proof.Proof.BranchAGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference17Ideal.Value

open Cert.Reference17Ideal Cert.Reference17Ideal.Gen

variable (a : FVec Ideal S8192x1024 .bf16) (b : FVec Ideal S8192x1024 .bf16)

/-- The reference's result 0. -/
abbrev REF0 : FVec Ideal S1024x1024 .f32 :=
  transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0

end Cert.Reference17Ideal.Value

namespace Cert.Kernel17Ideal.Value

open Cert.Kernel17Ideal Cert.Kernel17Ideal.Gen Cert.Kernel17Ideal.Hand

variable (m : (ℓ : Loc nD τ sig) → Buf (Elt Ideal) ℓ)

/-- The cleared block. -/
theorem zero_pay (j : S1024x1024.Idx) : k0_pay1 (F := Ideal) j = 0 := by pointwise [k0_pay1]

/-- One step of the accumulation. -/
theorem pay_acc (o : FVec Ideal S1024x1024 .f32) (a : FVec Ideal S1024x1024 .bf16) (b : FVec Ideal S1024x1024 .bf16) (r : Fin 1024) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, 0] ∧ ((cfgT (F := Ideal)).win 1).index t = ![t.val % 8, 0]
    ∧ ((cfgT (F := Ideal)).win 2).index t = ![0, 0] :=
  (by decide +kernel : ∀ t : Fin grid0.N, ixA (grid0.coords t) = ![t.val % 8, 0] ∧ cc0_transform_1 (grid0.coords t) = ![t.val % 8, 0] ∧ ixO (grid0.coords t) = ![0, 0])

/-- The first operand's block at an index. -/
theorem blkA_at (c : Dev nD) (t : Fin grid0.N) (l : Fin 1024) (r : Fin 1024) :
    blkA m c t (ix2 l r) = (show FVec Ideal S8192x1024 .bf16 from m ((c : Thread nD τ).loc main_arg0)) (ix2 (⟨1024 * (t.val % 8) + l.val, by omega⟩ : Fin 8192) r) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .bf16 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 1024) (k : Fin 1024) :
    (((cfgT (F := Ideal)).win 2).blk t).view.emb (ix2 r k) = ix2 r k := by
  blk_ext [idx t] <;> omega

/-- After the last row block the result's block is the sum over every row. -/
theorem acc (c : Dev nD) (t : Fin grid0.N) (h : t.val % 8 = 7) (r : Fin 1024) (k : Fin 1024) :
    oAt m c t.val t.isLt (ix2 r k) = ∑ l : Fin 8192, (show FVec Ideal S8192x1024 .bf16 from m ((c : Thread nD τ).loc main_arg0)) (ix2 l r) * (show FVec Ideal S8192x1024 .bf16 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]

/-- The reference's term at an index. -/
theorem ref_at (a : FVec Ideal S8192x1024 .bf16) (b : FVec Ideal S8192x1024 .bf16) (r : Fin 1024) (k : Fin 1024) :
    Cert.Reference17Ideal.Value.REF0 a b (ix2 r k) = ∑ l : Fin 8192, a (ix2 l r) * b (ix2 l k) := by
  pointwise [Cert.Reference17Ideal.Value.REF0]
  exact Finset.sum_congr rfl fun l _ => mul_comm _ _

/-- What is written back of the result is the reference's term at the place of the array the window puts it. -/
theorem point0 (c : Dev nD) (t : Fin grid0.N) (h : t.val % 8 = 7) (y : S1024x1024.Idx) :
    oAt m c t.val t.isLt y = Cert.Reference17Ideal.Value.REF0 (m ((c : Thread nD τ).loc main_arg0)) (m ((c : Thread nD τ).loc main_arg1)) ((((cfgT (F := Ideal)).win 2).blk t).view.emb y) := by
  have ht : t.val < 8 := t.isLt
  obtain ⟨r, k, rfl⟩ : ∃ (r : Fin 1024) (k : Fin 1024), y = ix2 r k := ⟨y 0, y 1, eq_ix2 y⟩
  rw [emb, acc m c t h, ref_at]

/-- The result's array after the run. -/
theorem final0 (c : Dev nD) : (dats m 0 c).arrAt 2 (cfgT (F := Ideal)).N = Cert.Reference17Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t (of_decide_eq_true ((flush2 t).symm.trans hf)) y

end Cert.Kernel17Ideal.Value

/-- The kernel and the reference leave the same arrays. -/
theorem Cert.branch_a_grad_algebraic : Cert.algebraic_Kernel17Ideal_Reference17Ideal := by
  intro m g m' g' hp hm
  refine ⟨fun c => Cert.Reference17Ideal.Value.REF0 (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run _ _ _).mono (fun r h c => ?_) (Cert.Kernel17Ideal.Hand.run_blocks m g)
    exact ⟨(h.1 c).1.trans (Cert.Kernel17Ideal.Value.final0 m c), (h.1 c).2⟩
  · refine (θ_run _ _ _).mono (fun r h c => ?_) (Cert.Reference17Ideal.Value.run m' g')
    obtain ⟨e0, e1⟩ := hm c
    refine ⟨(h c).1.trans ?_, (h c).2⟩
    · rw [e0, e1]
-- ==== Proof.BranchBGradFrameIdeal.lean ====
/- The frame of `Kernel18Ideal`, the weight gradient of the second branch: the tables' contents, what the body leaves at every point, and the run. -/
module

public import proofs.«01_k».proof.Proof.Gen.Kernel18Ideal.Launch
public import proofs.«01_k».proof.Proof.Gen.Kernel18Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel18Ideal.Hand

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, (lit0 (S2.rowMajor ((Rect.unit (s := S2) ![(Scalar.indexCast (BitVec.ofNat 32 (i 0).val) : Index).toNat] S1.size (k0_off1_inb i)).emb (Shape.Idx.first (numel1_S1.symm ▸ Nat.one_pos))))).toNat]

/-- The block indices of the result, one axis by the second table. -/
def ixO (i : grid0.Coords) : Fin 2 → ℕ := ![(lit1 (S2.rowMajor ((Rect.unit (s := S2) ![(Scalar.indexCast (BitVec.ofNat 32 (i 0).val) : Index).toNat] S1.size (k0_off1_inb i)).emb (Shape.Idx.first (numel1_S1.symm ▸ Nat.one_pos))))).toNat, (BitVec.ofNat 32 (i 1).val).toNat]

/-- The contents of the two tables. -/
def tabs : pre0.Contents (Elt F) := fun
  | 0 => (fun i => lit0 (S2.rowMajor i) : main_c.ty.Contents (Elt F))
  | 1 => (fun i => lit1 (S2.rowMajor i) : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_3 k0_off1_inb numel1_S1 (tabs (F := F)) i = ixO i := rfl

/-- Every block of the first operand is inside its array, and of whole words. -/
theorem okA : ∀ i : grid0.Coords, ∃ h : (∀ a, (ixA i a + 1) * S1024x1024.size a ≤ S8192x2048.size a),
    EltTy.bits .bf16 = 32 ∨ (Rect.block (s := S8192x2048) S1024x1024.size (ixA i) h).WholeWords (EltTy.packing .bf16) := by decide +kernel

/-- Every block of the result is inside its array, and of whole words. -/
theorem okO : ∀ i : grid0.Coords, ∃ h : (∀ a, (ixO i a + 1) * S1024x1024.size a ≤ S3072x1024.size a),
    EltTy.bits .f32 = 32 ∨ (Rect.block (s := S3072x1024) S1024x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The third argument is as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The result's array starts as the third argument. -/
theorem V_main_v0 (c : Dev nD) : V m c main_v0 = m ((c : Thread nD τ).loc main_arg2) := by
  show (StableHlo.unary (τ := τ) main_arg2 main_v0 id).result ((StableHlo.nullary main_c_0 (fun i => lit1 (S2.rowMajor i))).result ((StableHlo.nullary main_c (fun i => lit0 (S2.rowMajor i))).result fun b => m (c, b))) (Proc.devRef .tc main_v0) = _
  rw [StableHlo.unary_result, id, StableHlo.nullary_result_ne (r := main_arg2) (h := by decide), StableHlo.nullary_result_ne (r := main_arg2) (h := by decide)]

/-- The tables are what the host operations put in them. -/
theorem hpf (c : Dev nD) (k : Fin 2) : V m c (pre0.ref k) = tabs (F := F) k := by
  match k with
  | 0 =>
    show (StableHlo.unary (τ := τ) main_arg2 main_v0 id).result ((StableHlo.nullary main_c_0 (fun i => lit1 (S2.rowMajor i))).result ((StableHlo.nullary main_c (fun i => lit0 (S2.rowMajor i))).result fun b => m (c, b))) (Proc.devRef .tc main_c) = _
    rw [StableHlo.unary_result_ne (r := main_c) (h := by decide)]
    rw [StableHlo.nullary_result_ne (r := main_c) (h := by decide)]
    exact StableHlo.nullary_result main_c _ _ _
  | 1 =>
    show (StableHlo.unary (τ := τ) main_arg2 main_v0 id).result ((StableHlo.nullary main_c_0 (fun i => lit1 (S2.rowMajor i))).result ((StableHlo.nullary main_c (fun i => lit0 (S2.rowMajor i))).result fun b => m (c, b))) (Proc.devRef .tc main_c_0) = _
    rw [StableHlo.unary_result_ne (r := main_c_0) (h := by decide)]
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x1024 .bf16 := iblk m c 0 t

/-- The second operand's block at a point. -/
def blkB (c : Dev nD) (t : Fin grid0.N) : Vec F S1024x1024 .bf16 := iblk m c 1 t

/-- The result's block after a point: the products added up since it was cleared. -/
def oAt (c : Dev nD) (n : ℕ) (hn : n < grid0.N) : Vec F S1024x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_branch_b_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (Memref.whole main_arg2) (Memref.isWhole_whole _) (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x1024_S1024x1024_0_0 h_S1024x1024 ![0, 0] inb_S1024x1024_S1024x1024_0_0 h_S1024x1024 ![0, 0] inb_S1024x1024_S1024x1024_0_0 h_S1024x1024 (k0_pay1 (F := F)) k0_pay2 := by
  unfold bodyAt0; rw [cc0_l0_branch_b_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (show main_arg2 ∈ Pipeline.restRefs sig spec0 from Pipeline.mem_restRefs_of main_arg2 (by decide) (by decide))).trans (V_main_arg2 m c)⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_blocks m ρ)

end Cert.Kernel18Ideal.Hand

end
-- ==== Proof.BranchBGradFrame.lean ====
/- The frame of `Kernel18`, the weight gradient of the second branch: its program is the idealized one's at the words, so its frame is that one's. -/
module

public import proofs.«01_k».proof.Proof.Gen.Kernel18
public import proofs.«01_k».proof.Proof.BranchBGradFrameIdeal

@[expose] public section

set_option maxRecDepth 16384

noncomputable section

namespace Cert.Kernel18.Hand

open Cert.Kernel18 Cert.Kernel18.Gen
open Idealize.ShloMosaic Idealize.ShloMosaic.TcCoe
open Idealize.SL.Sem

variable {F : FTy → Type} [FloatOps F]

/-- The body tables of the two programs are the same. -/
theorem bodies_eq : @defs₀ F _ _ = @Cert.Kernel18Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel18Ideal.defs F _ _ := congrArg (Pipeline.defs pcfgs) bodies_eq

/-- The two programs are the same. -/
theorem main_eq : @main F _ _ = @Cert.Kernel18Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.Kernel18Ideal.Hand.frame m ρ

end Cert.Kernel18.Hand

end
-- ==== Proof.BranchBGradValue.lean ====
/- The weight gradient of the second branch: what the kernel leaves is the reference's term. -/
module

public import proofs.«01_k».proof.Defs
public import Idealize.ShloMosaic.Lib.Pipeline.ValueKit.Tiles
public import Idealize.ShloMosaic.Lib.Pipeline.ValueKit.Partial
public import proofs.«01_k».proof.Proof.Gen.Reference18Ideal.Run
public import proofs.«01_k».proof.Proof.Logistic
public import proofs.«01_k».proof.Proof.BranchBGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference18Ideal.Value

open Cert.Reference18Ideal Cert.Reference18Ideal.Gen

variable (a : FVec Ideal S8192x2048 .bf16) (b : FVec Ideal S8192x1024 .bf16) (w : FVec Ideal S3072x1024 .f32)

/-- The reference's result 0. -/
abbrev REF0 : FVec Ideal S3072x1024 .f32 :=
  concatenate S3072x1024 0 [⟨S1024x1024, (extractStridedSlice S1024x1024 ![0, 0] w slices_S3072x1024_S1024x1024_0_0)⟩, ⟨S2048x1024, (transpose S2048x1024 [1, 0] (Host.dotGeneral dot_S8192x1024_S8192x2048_S1024x2048_0_0_1_1_n_n none (extf .f32 b bitsLt_bf16_f32) (extf .f32 a bitsLt_bf16_f32)) transposes_S1024x2048_S2048x1024_1_0)⟩] concatenates_S1024x1024_S2048x1024_S3072x1024_d0

end Cert.Reference18Ideal.Value

namespace Cert.Kernel18Ideal.Value

open Cert.Kernel18Ideal Cert.Kernel18Ideal.Gen Cert.Kernel18Ideal.Hand

variable (m : (ℓ : Loc nD τ sig) → Buf (Elt Ideal) ℓ)

/-- The cleared block. -/
theorem zero_pay (j : S1024x1024.Idx) : k0_pay1 (F := Ideal) j = 0 := by pointwise [k0_pay1]

/-- One step of the accumulation. -/
theorem pay_acc (o : FVec Ideal S1024x1024 .f32) (a : FVec Ideal S1024x1024 .bf16) (b : FVec Ideal S1024x1024 .bf16) (r : Fin 1024) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, t.val / 8] ∧ ((cfgT (F := Ideal)).win 1).index t = ![t.val % 8, 0]
    ∧ ((cfgT (F := Ideal)).win 2).index t = ![t.val / 8 + 1, 0] :=
  (by decide +kernel : ∀ t : Fin grid0.N, ixA (grid0.coords t) = ![t.val % 8, t.val / 8] ∧ cc0_transform_1 (grid0.coords t) = ![t.val % 8, 0] ∧ ixO (grid0.coords t) = ![t.val / 8 + 1, 0])

/-- The first operand's block at an index. -/
theorem blkA_at (c : Dev nD) (t : Fin grid0.N) (l : Fin 1024) (r : Fin 1024) :
    blkA m c t (ix2 l r) = (show FVec Ideal S8192x2048 .bf16 from m ((c : Thread nD τ).loc main_arg0)) (ix2 (⟨1024 * (t.val % 8) + l.val, by omega⟩ : Fin 8192) (⟨1024 * (t.val / 8) + r.val, by have : t.val < 16 := t.isLt; omega⟩ : Fin 2048)) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .bf16 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 1024) (k : Fin 1024) :
    (((cfgT (F := Ideal)).win 2).blk t).view.emb (ix2 r k) = ix2 (⟨1024 * (t.val / 8 + 1) + r.val, by have : t.val < 16 := t.isLt; omega⟩ : Fin 3072) k := by
  blk_ext [idx t] <;> omega

/-- After the last row block the result's block is the sum over every row. -/
theorem acc (c : Dev nD) (t : Fin grid0.N) (h : t.val % 8 = 7) (r : Fin 1024) (k : Fin 1024) :
    oAt m c t.val t.isLt (ix2 r k) = ∑ l : Fin 8192, (show FVec Ideal S8192x2048 .bf16 from m ((c : Thread nD τ).loc main_arg0)) (ix2 l (⟨1024 * (t.val / 8) + r.val, by have : t.val < 16 := t.isLt; omega⟩ : Fin 2048)) * (show FVec Ideal S8192x1024 .bf16 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]
  simp only [e]

/-- The reference's term at a row of the second branch. -/
theorem ref_new (a : FVec Ideal S8192x2048 .bf16) (b : FVec Ideal S8192x1024 .bf16) (w : FVec Ideal S3072x1024 .f32) (r : Fin 2048) (k : Fin 1024) :
    Cert.Reference18Ideal.Value.REF0 a b w (ix2 (⟨1024 + r.val, by omega⟩ : Fin 3072) k) = ∑ l : Fin 8192, a (ix2 l r) * b (ix2 l k) := by
  pointwise [Cert.Reference18Ideal.Value.REF0]
  exact Finset.sum_congr rfl fun l _ => mul_comm _ _

/-- The reference's term at a row of the first branch. -/
theorem ref_old (a : FVec Ideal S8192x2048 .bf16) (b : FVec Ideal S8192x1024 .bf16) (w : FVec Ideal S3072x1024 .f32) (r : Fin 3072) (k : Fin 1024) (h : r.val < 1024) :
    Cert.Reference18Ideal.Value.REF0 a b w (ix2 r k) = w (ix2 r k) := by
  pointwise [Cert.Reference18Ideal.Value.REF0]
  rw [dif_pos h]

/-- What is written back of the result is the reference's term at the place of the array the window puts it. -/
theorem point0 (c : Dev nD) (t : Fin grid0.N) (h : t.val % 8 = 7) (y : S1024x1024.Idx) :
    oAt m c t.val t.isLt y = Cert.Reference18Ideal.Value.REF0 (m ((c : Thread nD τ).loc main_arg0)) (m ((c : Thread nD τ).loc main_arg1)) (m ((c : Thread nD τ).loc main_arg2)) ((((cfgT (F := Ideal)).win 2).blk t).view.emb y) := by
  have ht : t.val < 16 := t.isLt
  obtain ⟨r, k, rfl⟩ : ∃ (r : Fin 1024) (k : Fin 1024), y = ix2 r k := ⟨y 0, y 1, eq_ix2 y⟩
  rw [emb, acc m c t h]
  rw [show (⟨1024 * (t.val / 8 + 1) + r.val, by omega⟩ : Fin 3072) = ⟨1024 + (⟨1024 * (t.val / 8) + r.val, by omega⟩ : Fin 2048).val, by omega⟩ from Fin.ext (by show 1024 * (t.val / 8 + 1) + r.val = 1024 + (1024 * (t.val / 8) + r.val); omega), ref_new]

/-- The result's array after the run. -/
theorem final0 (c : Dev nD) : (dats m 0 c).arrAt 2 (cfgT (F := Ideal)).N = Cert.Reference18Ideal.Value.REF0 (m ((c : Thread nD τ).loc main_arg0)) (m ((c : Thread nD τ).loc main_arg1)) (m ((c : Thread nD τ).loc main_arg2)) := by
  refine (dats m 0 c).arrAt_eq_of_coversWhere_of_agree 2 _ (fun β => 1 ≤ β (0 : Fin 2)) (by decide +kernel) (fun t hf y => ?_) (fun j hj => ?_)
  · blk_simp
    rw [after0_2]
    exact point0 m c t (of_decide_eq_true ((flush2 t).symm.trans hf)) y
  · rw [A_eq]
    refine (congrFun (V_main_v0 m c) _).trans ?_
    obtain ⟨r, k, rfl⟩ : ∃ (r : Fin 3072) (k : Fin 1024), j = ix2 r k := ⟨j 0, j 1, eq_ix2 j⟩
    exact (ref_old _ _ _ r k (by blk_simp [Pipeline.Window.cell_apply] at hj; omega)).symm

end Cert.Kernel18Ideal.Value

/-- The kernel and the reference leave the same arrays. -/
theorem Cert.branch_b_grad_algebraic : Cert.algebraic_Kernel18Ideal_Reference18Ideal := by
  intro m g m' g' hp hm
  refine ⟨fun c => Cert.Reference18Ideal.Value.REF0 (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), ?_, ?_⟩
  · refine (θ_run _ _ _).mono (fun r h c => ?_) (Cert.Kernel18Ideal.Hand.run_blocks m g)
    exact ⟨(h.1 c).1.trans (Cert.Kernel18Ideal.Value.final0 m c), (h.1 c).2⟩
  · refine (θ_run _ _ _).mono (fun r h c => ?_) (Cert.Reference18Ideal.Value.run m' g')
    obtain ⟨e0, e1, e2⟩ := hm c
    refine ⟨(h c).1.trans ?_, (h c).2⟩
    · rw [e0, e1, e2]
-- ==== Proof.DtProjGradFrameIdeal.lean ====
/- The frame of `Kernel19Ideal`, the weight gradient of the time steps: the tables' contents, what the body leaves at every point, and the run. -/
module

public import proofs.«01_k».proof.Proof.Gen.Kernel19Ideal.Launch
public import proofs.«01_k».proof.Proof.Gen.Kernel19Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel19Ideal.Hand

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, 0]

/-- The block indices of the result, one axis by the second table. -/
def ixO (i : grid0.Coords) : Fin 2 → ℕ := ![72, (BitVec.ofNat 32 (i 1).val).toNat]

/-- The contents of the two tables. -/
def tabs : pre0.Contents (Elt F) := fun
  | 0 => (constantI S1 32 0#32 : main_c.ty.Contents (Elt F))
  | 1 => (constantI S1 32 72#32 : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_3 k0_off1_inb numel1_S1 (tabs (F := F)) i = ixO i := rfl

/-- Every block of the first operand is inside its array, and of whole words. -/
theorem okA : ∀ i : grid0.Coords, ∃ h : (∀ a, (ixA i a + 1) * S1024x128.size a ≤ S8192x128.size a),
    EltTy.bits .bf16 = 32 ∨ (Rect.block (s := S8192x128) S1024x128.size (ixA i) h).WholeWords (EltTy.packing .bf16) := by decide +kernel

/-- Every block of the result is inside its array, and of whole words. -/
theorem okO : ∀ i : grid0.Coords, ∃ h : (∀ a, (ixO i a + 1) * S128x1024.size a ≤ S9344x1024.size a),
    EltTy.bits .f32 = 32 ∨ (Rect.block (s := S9344x1024) S128x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The third argument is as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The result's array starts as the third argument. -/
theorem V_main_v0 (c : Dev nD) : V m c main_v0 = m ((c : Thread nD τ).loc main_arg2) := by
  show (StableHlo.unary (τ := τ) main_arg2 main_v0 id).result ((StableHlo.nullary main_c_0 (constantI S1 32 72#32)).result ((StableHlo.nullary main_c (constantI S1 32 0#32)).result fun b => m (c, b))) (Proc.devRef .tc main_v0) = _
  rw [StableHlo.unary_result, id, StableHlo.nullary_result_ne (r := main_arg2) (h := by decide), StableHlo.nullary_result_ne (r := main_arg2) (h := by decide)]

/-- The tables are what the host operations put in them. -/
theorem hpf (c : Dev nD) (k : Fin 2) : V m c (pre0.ref k) = tabs (F := F) k := by
  match k with
  | 0 =>
    show (StableHlo.unary (τ := τ) main_arg2 main_v0 id).result ((StableHlo.nullary main_c_0 (constantI S1 32 72#32)).result ((StableHlo.nullary main_c (constantI S1 32 0#32)).result fun b => m (c, b))) (Proc.devRef .tc main_c) = _
    rw [StableHlo.unary_result_ne (r := main_c) (h := by decide)]
    rw [StableHlo.nullary_result_ne (r := main_c) (h := by decide)]
    exact StableHlo.nullary_result main_c _ _ _
  | 1 =>
    show (StableHlo.unary (τ := τ) main_arg2 main_v0 id).result ((StableHlo.nullary main_c_0 (constantI S1 32 72#32)).result ((StableHlo.nullary main_c (constantI S1 32 0#32)).result fun b => m (c, b))) (Proc.devRef .tc main_c_0) = _
    rw [StableHlo.unary_result_ne (r := main_c_0) (h := by decide)]
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x128 .bf16 := iblk m c 0 t

/-- The second operand's block at a point. -/
def blkB (c : Dev nD) (t : Fin grid0.N) : Vec F S1024x1024 .bf16 := iblk m c 1 t

/-- The result's block after a point: the products added up since it was cleared. -/
def oAt (c : Dev nD) (n : ℕ) (hn : n < grid0.N) : Vec F S128x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_dt_proj_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (Memref.whole main_arg2) (Memref.isWhole_whole _) (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x128_S1024x128_0_0 h_S1024x128 ![0, 0] inb_S1024x1024_S1024x1024_0_0 h_S1024x1024 ![0, 0] inb_S128x1024_S128x1024_0_0 h_S128x1024 (k0_pay1 (F := F)) k0_pay2 := by
  unfold bodyAt0; rw [cc0_l0_dt_proj_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (show main_arg2 ∈ Pipeline.restRefs sig spec0 from Pipeline.mem_restRefs_of main_arg2 (by decide) (by decide))).trans (V_main_arg2 m c)⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_blocks m ρ)

end Cert.Kernel19Ideal.Hand

end
-- ==== Proof.DtProjGradFrame.lean ====
/- The frame of `Kernel19`, the weight gradient of the time steps: its program is the idealized one's at the words, so its frame is that one's. -/
module

public import proofs.«01_k».proof.Proof.Gen.Kernel19
public import proofs.«01_k».proof.Proof.DtProjGradFrameIdeal

@[expose] public section

set_option maxRecDepth 16384

noncomputable section

namespace Cert.Kernel19.Hand

open Cert.Kernel19 Cert.Kernel19.Gen
open Idealize.ShloMosaic Idealize.ShloMosaic.TcCoe
open Idealize.SL.Sem

variable {F : FTy → Type} [FloatOps F]

/-- The body tables of the two programs are the same. -/
theorem bodies_eq : @defs₀ F _ _ = @Cert.Kernel19Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel19Ideal.defs F _ _ := congrArg (Pipeline.defs pcfgs) bodies_eq

/-- The two programs are the same. -/
theorem main_eq : @main F _ _ = @Cert.Kernel19Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.Kernel19Ideal.Hand.frame m ρ

end Cert.Kernel19.Hand

end
-- ==== Proof.DtProjGradValue.lean ====
/- The weight gradient of the time steps: what the kernel leaves is the reference's term. -/
module

public import proofs.«01_k».proof.Defs
public import Idealize.ShloMosaic.Lib.Pipeline.ValueKit.Tiles
public import Idealize.ShloMosaic.Lib.Pipeline.ValueKit.Partial
public import proofs.«01_k».proof.Proof.Gen.Reference19Ideal.Run
public import proofs.«01_k».proof.Proof.Logistic
public import proofs.«01_k».proof.Proof.DtProjGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference19Ideal.Value

open Cert.Reference19Ideal Cert.Reference19Ideal.Gen

variable (a : FVec Ideal S8192x128 .bf16) (b : FVec Ideal S8192x1024 .bf16) (w : FVec Ideal S9344x1024 .f32)

/-- The reference's result 0. -/
abbrev REF0 : FVec Ideal S9344x1024 .f32 :=
  concatenate S9344x1024 0 [⟨S9216x1024, (extractStridedSlice S9216x1024 ![0, 0] w slices_S9344x1024_S9216x1024_0_0)⟩, ⟨S128x1024, (transpose S128x1024 [1, 0] (transpose S1024x128 [1, 0] (Host.dotGeneral dot_S8192x128_S8192x1024_S128x1024_0_0_1_1_n_n none (extf .f32 a bitsLt_bf16_f32) (extf .f32 b bitsLt_bf16_f32)) transposes_S128x1024_S1024x128_1_0) transposes_S1024x128_S128x1024_1_0)⟩] concatenates_S9216x1024_S128x1024_S9344x1024_d0

end Cert.Reference19Ideal.Value

namespace Cert.Kernel19Ideal.Value

open Cert.Kernel19Ideal Cert.Kernel19Ideal.Gen Cert.Kernel19Ideal.Hand

variable (m : (ℓ : Loc nD τ sig) → Buf (Elt Ideal) ℓ)

/-- The cleared block. -/
theorem zero_pay (j : S128x1024.Idx) : k0_pay1 (F := Ideal) j = 0 := by pointwise [k0_pay1]

/-- One step of the accumulation. -/
theorem pay_acc (o : FVec Ideal S128x1024 .f32) (a : FVec Ideal S1024x128 .bf16) (b : FVec Ideal S1024x1024 .bf16) (r : Fin 128) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, 0] ∧ ((cfgT (F := Ideal)).win 1).index t = ![t.val % 8, 0]
    ∧ ((cfgT (F := Ideal)).win 2).index t = ![72, 0] :=
  (by decide +kernel : ∀ t : Fin grid0.N, ixA (grid0.coords t) = ![t.val % 8, 0] ∧ cc0_transform_1 (grid0.coords t) = ![t.val % 8, 0] ∧ ixO (grid0.coords t) = ![72, 0])

/-- The first operand's block at an index. -/
theorem blkA_at (c : Dev nD) (t : Fin grid0.N) (l : Fin 1024) (r : Fin 128) :
    blkA m c t (ix2 l r) = (show FVec Ideal S8192x128 .bf16 from m ((c : Thread nD τ).loc main_arg0)) (ix2 (⟨1024 * (t.val % 8) + l.val, by omega⟩ : Fin 8192) r) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .bf16 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 128) (k : Fin 1024) :
    (((cfgT (F := Ideal)).win 2).blk t).view.emb (ix2 r k) = ix2 (⟨128 * (72) + r.val, by have : t.val < 8 := t.isLt; omega⟩ : Fin 9344) k := by
  blk_ext [idx t] <;> omega

/-- After the last row block the result's block is the sum over every row. -/
theorem acc (c : Dev nD) (t : Fin grid0.N) (h : t.val % 8 = 7) (r : Fin 128) (k : Fin 1024) :
    oAt m c t.val t.isLt (ix2 r k) = ∑ l : Fin 8192, (show FVec Ideal S8192x128 .bf16 from m ((c : Thread nD τ).loc main_arg0)) (ix2 l r) * (show FVec Ideal S8192x1024 .bf16 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]

/-- The reference's term at a row of the time steps. -/
theorem ref_new (a : FVec Ideal S8192x128 .bf16) (b : FVec Ideal S8192x1024 .bf16) (w : FVec Ideal S9344x1024 .f32) (r : Fin 128) (k : Fin 1024) :
    Cert.Reference19Ideal.Value.REF0 a b w (ix2 (⟨9216 + r.val, by omega⟩ : Fin 9344) k) = ∑ l : Fin 8192, a (ix2 l r) * b (ix2 l k) := by
  pointwise [Cert.Reference19Ideal.Value.REF0]

/-- The reference's term at any other row. -/
theorem ref_old (a : FVec Ideal S8192x128 .bf16) (b : FVec Ideal S8192x1024 .bf16) (w : FVec Ideal S9344x1024 .f32) (r : Fin 9344) (k : Fin 1024) (h : r.val < 9216) :
    Cert.Reference19Ideal.Value.REF0 a b w (ix2 r k) = w (ix2 r k) := by
  pointwise [Cert.Reference19Ideal.Value.REF0]
  rw [dif_pos h]

/-- What is written back of the result is the reference's term at the place of the array the window puts it. -/
theorem point0 (c : Dev nD) (t : Fin grid0.N) (h : t.val % 8 = 7) (y : S128x1024.Idx) :
    oAt m c t.val t.isLt y = Cert.Reference19Ideal.Value.REF0 (m ((c : Thread nD τ).loc main_arg0)) (m ((c : Thread nD τ).loc main_arg1)) (m ((c : Thread nD τ).loc main_arg2)) ((((cfgT (F := Ideal)).win 2).blk t).view.emb y) := by
  have ht : t.val < 8 := t.isLt
  obtain ⟨r, k, rfl⟩ : ∃ (r : Fin 128) (k : Fin 1024), y = ix2 r k := ⟨y 0, y 1, eq_ix2 y⟩
  rw [emb, acc m c t h]
  rw [show (⟨128 * 72 + r.val, by omega⟩ : Fin 9344) = ⟨9216 + r.val, by omega⟩ from rfl, ref_new]

/-- The result's array after the run. -/
theorem final0 (c : Dev nD) : (dats m 0 c).arrAt 2 (cfgT (F := Ideal)).N = Cert.Reference19Ideal.Value.REF0 (m ((c : Thread nD τ).loc main_arg0)) (m ((c : Thread nD τ).loc main_arg1)) (m ((c : Thread nD τ).loc main_arg2)) := by
  refine (dats m 0 c).arrAt_eq_of_coversWhere_of_agree 2 _ (fun β => 72 ≤ β (0 : Fin 2)) (by decide +kernel) (fun t hf y => ?_) (fun j hj => ?_)
  · blk_simp
    rw [after0_2]
    exact point0 m c t (of_decide_eq_true ((flush2 t).symm.trans hf)) y
  · rw [A_eq]
    refine (congrFun (V_main_v0 m c) _).trans ?_
    obtain ⟨r, k, rfl⟩ : ∃ (r : Fin 9344) (k : Fin 1024), j = ix2 r k := ⟨j 0, j 1, eq_ix2 j⟩
    exact (ref_old _ _ _ r k (by blk_simp [Pipeline.Window.cell_apply] at hj; omega)).symm

end Cert.Kernel19Ideal.Value

/-- The kernel and the reference leave the same arrays. -/
theorem Cert.dt_proj_grad_algebraic : Cert.algebraic_Kernel19Ideal_Reference19Ideal := by
  intro m g m' g' hp hm
  refine ⟨fun c => Cert.Reference19Ideal.Value.REF0 (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)), ?_, ?_⟩
  · refine (θ_run _ _ _).mono (fun r h c => ?_) (Cert.Kernel19Ideal.Hand.run_blocks m g)
    exact ⟨(h.1 c).1.trans (Cert.Kernel19Ideal.Value.final0 m c), (h.1 c).2⟩
  · refine (θ_run _ _ _).mono (fun r h c => ?_) (Cert.Reference19Ideal.Value.run m' g')
    obtain ⟨e0, e1, e2⟩ := hm c
    refine ⟨(h c).1.trans ?_, (h c).2⟩
    · rw [e0, e1, e2]
-- ==== Proof.DtProjValue.lean ====
/- The time steps' projection: what the kernel leaves is the reference's term. -/
module

public import proofs.«01_k».proof.Defs
public import proofs.«01_k».proof.Proof.Gen.Kernel20Ideal.Value
public import proofs.«01_k».proof.Proof.Gen.Reference20Ideal.Run
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Reference20Ideal.Value

open Cert.Reference20Ideal Cert.Reference20Ideal.Gen

variable (a : FVec Ideal S8192x1024 .bf16) (w : FVec Ideal S1024x128 .bf16)

/-- The reference's result 0. -/
abbrev REF0 : FVec Ideal S8192x128 .f32 :=
  Host.dotGeneral dot_S8192x1024_S1024x128_S8192x128_1_0_0_1_n_n none (extf .f32 a bitsLt_bf16_f32) (extf .f32 w bitsLt_bf16_f32)

end Cert.Reference20Ideal.Value

namespace Cert.Kernel20Ideal.Value

open Cert.Kernel20Ideal Cert.Kernel20Ideal.Gen Cert.Scalars

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The payload at an index. -/
theorem pay (x : FVec Ideal S512x1024 .bf16) (w : FVec Ideal S1024x128 .bf16) (r : Fin 512) (k : Fin 128) :
    k0_pay1 (F := Ideal) x w (ix2 r k) = ∑ l : Fin 1024, x (ix2 r l) * w (ix2 l k) := by
  pointwise [k0_pay1]

/-- The reference's term at an index. -/
theorem ref_at (a : FVec Ideal S8192x1024 .bf16) (w : FVec Ideal S1024x128 .bf16) (r : Fin 8192) (k : Fin 128) :
    Cert.Reference20Ideal.Value.REF0 a w (ix2 r k) = ∑ l : Fin 1024, a (ix2 r l) * w (ix2 l k) := by
  pointwise [Cert.Reference20Ideal.Value.REF0]

/-- What a grid point writes back of result 0 is the reference's term at the place of the array the window puts it. -/
theorem point0 (c : Dev nD) (t : Fin cfg0.N) (y : S512x128.Idx) :
    out0_2 (iblk m c 0 t) (iblk m c 1 t) y = Cert.Reference20Ideal.Value.REF0 (m ((c : Thread nD τ).loc main_arg0)) (m ((c : Thread nD τ).loc main_arg1)) (((cfg0.win 2).blk t).view.emb y) := by
  have ht : t.val < 16 := t.isLt
  canon_tiles x h
  obtain ⟨r, k, rfl⟩ : ∃ (r : Fin 512) (k : Fin 128), x = ix2 r k := ⟨x 0, x 1, eq_ix2 x⟩
  have e : ((cfg0.win 2).blk t).view.emb y = ix2 (⟨512 * t.val + r, by omega⟩ : Fin 8192) k := by
    replace h0 : (y 0 : ℕ) = r := h0
    replace h1 : (y 1 : ℕ) = k := h1
    blk_ext [idx t] <;> omega
  rw [e]
  rw [pay, ref_at]
  blk_point [iblk, V, idx t]

/-- The output array 0 after the run. -/
theorem final0 (c : Dev nD) : (dats m 0 c).arrAt 2 cfg0.N = Cert.Reference20Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t y

end Cert.Kernel20Ideal.Value

/-- The kernel and the reference leave the same arrays. -/
theorem Cert.dt_proj_algebraic : Cert.algebraic_Kernel20Ideal_Reference20Ideal := by
  intro m g m' g' hp hm
  refine ⟨fun c => Cert.Reference20Ideal.Value.REF0 (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), ?_, ?_⟩
  · refine (θ_run _ _ _).mono (fun r h c => ?_) (Cert.Kernel20Ideal.Value.run_blocks m g)
    exact ⟨(h c).1.trans (Cert.Kernel20Ideal.Value.final0 m c), (h c).2⟩
  · refine (θ_run _ _ _).mono (fun r h c => ?_) (Cert.Reference20Ideal.Value.run m' g')
    obtain ⟨e0, e1⟩ := hm c
    refine ⟨(h c).1.trans ?_, (h c).2⟩
    · rw [e0, e1]
-- ==== Proof.FfnInGradFrameIdeal.lean ====
/- The frame of `Kernel13Ideal`, the weight gradient of the feed-forward input product: the tables' contents, what the body leaves at every point, and the run. -/
module

public import proofs.«01_k».proof.Proof.Gen.Kernel13Ideal.Launch
public import proofs.«01_k».proof.Proof.Gen.Kernel13Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, 0]

/-- The block indices of the result, one axis by the second table. -/
def ixO (i : grid0.Coords) : Fin 3 → ℕ := ![(BitVec.ofNat 32 (i 1).val).toNat, 0, 0]

/-- The contents of the two tables. -/
def tabs : pre0.Contents (Elt F) := fun
  | 0 => (constantI S1 32 0#32 : main_c.ty.Contents (Elt F))
  | 1 => (constantI S1 32 0#32 : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_2 k0_off1_inb numel1_S1 (tabs (F := F)) i = ixO i := rfl

/-- Every block of the first operand is inside its array, and of whole words. -/
theorem okA : ∀ i : grid0.Coords, ∃ h : (∀ a, (ixA i a + 1) * S1024x1024.size a ≤ S8192x1024.size a),
    EltTy.bits .bf16 = 32 ∨ (Rect.block (s := S8192x1024) S1024x1024.size (ixA i) h).WholeWords (EltTy.packing .bf16) := by decide +kernel

/-- Every block of the result is inside its array, and of whole words. -/
theorem okO : ∀ i : grid0.Coords, ∃ h : (∀ a, (ixO i a + 1) * S1x1024x1408.size a ≤ S4x1024x1408.size a),
    EltTy.bits .f32 = 32 ∨ (Rect.block (s := S4x1024x1408) S1x1024x1408.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))

/-- The tables are what the host operations put in them. -/
theorem hpf (c : Dev nD) (k : Fin 2) : V m c (pre0.ref k) = tabs (F := F) k := by
  match k with
  | 0 =>
    show (StableHlo.nullary (τ := τ) main_c_0 (constantI S1 32 0#32)).result ((StableHlo.nullary main_c (constantI S1 32 0#32)).result fun b => m (c, b)) (Proc.devRef .tc main_c) = _
    rw [StableHlo.nullary_result_ne (r := main_c) (h := by decide)]
    exact StableHlo.nullary_result main_c _ _ _
  | 1 =>
    show (StableHlo.nullary (τ := τ) main_c_0 (constantI S1 32 0#32)).result ((StableHlo.nullary main_c (constantI S1 32 0#32)).result fun b => m (c, b)) (Proc.devRef .tc main_c_0) = _
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x1024 .bf16 := iblk m c 0 t

/-- The second operand's block at a point. -/
def blkB (c : Dev nD) (t : Fin grid0.N) : Vec F S1024x1408 .bf16 := iblk m c 1 t

/-- The result's block after a point: the products added up since it was cleared. -/
def oAt (c : Dev nD) (n : ℕ) (hn : n < grid0.N) : Vec F S1x1024x1408 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_ffn_in_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x1024_S1024x1024_0_0 h_S1024x1024 ![0, 0] inb_S1024x1408_S1024x1408_0_0 h_S1024x1408 ![0, 0, 0] inb_S1x1024x1408_S1x1024x1408_0_0_0 h_S1x1024x1408 (k0_pay1 (F := F)) k0_pay2 := by
  unfold bodyAt0; rw [cc0_l0_ffn_in_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.Kernel13Ideal.Hand

end
-- ==== Proof.FfnInGradFrame.lean ====
/- The frame of `Kernel13`, the weight gradient of the feed-forward input product: its program is the idealized one's at the words, so its frame is that one's. -/
module

public import proofs.«01_k».proof.Proof.Gen.Kernel13
public import proofs.«01_k».proof.Proof.FfnInGradFrameIdeal

@[expose] public section

set_option maxRecDepth 16384

noncomputable section

namespace Cert.Kernel13.Hand

open Cert.Kernel13 Cert.Kernel13.Gen
open Idealize.ShloMosaic Idealize.ShloMosaic.TcCoe
open Idealize.SL.Sem

variable {F : FTy → Type} [FloatOps F]

/-- The body tables of the two programs are the same. -/
theorem bodies_eq : @defs₀ F _ _ = @Cert.Kernel13Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel13Ideal.defs F _ _ := congrArg (Pipeline.defs pcfgs) bodies_eq

/-- The two programs are the same. -/
theorem main_eq : @main F _ _ = @Cert.Kernel13Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel13Ideal.Hand.frame m ρ

end Cert.Kernel13.Hand

end
-- ==== Proof.FfnInGradValue.lean ====
/- The weight gradient of the feed-forward input product: what the kernel leaves is the reference's term. -/
module

public import proofs.«01_k».proof.Defs
public import Idealize.ShloMosaic.Lib.Pipeline.ValueKit.Tiles
public import proofs.«01_k».proof.Proof.Gen.Reference13Ideal.Run
public import proofs.«01_k».proof.Proof.Logistic
public import proofs.«01_k».proof.Proof.FfnInGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference13Ideal.Value

open Cert.Reference13Ideal Cert.Reference13Ideal.Gen

variable (a : FVec Ideal S8192x1024 .bf16) (b : FVec Ideal S8192x5632 .bf16)

/-- The reference's result 0. -/
abbrev REF0 : FVec Ideal S4x1024x1408 .f32 :=
  transpose S4x1024x1408 [1, 0, 2] (shapeCast _ (transpose S1024x5632 [1, 0] (Host.dotGeneral dot_S8192x5632_S8192x1024_S5632x1024_0_0_1_1_n_n none (extf .f32 b bitsLt_bf16_f32) (extf .f32 a bitsLt_bf16_f32)) transposes_S5632x1024_S1024x5632_1_0) shapeCasts_S1024x5632_S1024x4x1408) transposes_S1024x4x1408_S4x1024x1408_1_0_2

end Cert.Reference13Ideal.Value

namespace Cert.Kernel13Ideal.Value

open Cert.Kernel13Ideal Cert.Kernel13Ideal.Gen Cert.Kernel13Ideal.Hand

variable (m : (ℓ : Loc nD τ sig) → Buf (Elt Ideal) ℓ)

/-- The cleared block. -/
theorem zero_pay (j : S1x1024x1408.Idx) : k0_pay1 (F := Ideal) j = 0 := by pointwise [k0_pay1]

/-- One step of the accumulation. -/
theorem pay_acc (o : FVec Ideal S1x1024x1408 .f32) (a : FVec Ideal S1024x1024 .bf16) (b : FVec Ideal S1024x1408 .bf16) (r : Fin 1024) (k : Fin 1408) :
    k0_pay2 (F := Ideal) o a b (ix3 (0 : Fin 1) r k) = o (ix3 (0 : Fin 1) r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, 0] ∧ ((cfgT (F := Ideal)).win 1).index t = ![t.val % 8, t.val / 8 % 4]
    ∧ ((cfgT (F := Ideal)).win 2).index t = ![t.val / 8, 0, 0] :=
  (by decide +kernel : ∀ t : Fin grid0.N, ixA (grid0.coords t) = ![t.val % 8, 0] ∧ cc0_transform_1 (grid0.coords t) = ![t.val % 8, t.val / 8 % 4] ∧ ixO (grid0.coords t) = ![t.val / 8, 0, 0])

/-- The first operand's block at an index. -/
theorem blkA_at (c : Dev nD) (t : Fin grid0.N) (l : Fin 1024) (r : Fin 1024) :
    blkA m c t (ix2 l r) = (show FVec Ideal S8192x1024 .bf16 from m ((c : Thread nD τ).loc main_arg0)) (ix2 (⟨1024 * (t.val % 8) + l.val, by omega⟩ : Fin 8192) r) := by
  unfold blkA
  blk_point [iblk, V_main_arg0, idx t]

/-- The second operand's block at an index. -/
theorem blkB_at (c : Dev nD) (t : Fin grid0.N) (l : Fin 1024) (k : Fin 1408) :
    blkB m c t (ix2 l k) = (show FVec Ideal S8192x5632 .bf16 from m ((c : Thread nD τ).loc main_arg1)) (ix2 (⟨1024 * (t.val % 8) + l.val, by omega⟩ : Fin 8192) (⟨1408 * (t.val / 8 % 4) + k.val, by have : t.val < 32 := t.isLt; omega⟩ : Fin 5632)) := by
  unfold blkB
  blk_point [iblk, V_main_arg1, idx t]

/-- Where the result's window puts its block. -/
theorem emb (t : Fin grid0.N) (r : Fin 1024) (k : Fin 1408) :
    (((cfgT (F := Ideal)).win 2).blk t).view.emb (ix3 (0 : Fin 1) r k) = ix3 (⟨t.val / 8, by have : t.val < 32 := t.isLt; omega⟩ : Fin 4) r k := by
  blk_ext [idx t] <;> omega

/-- After the last row block the result's block is the sum over every row. -/
theorem acc (c : Dev nD) (t : Fin grid0.N) (h : t.val % 8 = 7) (r : Fin 1024) (k : Fin 1408) :
    oAt m c t.val t.isLt (ix3 (0 : Fin 1) r k) = ∑ l : Fin 8192, (show FVec Ideal S8192x1024 .bf16 from m ((c : Thread nD τ).loc main_arg0)) (ix2 l r) * (show FVec Ideal S8192x5632 .bf16 from m ((c : Thread nD τ).loc main_arg1)) (ix2 l (⟨1408 * (t.val / 8 % 4) + k.val, by have : t.val < 32 := t.isLt; omega⟩ : Fin 5632)) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]
  simp only [e]

/-- The reference's term at an index. -/
theorem ref_at (a : FVec Ideal S8192x1024 .bf16) (b : FVec Ideal S8192x5632 .bf16) (j : Fin 4) (r : Fin 1024) (k : Fin 1408) :
    Cert.Reference13Ideal.Value.REF0 a b (ix3 j r k) = ∑ l : Fin 8192, a (ix2 l r) * b (ix2 l (⟨1408 * j.val + k.val, by omega⟩ : Fin 5632)) := by
  pointwise [Cert.Reference13Ideal.Value.REF0]
  exact Finset.sum_congr rfl fun l _ => (mul_comm _ _).trans (congrArg (fun q => a (ix2 l r) * b (ix2 l q)) (Fin.ext (by show j.val * 1408 + k.val = 1408 * j.val + k.val; omega)))

/-- What is written back of the result is the reference's term at the place of the array the window puts it. -/
theorem point0 (c : Dev nD) (t : Fin grid0.N) (h : t.val % 8 = 7) (y : S1x1024x1408.Idx) :
    oAt m c t.val t.isLt y = Cert.Reference13Ideal.Value.REF0 (m ((c : Thread nD τ).loc main_arg0)) (m ((c : Thread nD τ).loc main_arg1)) ((((cfgT (F := Ideal)).win 2).blk t).view.emb y) := by
  have ht : t.val < 32 := t.isLt
  obtain ⟨r, k, rfl⟩ : ∃ (r : Fin 1024) (k : Fin 1408), y = ix3 (0 : Fin 1) r k := ⟨y 1, y 2, (eq_ix3 y).trans (congrArg (fun q => ix3 q (y 1) (y 2)) (Subsingleton.elim (α := Fin 1) _ _))⟩
  rw [emb, acc m c t h, ref_at]
  refine Finset.sum_congr rfl fun l _ => congrArg _ (congrArg _ (congrArg _ (Fin.ext ?_)))
  show 1408 * (t.val / 8 % 4) + k.val = 1408 * (t.val / 8) + k.val
  rw [Nat.mod_eq_of_lt (by omega)]

/-- The result's array after the run. -/
theorem final0 (c : Dev nD) : (dats m 0 c).arrAt 2 (cfgT (F := Ideal)).N = Cert.Reference13Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t (of_decide_eq_true ((flush2 t).symm.trans hf)) y

end Cert.Kernel13Ideal.Value

/-- The kernel and the reference leave the same arrays. -/
theorem Cert.ffn_in_grad_algebraic : Cert.algebraic_Kernel13Ideal_Reference13Ideal := by
  intro m g m' g' hp hm
  refine ⟨fun c => Cert.Reference13Ideal.Value.REF0 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run _ _ _).mono (fun r h c => ?_) (Cert.Kernel13Ideal.Hand.run_blocks m g)
    exact ⟨(h.1 c).1.trans (Cert.Kernel13Ideal.Value.final0 m c), (h.1 c).2⟩
  · refine (θ_run _ _ _).mono (fun r h c => ?_) (Cert.Reference13Ideal.Value.run m' g')
    obtain ⟨e0, e1⟩ := hm c
    refine ⟨(h c).1.trans ?_, (h c).2⟩
    · rw [e0, e1]
-- ==== Proof.FfnOutGradFrameIdeal.lean ====
/- The frame of `Kernel14Ideal`, the weight gradient of the feed-forward output product: the tables' contents, what the body leaves at every point, and the run. -/
module

public import proofs.«01_k».proof.Proof.Gen.Kernel14Ideal.Launch
public import proofs.«01_k».proof.Proof.Gen.Kernel14Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel14Ideal.Hand

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, 0]

/-- The block indices of the result, one axis by the second table. -/
def ixO (i : grid0.Coords) : Fin 2 → ℕ := ![0, (BitVec.ofNat 32 (i 1).val).toNat]

/-- The contents of the two tables. -/
def tabs : pre0.Contents (Elt F) := fun
  | 0 => (constantI S1 32 0#32 : main_c.ty.Contents (Elt F))
  | 1 => (constantI S1 32 0#32 : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_2 k0_off1_inb numel1_S1 (tabs (F := F)) i = ixO i := rfl

/-- Every block of the first operand is inside its array, and of whole words. -/
theorem okA : ∀ i : grid0.Coords, ∃ h : (∀ a, (ixA i a + 1) * S1024x2816.size a ≤ S8192x2816.size a),
    EltTy.bits .bf16 = 32 ∨ (Rect.block (s := S8192x2816) S1024x2816.size (ixA i) h).WholeWords (EltTy.packing .bf16) := by decide +kernel

/-- Every block of the result is inside its array, and of whole words. -/
theorem okO : ∀ i : grid0.Coords, ∃ h : (∀ a, (ixO i a + 1) * S2816x1024.size a ≤ S2816x1024.size a),
    EltTy.bits .f32 = 32 ∨ (Rect.block (s := S2816x1024) S2816x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))

/-- The tables are what the host operations put in them. -/
theorem hpf (c : Dev nD) (k : Fin 2) : V m c (pre0.ref k) = tabs (F := F) k := by
  match k with
  | 0 =>
    show (StableHlo.nullary (τ := τ) main_c_0 (constantI S1 32 0#32)).result ((StableHlo.nullary main_c (constantI S1 32 0#32)).result fun b => m (c, b)) (Proc.devRef .tc main_c) = _
    rw [StableHlo.nullary_result_ne (r := main_c) (h := by decide)]
    exact StableHlo.nullary_result main_c _ _ _
  | 1 =>
    show (StableHlo.nullary (τ := τ) main_c_0 (constantI S1 32 0#32)).result ((StableHlo.nullary main_c (constantI S1 32 0#32)).result fun b => m (c, b)) (Proc.devRef .tc main_c_0) = _
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x2816 .bf16 := iblk m c 0 t

/-- The second operand's block at a point. -/
def blkB (c : Dev nD) (t : Fin grid0.N) : Vec F S1024x1024 .f32 := iblk m c 1 t

/-- The result's block after a point: the products added up since it was cleared. -/
def oAt (c : Dev nD) (n : ℕ) (hn : n < grid0.N) : Vec F S2816x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_ffn_out_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x2816_S1024x2816_0_0 h_S1024x2816 ![0, 0] inb_S1024x1024_S1024x1024_0_0 h_S1024x1024 ![0, 0] inb_S2816x1024_S2816x1024_0_0 h_S2816x1024 (k0_pay1 (F := F)) k0_pay2 := by
  unfold bodyAt0; rw [cc0_l0_ffn_out_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.Kernel14Ideal.Hand

end
-- ==== Proof.FfnOutGradFrame.lean ====
/- The frame of `Kernel14`, the weight gradient of the feed-forward output product: its program is the idealized one's at the words, so its frame is that one's. -/
module

public import proofs.«01_k».proof.Proof.Gen.Kernel14
public import proofs.«01_k».proof.Proof.FfnOutGradFrameIdeal

@[expose] public section

set_option maxRecDepth 16384

noncomputable section

namespace Cert.Kernel14.Hand

open Cert.Kernel14 Cert.Kernel14.Gen
open Idealize.ShloMosaic Idealize.ShloMosaic.TcCoe
open Idealize.SL.Sem

variable {F : FTy → Type} [FloatOps F]

/-- The body tables of the two programs are the same. -/
theorem bodies_eq : @defs₀ F _ _ = @Cert.Kernel14Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel14Ideal.defs F _ _ := congrArg (Pipeline.defs pcfgs) bodies_eq

/-- The two programs are the same. -/
theorem main_eq : @main F _ _ = @Cert.Kernel14Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel14Ideal.Hand.frame m ρ

end Cert.Kernel14.Hand

end
-- ==== Proof.FfnOutGradValue.lean ====
/- The weight gradient of the feed-forward output product: what the kernel leaves is the reference's term. -/
module

public import proofs.«01_k».proof.Defs
public import Idealize.ShloMosaic.Lib.Pipeline.ValueKit.Tiles
public import proofs.«01_k».proof.Proof.Gen.Reference14Ideal.Run
public import proofs.«01_k».proof.Proof.Logistic
public import proofs.«01_k».proof.Proof.FfnOutGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference14Ideal.Value

open Cert.Reference14Ideal Cert.Reference14Ideal.Gen

variable (a : FVec Ideal S8192x2816 .bf16) (b : FVec Ideal S8192x1024 .f32)

/-- The reference's result 0. -/
abbrev REF0 : FVec Ideal S2816x1024 .f32 :=
  transpose S2816x1024 [1, 0] (Host.dotGeneral dot_S8192x1024_S8192x2816_S1024x2816_0_0_1_1_n_n none b (extf .f32 a bitsLt_bf16_f32)) transposes_S1024x2816_S2816x1024_1_0

end Cert.Reference14Ideal.Value

namespace Cert.Kernel14Ideal.Value

open Cert.Kernel14Ideal Cert.Kernel14Ideal.Gen Cert.Kernel14Ideal.Hand

variable (m : (ℓ : Loc nD τ sig) → Buf (Elt Ideal) ℓ)

/-- The cleared block. -/
theorem zero_pay (j : S2816x1024.Idx) : k0_pay1 (F := Ideal) j = 0 := by pointwise [k0_pay1]

/-- One step of the accumulation. -/
theorem pay_acc (o : FVec Ideal S2816x1024 .f32) (a : FVec Ideal S1024x2816 .bf16) (b : FVec Ideal S1024x1024 .f32) (r : Fin 2816) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, 0] ∧ ((cfgT (F := Ideal)).win 1).index t = ![t.val % 8, 0]
    ∧ ((cfgT (F := Ideal)).win 2).index t = ![0, 0] :=
  (by decide +kernel : ∀ t : Fin grid0.N, ixA (grid0.coords t) = ![t.val % 8, 0] ∧ cc0_transform_1 (grid0.coords t) = ![t.val % 8, 0] ∧ ixO (grid0.coords t) = ![0, 0])

/-- The first operand's block at an index. -/
theorem blkA_at (c : Dev nD) (t : Fin grid0.N) (l : Fin 1024) (r : Fin 2816) :
    blkA m c t (ix2 l r) = (show FVec Ideal S8192x2816 .bf16 from m ((c : Thread nD τ).loc main_arg0)) (ix2 (⟨1024 * (t.val % 8) + l.val, by omega⟩ : Fin 8192) r) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .f32 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 2816) (k : Fin 1024) :
    (((cfgT (F := Ideal)).win 2).blk t).view.emb (ix2 r k) = ix2 r k := by
  blk_ext [idx t] <;> omega

/-- After the last row block the result's block is the sum over every row. -/
theorem acc (c : Dev nD) (t : Fin grid0.N) (h : t.val % 8 = 7) (r : Fin 2816) (k : Fin 1024) :
    oAt m c t.val t.isLt (ix2 r k) = ∑ l : Fin 8192, (show FVec Ideal S8192x2816 .bf16 from m ((c : Thread nD τ).loc main_arg0)) (ix2 l r) * (show FVec Ideal S8192x1024 .f32 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]

/-- The reference's term at an index. -/
theorem ref_at (a : FVec Ideal S8192x2816 .bf16) (b : FVec Ideal S8192x1024 .f32) (r : Fin 2816) (k : Fin 1024) :
    Cert.Reference14Ideal.Value.REF0 a b (ix2 r k) = ∑ l : Fin 8192, a (ix2 l r) * b (ix2 l k) := by
  pointwise [Cert.Reference14Ideal.Value.REF0]
  exact Finset.sum_congr rfl fun l _ => mul_comm _ _

/-- What is written back of the result is the reference's term at the place of the array the window puts it. -/
theorem point0 (c : Dev nD) (t : Fin grid0.N) (h : t.val % 8 = 7) (y : S2816x1024.Idx) :
    oAt m c t.val t.isLt y = Cert.Reference14Ideal.Value.REF0 (m ((c : Thread nD τ).loc main_arg0)) (m ((c : Thread nD τ).loc main_arg1)) ((((cfgT (F := Ideal)).win 2).blk t).view.emb y) := by
  have ht : t.val < 8 := t.isLt
  obtain ⟨r, k, rfl⟩ : ∃ (r : Fin 2816) (k : Fin 1024), y = ix2 r k := ⟨y 0, y 1, eq_ix2 y⟩
  rw [emb, acc m c t h, ref_at]

/-- The result's array after the run. -/
theorem final0 (c : Dev nD) : (dats m 0 c).arrAt 2 (cfgT (F := Ideal)).N = Cert.Reference14Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t (of_decide_eq_true ((flush2 t).symm.trans hf)) y

end Cert.Kernel14Ideal.Value

/-- The kernel and the reference leave the same arrays. -/
theorem Cert.ffn_out_grad_algebraic : Cert.algebraic_Kernel14Ideal_Reference14Ideal := by
  intro m g m' g' hp hm
  refine ⟨fun c => Cert.Reference14Ideal.Value.REF0 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run _ _ _).mono (fun r h c => ?_) (Cert.Kernel14Ideal.Hand.run_blocks m g)
    exact ⟨(h.1 c).1.trans (Cert.Kernel14Ideal.Value.final0 m c), (h.1 c).2⟩
  · refine (θ_run _ _ _).mono (fun r h c => ?_) (Cert.Reference14Ideal.Value.run m' g')
    obtain ⟨e0, e1⟩ := hm c
    refine ⟨(h c).1.trans ?_, (h c).2⟩
    · rw [e0, e1]
-- ==== Proof.InProjGradFrameIdeal.lean ====
/- The frame of `Kernel15Ideal`, the weight gradient of the input projection: the tables' contents, what the body leaves at every point, and the run. -/
module

public import proofs.«01_k».proof.Proof.Gen.Kernel15Ideal.Launch
public import proofs.«01_k».proof.Proof.Gen.Kernel15Ideal.Skeleton
public import proofs.«01_k».proof.Proof.Accum
public import Idealize.ShloMosaic.Lib.Pipeline.TableIdle
public import Idealize.ShloMosaic.Lib.Pipeline.Frame
public import Idealize.ShloMosaic.Lib.Pipeline.FrameBody
public import Idealize.ShloMosaic.Lib.WritesUnit
public import Idealize.ShloMosaic.Lib.WordCmp
public import Idealize.ShloMosaic.Lib.Claim
public import Idealize.ShloMosaic.Lib.Pipeline.ValueKit.Tiles
public import Idealize.ShloMosaic.Lib.Quiescent

@[expose] public section

set_option maxRecDepth 16384

noncomputable section

namespace Cert.Kernel15Ideal.Hand

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block indices of the first operand, its columns by the first table. -/
def ixA (i : grid0.Coords) : Fin 2 → ℕ := ![(BitVec.ofNat 32 (i 2).val).toNat, (lit0 (S9.rowMajor ((Rect.unit (s := S9) ![(Scalar.indexCast (BitVec.ofNat 32 (i 0).val) : Index).toNat] S1.size (k0_off1_inb i)).emb (Shape.Idx.first (numel1_S1.symm ▸ Nat.one_pos))))).toNat]

/-- The block indices of the result, one axis by the second table. -/
def ixO (i : grid0.Coords) : Fin 2 → ℕ := ![(lit1 (S9.rowMajor ((Rect.unit (s := S9) ![(Scalar.indexCast (BitVec.ofNat 32 (i 0).val) : Index).toNat] S1.size (k0_off1_inb i)).emb (Shape.Idx.first (numel1_S1.symm ▸ Nat.one_pos))))).toNat, (BitVec.ofNat 32 (i 1).val).toNat]

/-- The contents of the two tables. -/
def tabs : pre0.Contents (Elt F) := fun
  | 0 => (fun i => lit0 (S9.rowMajor i) : main_c.ty.Contents (Elt F))
  | 1 => (fun i => lit1 (S9.rowMajor i) : main_c_0.ty.Contents (Elt F))
  | ⟨_ + 2, h⟩ => absurd h (Nat.not_lt.2 (Nat.le_add_left _ _))

/-- The first operand's index map at the tables. -/
theorem ixA_eq (i : grid0.Coords) : cc0_transform_0 k0_off1_inb numel1_S1 (tabs (F := F)) i = ixA i := rfl

/-- The result's index map at the tables. -/
theorem ixO_eq (i : grid0.Coords) : cc0_transform_2 k0_off1_inb numel1_S1 (tabs (F := F)) i = ixO i := rfl

/-- Every block of the first operand is inside its array, and of whole words. -/
theorem okA : ∀ i : grid0.Coords, ∃ h : (∀ a, (ixA i a + 1) * S1024x1024.size a ≤ S8192x9216.size a),
    EltTy.bits .bf16 = 32 ∨ (Rect.block (s := S8192x9216) S1024x1024.size (ixA i) h).WholeWords (EltTy.packing .bf16) := by decide +kernel

/-- Every block of the result is inside its array, and of whole words. -/
theorem okO : ∀ i : grid0.Coords, ∃ h : (∀ a, (ixO i a + 1) * S1024x1024.size a ≤ S9216x1024.size a),
    EltTy.bits .f32 = 32 ∨ (Rect.block (s := S9216x1024) S1024x1024.size (ixO i) h).WholeWords (EltTy.packing .f32) := by decide +kernel

/-- The tables are admissible. -/
theorem ok : ok0 (tabs (F := F)) := ⟨okA, okO⟩

/-- The admissible contents of the tables. -/
abbrev adm : (pcfg0 (F := F)).Adm := ⟨tabs, ok⟩

/-- The pipeline at the tables' contents. -/
abbrev cfgT : Cfg sig Λ₀ := cfg0 (adm (F := F))

/-- Where the result's block changes from a point to the next. -/
def flushes (t : Fin grid0.N) : Bool := t.val + 1 = grid0.N || decide (∃ h : t.val + 1 < grid0.N, ixO (grid0.coords ⟨t.val + 1, h⟩) ≠ ixO (grid0.coords t))

/-- It changes after every eighth point. -/
theorem flushes_eq : ∀ t : Fin grid0.N, flushes t = decide (t.val % 8 = 7) := by decide +kernel

/-- The result is written back after every eighth point. -/
theorem flush2 (t : Fin (cfgT (F := F)).N) : ((cfgT (F := F)).win 2).flush t = decide (t.val % 8 = 7) :=
  (show ((cfgT (F := F)).win 2).flush t = flushes t from rfl).trans (flushes_eq t)

/-- The condition the body clears the result's block under: the first row block. -/
def clears (i : grid0.Coords) : Prop := Scalar.cmpi .ne (Scalar.extui (Scalar.cmpi .eq (BitVec.ofNat 32 (i 2).val) 0#32) : BitVec 32) 0#32 = 1#1

/-- The condition is decidable. -/
instance (i : grid0.Coords) : Decidable (clears i) := inferInstanceAs (Decidable (_ = _))

/-- The body clears at the first of eight points. -/
theorem hclears : ∀ t : Fin grid0.N, clears (grid0.coords t) ↔ t.val % 8 = 0 := by decide +kernel

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

/-- The host operations draw no fresh buffer. -/
theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The first argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-- The second argument is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))

/-- The tables are what the host operations put in them. -/
theorem hpf (c : Dev nD) (k : Fin 2) : V m c (pre0.ref k) = tabs (F := F) k := by
  match k with
  | 0 =>
    show (StableHlo.nullary (τ := τ) main_c_0 (fun i => lit1 (S9.rowMajor i))).result ((StableHlo.nullary main_c (fun i => lit0 (S9.rowMajor i))).result fun b => m (c, b)) (Proc.devRef .tc main_c) = _
    rw [StableHlo.nullary_result_ne (r := main_c) (h := by decide)]
    exact StableHlo.nullary_result main_c _ _ _
  | 1 =>
    show (StableHlo.nullary (τ := τ) main_c_0 (fun i => lit1 (S9.rowMajor i))).result ((StableHlo.nullary main_c (fun i => lit0 (S9.rowMajor i))).result fun b => m (c, b)) (Proc.devRef .tc main_c_0) = _
    exact StableHlo.nullary_result main_c_0 _ _ _

/-- A window's block at a point, of its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first operand's block at a point. -/
def blkA (c : Dev nD) (t : Fin grid0.N) : Vec F S1024x1024 .bf16 := iblk m c 0 t

/-- The second operand's block at a point. -/
def blkB (c : Dev nD) (t : Fin grid0.N) : Vec F S1024x1024 .bf16 := iblk m c 1 t

/-- The result's block after a point: the products added up since it was cleared. -/
def oAt (c : Dev nD) (n : ℕ) (hn : n < grid0.N) : Vec F S1024x1024 .f32 := Accum.sumAt k0_pay1 k0_pay2 (blkA m c) (blkB m c) n hn

/-- At the first row block the result's block is the product. -/
theorem oAt_first (c : Dev nD) (n : ℕ) (hn : n < grid0.N) (h0 : n % 8 = 0) : oAt m c n hn = k0_pay2 k0_pay1 (blkA m c ⟨n, hn⟩) (blkB m c ⟨n, hn⟩) :=
  Accum.sumAt_first _ _ _ _ n hn h0

/-- At a later row block the product is added. -/
theorem oAt_later (c : Dev nD) (n : ℕ) (hn : n < grid0.N) (h0 : ¬n % 8 = 0) : oAt m c n hn = k0_pay2 (oAt m c (n - 1) (Nat.lt_of_le_of_lt (Nat.sub_le _ _) hn)) (blkA m c ⟨n, hn⟩) (blkB m c ⟨n, hn⟩) :=
  Accum.sumAt_later _ _ _ _ n hn h0

/-- The pipeline's proof data: the inputs' buffers at their blocks, the result's at the sum so far. -/
def dats (_ : Fin 1) (c : Dev nD) : Dat τ (Elt F) Unit ℕ (UR sig nD τ) ℕ (cfgT (F := F)) c where
  A w := V m c (Pipeline.arrRef spec0 w)
  after w t := match w with
    | ⟨0, _⟩ => blkA m c t
    | ⟨1, _⟩ => blkB m c t
    | ⟨2, _⟩ => oAt m c t.val t.isLt
  Φ _ := iprop(Pipeline.ΦA spec0 c ∗ Pipeline.ΦT pre0 (tabs (F := F)) c)
  q _ := fullShare
  owed _ := 0

/-- The arrays are the contents the region finds. -/
theorem A_eq (c : Dev nD) (w : Fin (cfgT (F := F)).W) : (dats m 0 c).A w = V m c (Pipeline.arrRef spec0 w) := by
  dsimp only [dats]

/-- What the body leaves in the first operand's buffer. -/
theorem after0_0 (c : Dev nD) (t : Fin (cfgT (F := F)).N) : (dats m 0 c).after 0 t = blkA m c t := rfl
/-- What the body leaves in the second operand's buffer. -/
theorem after0_1 (c : Dev nD) (t : Fin (cfgT (F := F)).N) : (dats m 0 c).after 1 t = blkB m c t := rfl
/-- What the body leaves in the result's buffer. -/
theorem after0_2 (c : Dev nD) (t : Fin (cfgT (F := F)).N) : (dats m 0 c).after 2 t = oAt m c t.val t.isLt := rfl

/-- The first operand's buffer holds its block at every point. -/
theorem before0_0 (c : Dev nD) (t : Fin (cfgT (F := F)).N) (d) : (dats m 0 c).before 0 t d = blkA m c t :=
  ((dats m 0 c).before_in_eq_fetched 0 rfl (fun _ => rfl) (fun _ _ _ => rfl) (fun t => by rw [after0_0]; unfold Dat.blockOf blkA iblk; rw [A_eq]; try rfl) t d).trans
    (by unfold Dat.fetched Dat.blockOf blkA iblk; rw [A_eq]; try rfl)
/-- The second operand's buffer holds its block at every point. -/
theorem before0_1 (c : Dev nD) (t : Fin (cfgT (F := F)).N) (d) : (dats m 0 c).before 1 t d = blkB m c t :=
  ((dats m 0 c).before_in_eq_fetched 1 rfl (fun _ => rfl) (fun _ _ _ => rfl) (fun t => by rw [after0_1]; unfold Dat.blockOf blkB iblk; rw [A_eq]; try rfl) t d).trans
    (by unfold Dat.fetched Dat.blockOf blkB iblk; rw [A_eq]; try rfl)

/-- The result's buffer holds nothing yet at the first row block only. -/
theorem fresh2 (n : ℕ) (hn : n ≤ (cfgT (F := F)).N) : (cfgT (F := F)).fresh 2 n = decide (n % 8 = 0) :=
  Accum.fresh_eight cfgT 2 (fun _ => rfl) flush2 n hn

/-- At a later row block the buffer holds the sum so far. -/
theorem before0_2 (c : Dev nD) (t : Fin (cfgT (F := F)).N) (h0 : ¬t.val % 8 = 0) (d) : (dats m 0 c).before 2 t d = oAt m c (t.val - 1) (Nat.lt_of_le_of_lt (Nat.sub_le _ _) t.isLt) := by
  have h := (dats m 0 c).before_out_traj 2 rfl (fun _ _ => rfl) (fun t ht hi hfr => absurd hi Bool.false_ne_true) t.val t rfl d
  rw [h, fresh2 _ (Nat.le_of_lt t.isLt), decide_eq_false h0, if_neg Bool.false_ne_true, after0_2]

/-- The first operand's staging buffer at a point. -/
abbrev st0_0 (t : Fin (cfgT (F := F)).N) := ((cfgT (F := F)).win 0).stage ((cfgT (F := F)).slots t 0)
/-- The second operand's staging buffer at a point. -/
abbrev st0_1 (t : Fin (cfgT (F := F)).N) := ((cfgT (F := F)).win 1).stage ((cfgT (F := F)).slots t 1)
/-- The result's staging buffer at a point. -/
abbrev st0_2 (t : Fin (cfgT (F := F)).N) := ((cfgT (F := F)).win 2).stage ((cfgT (F := F)).slots t 2)

/-- The body at a point. -/
abbrev bodyAt0 (t : Fin (cfgT (F := F)).N) : Prog (TpuEff nD τ sig (Elt F) Λ₀ .tc) PUnit :=
  cc0_l0_in_proj_wgrad (grid0.coords t) (Memref.whole main_c) (Memref.isWhole_whole _) (Memref.whole main_c_0) (Memref.isWhole_whole _)
    (spec0_0.stage ((cfgT (F := F)).slots t 0)) (hstage0_0 (((cfgT (F := F)).slots t 0).cast nbuf0_0))
    (spec0_1.stage ((cfgT (F := F)).slots t 1)) (hstage0_1 (((cfgT (F := F)).slots t 1).cast nbuf0_1))
    (spec0_2.stage ((cfgT (F := F)).slots t 2)) (hstage0_2 (((cfgT (F := F)).slots t 2).cast nbuf0_2))

/-- The body at a point is the one that clears and adds. -/
theorem bodyAt0_eq (t : Fin (cfgT (F := F)).N) : bodyAt0 t = Accum.body (Scalar.cmpi .ne (Scalar.extui (Scalar.cmpi .eq (BitVec.ofNat 32 (grid0.coords t 2).val) 0#32) : BitVec 32) 0#32)
    (spec0_0.stage ((cfgT (F := F)).slots t 0)) (spec0_1.stage ((cfgT (F := F)).slots t 1)) (spec0_2.stage ((cfgT (F := F)).slots t 2))
    ![0, 0] inb_S1024x1024_S1024x1024_0_0 h_S1024x1024 ![0, 0] inb_S1024x1024_S1024x1024_0_0 h_S1024x1024 ![0, 0] inb_S1024x1024_S1024x1024_0_0 h_S1024x1024 (k0_pay1 (F := F)) k0_pay2 := by
  unfold bodyAt0; rw [cc0_l0_in_proj_wgrad_eq_skeleton]; rfl

/-- What the body is called with at a point. -/
def bodyPre (c : Dev nD) (t : Fin (cfgT (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin (cfgT (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point. -/
theorem sound_body (c : Dev nD) (t : Fin (cfgT (F := F)).N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [bodyAt0_eq]
  exact Accum.run _ _ _ _ _ _ _ _ _ _ _ _ _ _ _ (hstage0_0 (((cfgT (F := F)).slots t 0).cast nbuf0_0)) (hstage0_1 (((cfgT (F := F)).slots t 1).cast nbuf0_1))
    (hstage0_2 (((cfgT (F := F)).slots t 2).cast nbuf0_2)) (by decide) (by decide) (by decide) _ c (blkA m c t) (blkB m c t) Set.univ _ _ _ _
    (fun h => oAt_first m c t.val t.isLt ((hclears t).mp h))
    (fun h d => by rw [before0_2 m c t (fun h0 => h ((hclears t).mpr h0))]; exact oAt_later m c t.val t.isLt fun h0 => h ((hclears t).mpr h0))

/-- The body table's row at a point is the body there. -/
theorem defs₀_row (t : Fin (cfgT (F := F)).N) :
    defs₀ (F := F) .tc (cfgT (F := F)).body ((cfgT (F := F)).bodyArgs t ((cfgT (F := F)).slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ)
    (fun r => (Pipeline.FramePost (fun _ : Fin 1 => cfgT (F := F)) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The launch: every array ends as the proof data say. -/
theorem run_main : θ_run defs (onTc (τ := τ) (main (F := F))) (s₀ m ρ) (Pipeline.FramePost (fun _ : Fin 1 => cfgT (F := F)) (dats m) 0 (V m)) :=
  (θ_run defs _ _).mono (fun _ h => h.1) (run_main_quiescent m ρ)

/-- The result's array and the arguments at the end, and every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 2 (cfgT (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main_quiescent m ρ)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_blocks m ρ)

end Cert.Kernel15Ideal.Hand

end
-- ==== Proof.InProjGradFrame.lean ====
/- The frame of `Kernel15`, the weight gradient of the input projection: its program is the idealized one's at the words, so its frame is that one's. -/
module

public import proofs.«01_k».proof.Proof.Gen.Kernel15
public import proofs.«01_k».proof.Proof.InProjGradFrameIdeal

@[expose] public section

set_option maxRecDepth 16384

noncomputable section

namespace Cert.Kernel15.Hand

open Cert.Kernel15 Cert.Kernel15.Gen
open Idealize.ShloMosaic Idealize.ShloMosaic.TcCoe
open Idealize.SL.Sem

variable {F : FTy → Type} [FloatOps F]

/-- The body tables of the two programs are the same. -/
theorem bodies_eq : @defs₀ F _ _ = @Cert.Kernel15Ideal.defs₀ F _ _ :=
  congrArg Defs.onTc (funext fun l => funext fun a => match l, a with
    | 0, _ => rfl
    | ⟨_ + 1, h⟩, _ => absurd h (Nat.not_lt.2 (Nat.le_add_left _ _)))

/-- The tables with the launched region are the same. -/
theorem defs_eq : @defs F _ _ = @Cert.Kernel15Ideal.defs F _ _ := congrArg (Pipeline.defs pcfgs) bodies_eq

/-- The two programs are the same. -/
theorem main_eq : @main F _ _ = @Cert.Kernel15Ideal.main F _ _ := rfl

variable (m : (ℓ : Loc nD τ sig) → Buf (Elt F) ℓ) (ρ : Dev nD → PrngReg)

/-- The frame: the arguments end as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel15Ideal.Hand.frame m ρ

end Cert.Kernel15.Hand

end
-- ==== Proof.InProjGradValue.lean ====
/- The weight gradient of the input projection: what the kernel leaves is the reference's term. -/
module

public import proofs.«01_k».proof.Defs
public import Idealize.ShloMosaic.Lib.Pipeline.ValueKit.Tiles
public import proofs.«01_k».proof.Proof.Gen.Reference15Ideal.Run
public import proofs.«01_k».proof.Proof.Logistic
public import proofs.«01_k».proof.Proof.InProjGradFrameIdeal
public import proofs.«01_k».proof.Proof.AccumSum

@[expose] public section

set_option maxRecDepth 16384

noncomputable section

open Idealize.ShloMosaic Idealize.ShloMosaic.TcCoe Idealize.SL.Sem
open Idealize.ShloMosaic.Pipeline (Dat)

namespace Cert.Reference15Ideal.Value

open Cert.Reference15Ideal Cert.Reference15Ideal.Gen

variable (a : FVec Ideal S8192x9216 .bf16) (b : FVec Ideal S8192x1024 .bf16)

/-- The reference's result 0. -/
abbrev REF0 : FVec Ideal S9216x1024 .f32 :=
  addf (addf (addf (pad S9216x1024 ![1024, 0] ![7168, 0] ![0, 0] (extractStridedSlice S1024x1024 ![8192, 0] (transpose S9216x1024 [1, 0] (transpose S1024x9216 [1, 0] (Host.dotGeneral dot_S8192x9216_S8192x1024_S9216x1024_0_0_1_1_n_n none (extf .f32 a bitsLt_bf16_f32) (extf .f32 b bitsLt_bf16_f32)) transposes_S9216x1024_S1024x9216_1_0) transposes_S1024x9216_S9216x1024_1_0) slices_S9216x1024_S1024x1024_8192_0) (constant S_ .f32 0x00000000#32) pads_S1024x1024_S9216x1024_102471680_000 h_S_) (pad S9216x1024 ![7168, 0] ![0, 0] ![0, 0] (extractStridedSlice S2048x1024 ![6144, 0] (transpose S9216x1024 [1, 0] (transpose S1024x9216 [1, 0] (Host.dotGeneral dot_S8192x9216_S8192x1024_S9216x1024_0_0_1_1_n_n none (extf .f32 a bitsLt_bf16_f32) (extf .f32 b bitsLt_bf16_f32)) transposes_S9216x1024_S1024x9216_1_0) transposes_S1024x9216_S9216x1024_1_0) slices_S9216x1024_S2048x1024_6144_0) (constant S_ .f32 0x00000000#32) pads_S2048x1024_S9216x1024_716800_000 h_S_)) (pad S9216x1024 ![0, 0] ![8192, 0] ![0, 0] (extractStridedSlice S1024x1024 ![5120, 0] (transpose S9216x1024 [1, 0] (transpose S1024x9216 [1, 0] (Host.dotGeneral dot_S8192x9216_S8192x1024_S9216x1024_0_0_1_1_n_n none (extf .f32 a bitsLt_bf16_f32) (extf .f32 b bitsLt_bf16_f32)) transposes_S9216x1024_S1024x9216_1_0) transposes_S1024x9216_S9216x1024_1_0) slices_S9216x1024_S1024x1024_5120_0) (constant S_ .f32 0x00000000#32) pads_S1024x1024_S9216x1024_081920_000 h_S_)) (pad S9216x1024 ![2048, 0] ![2048, 0] ![0, 0] (extractStridedSlice S5120x1024 ![0, 0] (transpose S9216x1024 [1, 0] (transpose S1024x9216 [1, 0] (Host.dotGeneral dot_S8192x9216_S8192x1024_S9216x1024_0_0_1_1_n_n none (extf .f32 a bitsLt_bf16_f32) (extf .f32 b bitsLt_bf16_f32)) transposes_S9216x1024_S1024x9216_1_0) transposes_S1024x9216_S9216x1024_1_0) slices_S9216x1024_S5120x1024_0_0) (constant S_ .f32 0x00000000#32) pads_S5120x1024_S9216x1024_204820480_000 h_S_)

/-- The rows of a product's weight gradient in the parameter's own order. -/
abbrev ROWS (g : FVec Ideal S9216x1024 .f32) : FVec Ideal S9216x1024 .f32 :=
  addf (addf (addf (pad S9216x1024 ![1024, 0] ![7168, 0] ![0, 0] (extractStridedSlice S1024x1024 ![8192, 0] g slices_S9216x1024_S1024x1024_8192_0) (constant S_ .f32 0x00000000#32) pads_S1024x1024_S9216x1024_102471680_000 h_S_) (pad S9216x1024 ![7168, 0] ![0, 0] ![0, 0] (extractStridedSlice S2048x1024 ![6144, 0] g slices_S9216x1024_S2048x1024_6144_0) (constant S_ .f32 0x00000000#32) pads_S2048x1024_S9216x1024_716800_000 h_S_)) (pad S9216x1024 ![0, 0] ![8192, 0] ![0, 0] (extractStridedSlice S1024x1024 ![5120, 0] g slices_S9216x1024_S1024x1024_5120_0) (constant S_ .f32 0x00000000#32) pads_S1024x1024_S9216x1024_081920_000 h_S_)) (pad S9216x1024 ![2048, 0] ![2048, 0] ![0, 0] (extractStridedSlice S5120x1024 ![0, 0] g slices_S9216x1024_S5120x1024_0_0) (constant S_ .f32 0x00000000#32) pads_S5120x1024_S9216x1024_204820480_000 h_S_)

/-- The product's weight gradient. -/
abbrev GRAD : FVec Ideal S9216x1024 .f32 :=
  transpose S9216x1024 [1, 0] (transpose S1024x9216 [1, 0] (Host.dotGeneral dot_S8192x9216_S8192x1024_S9216x1024_0_0_1_1_n_n none (extf .f32 a bitsLt_bf16_f32) (extf .f32 b bitsLt_bf16_f32)) transposes_S9216x1024_S1024x9216_1_0) transposes_S1024x9216_S9216x1024_1_0

end Cert.Reference15Ideal.Value

namespace Cert.Kernel15Ideal.Value

open Cert.Kernel15Ideal Cert.Kernel15Ideal.Gen Cert.Kernel15Ideal.Hand

variable (m : (ℓ : Loc nD τ sig) → Buf (Elt Ideal) ℓ)

/-- The block of the result that a block of the first operand's columns goes to. -/
def oTab (q : ℕ) : ℕ := if q < 5 then q + 2 else if q = 5 then 0 else if q < 8 then q + 1 else 1

/-- Each is one of the nine. -/
theorem oTab_le (q : ℕ) (h : q < 9) : oTab q ≤ 8 := by unfold oTab; split_ifs <;> omega

/-- The column of the first operand that a row of the result comes from. -/
def colOf (r : Fin 9216) : Fin 9216 :=
  ⟨if r.val < 1024 then 5120 + r.val else if r.val < 2048 then r.val + 7168 else if r.val < 7168 then r.val - 2048 else r.val - 1024, by split_ifs <;> omega⟩

/-- A row of a block of the result comes from the column of the block that goes there. -/
theorem colOf_oTab (q : ℕ) (r : Fin 1024) (h : 1024 * oTab q + r.val < 9216) (hq : q < 9) : (colOf ⟨1024 * oTab q + r.val, h⟩).val = 1024 * q + r.val := by
  unfold colOf oTab at *
  dsimp only
  split_ifs at * <;> omega

/-- The cleared block. -/
theorem zero_pay (j : S1024x1024.Idx) : k0_pay1 (F := Ideal) j = 0 := by pointwise [k0_pay1]

/-- One step of the accumulation. -/
theorem pay_acc (o : FVec Ideal S1024x1024 .f32) (a : FVec Ideal S1024x1024 .bf16) (b : FVec Ideal S1024x1024 .bf16) (r : Fin 1024) (k : Fin 1024) :
    k0_pay2 (F := Ideal) o a b (ix2 r k) = o (ix2 r k) + ∑ l : Fin 1024, a (ix2 l r) * b (ix2 l k) := by
  pointwise [k0_pay2]

/-- The block indices of the three windows at every grid point. -/
theorem idx : ∀ t : Fin grid0.N, ((cfgT (F := Ideal)).win 0).index t = ![t.val % 8, t.val / 8] ∧ ((cfgT (F := Ideal)).win 1).index t = ![t.val % 8, 0]
    ∧ ((cfgT (F := Ideal)).win 2).index t = ![oTab (t.val / 8), 0] :=
  (by decide +kernel : ∀ t : Fin grid0.N, ixA (grid0.coords t) = ![t.val % 8, t.val / 8] ∧ cc0_transform_1 (grid0.coords t) = ![t.val % 8, 0] ∧ ixO (grid0.coords t) = ![oTab (t.val / 8), 0])

/-- The first operand's block at an index. -/
theorem blkA_at (c : Dev nD) (t : Fin grid0.N) (l : Fin 1024) (r : Fin 1024) :
    blkA m c t (ix2 l r) = (show FVec Ideal S8192x9216 .bf16 from m ((c : Thread nD τ).loc main_arg0)) (ix2 (⟨1024 * (t.val % 8) + l.val, by omega⟩ : Fin 8192) (⟨1024 * (t.val / 8) + r.val, by have : t.val < 72 := t.isLt; omega⟩ : Fin 9216)) := by
  unfold blkA
  blk_point [iblk, V_main_arg0, idx t]

/-- The second operand's block at an index. -/
theorem blkB_at (c : Dev nD) (t : Fin grid0.N) (l : Fin 1024) (k : Fin 1024) :
    blkB m c t (ix2 l k) = (show FVec Ideal S8192x1024 .bf16 from m ((c : Thread nD τ).loc main_arg1)) (ix2 (⟨1024 * (t.val % 8) + l.val, by omega⟩ : Fin 8192) k) := by
  unfold blkB
  blk_point [iblk, V_main_arg1, idx t]

/-- Where the result's window puts its block. -/
theorem emb (t : Fin grid0.N) (r : Fin 1024) (k : Fin 1024) :
    (((cfgT (F := Ideal)).win 2).blk t).view.emb (ix2 r k) = ix2 (⟨1024 * (oTab (t.val / 8)) + r.val, by have : t.val < 72 := t.isLt; have := oTab_le (t.val / 8) (by omega); omega⟩ : Fin 9216) k := by
  blk_ext [idx t] <;> omega

/-- After the last row block the result's block is the sum over every row. -/
theorem acc (c : Dev nD) (t : Fin grid0.N) (h : t.val % 8 = 7) (r : Fin 1024) (k : Fin 1024) :
    oAt m c t.val t.isLt (ix2 r k) = ∑ l : Fin 8192, (show FVec Ideal S8192x9216 .bf16 from m ((c : Thread nD τ).loc main_arg0)) (ix2 l (⟨1024 * (t.val / 8) + r.val, by have : t.val < 72 := t.isLt; omega⟩ : Fin 9216)) * (show FVec Ideal S8192x1024 .bf16 from m ((c : Thread nD τ).loc main_arg1)) (ix2 l k) := by
  refine Accum.sumAt_all _ _ _ _ _ (fun q l => blkA m c q (ix2 l r) * blkB m c q (ix2 l k)) _ t h (zero_pay _) (fun o q => pay_acc o _ _ r k) fun q e l => ?_
  dsimp only
  rw [blkA_at, blkB_at]
  simp only [e]

set_option maxRecDepth 1000000 in
/-- The reordered rows at an index. -/
theorem rows_at (g : FVec Ideal S9216x1024 .f32) (r : Fin 9216) (k : Fin 1024) : Cert.Reference15Ideal.Value.ROWS g (ix2 r k) = g (ix2 (colOf r) k) := by
  pointwise [Cert.Reference15Ideal.Value.ROWS]
  have hr := r.isLt
  split_ifs
  all_goals first
    | (exfalso; omega)
    | (simp only [add_zero, zero_add]
       refine congrArg (fun q => g (ix2 q k)) (Fin.ext ?_)
       unfold colOf
       dsimp only
       split_ifs <;> omega)

/-- The product's weight gradient at an index. -/
theorem grad_at (a : FVec Ideal S8192x9216 .bf16) (b : FVec Ideal S8192x1024 .bf16) (r : Fin 9216) (k : Fin 1024) :
    Cert.Reference15Ideal.Value.GRAD a b (ix2 r k) = ∑ l : Fin 8192, a (ix2 l r) * b (ix2 l k) := by
  pointwise [Cert.Reference15Ideal.Value.GRAD]

/-- The reference's term at an index. -/
theorem ref_at (a : FVec Ideal S8192x9216 .bf16) (b : FVec Ideal S8192x1024 .bf16) (r : Fin 9216) (k : Fin 1024) :
    Cert.Reference15Ideal.Value.REF0 a b (ix2 r k) = ∑ l : Fin 8192, a (ix2 l (colOf r)) * b (ix2 l k) := by
  show Cert.Reference15Ideal.Value.ROWS (Cert.Reference15Ideal.Value.GRAD a b) (ix2 r k) = _
  rw [rows_at, grad_at]

/-- What is written back of the result is the reference's term at the place of the array the window puts it. -/
theorem point0 (c : Dev nD) (t : Fin grid0.N) (h : t.val % 8 = 7) (y : S1024x1024.Idx) :
    oAt m c t.val t.isLt y = Cert.Reference15Ideal.Value.REF0 (m ((c : Thread nD τ).loc main_arg0)) (m ((c : Thread nD τ).loc main_arg1)) ((((cfgT (F := Ideal)).win 2).blk t).view.emb y) := by
  have ht : t.val < 72 := t.isLt
  obtain ⟨r, k, rfl⟩ : ∃ (r : Fin 1024) (k : Fin 1024), y = ix2 r k := ⟨y 0, y 1, eq_ix2 y⟩
  rw [emb, acc m c t h, ref_at]
  refine Finset.sum_congr rfl fun l _ => congrArg (· * _) (congrArg _ (congrArg _ (Fin.ext ?_)))
  exact (colOf_oTab (t.val / 8) r _ (by omega)).symm

/-- The result's array after the run. -/
theorem final0 (c : Dev nD) : (dats m 0 c).arrAt 2 (cfgT (F := Ideal)).N = Cert.Reference15Ideal.Value.REF0 (m ((c : Thread nD τ).loc main_arg0)) (m ((c : Thread nD τ).loc main_arg1)) := by
  refine (dats m 0 c).arrAt_eq_of_covers 2 _ (by decide +kernel) fun t hf y => ?_
  blk_simp
  rw [after0_2]
  exact point0 m c t (of_decide_eq_true ((flush2 t).symm.trans hf)) y

end Cert.Kernel15Ideal.Value

/-- The kernel and the reference leave the same arrays. -/
theorem Cert.in_proj_grad_algebraic : Cert.algebraic_Kernel15Ideal_Reference15Ideal := by
  intro m g m' g' hp hm
  refine ⟨fun c => Cert.Reference15Ideal.Value.REF0 (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run _ _ _).mono (fun r h c => ?_) (Cert.Kernel15Ideal.Hand.run_blocks m g)
    exact ⟨(h.1 c).1.trans (Cert.Kernel15Ideal.Value.final0 m c), (h.1 c).2⟩
  · refine (θ_run _ _ _).mono (fun r h c => ?_) (Cert.Reference15Ideal.Value.run m' g')
    obtain ⟨e0, e1⟩ := hm c
    refine ⟨(h c).1.trans ?_, (h c).2⟩
    · rw [e0, e1]
-- ==== Proof.Adam.lean ====
/- One step of the optimiser at one element: the two moments and the update of the weight. -/
module

public import Idealize.ShloMosaic.Lib.Pipeline.ValueKit
public import Idealize.ShloMosaic.Lib.Pipeline.Value

@[expose] public section

noncomputable section

namespace Cert.Adam

open Idealize.ShloMosaic

/-- A number of the optimiser, by its word. -/
abbrev num (w : BitVec 32) : Ideal .f32 := Scalar.ofBits .f32 w

/-- The first moment after the step. -/
def first (g m : Ideal .f32) : Ideal .f32 := FloatOps.addf (FloatOps.mulf (num 0x3F666666#32) m) (FloatOps.mulf (num 0x3DCCCCCD#32) g)

/-- The second moment after the step. -/
def second (g v : Ideal .f32) : Ideal .f32 := FloatOps.addf (FloatOps.mulf (num 0x3F7FBE77#32) v) (FloatOps.mulf (num 0x3A83126F#32) (FloatOps.mulf g g))

/-- The update of the weight, from the two moments. -/
def update (w m v : Ideal .f32) : Ideal .f32 :=
  FloatOps.mulf (num 0xBA83126F#32) (FloatOps.addf
    (FloatOps.divf (FloatOps.divf m (num 0x3F26BD02#32)) (FloatOps.addf (FloatOps.sqrt (FloatOps.divf v (num 0x3C231ACC#32))) (num 0x322BCC77#32)))
    (FloatOps.mulf (num 0x3C23D70A#32) w))

variable {S : Shape} (w g m v : FVec Ideal S .f32)

/-- The first moments of an array after the step. -/
def firsts : FVec Ideal S .f32 := fun i => first (g i) (m i)

/-- The second moments of an array after the step. -/
def seconds : FVec Ideal S .f32 := fun i => second (g i) (v i)

/-- The updates of an array of weights. -/
def updates : FVec Ideal S .f32 := fun i => update (w i) (first (g i) (m i)) (second (g i) (v i))

/-! ## What a point stores, for blocks of any shape -/

section Stored

variable (off : Fin S.rank → ℕ) (inb : ∀ a, off a + S.size a ≤ S.size a) (h : S.ShapeCasts S) (h0 : ∀ a, off a = 0)

/-- A buffer read whole, reshaped to its own shape. -/
abbrev whole (x : FVec Ideal S .f32) : FVec Ideal S .f32 := shapeCast S (View.ld (Val := Elt Ideal) (e' := .f32) x (Rect.unit off S.size inb)) h

include h0

/-- A buffer read whole is its contents. -/
theorem whole_eq (x : FVec Ideal S .f32) : whole off inb h x = x := (shapeCast_id _ _).trans (View.ld_unit_lit (Val := Elt Ideal) (e := .f32) inb x h0)

/-- A buffer stored whole holds what was stored. -/
theorem stored (x : FVec Ideal S .f32) : View.canon [(⟨Rect.unit off S.size inb, x⟩ : View.Piece (Elt Ideal) S .f32)] = x := View.canon_cons_unit_lit (Val := Elt Ideal) (e := .f32) inb x [] h0

/-- The stored first moments are those of the buffers read. -/
theorem firsts_stored : View.canon [(⟨Rect.unit off S.size inb, firsts (whole off inb h g) (whole off inb h m)⟩ : View.Piece (Elt Ideal) S .f32)] = firsts g m :=
  (stored off inb h0 _).trans (congrArg₂ firsts (whole_eq off inb h h0 g) (whole_eq off inb h h0 m))

/-- The stored second moments are those of the buffers read. -/
theorem seconds_stored : View.canon [(⟨Rect.unit off S.size inb, seconds (whole off inb h g) (whole off inb h v)⟩ : View.Piece (Elt Ideal) S .f32)] = seconds g v :=
  (stored off inb h0 _).trans (congrArg₂ seconds (whole_eq off inb h h0 g) (whole_eq off inb h h0 v))

/-- The stored updates are those of the buffers read. -/
theorem updates_stored : View.canon [(⟨Rect.unit off S.size inb, updates (whole off inb h w) (whole off inb h g) (whole off inb h m) (whole off inb h v)⟩ : View.Piece (Elt Ideal) S .f32)]
    = updates w g m v :=
  (stored off inb h0 _).trans (congr (congr (congrArg₂ updates (whole_eq off inb h h0 w) (whole_eq off inb h h0 g)) (whole_eq off inb h h0 m)) (whole_eq off inb h h0 v))

end Stored

end Cert.Adam

end
-- ==== Proof.AdamWInValue.lean ====
/- The optimiser's step of the input projection's weights: what the kernel leaves is the reference's terms. -/
module

public import proofs.«01_k».proof.Defs
public import proofs.«01_k».proof.Proof.Gen.Kernel21Ideal.Value
public import proofs.«01_k».proof.Proof.Gen.Reference21Ideal.Run
public import proofs.«01_k».proof.Proof.Adam

@[expose] public section

set_option maxRecDepth 16384

noncomputable section

open Idealize.ShloMosaic Idealize.ShloMosaic.TcCoe Idealize.SL.Sem Cert.Adam

namespace Cert.Kernel21Ideal.Value

open Cert.Kernel21Ideal Cert.Kernel21Ideal.Gen

variable (m : (ℓ : Loc nD τ sig) → Buf (Elt Ideal) ℓ)

/-- An array with its first two axes as one. -/
abbrev flat (x : FVec Ideal S2x1024x2312 .f32) : FVec Ideal S2048x2312 .f32 := shapeCast _ x shapeCasts_S2x1024x2312_S2048x2312

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S64x2312 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel21Ideal.Value

/-- The kernel and the reference leave the same arrays. -/
theorem Cert.adam_w_in_algebraic : Cert.algebraic_Kernel21Ideal_Reference21Ideal := by
  intro m g m' g' hp hm
  refine ⟨_, _, _, (θ_run _ _ _).mono (fun r h c => h c) (Cert.Kernel21Ideal.Value.run_blocks m g), (θ_run _ _ _).mono (fun r h c => ?_) (Cert.Reference21Ideal.Value.run m' g')⟩
  obtain ⟨e0, e1, e2, e3⟩ := hm c
  obtain ⟨f4, f5, f6⟩ := Cert.Kernel21Ideal.Value.final m c
  obtain ⟨v0, v1, v2, v3⟩ := Cert.Kernel21Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.AdamWBranchValue.lean ====
/- The optimiser's step of the branches' weights: what the kernel leaves is the reference's terms. -/
module

public import proofs.«01_k».proof.Defs
public import proofs.«01_k».proof.Proof.Gen.Kernel22Ideal.Value
public import proofs.«01_k».proof.Proof.Gen.Reference22Ideal.Run
public import proofs.«01_k».proof.Proof.Adam

@[expose] public section

set_option maxRecDepth 16384

noncomputable section

open Idealize.ShloMosaic Idealize.ShloMosaic.TcCoe Idealize.SL.Sem Cert.Adam

namespace Cert.Kernel22Ideal.Value

open Cert.Kernel22Ideal Cert.Kernel22Ideal.Gen

variable (m : (ℓ : Loc nD τ sig) → Buf (Elt Ideal) ℓ)

/-- An array with its first two axes as one. -/
abbrev flat (x : FVec Ideal S2x768x1024 .f32) : FVec Ideal S1536x1024 .f32 := shapeCast _ x shapeCasts_S2x768x1024_S1536x1024

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S256x1024 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel22Ideal.Value

/-- The kernel and the reference leave the same arrays. -/
theorem Cert.adam_w_branch_algebraic : Cert.algebraic_Kernel22Ideal_Reference22Ideal := by
  intro m g m' g' hp hm
  refine ⟨_, _, _, (θ_run _ _ _).mono (fun r h c => h c) (Cert.Kernel22Ideal.Value.run_blocks m g), (θ_run _ _ _).mono (fun r h c => ?_) (Cert.Reference22Ideal.Value.run m' g')⟩
  obtain ⟨e0, e1, e2, e3⟩ := hm c
  obtain ⟨f4, f5, f6⟩ := Cert.Kernel22Ideal.Value.final m c
  obtain ⟨v0, v1, v2, v3⟩ := Cert.Kernel22Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.AdamWOutValue.lean ====
/- The optimiser's step of the output projection's weights: what the kernel leaves is the reference's terms. -/
module

public import proofs.«01_k».proof.Defs
public import proofs.«01_k».proof.Proof.Gen.Kernel23Ideal.Value
public import proofs.«01_k».proof.Proof.Gen.Reference23Ideal.Run
public import proofs.«01_k».proof.Proof.Adam

@[expose] public section

set_option maxRecDepth 16384

noncomputable section

open Idealize.ShloMosaic Idealize.ShloMosaic.TcCoe Idealize.SL.Sem Cert.Adam

namespace Cert.Kernel23Ideal.Value

open Cert.Kernel23Ideal Cert.Kernel23Ideal.Gen

variable (m : (ℓ : Loc nD τ sig) → Buf (Elt Ideal) ℓ)

/-- An array with its first two axes as one. -/
abbrev flat (x : FVec Ideal S2x256x1024 .f32) : FVec Ideal S512x1024 .f32 := shapeCast _ x shapeCasts_S2x256x1024_S512x1024

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S256x1024 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel23Ideal.Value

/-- The kernel and the reference leave the same arrays. -/
theorem Cert.adam_w_out_algebraic : Cert.algebraic_Kernel23Ideal_Reference23Ideal := by
  intro m g m' g' hp hm
  refine ⟨_, _, _, (θ_run _ _ _).mono (fun r h c => h c) (Cert.Kernel23Ideal.Value.run_blocks m g), (θ_run _ _ _).mono (fun r h c => ?_) (Cert.Reference23Ideal.Value.run m' g')⟩
  obtain ⟨e0, e1, e2, e3⟩ := hm c
  obtain ⟨f4, f5, f6⟩ := Cert.Kernel23Ideal.Value.final m c
  obtain ⟨v0, v1, v2, v3⟩ := Cert.Kernel23Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.AdamWFfnInValue.lean ====
/- The optimiser's step of the feed-forward input weights: what the kernel leaves is the reference's terms. -/
module

public import proofs.«01_k».proof.Defs
public import proofs.«01_k».proof.Proof.Gen.Kernel24Ideal.Value
public import proofs.«01_k».proof.Proof.Gen.Reference24Ideal.Run
public import proofs.«01_k».proof.Proof.Adam

@[expose] public section

set_option maxRecDepth 16384

noncomputable section

open Idealize.ShloMosaic Idealize.ShloMosaic.TcCoe Idealize.SL.Sem Cert.Adam

namespace Cert.Kernel24Ideal.Value

open Cert.Kernel24Ideal Cert.Kernel24Ideal.Gen

variable (m : (ℓ : Loc nD τ sig) → Buf (Elt Ideal) ℓ)

/-- An array with its first two axes as one. -/
abbrev flat (x : FVec Ideal S2x1024x1408 .f32) : FVec Ideal S2048x1408 .f32 := shapeCast _ x shapeCasts_S2x1024x1408_S2048x1408

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S128x1408 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel24Ideal.Value

/-- The kernel and the reference leave the same arrays. -/
theorem Cert.adam_w_ffn_in_algebraic : Cert.algebraic_Kernel24Ideal_Reference24Ideal := by
  intro m g m' g' hp hm
  refine ⟨_, _, _, (θ_run _ _ _).mono (fun r h c => h c) (Cert.Kernel24Ideal.Value.run_blocks m g), (θ_run _ _ _).mono (fun r h c => ?_) (Cert.Reference24Ideal.Value.run m' g')⟩
  obtain ⟨e0, e1, e2, e3⟩ := hm c
  obtain ⟨f4, f5, f6⟩ := Cert.Kernel24Ideal.Value.final m c
  obtain ⟨v0, v1, v2, v3⟩ := Cert.Kernel24Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.AdamWFfnOutValue.lean ====
/- The optimiser's step of the feed-forward output weights: what the kernel leaves is the reference's terms. -/
module

public import proofs.«01_k».proof.Defs
public import proofs.«01_k».proof.Proof.Gen.Kernel25Ideal.Value
public import proofs.«01_k».proof.Proof.Gen.Reference25Ideal.Run
public import proofs.«01_k».proof.Proof.Adam

@[expose] public section

set_option maxRecDepth 16384

noncomputable section

open Idealize.ShloMosaic Idealize.ShloMosaic.TcCoe Idealize.SL.Sem Cert.Adam

namespace Cert.Kernel25Ideal.Value

open Cert.Kernel25Ideal Cert.Kernel25Ideal.Gen

variable (m : (ℓ : Loc nD τ sig) → Buf (Elt Ideal) ℓ)

/-- An array with its first two axes as one. -/
abbrev flat (x : FVec Ideal S2x704x1024 .f32) : FVec Ideal S1408x1024 .f32 := shapeCast _ x shapeCasts_S2x704x1024_S1408x1024

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S176x1024 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel25Ideal.Value

/-- The kernel and the reference leave the same arrays. -/
theorem Cert.adam_w_ffn_out_algebraic : Cert.algebraic_Kernel25Ideal_Reference25Ideal := by
  intro m g m' g' hp hm
  refine ⟨_, _, _, (θ_run _ _ _).mono (fun r h c => h c) (Cert.Kernel25Ideal.Value.run_blocks m g), (θ_run _ _ _).mono (fun r h c => ?_) (Cert.Reference25Ideal.Value.run m' g')⟩
  obtain ⟨e0, e1, e2, e3⟩ := hm c
  obtain ⟨f4, f5, f6⟩ := Cert.Kernel25Ideal.Value.final m c
  obtain ⟨v0, v1, v2, v3⟩ := Cert.Kernel25Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.AdamLruConvValue.lean ====
/- The optimiser's step of the first branch's filter: what the kernel leaves is the reference's terms. -/
module

public import proofs.«01_k».proof.Defs
public import proofs.«01_k».proof.Proof.Gen.Kernel26Ideal.Value
public import proofs.«01_k».proof.Proof.Gen.Reference26Ideal.Run
public import proofs.«01_k».proof.Proof.Adam

@[expose] public section

set_option maxRecDepth 16384

noncomputable section

open Idealize.ShloMosaic Idealize.ShloMosaic.TcCoe Idealize.SL.Sem Cert.Adam

namespace Cert.Kernel26Ideal.Value

open Cert.Kernel26Ideal Cert.Kernel26Ideal.Gen

variable (m : (ℓ : Loc nD τ sig) → Buf (Elt Ideal) ℓ)

/-- An array with its first two axes as one. -/
abbrev flat (x : FVec Ideal S2x4x256 .f32) : FVec Ideal S8x256 .f32 := shapeCast _ x shapeCasts_S2x4x256_S8x256

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S8x256 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel26Ideal.Value

/-- The kernel and the reference leave the same arrays. -/
theorem Cert.adam_lru_conv_w_algebraic : Cert.algebraic_Kernel26Ideal_Reference26Ideal := by
  intro m g m' g' hp hm
  refine ⟨_, _, _, (θ_run _ _ _).mono (fun r h c => h c) (Cert.Kernel26Ideal.Value.run_blocks m g), (θ_run _ _ _).mono (fun r h c => ?_) (Cert.Reference26Ideal.Value.run m' g')⟩
  obtain ⟨e0, e1, e2, e3⟩ := hm c
  obtain ⟨f4, f5, f6⟩ := Cert.Kernel26Ideal.Value.final m c
  obtain ⟨v0, v1, v2, v3⟩ := Cert.Kernel26Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.LossHeadValue.lean ====
/- The loss head — the last norm, the squared error and its gradient: what the kernel leaves is the reference's term. -/
module

public import proofs.«01_k».proof.Defs
public import proofs.«01_k».proof.Proof.Gen.Pre_finite29
public import proofs.«01_k».proof.Proof.Gen.Kernel29Ideal.Value
public import proofs.«01_k».proof.Proof.Gen.Reference29Ideal.Run
public import proofs.«01_k».proof.Proof.RmsScalars
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Scalars

/-- The f32 word of two. -/
theorem two_word : Ideal.ofBits .f32 0x40000000#32 = ((2 : ℝ) : EReal) := by
  simp [Ideal.ofBits, Ideal.ieee]; rw [← EReal.coe_mul]; norm_num

/-- The f32 word of one over 1024. -/
theorem inv_word : Ideal.ofBits .f32 0x3A800000#32 = ((1 / 1024 : ℝ) : EReal) := by
  simp [Ideal.ofBits, Ideal.ieee]; rw [← EReal.coe_mul]; norm_num

/-- A product of two real numbers is a real number. -/
theorem real_mul {x y : EReal} (hx : ∃ r : ℝ, x = r) (hy : ∃ r : ℝ, y = r) : ∃ r : ℝ, x * y = r := by
  obtain ⟨x, rfl⟩ := hx
  obtain ⟨y, rfl⟩ := hy
  exact ⟨x * y, (EReal.coe_mul x y).symm⟩

/-- The difference of a normed row, scaled by the gain, and its target. -/
def rowErr {n : ℕ} (x g t : Fin n → EReal) (j : Fin n) : EReal := x j * Ideal.rsqrt (var x) * g j - t j

/-- The mean of the squared differences of a row. -/
def rowLoss {n : ℕ} (x g t : Fin n → EReal) : EReal :=
  Ideal.div (∑ j, rowErr x g t j * rowErr x g t j) (Ideal.ofBits .f32 0x44800000#32)

/-- The gradient of half a row's loss in the row that the norm leaves. -/
def rowGrad {n : ℕ} (x g t : Fin n → EReal) (j : Fin n) : EReal := rowErr x g t j * Ideal.ofBits .f32 0x3A800000#32

/-- The inverse root of a real row's mean square is a real number. -/
theorem real_rsqrt {n : ℕ} {x : Fin n → EReal} (hx : ∀ j, ∃ r : ℝ, x j = r) : ∃ r : ℝ, Ideal.rsqrt (var x) = r := by
  choose x' hx using hx
  obtain rfl : x = fun j => (x' j : EReal) := funext hx
  obtain ⟨v, hv, e⟩ := mean_sq x'
  exact ⟨_, (congrArg Ideal.rsqrt e).trans (rsqrt_pos hv)⟩

/-- The difference of real rows is a real number. -/
theorem real_err {n : ℕ} {x g t : Fin n → EReal} (hx : ∀ j, ∃ r : ℝ, x j = r) (hg : ∀ j, ∃ r : ℝ, g j = r) (ht : ∀ j, ∃ r : ℝ, t j = r)
    (j : Fin n) : ∃ r : ℝ, rowErr x g t j = r := by
  obtain ⟨a, ha⟩ := real_mul (real_mul (hx j) (real_rsqrt hx)) (hg j)
  obtain ⟨b, hb⟩ := ht j
  exact ⟨a - b, by rw [rowErr, ha, hb, EReal.coe_sub]⟩

/-- The loss of a real row is a real number. -/
theorem real_loss {n : ℕ} {x g t : Fin n → EReal} (hx : ∀ j, ∃ r : ℝ, x j = r) (hg : ∀ j, ∃ r : ℝ, g j = r) (ht : ∀ j, ∃ r : ℝ, t j = r) :
    ∃ r : ℝ, rowLoss x g t = r := by
  obtain ⟨a, ha⟩ := real_sum Finset.univ _ _ (real_err hx hg ht) (real_err hx hg ht)
  exact ⟨a * (1 / 1024), by rw [rowLoss, ha, word_1024, Ideal.div_coe (by norm_num), EReal.coe_mul]⟩

/-- The reference's spelling of a difference's gradient is the kernel's. -/
theorem grad_word (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [half_word, one_word, word_1024, two_word, inv_word, ← EReal.coe_mul, Ideal.div_coe (by norm_num), ← EReal.coe_mul, ← mul_assoc,
    ← EReal.coe_mul, mul_comm]
  norm_num

/-- One half times a sum of real numbers, summed block by block. -/
theorem half_sum {ι : Type} (s : Finset ι) (f : ι → EReal) (hf : ∀ i, ∃ r : ℝ, f i = r) :
    Ideal.ofBits .f32 0x3F000000#32 * ∑ i ∈ s, f i = ∑ i ∈ s, Ideal.ofBits .f32 0x3F000000#32 * f i := by
  choose a ha using hf
  obtain rfl : f = fun i => (a i : EReal) := funext ha
  simp only [half_word, ← EReal.coe_mul, coe_sum, Finset.mul_sum]

end Cert.Scalars

namespace Cert.Reference29Ideal.Value

open Cert.Reference29Ideal Cert.Reference29Ideal.Gen Cert.Scalars

variable (h : FVec Ideal S8192x1024 .f32) (g : FVec Ideal S1024 .f32) (t : FVec Ideal S8192x1024 .f32)

/-- One row of the norm's argument. -/
abbrev row (x : FVec Ideal S8192x1024 .f32) (r : Fin 8192) : Fin 1024 → EReal := fun j => x (ix2 r j)

/-- The gain as a row. -/
abbrev gain : Fin 1024 → EReal := fun j => g (ix1 j)

/-- The array the kernel leaves first: the loss of the rows, block after block, at every index. -/
def LOSS : FVec Ideal S8x128 .f32 := fun _ =>
  ∑ b : Fin 16, Ideal.ofBits .f32 0x3F000000#32 * ∑ q : Fin 512, rowLoss (row h ⟨512 * b + q, by omega⟩) (gain g) (row t ⟨512 * b + q, by omega⟩)

/-- What a row gives to the gain's gradient. -/
def part (r : Fin 8192) (k : Fin 1024) : EReal :=
  rowGrad (row h r) (gain g) (row t r) k * (h (ix2 r k) * Ideal.rsqrt (var (row h r)))

/-- The array the kernel leaves second: the gain's gradient in row 0, zeros below. -/
def DG : FVec Ideal S8x1024 .f32 := fun i => if (i 0).val = 0 then ∑ r : Fin 8192, part h g t r (i 1) else 0

/-- The array the kernel leaves third. -/
def DH : FVec Ideal S8192x1024 .f32 := fun i =>
  dxRow (row h (i 0)) (rowGrad (row h (i 0)) (gain g) (row t (i 0))) (gain g) 0 (i 1)

/-- The reference's mean squares. -/
abbrev msq : FVec Ideal S8192x1 .f32 :=
  addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference's normed rows. -/
abbrev xh : FVec Ideal S8192x1024 .f32 :=
  mulf h (broadcastInDim S8192x1024 ![0, 1] bcast_S8192x1_S8192x1024_0_1 (Host.rsqrt (msq h)))

/-- The reference's gain, repeated down the rows. -/
abbrev gains : FVec Ideal S8192x1024 .f32 :=
  broadcastInDim S8192x1024 ![0, 1] bcast_S1x1024_S8192x1024_0_1 (broadcastInDim S1x1024 ![1] bcast_S1024_S1x1024_1 g)

/-- The reference's differences. -/
abbrev err : FVec Ideal S8192x1024 .f32 := subf (mulf (xh h) (gains g)) t

/-- The reference's gradient of the normed rows. -/
abbrev dy : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (err h g t))

/-- The reference's first result. -/
abbrev REF0 : FVec Ideal S8x128 .f32 :=
  broadcastInDim S8x128 ![] bcast_S_S8x128 (mulf (constant S_ .f32 0x3F000000#32) (Host.reduceAdd (Host.divf (Host.reduceAdd (mulf (err h g t) (err h g t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

variable (d : FVec Ideal S8192x1024 .f32)

/-- The reference's second result, of the normed rows' gradient. -/
abbrev REF1 : FVec Ideal S8x1024 .f32 :=
  concatenate S8x1024 0 [⟨S1x1024, (shapeCast _ (Host.reduceAdd (shapeCast _ (Host.reduceAdd (mulf (xh h) d) (constant S_ .f32 0x00000000#32) reducesTo_S8192x1024_S1024_d0 h_S_) shapeCasts_S1024_S1x1024) (constant S_ .f32 0x00000000#32) reducesTo_S1x1024_S1024_d0 h_S_) shapeCasts_S1024_S1x1024)⟩, ⟨S7x1024, (broadcastInDim S7x1024 ![] bcast_S_S7x1024 (constant S_ .f32 0x00000000#32))⟩] concatenates_S1x1024_S7x1024_S8x1024_d0

/-- What the reference adds twice to its third result, as a column. -/
abbrev corr : FVec Ideal S8192x1024 .f32 :=
  broadcastInDim S8192x1024 ![0] bcast_S8192_S8192x1024_0 (Host.reduceAdd (Host.divf (mulf (shapeCast _ (Host.reduceAdd (mulf h (mulf d (gains g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msq h)) (msq h)))) (broadcastInDim S8192x1 ![] bcast_S_S8192x1 (constant S_ .f32 0x44800000#32))) (constant S_ .f32 0x00000000#32) reducesTo_S8192x1_S8192_d1 h_S_)

/-- The reference's third result, of the normed rows' gradient. -/
abbrev REF2 : FVec Ideal S8192x1024 .f32 :=
  addf (addf (mulf (mulf d (gains g)) (broadcastInDim S8192x1024 ![0, 1] bcast_S8192x1_S8192x1024_0_1 (Host.rsqrt (msq h)))) (mulf h (corr h g d))) (mulf (corr h g d) h)

/-- The reference's differences at an index. -/
theorem err_at (r : Fin 8192) (k : Fin 1024) : err h g t (ix2 r k) = rowErr (row h r) (gain g) (row t r) k := by
  pointwise []
  rfl

/-- The reference's gradient of the normed rows at an index. -/
theorem dy_at (r : Fin 8192) (k : Fin 1024) : dy h g t (ix2 r k) = rowGrad (row h r) (gain g) (row t r) k :=
  (grad_word _).trans (congrArg (· * Ideal.ofBits .f32 0x3A800000#32) (err_at h g t r k))

/-- The reference's first result is the array `LOSS`, on arrays of real numbers. -/
theorem ref_loss (h0 : Fins h) (h1 : Fins g) (h2 : Fins t) : REF0 h g t = LOSS h g t := by
  funext i
  have e : REF0 h g t i = Ideal.ofBits .f32 0x3F000000#32 * ∑ r : Fin 8192, rowLoss (row h r) (gain g) (row t r) := by
    pointwise []
    rfl
  have real : ∀ r : Fin 8192, ∃ x : ℝ, rowLoss (row h r) (gain g) (row t r) = x := fun r => real_loss (fun _ => h0 _) (fun _ => h1 _) (fun _ => h2 _)
  rw [e, half_sum _ _ real]
  refine Eq.symm (Eq.trans (Finset.sum_congr rfl fun b _ => half_sum Finset.univ
    (fun q : Fin 512 => rowLoss (row h ⟨512 * b + q, by omega⟩) (gain g) (row t ⟨512 * b + q, by omega⟩)) fun q => real _) ?_)
  exact Fin.sum_mul_add_congr (S := 16) (n := 512) (f := fun r => Ideal.ofBits .f32 0x3F000000#32 * rowLoss (row h r) (gain g) (row t r))
    fun s q hl => congrArg (fun r => Ideal.ofBits .f32 0x3F000000#32 * rowLoss (row h r) (gain g) (row t r)) (Fin.ext (congrArg (· + q.val) (Nat.mul_comm _ _)))

/-- The reference's second result is the array `DG`. -/
theorem ref_dg (ed : ∀ r k, d (ix2 r k) = rowGrad (row h r) (gain g) (row t r) k) : REF1 h d = DG h g t := by
  funext i
  obtain ⟨r, k, rfl⟩ : ∃ (r : Fin 8) (k : Fin 1024), i = ix2 r k := ⟨i 0, i 1, eq_ix2 i⟩
  by_cases hr : r.val = 0
  · obtain rfl : r = 0 := Fin.ext hr
    pointwise []
    rw [show DG h g t (ix2 0 k) = _ from if_pos rfl, Fin.sum_univ_one]
    refine Finset.sum_congr rfl fun x _ => ?_
    rw [ed, mul_comm]
    rfl
  · pointwise []
    rw [dif_neg (by omega)]
    exact (if_neg hr).symm

/-- The reference's third result is the array `DH`, on arrays of real numbers. -/
theorem ref_dh (h0 : Fins h) (h1 : Fins g) (h2 : Fins t) (ed : ∀ r k, d (ix2 r k) = rowGrad (row h r) (gain g) (row t r) k) :
    REF2 h g d = DH h g t := by
  funext i
  obtain ⟨r, k, rfl⟩ : ∃ (r : Fin 8192) (k : Fin 1024), i = ix2 r k := ⟨i 0, i 1, eq_ix2 i⟩
  have e2 := rms_row (row h r) (rowGrad (row h r) (gain g) (row t r)) (gain g) 0 (fun j => h0 _)
    (fun j => real_mul (real_err (fun _ => h0 _) (fun _ => h1 _) (fun _ => h2 _) j) ⟨_, inv_word⟩)
    (fun j => h1 _) ⟨0, rfl⟩ k _ rfl
  refine Eq.trans ?_ e2.symm
  simp only [← ed]
  pointwise []
  simp only [Fin.sum_univ_one, zero_add]

end Cert.Reference29Ideal.Value

namespace Cert.Kernel29Ideal.Value

open Cert.Kernel29Ideal Cert.Kernel29Ideal.Gen Cert.Scalars

variable (m : (ℓ : Loc nD τ sig) → Buf (Elt Ideal) ℓ)

/-- The last layer's output. -/
abbrev H (c : Dev nD) : FVec Ideal S8192x1024 .f32 := m ((c : Thread nD τ).loc main_arg0)

/-- The norm's gain. -/
abbrev G (c : Dev nD) : FVec Ideal S1024 .f32 := m ((c : Thread nD τ).loc main_arg1)

/-- The target. -/
abbrev T (c : Dev nD) : FVec Ideal S8192x1024 .f32 := m ((c : Thread nD τ).loc main_arg2)

/-- The zero fill of the loss. -/
theorem zero_loss (j : S8x128.Idx) : k0_pay3 (F := Ideal) j = 0 := by pointwise [k0_pay3]

/-- The zero fill of the gain's gradient. -/
theorem zero_dg (j : S8x1024.Idx) : k0_pay4 (F := Ideal) j = 0 := by pointwise [k0_pay4]

/-- One step of the loss. -/
theorem pay_loss (x : FVec Ideal S512x1024 .f32) (g : FVec Ideal S1x1024 .f32) (t : FVec Ideal S512x1024 .f32) (a : FVec Ideal S8x128 .f32)
    (r : Fin 8) (k : Fin 128) : k0_pay8 (F := Ideal) x g t a (ix2 r k) = a (ix2 r k) + Ideal.ofBits .f32 0x3F000000#32 *
      ∑ q : Fin 512, rowLoss (fun j : Fin 1024 => x (ix2 q j)) (fun j => g (ix2 0 j)) (fun j => t (ix2 q j)) := by
  pointwise [k0_pay5, k0_pay6, k0_pay7, k0_pay8]
  rfl

/-- One step of the gain's gradient. -/
theorem pay_dg (x : FVec Ideal S512x1024 .f32) (g : FVec Ideal S1x1024 .f32) (t : FVec Ideal S512x1024 .f32) (a : FVec Ideal S1x1024 .f32)
    (k : Fin 1024) : k0_pay1 (F := Ideal) (k0_pay6 x) (k0_pay9 x g t) a (ix2 (0 : Fin 1) k) = a (ix2 0 k) +
      ∑ q : Fin 512, rowGrad (fun j : Fin 1024 => x (ix2 q j)) (fun j => g (ix2 0 j)) (fun j => t (ix2 q j)) k
        * (x (ix2 q k) * Ideal.rsqrt (var fun j : Fin 1024 => x (ix2 q j))) := by
  pointwise [k0_pay1, k0_pay5, k0_pay6, k0_pay7, k0_pay9]
  rfl

/-- The third output's payload at an index. -/
theorem pay_dh (x : FVec Ideal S512x1024 .f32) (g : FVec Ideal S1x1024 .f32) (t : FVec Ideal S512x1024 .f32) (q : Fin 512) (k : Fin 1024) :
    k0_pay2 (F := Ideal) (k0_pay5 x) (k0_pay6 x) (k0_pay9 x g t) g (ix2 q k) =
      dxRow (fun j : Fin 1024 => x (ix2 q j)) (rowGrad (fun j : Fin 1024 => x (ix2 q j)) (fun j => g (ix2 0 j)) (fun j => t (ix2 q j))) (fun j => g (ix2 0 j)) 0 k := by
  rw [dxRow, zero_add]
  pointwise [k0_pay2, k0_pay5, k0_pay6, k0_pay7, k0_pay9]
  rfl

/-- The block indices of the six windows at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- A row of a point's block, as a row of the whole array. -/
abbrev at_ (t : Fin cfg0.N) (q : Fin 512) : Fin 8192 := ⟨512 * t.val + q, by have : t.val < 16 := t.isLt; omega⟩

/-- The rows of the last layer's output that a point reads. -/
theorem blk_h (c : Dev nD) (t : Fin cfg0.N) (q : Fin 512) :
    (fun j : Fin 1024 => (show FVec Ideal S512x1024 .f32 from iblk m c 0 t) (ix2 q j)) = Cert.Reference29Ideal.Value.row (H m c) (at_ t q) := by
  have ht : t.val < 16 := t.isLt
  funext j
  blk_point [iblk, V, idx t]

/-- The gain that a point reads. -/
theorem blk_g (c : Dev nD) (t : Fin cfg0.N) :
    (fun j : Fin 1024 => (show FVec Ideal S1x1024 .f32 from iblk m c 1 t) (ix2 0 j)) = Cert.Reference29Ideal.Value.gain (G m c) := by
  funext j
  blk_point [iblk, V, idx t]

/-- The rows of the target that a point reads. -/
theorem blk_t (c : Dev nD) (t : Fin cfg0.N) (q : Fin 512) :
    (fun j : Fin 1024 => (show FVec Ideal S512x1024 .f32 from iblk m c 2 t) (ix2 q j)) = Cert.Reference29Ideal.Value.row (T m c) (at_ t q) := by
  have ht : t.val < 16 := t.isLt
  funext j
  blk_point [iblk, V, idx t]

/-- What a point adds to the loss. -/
def incLoss (c : Dev nD) (t : Fin cfg0.N) : EReal := Ideal.ofBits .f32 0x3F000000#32 *
  ∑ q : Fin 512, rowLoss (Cert.Reference29Ideal.Value.row (H m c) (at_ t q)) (Cert.Reference29Ideal.Value.gain (G m c)) (Cert.Reference29Ideal.Value.row (T m c) (at_ t q))

/-- One step of the loss, in the arguments. -/
theorem step_loss (c : Dev nD) (t : Fin cfg0.N) (a : FVec Ideal S8x128 .f32) (j : S8x128.Idx) :
    k0_pay8 (F := Ideal) (iblk m c 0 t) (iblk m c 1 t) (iblk m c 2 t) a j = a j + incLoss m c t := by
  obtain ⟨r, k, rfl⟩ : ∃ (r : Fin 8) (k : Fin 128), j = ix2 r k := ⟨j 0, j 1, eq_ix2 j⟩
  refine (pay_loss _ _ _ _ r k).trans (congrArg (a (ix2 r k) + Ideal.ofBits .f32 0x3F000000#32 * ·) (Finset.sum_congr rfl fun q _ => ?_))
  rw [← blk_h m c t q, ← blk_g m c t, ← blk_t m c t q]

/-- The loss after the last point. -/
theorem loss_last (c : Dev nD) (t : Fin cfg0.N) (h : t.val + 1 = 16) (j : S8x128.Idx) :
    (outsAt0 m c t.val t.isLt).1 j = Cert.Reference29Ideal.Value.LOSS (H m c) (G m c) (T m c) j := by
  rw [Pipeline.eq_sum_fin_of_reset_step_apply_last (fun n h => (outsAt0 m c n h).1) 16 (fun _ => 0) (fun p _ => incLoss m c p)
    (fun p h0 j => by
      rw [outsAt0_A m c p h0]; dsimp only; frame_out; rw [step_loss, zero_loss])
    (fun p h0 j => by
      rw [outsAt0_B m c p h0]; dsimp only; frame_out; rw [step_loss]) (le_refl 16) t h j, zero_add]
  rfl

/-- What a point adds to the gain's gradient: one row. -/
def inc (c : Dev nD) (t : Fin cfg0.N) (j : S8x1024.Idx) : EReal :=
  if (j 0).val = 0 then ∑ q : Fin 512, Cert.Reference29Ideal.Value.part (H m c) (G m c) (T m c) (at_ t q) (j 1) else 0

/-- One step of the gain's gradient, in the arguments. -/
theorem step_dg (c : Dev nD) (t : Fin cfg0.N) (a : FVec Ideal S1x1024 .f32) (k : Fin 1024) :
    k0_pay1 (F := Ideal) (k0_pay6 (iblk m c 0 t)) (k0_pay9 (iblk m c 0 t) (iblk m c 1 t) (iblk m c 2 t)) a (ix2 (0 : Fin 1) k)
      = a (ix2 0 k) + inc m c t (ix2 (0 : Fin 8) k) := by
  refine (pay_dg _ _ _ a k).trans (congrArg (a (ix2 0 k) + ·) ?_)
  rw [show inc m c t (ix2 (0 : Fin 8) k) = _ from if_pos rfl]
  refine Finset.sum_congr rfl fun q _ => ?_
  show _ = rowGrad (Cert.Reference29Ideal.Value.row (H m c) (at_ t q)) (Cert.Reference29Ideal.Value.gain (G m c)) (Cert.Reference29Ideal.Value.row (T m c) (at_ t q)) k
    * (H m c (ix2 (at_ t q) k) * Ideal.rsqrt (var (Cert.Reference29Ideal.Value.row (H m c) (at_ t q))))
  rw [← blk_h m c t q, ← blk_g m c t, ← blk_t m c t q]
  exact congrArg (_ * ·) (congrArg (· * _) (congrFun (blk_h m c t q) k))

/-- What a point other than the first does to the gain's gradient. -/
theorem out4 (c : Dev nD) (t : Fin cfg0.N) (h0 : ¬t.val % 16 = 0) (j : S8x1024.Idx) :
    (outsAt0 m c t.val t.isLt).2.1 j = (outsAt0 m c (t.val - 1) (Nat.lt_of_le_of_lt (Nat.sub_le _ _) t.isLt)).2.1 j + inc m c t j := by
  obtain ⟨r, k, rfl⟩ : ∃ (r : Fin 8) (k : Fin 1024), j = ix2 r k := ⟨j 0, j 1, eq_ix2 j⟩
  rw [outsAt0_B m c t h0]; dsimp only; frame_out
  by_cases hr : r.val = 0
  · obtain rfl : r = 0 := Fin.ext hr
    refine Eq.trans (View.read_writes_cons_rows_of_mem (o := 0) _ _ inb_S8x1024_S1x1024_0_0 _ [] (ix2 (0 : Fin 8) k)
      (ix2 (0 : Fin 1) k) rfl rfl rfl) ?_
    refine (step_dg m c t _ k).trans (congrArg (· + _) ?_)
    exact View.ld_unit_apply_of _ _ _ _ _ (ix2 (0 : Fin 8) k) (Fin.forall_fin_two.mpr ⟨rfl, (Nat.zero_add _).symm⟩)
  · refine Eq.trans (View.read_writes_cons_rows_of_not_mem (o := 0) (W := 1) _ _ inb_S8x1024_S1x1024_0_0 _ [] (ix2 r k)
      rfl rfl (by right; show 0 + 1 ≤ r.val; omega)) ?_
    refine Eq.trans (congrFun (Memref.IsWhole.read_unread _ _) _) ?_
    exact (add_zero _).symm.trans (congrArg₂ (· + ·) rfl (if_neg hr).symm)

/-- What the first point's zero fill leaves, read back. -/
theorem fill (r : Fin 8) (k : Fin 1024) :
    View.canon [(⟨Rect.unit (s := S8x1024) ![0, 0] ![8, 1024] inb_S8x1024_S8x1024_0_0, k0_pay4 (F := Ideal)⟩ : View.Piece (Elt Ideal) S8x1024 .f32)] (ix2 r k) = 0 := by
  obtain e : (Rect.unit (s := S8x1024) ![0, 0] ![8, 1024] inb_S8x1024_S8x1024_0_0).emb (ix2 r k) = (ix2 r k : S8x1024.Idx) :=
    funext (Fin.forall_fin_two.mpr ⟨Fin.ext (by show 0 + 1 * r.val = r.val; omega), Fin.ext (by show 0 + 1 * k.val = k.val; omega)⟩)
  rw [← e, View.canon_cons_emb]
  exact zero_dg _

/-- What the first point leaves of the gain's gradient. -/
theorem out4_first (c : Dev nD) (t : Fin cfg0.N) (h0 : t.val % 16 = 0) (j : S8x1024.Idx) :
    (outsAt0 m c t.val t.isLt).2.1 j = 0 + inc m c t j := by
  obtain ⟨r, k, rfl⟩ : ∃ (r : Fin 8) (k : Fin 1024), j = ix2 r k := ⟨j 0, j 1, eq_ix2 j⟩
  have e : ∀ k : Fin 1024, (Rect.unit (s := S8x1024) ![0, 0] ![1, 1024] inb_S8x1024_S1x1024_0_0).emb (ix2 (0 : Fin 1) k) = (ix2 (0 : Fin 8) k : S8x1024.Idx) := fun k =>
    funext (Fin.forall_fin_two.mpr ⟨rfl, Fin.ext (by show 0 + 1 * k.val = k.val; omega)⟩)
  rw [outsAt0_A m c t h0]; dsimp only; frame_out
  by_cases hr : r.val = 0
  · obtain rfl : r = 0 := Fin.ext hr
    rw [← e k, View.canon_cons_emb, e k]
    refine (step_dg m c t _ k).trans (congrArg (· + _) ?_)
    refine Eq.trans (congrFun (View.readAt_writes_junk_eq_canon _ _ _) _) ?_
    exact (congrArg (View.canon _) (e k)).trans (fill 0 k)
  · refine Eq.trans (View.canon_cons_of_not_mem _ _ ?_) ?_
    · show (ix2 r k : S8x1024.Idx) ∉ (Rect.unit (s := S8x1024) ![0, 0] ![1, 1024] inb_S8x1024_S1x1024_0_0).set
      rw [Rect.mem_set_unit]
      intro hy
      have h1 : r.val < 0 + 1 := (hy 0).2
      omega
    · rw [inc, if_neg (show ¬((ix2 r k : S8x1024.Idx) 0).val = 0 from hr), add_zero]
      exact fill r k

/-- The gain's gradient after the last point. -/
theorem dg_last (c : Dev nD) (t : Fin cfg0.N) (h : t.val + 1 = 16) (j : S8x1024.Idx) :
    (outsAt0 m c t.val t.isLt).2.1 j = Cert.Reference29Ideal.Value.DG (H m c) (G m c) (T m c) j := by
  rw [Pipeline.eq_sum_fin_of_reset_step_apply_last (fun n h => (outsAt0 m c n h).2.1) 16 (fun _ => 0) (fun p j => inc m c p j)
    (fun p h0 j => out4_first m c p h0 j) (fun p h0 j => out4 m c p h0 j) (le_refl 16) t h j, zero_add]
  by_cases hr : (j 0).val = 0
  · refine Eq.trans ?_ (if_pos hr).symm
    simp only [inc, if_pos hr]
    exact Fin.sum_mul_add_congr (S := 16) (n := 512) (f := fun R => Cert.Reference29Ideal.Value.part (H m c) (G m c) (T m c) R (j 1))
      fun s q hl => congrArg (fun R => Cert.Reference29Ideal.Value.part (H m c) (G m c) (T m c) R (j 1)) (Fin.ext (congrArg (· + q.val) (Nat.mul_comm _ _)))
  · exact (Finset.sum_eq_zero fun p _ => if_neg hr).trans (if_neg hr).symm

/-- What a point leaves of the third output. -/
theorem point5 (c : Dev nD) (t : Fin cfg0.N) (j : S512x1024.Idx) :
    (outsAt0 m c t.val t.isLt).2.2 j = Cert.Reference29Ideal.Value.DH (H m c) (G m c) (T m c) (((cfg0.win 5).blk t).view.emb j) := by
  have ht : t.val < 16 := t.isLt
  obtain ⟨q, k, rfl⟩ : ∃ (q : Fin 512) (k : Fin 1024), j = ix2 q k := ⟨j 0, j 1, eq_ix2 j⟩
  have e : ((cfg0.win 5).blk t).view.emb (ix2 q k) = ix2 (at_ t q) k := by
    blk_ext [idx t] <;> omega
  have e5 : (outsAt0 m c t.val t.isLt).2.2 (ix2 q k) = k0_pay2 (F := Ideal) (k0_pay5 (iblk m c 0 t)) (k0_pay6 (iblk m c 0 t))
      (k0_pay9 (iblk m c 0 t) (iblk m c 1 t) (iblk m c 2 t)) (iblk m c 1 t) (ix2 q k) := by
    by_cases h0 : t.val % 16 = 0
    · rw [outsAt0_A m c t h0]; dsimp only; frame_out
    · rw [outsAt0_B m c t h0]; dsimp only; frame_out
  rw [e, e5]
  refine (pay_dh _ _ _ q k).trans ?_
  rw [blk_h m c t q, blk_g m c t, blk_t m c t q]
  rfl

/-- The loss's array after the run. -/
theorem loss_final (c : Dev nD) : (dats m 0 c).arrAt 3 cfg0.N = Cert.Reference29Ideal.Value.LOSS (H m c) (G m c) (T m c) := by
  refine (dats m 0 c).arrAt_eq_of_covers 3 _ (by decide +kernel) fun t hf y => ?_
  have ht : t.val < 16 := t.isLt
  have h15 : t.val + 1 = 16 := by have := (flush0_3 t).mp hf; omega
  blk_simp
  rw [after0_3]
  exact loss_last m c t h15 y

/-- The gain's gradient after the run. -/
theorem dg_final (c : Dev nD) : (dats m 0 c).arrAt 4 cfg0.N = Cert.Reference29Ideal.Value.DG (H m c) (G m c) (T m c) := by
  refine (dats m 0 c).arrAt_eq_of_covers 4 _ (by decide +kernel) fun t hf y => ?_
  have ht : t.val < 16 := t.isLt
  have h15 : t.val + 1 = 16 := by have := (flush0_4 t).mp hf; omega
  blk_simp
  rw [after0_4]
  have e : ((cfg0.win 4).blk t).view.emb y = y := by
    blk_ext [idx t] <;> omega
  rw [e]
  exact dg_last m c t h15 y

/-- The third output array after the run. -/
theorem dh_final (c : Dev nD) : (dats m 0 c).arrAt 5 cfg0.N = Cert.Reference29Ideal.Value.DH (H m c) (G m c) (T m c) := by
  refine (dats m 0 c).arrAt_eq_of_covers 5 _ (by decide +kernel) fun t hf y => ?_
  blk_simp
  rw [after0_5]
  exact point5 m c t y

/-- The precondition says every argument is an array of real numbers. -/
theorem fins_of_pre (h : Cert.Pre_Kernel29Ideal_finite29 m) (c : Dev nD) : Fins (H m c) ∧ Fins (G m c) ∧ Fins (T m c) := by
  obtain ⟨h0, h1, h2, h3, h4, h5⟩ := h c
  exact ⟨fun i => real_of_cmp top_word bot_word (congrFun h0 i) (congrFun h1 i), fun i => real_of_cmp top_word bot_word (congrFun h2 i) (congrFun h3 i),
    fun i => real_of_cmp top_word bot_word (congrFun h4 i) (congrFun h5 i)⟩

end Cert.Kernel29Ideal.Value

/-- The kernel and the reference leave the same three arrays. -/
theorem Cert.loss_head_algebraic : Cert.algebraic_Kernel29Ideal_Reference29Ideal_pre_finite29 := by
  intro m g m' g' hp hm
  refine ⟨fun c => Cert.Reference29Ideal.Value.LOSS (Cert.Kernel29Ideal.Value.H m c) (Cert.Kernel29Ideal.Value.G m c) (Cert.Kernel29Ideal.Value.T m c),
    fun c => Cert.Reference29Ideal.Value.DG (Cert.Kernel29Ideal.Value.H m c) (Cert.Kernel29Ideal.Value.G m c) (Cert.Kernel29Ideal.Value.T m c),
    fun c => Cert.Reference29Ideal.Value.DH (Cert.Kernel29Ideal.Value.H m c) (Cert.Kernel29Ideal.Value.G m c) (Cert.Kernel29Ideal.Value.T m c), ?_, ?_⟩
  · refine (θ_run _ _ _).mono (fun r h c => ?_) (Cert.Kernel29Ideal.Value.run_blocks m g)
    exact ⟨(h c).1.trans (Cert.Kernel29Ideal.Value.loss_final m c), (h c).2.1.trans (Cert.Kernel29Ideal.Value.dg_final m c),
      (h c).2.2.1.trans (Cert.Kernel29Ideal.Value.dh_final m c), (h c).2.2.2⟩
  · refine (θ_run _ _ _).mono (fun r h c => ?_) (Cert.Reference29Ideal.Value.run m' g')
    obtain ⟨h0, h1, h2⟩ := Cert.Kernel29Ideal.Value.fins_of_pre m hp c
    obtain ⟨e0, e1, e2⟩ := hm c
    refine ⟨(h c).1.trans ?_, (h c).2.1.trans ?_, (h c).2.2.1.trans ?_, (h c).2.2.2⟩
    · rw [e0, e1, e2]
      exact Cert.Reference29Ideal.Value.ref_loss _ _ _ h0 h1 h2
    · rw [e0, e1, e2]
      exact Cert.Reference29Ideal.Value.ref_dg _ _ _ _ (Cert.Reference29Ideal.Value.dy_at _ _ _)
    · rw [Cert.Reference29Ideal.Value.res_main_v50, e0, e1, e2]
      exact Cert.Reference29Ideal.Value.ref_dh _ _ _ _ h0 h1 h2 (Cert.Reference29Ideal.Value.dy_at _ _ _)
-- ==== Proof.AdamSsdConvValue.lean ====
/- The optimiser's step of the second branch's filter: what the kernel leaves is the reference's terms. -/
module

public import proofs.«01_k».proof.Defs
public import proofs.«01_k».proof.Proof.Gen.Kernel27Ideal.Value
public import proofs.«01_k».proof.Proof.Gen.Reference27Ideal.Run
public import proofs.«01_k».proof.Proof.Adam

@[expose] public section

set_option maxRecDepth 16384

noncomputable section

open Idealize.ShloMosaic Idealize.ShloMosaic.TcCoe Idealize.SL.Sem Cert.Adam

namespace Cert.Kernel27Ideal.Value

open Cert.Kernel27Ideal Cert.Kernel27Ideal.Gen

variable (m : (ℓ : Loc nD τ sig) → Buf (Elt Ideal) ℓ)

/-- An array with its first two axes as one. -/
abbrev flat (x : FVec Ideal S2x4x768 .f32) : FVec Ideal S8x768 .f32 := shapeCast _ x shapeCasts_S2x4x768_S8x768

/-- The region finds the four arguments flattened. -/
theorem entry (c : Dev nD) : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  unfold V
  refine ⟨?_, ?_, ?_, ?_⟩ <;> after_results_simp <;> rfl

/-- What a point leaves in the three result buffers, of its blocks. -/
theorem outs (w g m v : FVec Ideal S8x768 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final (c : Dev nD) : (dats m 0 c).arrAt 4 cfg0.N = updates (V m c main_v0) (V m c main_v1) (V m c main_v2) (V m c main_v3)
    ∧ (dats m 0 c).arrAt 5 cfg0.N = firsts (V m c main_v1) (V m c main_v2) ∧ (dats m 0 c).arrAt 6 cfg0.N = seconds (V m c main_v1) (V m c main_v3) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

end Cert.Kernel27Ideal.Value

/-- The kernel and the reference leave the same arrays. -/
theorem Cert.adam_ssd_conv_w_algebraic : Cert.algebraic_Kernel27Ideal_Reference27Ideal := by
  intro m g m' g' hp hm
  refine ⟨_, _, _, (θ_run _ _ _).mono (fun r h c => h c) (Cert.Kernel27Ideal.Value.run_blocks m g), (θ_run _ _ _).mono (fun r h c => ?_) (Cert.Reference27Ideal.Value.run m' g')⟩
  obtain ⟨e0, e1, e2, e3⟩ := hm c
  obtain ⟨f4, f5, f6⟩ := Cert.Kernel27Ideal.Value.final m c
  obtain ⟨v0, v1, v2, v3⟩ := Cert.Kernel27Ideal.Value.entry m c
  obtain ⟨h4, h5, h6, hk⟩ := h c
  refine ⟨h4.trans ?_, h5.trans ?_, h6.trans ?_, hk⟩
  · rw [e0, e1, e2, e3]; refine Eq.trans ?_ f4.symm; rw [v0, v1, v2, v3]; rfl
  · rw [e1, e2]; refine Eq.trans ?_ f5.symm; rw [v1, v2]; rfl
  · rw [e1, e3]; refine Eq.trans ?_ f6.symm; rw [v1, v3]; rfl
-- ==== Proof.Packed.lean ====
/- Arrays laid end to end and filled out with zeros: an element's function commutes with the layout. -/
module

public import Idealize.ShloMosaic.Lib.Pipeline.ValueKit
public import Idealize.ShloMosaic.Lib.Pointwise.SelectCore
public import proofs.«01_k».proof.Proof.Adam

@[expose] public section

noncomputable section

namespace Cert.Packed

open Idealize.ShloMosaic

variable {α β : Type} {t : Shape}

/-- A piece with a function applied to each element. -/
abbrev through (f : α → β) (p : (s : Shape) × (s.Idx → α)) : (s : Shape) × (s.Idx → β) := ⟨p.1, fun i => f (p.2 i)⟩

/-- Pieces read at a position: a function applied to each element comes out. -/
theorem concatenateAt_map (f : α → β) (a : Fin t.rank) (j : t.Idx) : ∀ (xs : List ((s : Shape) × (s.Idx → α))) (hs : ∀ s ∈ xs.map (·.1), s.FitsOff t a)
    (hs' : ∀ s ∈ (xs.map (through f)).map (·.1), s.FitsOff t a) (c : ℕ) (hc : c < (axisSizes t a xs).sum) (hc' : c < (axisSizes t a (xs.map (through f))).sum),
    concatenateAt t a j (xs.map (through f)) hs' c hc' = f (concatenateAt t a j xs hs c hc)
  | [], _, _, _, hc, _ => absurd hc (Nat.not_lt_zero _)
  | [_], _, _, _, _, _ => rfl
  | p :: q :: xs, hs, hs', c, hc, hc' => by
    simp only [List.map_cons, concatenateAt]
    split
    · rfl
    · exact concatenateAt_map f a j (q :: xs) _ _ _ _ _

/-- Pieces laid end to end: a function applied to each element comes out. -/
theorem concatenate_map (f : α → β) (a : Fin t.rank) (xs : List ((s : Shape) × (s.Idx → α))) (h : Shape.Concatenates (xs.map (·.1)) t a)
    (h' : Shape.Concatenates ((xs.map (through f)).map (·.1)) t a) : concatenate t a (xs.map (through f)) h' = fun j => f (concatenate t a xs h j) :=
  funext fun j => (concatenate_apply t a _ h' j).trans ((concatenateAt_map f a j xs _ _ _ _ _).trans (congrArg f (concatenate_apply t a _ h j).symm))

/-- An array filled out: a function applied to each element comes out, the filling's with them. -/
theorem pad_map {s : Shape} (f : α → β) (lo hi interior : Fin s.rank → ℕ) (x : s.Idx → α) {u : Shape} (v : u.Idx → α) (w : u.Idx → β) (e : ∀ i, w i = f (v i))
    (h : s.Pads lo hi interior t) (hu : 0 < u.numel) : pad t lo hi interior (fun i => f (x i)) w h hu = fun j => f (pad t lo hi interior x v h hu j) :=
  funext fun j => by unfold pad; split <;> [rfl; exact e _]

/-- What the optimiser keeps of an element: the weight, its gradient and the two moments. -/
abbrev Lane := Ideal .f32 × Ideal .f32 × Ideal .f32 × Ideal .f32

/-- The four arrays as one. -/
abbrev lanes {s : Shape} (w g m v : FVec Ideal s .f32) : s.Idx → Lane := fun i => (w i, g i, m i, v i)

/-- The element of the filling. -/
abbrev none : Lane := (0, 0, 0, 0)

/-- The weight of an element. -/
abbrev weight (x : Lane) : Ideal .f32 := x.1

/-- The gradient of an element. -/
abbrev slope (x : Lane) : Ideal .f32 := x.2.1

/-- The first moment of an element. -/
abbrev oldFirst (x : Lane) : Ideal .f32 := x.2.2.1

/-- The second moment of an element. -/
abbrev oldSecond (x : Lane) : Ideal .f32 := x.2.2.2

/-- An element's first moment after the step. -/
abbrev newFirst (x : Lane) : Ideal .f32 := Adam.first (slope x) (oldFirst x)

/-- An element's second moment after the step. -/
abbrev newSecond (x : Lane) : Ideal .f32 := Adam.second (slope x) (oldSecond x)

/-- An element's update. -/
abbrev newUpdate (x : Lane) : Ideal .f32 := Adam.update (weight x) (newFirst x) (newSecond x)

/-- A zero's first moment stays zero. -/
theorem newFirst_none : newFirst none = 0 := by
  show (_ * (0 : EReal) + _ * (0 : EReal) : EReal) = 0
  rw [mul_zero, mul_zero, add_zero]

/-- A zero's second moment stays zero. -/
theorem newSecond_none : newSecond none = 0 := by
  show (_ * (0 : EReal) + _ * ((0 : EReal) * 0) : EReal) = 0
  rw [mul_zero, mul_zero, mul_zero, add_zero]

/-- Zero divided by a number of the optimiser is zero. -/
theorem zero_div {x : EReal} (h : x ≠ 0) : Ideal.div 0 x = 0 := by
  simp [Ideal.div, h]

/-- A zero's update is zero. -/
theorem newUpdate_none : newUpdate none = 0 := by
  have h1 : Adam.num 0x3F26BD02#32 ≠ 0 := by simp [Ideal.ofBits, Ideal.ieee]
  have h2 : Adam.num 0x3C231ACC#32 ≠ 0 := by simp [Ideal.ofBits, Ideal.ieee]
  have h3 : Adam.num 0x322BCC77#32 ≠ 0 := by simp [Ideal.ofBits, Ideal.ieee]
  unfold newUpdate Adam.update
  rw [newFirst_none, newSecond_none]
  show (_ * (Ideal.div (Ideal.div 0 _) (Ideal.sqrt (Ideal.div 0 _) + _) + _ * (0 : EReal)) : EReal) = 0
  rw [zero_div h1, zero_div h2, show Ideal.sqrt 0 = 0 by simpa using Ideal.sqrt_coe (r := 0), zero_add, zero_div h3, mul_zero, add_zero, mul_zero]

end Cert.Packed
-- ==== Proof.AdamSmallValue.lean ====
/- The optimiser's step of the fifteen small parameters, laid end to end: what the kernel leaves is the reference's terms. -/
module

public import proofs.«01_k».proof.Defs
public import proofs.«01_k».proof.Proof.Gen.Kernel28Ideal.Value
public import proofs.«01_k».proof.Proof.Gen.Reference28Ideal.Run
public import proofs.«01_k».proof.Proof.Packed

@[expose] public section

set_option maxRecDepth 16384

noncomputable section

open Idealize.ShloMosaic Idealize.ShloMosaic.TcCoe Idealize.SL.Sem Cert.Adam Cert.Packed

namespace Cert.Kernel28Ideal.Value

open Cert.Kernel28Ideal Cert.Kernel28Ideal.Gen

/-- Pieces laid end to end, filled out and cut into rows. -/
def laid {α : Type} (z : α) (xs : List ((s : Shape) × (s.Idx → α))) (h : Shape.Concatenates (xs.map (·.1)) S289984 0) : S320x1024.Idx → α :=
  shapeCast _ (pad S327680 ![0] ![37696] ![0] (concatenate S289984 0 xs h) (fun _ : S_.Idx => z) pads_S289984_S327680_0376960 h_S_) shapeCasts_S327680_S320x1024

/-- A function applied to each element comes out of the layout. -/
theorem laid_map {α β : Type} (f : α → β) (z : α) (xs : List ((s : Shape) × (s.Idx → α))) (h : Shape.Concatenates (xs.map (·.1)) S289984 0)
    (h' : Shape.Concatenates ((xs.map (through f)).map (·.1)) S289984 0) : laid (f z) (xs.map (through f)) h' = fun i => f (laid z xs h i) := by
  unfold laid
  rw [concatenate_map f 0 xs h h', pad_map f _ _ _ _ (fun _ : S_.Idx => z) (fun _ => f z) fun _ => rfl]
  rfl

/-- The filling is zero. -/
theorem filling : (sitofp .f32 (constantI S_ 32 0#32) : FVec Ideal S_ .f32) = fun _ => 0 := by
  funext i
  show (((0#32).toInt : ℝ) : EReal) = 0
  simp

variable (m : (ℓ : Loc nD τ sig) → Buf (Elt Ideal) ℓ) (c : Dev nD)

/-- A parameter as one axis, its gradient and its moments with it. -/
abbrev part {s t : Shape} (h : s.ShapeCasts t) (w g m v : FVec Ideal s .f32) : (s : Shape) × (s.Idx → Lane) :=
  ⟨t, lanes (shapeCast t w h) (shapeCast t g h) (shapeCast t m h) (shapeCast t v h)⟩

/-- The fifteen parameters. -/
def parts : List ((s : Shape) × (s.Idx → Lane)) :=
  let a (b : Ref sig .tc) := m ((c : Thread nD τ).loc b)
  [part shapeCasts_S2x1024_S2048 (a main_arg0) (a main_arg15) (a main_arg30) (a main_arg45),
    part shapeCasts_S2x2048_S4096 (a main_arg1) (a main_arg16) (a main_arg31) (a main_arg46),
    part shapeCasts_S2x1024_S2048 (a main_arg2) (a main_arg17) (a main_arg32) (a main_arg47),
    part shapeCasts_S2x16x64x64_S131072 (a main_arg3) (a main_arg18) (a main_arg33) (a main_arg48),
    part shapeCasts_S2x1024_S2048 (a main_arg4) (a main_arg19) (a main_arg34) (a main_arg49),
    part shapeCasts_S2x16x64x64_S131072 (a main_arg5) (a main_arg20) (a main_arg35) (a main_arg50),
    part shapeCasts_S2x1024_S2048 (a main_arg6) (a main_arg21) (a main_arg36) (a main_arg51),
    part shapeCasts_S2x1024_S2048 (a main_arg7) (a main_arg22) (a main_arg37) (a main_arg52),
    part shapeCasts_S2x3072_S6144 (a main_arg8) (a main_arg23) (a main_arg38) (a main_arg53),
    part shapeCasts_S2x32_S64 (a main_arg9) (a main_arg24) (a main_arg39) (a main_arg54),
    part shapeCasts_S2x32_S64 (a main_arg10) (a main_arg25) (a main_arg40) (a main_arg55),
    part shapeCasts_S2x32_S64 (a main_arg11) (a main_arg26) (a main_arg41) (a main_arg56),
    part shapeCasts_S2x2048_S4096 (a main_arg12) (a main_arg27) (a main_arg42) (a main_arg57),
    part shapeCasts_S2x1024_S2048 (a main_arg13) (a main_arg28) (a main_arg43) (a main_arg58),
    ⟨S1024, lanes (a main_arg14) (a main_arg29) (a main_arg44) (a main_arg59)⟩]

/-- The parameters laid out fill the rows. -/
theorem fits : Shape.Concatenates ((parts m c).map (·.1)) S289984 0 :=
  concatenates_S2048_S4096_S2048_S131072_S2048_S131072_S2048_S2048_S6144_S64_S64_S64_S4096_S2048_S1024_S289984_d0

/-- The region finds the weights, the gradients and the moments laid out. -/
theorem entry : V m c main_v16 = laid (α := Ideal .f32) 0 ((parts m c).map (through weight)) (fits m c)
    ∧ V m c main_v33 = laid (α := Ideal .f32) 0 ((parts m c).map (through slope)) (fits m c)
    ∧ V m c main_v50 = laid (α := Ideal .f32) 0 ((parts m c).map (through oldFirst)) (fits m c)
    ∧ V m c main_v67 = laid (α := Ideal .f32) 0 ((parts m c).map (through oldSecond)) (fits m c) := by
  unfold V laid
  rw [← filling]
  simp only [List.flatten_cons, List.flatten_nil, List.append_nil, List.cons_append, List.nil_append]
  refine ⟨?_, ?_, ?_, ?_⟩ <;> after_results <;> rfl

/-- What a point leaves in the three result buffers, of its blocks. -/
theorem outs (w g m v : FVec Ideal S160x1024 .f32) :
    out0_4 (F := Ideal) w g m v = updates w g m v ∧ out0_5 (F := Ideal) w g m v = firsts g m ∧ out0_6 (F := Ideal) w g m v = seconds g v :=
  ⟨updates_stored w g m v _ _ _ (by decide), firsts_stored g m _ _ _ (by decide), seconds_stored g v _ _ _ (by decide)⟩

/-- The three result arrays after the run. -/
theorem final : (dats m 0 c).arrAt 4 cfg0.N = updates (V m c main_v16) (V m c main_v33) (V m c main_v50) (V m c main_v67)
    ∧ (dats m 0 c).arrAt 5 cfg0.N = firsts (V m c main_v33) (V m c main_v50) ∧ (dats m 0 c).arrAt 6 cfg0.N = seconds (V m c main_v33) (V m c main_v67) :=
  ⟨(dats m 0 c).arrAt_eq_of_covers 4 _ (by decide +kernel) fun t _ y => by
      blk_simp; rw [after0_4, (outs _ _ _ _).1]; unfold updates; rfl,
    (dats m 0 c).arrAt_eq_of_covers 5 _ (by decide +kernel) fun t _ y => by
      blk_simp; rw [after0_5, (outs _ _ _ _).2.1]; unfold firsts; rfl,
    (dats m 0 c).arrAt_eq_of_covers 6 _ (by decide +kernel) fun t _ y => by
      blk_simp; rw [after0_6, (outs _ _ _ _).2.2]; unfold seconds; rfl⟩

/-- Laid out, an element's function of zero zero: the elements laid out first, then the function. -/
theorem laid_of (f : Lane → Ideal .f32) (e : f none = 0) : laid (α := Ideal .f32) 0 ((parts m c).map (through f)) (fits m c) = fun i => f (laid none (parts m c) (fits m c) i) := by
  rw [← e]; exact laid_map f none _ _ _

/-- The three result arrays are each parameter's own step, laid out. -/
theorem each (xs : List ((s : Shape) × (s.Idx → Lane))) (e : parts m c = xs) (fit4 fit5 fit6) :
    (dats m 0 c).arrAt 4 cfg0.N = laid (α := Ideal .f32) 0 (xs.map (through newUpdate)) fit4
    ∧ (dats m 0 c).arrAt 5 cfg0.N = laid (α := Ideal .f32) 0 (xs.map (through newFirst)) fit5
    ∧ (dats m 0 c).arrAt 6 cfg0.N = laid (α := Ideal .f32) 0 (xs.map (through newSecond)) fit6 := by
  subst e
  obtain ⟨f4, f5, f6⟩ := final m c
  obtain ⟨v0, v1, v2, v3⟩ := entry m c
  rw [laid_of m c weight rfl] at v0
  rw [laid_of m c slope rfl] at v1
  rw [laid_of m c oldFirst rfl] at v2
  rw [laid_of m c oldSecond rfl] at v3
  rw [laid_of m c newUpdate newUpdate_none, laid_of m c newFirst newFirst_none, laid_of m c newSecond newSecond_none]
  refine ⟨f4.trans ?_, f5.trans ?_, f6.trans ?_⟩
  · rw [v0, v1, v2, v3]; rfl
  · rw [v1, v2]; rfl
  · rw [v1, v3]; rfl

end Cert.Kernel28Ideal.Value

/-- The kernel and the reference leave the same arrays. -/
theorem Cert.adam_small_algebraic : Cert.algebraic_Kernel28Ideal_Reference28Ideal := by
  intro m g m' g' hp hm
  refine ⟨_, _, _, (θ_run _ _ _).mono (fun r h c => h c) (Cert.Kernel28Ideal.Value.run_blocks m g), (θ_run _ _ _).mono (fun r h c => ?_) (Cert.Reference28Ideal.Value.run m' g')⟩
  obtain ⟨h4, h5, h6, hk⟩ := h c
  obtain ⟨xs, e⟩ : ∃ xs, Cert.Kernel28Ideal.Value.parts m c = xs := ⟨_, rfl⟩
  have step := Cert.Kernel28Ideal.Value.each m c xs e
  unfold Cert.Kernel28Ideal.Value.parts at e
  simp only [← hm c] at e
  subst e
  have fit := Cert.Kernel28Ideal.Gen.concatenates_S2048_S4096_S2048_S131072_S2048_S131072_S2048_S2048_S6144_S64_S64_S64_S4096_S2048_S1024_S289984_d0
  obtain ⟨g4, g5, g6⟩ := step fit fit fit
  unfold Cert.Kernel28Ideal.Value.laid at g4 g5 g6
  rw [← Cert.Kernel28Ideal.Value.filling] at g4 g5 g6
  exact ⟨h4.trans (Eq.trans rfl g4.symm), h5.trans (Eq.trans rfl g5.symm), h6.trans (Eq.trans rfl g6.symm), hk⟩
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal.Run
public import proofs.«01_k».proof.Proof.Gen.Reference9Ideal
public import proofs.«01_k».proof.Proof.FfnValue
public import proofs.«01_k».proof.Proof.RmsValue
public import proofs.«01_k».proof.Proof.RmsFfnValue
public import proofs.«01_k».proof.Proof.BranchBValue
public import proofs.«01_k».proof.Proof.BranchAValue
public import proofs.«01_k».proof.Proof.GateValue
public import proofs.«01_k».proof.Proof.SwigluValue
public import proofs.«01_k».proof.Proof.OutProjValue
public import proofs.«01_k».proof.Proof.MergeValue
public import proofs.«01_k».proof.Proof.NormProjFrame
public import proofs.«01_k».proof.Proof.NormProjFrameIdeal
public import proofs.«01_k».proof.Proof.NormFfnFrame
public import proofs.«01_k».proof.Proof.NormFfnFrameIdeal
public import proofs.«01_k».proof.Proof.NormProjValue
public import proofs.«01_k».proof.Proof.Gen.Kernel13
public import proofs.«01_k».proof.Proof.Gen.Kernel13.Skeleton
public import proofs.«01_k».proof.Proof.Gen.Kernel13.Launch
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel20Ideal.Value
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.NormFfnValue
public import proofs.«01_k».proof.Proof.OutProjGradFrame
public import proofs.«01_k».proof.Proof.OutProjGradFrameIdeal
public import proofs.«01_k».proof.Proof.OutProjGradValue
public import proofs.«01_k».proof.Proof.BranchAGradFrame
public import proofs.«01_k».proof.Proof.BranchAGradFrameIdeal
public import proofs.«01_k».proof.Proof.BranchAGradValue
public import proofs.«01_k».proof.Proof.BranchBGradFrame
public import proofs.«01_k».proof.Proof.BranchBGradFrameIdeal
public import proofs.«01_k».proof.Proof.BranchBGradValue
public import proofs.«01_k».proof.Proof.DtProjGradFrame
public import proofs.«01_k».proof.Proof.DtProjGradFrameIdeal
public import proofs.«01_k».proof.Proof.DtProjGradValue
public import proofs.«01_k».proof.Proof.DtProjValue
public import proofs.«01_k».proof.Proof.FfnInGradFrame
public import proofs.«01_k».proof.Proof.FfnInGradFrameIdeal
public import proofs.«01_k».proof.Proof.FfnInGradValue
public import proofs.«01_k».proof.Proof.FfnOutGradFrame
public import proofs.«01_k».proof.Proof.FfnOutGradFrameIdeal
public import proofs.«01_k».proof.Proof.FfnOutGradValue
public import proofs.«01_k».proof.Proof.InProjGradFrame
public import proofs.«01_k».proof.Proof.InProjGradFrameIdeal
public import proofs.«01_k».proof.Proof.InProjGradValue
public import Idealize.ShloMosaic.Lib.Claim
public import Idealize.ShloMosaic.Lib.Quiescent
public import Idealize.ShloMosaic.Adequacy
public import Idealize.ShloMosaic.Init
public import proofs.«01_k».proof.Proof.AdamWInValue
public import proofs.«01_k».proof.Proof.AdamWBranchValue
public import proofs.«01_k».proof.Proof.AdamWOutValue
public import proofs.«01_k».proof.Proof.AdamWFfnInValue
public import proofs.«01_k».proof.Proof.AdamWFfnOutValue
public import proofs.«01_k».proof.Proof.AdamLruConvValue
public import proofs.«01_k».proof.Proof.Gen.Kernel29Ideal.Value
public import proofs.«01_k».proof.Proof.Gen.Reference29Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Pre_finite29
public import proofs.«01_k».proof.Proof.LossHeadValue
public import proofs.«01_k».proof.Proof.AdamSsdConvValue
public import proofs.«01_k».proof.Proof.AdamSmallValue

@[expose] public section

noncomputable section

namespace Cert.Proof

open Idealize.ShloMosaic Idealize.SL.Sem Cert.Kernel

/-- The reference of the recurrence's gradient runs and leaves its arguments alone. -/
theorem lru_ref_frame : Cert.quiescent_ReferenceIdeal := fun m g _ =>
  (θ_run _ _ _).mono (fun r h => ⟨fun c => (h c).2.2.2.2.2.2.2.2.2, sem_eq_zero_of_no_sems (by decide) _⟩) (Cert.ReferenceIdeal.Value.run m g)

/-- The reference of the SwiGLU product's gradient runs and leaves its arguments alone. -/
theorem ffn_ref_frame : Cert.quiescent_Reference2Ideal := fun m g _ =>
  (θ_run _ _ _).mono (fun r h => ⟨fun c => (h c).2, sem_eq_zero_of_no_sems (by decide) _⟩) (Cert.Reference2Ideal.Value.run m g)

/-- The same, from a memory of real numbers. -/
theorem ffn_ref_frame_pre : Cert.quiescent_Reference2Ideal_pre_finite2 := fun m g _ => ffn_ref_frame m g trivial

/-- The reference of the normed projection's gradient runs and leaves its arguments alone. -/
theorem rms_ref_frame : Cert.quiescent_Reference3Ideal := fun m g _ =>
  (θ_run _ _ _).mono (fun r h => ⟨fun c => (h c).2.2, sem_eq_zero_of_no_sems (by decide) _⟩) (Cert.Reference3Ideal.Value.run m g)

/-- The same, from a memory of real numbers. -/
theorem rms_ref_frame_pre : Cert.quiescent_Reference3Ideal_pre_finite3 := fun m g _ => rms_ref_frame m g trivial

/-- The reference of the feed-forward input projection's gradient runs and leaves its arguments alone. -/
theorem rms_ffn_ref_frame : Cert.quiescent_Reference4Ideal := fun m g _ =>
  (θ_run _ _ _).mono (fun r h => ⟨fun c => (h c).2.2, sem_eq_zero_of_no_sems (by decide) _⟩) (Cert.Reference4Ideal.Value.run m g)

/-- The same, from a memory of real numbers. -/
theorem rms_ffn_ref_frame_pre : Cert.quiescent_Reference4Ideal_pre_finite4 := fun m g _ => rms_ffn_ref_frame m g trivial

/-- The reference of the loss head runs and leaves its arguments alone. -/
theorem loss_head_ref_frame : Cert.quiescent_Reference29Ideal := fun m g _ =>
  (θ_run _ _ _).mono (fun r h => ⟨fun c => (h c).2.2.2, sem_eq_zero_of_no_sems (by decide) _⟩) (Cert.Reference29Ideal.Value.run m g)

/-- The same, from a memory of real numbers. -/
theorem loss_head_ref_frame_pre : Cert.quiescent_Reference29Ideal_pre_finite29 := fun m g _ => loss_head_ref_frame m g trivial

/-- The reference of the second branch's input gradient runs and leaves its arguments alone. -/
theorem branch_b_ref_frame : Cert.quiescent_Reference5Ideal := fun m g _ =>
  (θ_run _ _ _).mono (fun r h => ⟨fun c => (h c).2, sem_eq_zero_of_no_sems (by decide) _⟩) (Cert.Reference5Ideal.Value.run m g)

/-- The reference of the first branch's input gradient runs and leaves its arguments alone. -/
theorem branch_a_ref_frame : Cert.quiescent_Reference6Ideal := fun m g _ =>
  (θ_run _ _ _).mono (fun r h => ⟨fun c => (h c).2, sem_eq_zero_of_no_sems (by decide) _⟩) (Cert.Reference6Ideal.Value.run m g)

/-- The reference of the gates' gradient runs and leaves its arguments alone. -/
theorem gate_ref_frame : Cert.quiescent_Reference7Ideal := fun m g _ =>
  (θ_run _ _ _).mono (fun r h => ⟨fun c => (h c).2.2.2, sem_eq_zero_of_no_sems (by decide) _⟩) (Cert.Reference7Ideal.Value.run m g)

/-- The reference of the SwiGLU product and the down projection runs and leaves its arguments alone. -/
theorem swiglu_ref_frame : Cert.quiescent_Reference10Ideal := fun m g _ =>
  (θ_run _ _ _).mono (fun r h => ⟨fun c => (h c).2.2, sem_eq_zero_of_no_sems (by decide) _⟩) (Cert.Reference10Ideal.Value.run m g)

/-- The reference of the output projection runs and leaves its arguments alone. -/
theorem out_proj_ref_frame : Cert.quiescent_Reference11Ideal := fun m g _ =>
  (θ_run _ _ _).mono (fun r h => ⟨fun c => (h c).2, sem_eq_zero_of_no_sems (by decide) _⟩) (Cert.Reference11Ideal.Value.run m g)

/-- The reference of the two branches and their gates runs and leaves its arguments alone. -/
theorem merge_ref_frame : Cert.quiescent_Reference12Ideal := fun m g _ =>
  (θ_run _ _ _).mono (fun r h => ⟨fun c => (h c).2.2.2, sem_eq_zero_of_no_sems (by decide) _⟩) (Cert.Reference12Ideal.Value.run m g)

/-- The frame of the reference of the norm and the input projection: it ends with its arguments unchanged and every counter at zero. -/
theorem norm_proj_ref_frame : Cert.quiescent_Reference8Ideal := fun m g _ =>
  (θ_run _ _ _).mono (fun r h => ⟨fun c => (h c).2.2, sem_eq_zero_of_no_sems (by decide) _⟩) (Cert.Reference8Ideal.Value.run m g)

/-- The frame of the reference of the norm and the feed-forward input product: it ends with its arguments unchanged and every counter at zero. -/
theorem norm_ffn_ref_frame : Cert.quiescent_Reference9Ideal := fun m g _ =>
  (θ_run _ _ _).mono (fun r h => ⟨fun c => (h c).2.2, sem_eq_zero_of_no_sems (by decide) _⟩) (Cert.Reference9Ideal.Value.run m g)

/-- The reference of the gradient of the feed-forward input weight runs to its end. -/
theorem ffn_in_grad_ref_frame : Cert.quiescent_Reference13Ideal := fun m g _ =>
  (θ_run _ _ _).mono (fun r h => ⟨fun c => (h c).2, sem_eq_zero_of_no_sems (by decide) _⟩) (Cert.Reference13Ideal.Value.run m g)

/-- The reference of the gradient of the feed-forward output weight runs to its end. -/
theorem ffn_out_grad_ref_frame : Cert.quiescent_Reference14Ideal := fun m g _ =>
  (θ_run _ _ _).mono (fun r h => ⟨fun c => (h c).2, sem_eq_zero_of_no_sems (by decide) _⟩) (Cert.Reference14Ideal.Value.run m g)

/-- The reference of the gradient of the input projection runs to its end. -/
theorem in_proj_grad_ref_frame : Cert.quiescent_Reference15Ideal := fun m g _ =>
  (θ_run _ _ _).mono (fun r h => ⟨fun c => (h c).2, sem_eq_zero_of_no_sems (by decide) _⟩) (Cert.Reference15Ideal.Value.run m g)

/-- The reference of the gradient of the output projection runs to its end. -/
theorem out_proj_grad_ref_frame : Cert.quiescent_Reference16Ideal := fun m g _ =>
  (θ_run _ _ _).mono (fun r h => ⟨fun c => (h c).2, sem_eq_zero_of_no_sems (by decide) _⟩) (Cert.Reference16Ideal.Value.run m g)

/-- The reference of the weight gradient of the first branch runs to its end. -/
theorem branch_a_grad_ref_frame : Cert.quiescent_Reference17Ideal := fun m g _ =>
  (θ_run _ _ _).mono (fun r h => ⟨fun c => (h c).2, sem_eq_zero_of_no_sems (by decide) _⟩) (Cert.Reference17Ideal.Value.run m g)

/-- The reference of the weight gradient of the second branch runs to its end. -/
theorem branch_b_grad_ref_frame : Cert.quiescent_Reference18Ideal := fun m g _ =>
  (θ_run _ _ _).mono (fun r h => ⟨fun c => (h c).2, sem_eq_zero_of_no_sems (by decide) _⟩) (Cert.Reference18Ideal.Value.run m g)

/-- The reference of the weight gradient of the time steps runs to its end. -/
theorem dt_proj_grad_ref_frame : Cert.quiescent_Reference19Ideal := fun m g _ =>
  (θ_run _ _ _).mono (fun r h => ⟨fun c => (h c).2, sem_eq_zero_of_no_sems (by decide) _⟩) (Cert.Reference19Ideal.Value.run m g)

/-- The reference of the time steps' projection runs to its end. -/
theorem dt_proj_ref_frame : Cert.quiescent_Reference20Ideal := fun m g _ =>
  (θ_run _ _ _).mono (fun r h => ⟨fun c => (h c).2, sem_eq_zero_of_no_sems (by decide) _⟩) (Cert.Reference20Ideal.Value.run m g)

/-- The reference of the optimiser's step of the input projection's weights runs to its end. -/
theorem adam_w_in_ref_frame : Cert.quiescent_Reference21Ideal := fun m g _ =>
  (θ_run _ _ _).mono (fun r h => ⟨fun c => (h c).2.2.2, sem_eq_zero_of_no_sems (by decide) _⟩) (Cert.Reference21Ideal.Value.run m g)

/-- The reference of the optimiser's step of the branches' weights runs to its end. -/
theorem adam_w_branch_ref_frame : Cert.quiescent_Reference22Ideal := fun m g _ =>
  (θ_run _ _ _).mono (fun r h => ⟨fun c => (h c).2.2.2, sem_eq_zero_of_no_sems (by decide) _⟩) (Cert.Reference22Ideal.Value.run m g)

/-- The reference of the optimiser's step of the output projection's weights runs to its end. -/
theorem adam_w_out_ref_frame : Cert.quiescent_Reference23Ideal := fun m g _ =>
  (θ_run _ _ _).mono (fun r h => ⟨fun c => (h c).2.2.2, sem_eq_zero_of_no_sems (by decide) _⟩) (Cert.Reference23Ideal.Value.run m g)

/-- The reference of the optimiser's step of the feed-forward input weights runs to its end. -/
theorem adam_w_ffn_in_ref_frame : Cert.quiescent_Reference24Ideal := fun m g _ =>
  (θ_run _ _ _).mono (fun r h => ⟨fun c => (h c).2.2.2, sem_eq_zero_of_no_sems (by decide) _⟩) (Cert.Reference24Ideal.Value.run m g)

/-- The reference of the optimiser's step of the feed-forward output weights runs to its end. -/
theorem adam_w_ffn_out_ref_frame : Cert.quiescent_Reference25Ideal := fun m g _ =>
  (θ_run _ _ _).mono (fun r h => ⟨fun c => (h c).2.2.2, sem_eq_zero_of_no_sems (by decide) _⟩) (Cert.Reference25Ideal.Value.run m g)

/-- The reference of the optimiser's step of the first branch's filter runs to its end. -/
theorem adam_lru_conv_w_ref_frame : Cert.quiescent_Reference26Ideal := fun m g _ =>
  (θ_run _ _ _).mono (fun r h => ⟨fun c => (h c).2.2.2, sem_eq_zero_of_no_sems (by decide) _⟩) (Cert.Reference26Ideal.Value.run m g)

/-- The reference of the optimiser's step of the second branch's filter runs to its end. -/
theorem adam_ssd_conv_w_ref_frame : Cert.quiescent_Reference27Ideal := fun m g _ =>
  (θ_run _ _ _).mono (fun r h => ⟨fun c => (h c).2.2.2, sem_eq_zero_of_no_sems (by decide) _⟩) (Cert.Reference27Ideal.Value.run m g)

/-- The reference of the optimiser's step of the fifteen small parameters runs to its end. -/
theorem adam_small_ref_frame : Cert.quiescent_Reference28Ideal := fun m g _ =>
  (θ_run _ _ _).mono (fun r h => ⟨fun c => (h c).2.2.2, sem_eq_zero_of_no_sems (by decide) _⟩) (Cert.Reference28Ideal.Value.run m g)

/-- Everything the certificate claims. -/
theorem claim : Cert.Claim := ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts,
    Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts,
    Cert.Kernel21.Gen.facts, Cert.Kernel21Ideal.Gen.facts, Cert.Reference21Ideal.Gen.facts, Cert.Kernel22.Gen.facts,
    Cert.Kernel22Ideal.Gen.facts, Cert.Reference22Ideal.Gen.facts, Cert.Kernel23.Gen.facts, Cert.Kernel23Ideal.Gen.facts,
    Cert.Reference23Ideal.Gen.facts, Cert.Kernel24.Gen.facts, Cert.Kernel24Ideal.Gen.facts, Cert.Reference24Ideal.Gen.facts,
    Cert.Kernel25.Gen.facts, Cert.Kernel25Ideal.Gen.facts, Cert.Reference25Ideal.Gen.facts, Cert.Kernel26.Gen.facts,
    Cert.Kernel26Ideal.Gen.facts, Cert.Reference26Ideal.Gen.facts, Cert.Kernel27.Gen.facts, Cert.Kernel27Ideal.Gen.facts,
    Cert.Reference27Ideal.Gen.facts, Cert.Kernel28.Gen.facts, Cert.Kernel28Ideal.Gen.facts, Cert.Reference28Ideal.Gen.facts,
    Cert.Kernel29.Gen.facts, Cert.Kernel29Ideal.Gen.facts, Cert.Reference29Ideal.Gen.facts, Cert.Pre_finite2.Gen.facts,
    Cert.Pre_finite3.Gen.facts, Cert.Pre_finite4.Gen.facts, Cert.Pre_finite29.Gen.facts,
  fun m ρ _ => Cert.Kernel.Gen.frame m ρ, fun m ρ _ => Cert.KernelIdeal.Gen.frame m ρ, lru_ref_frame,
  fun m ρ _ => Cert.Kernel2.Gen.frame m ρ, fun m ρ _ => Cert.Kernel2Ideal.Gen.frame m ρ,
  fun m ρ _ => Cert.Kernel2Ideal.Gen.frame m ρ, ffn_ref_frame, ffn_ref_frame_pre, fun m ρ _ => Cert.Kernel3.Gen.frame m ρ,
  fun m ρ _ => Cert.Kernel3Ideal.Gen.frame m ρ, fun m ρ _ => Cert.Kernel3Ideal.Gen.frame m ρ, rms_ref_frame, rms_ref_frame_pre,
  fun m ρ _ => Cert.Kernel4.Gen.frame m ρ, fun m ρ _ => Cert.Kernel4Ideal.Gen.frame m ρ,
  fun m ρ _ => Cert.Kernel4Ideal.Gen.frame m ρ, rms_ffn_ref_frame, rms_ffn_ref_frame_pre, fun m ρ _ => Cert.Kernel5.Gen.frame m ρ,
  fun m ρ _ => Cert.Kernel5Ideal.Gen.frame m ρ, branch_b_ref_frame, fun m ρ _ => Cert.Kernel6.Gen.frame m ρ,
  fun m ρ _ => Cert.Kernel6Ideal.Gen.frame m ρ, branch_a_ref_frame, fun m ρ _ => Cert.Kernel7.Gen.frame m ρ,
  fun m ρ _ => Cert.Kernel7Ideal.Gen.frame m ρ, gate_ref_frame, fun m ρ _ => Cert.Kernel8.Hand.frame m ρ,
  fun m ρ _ => Cert.Kernel8Ideal.Hand.frame m ρ, norm_proj_ref_frame, fun m ρ _ => Cert.Kernel9.Hand.frame m ρ,
  fun m ρ _ => Cert.Kernel9Ideal.Hand.frame m ρ, norm_ffn_ref_frame, fun m ρ _ => Cert.Kernel10.Gen.frame m ρ,
  fun m ρ _ => Cert.Kernel10Ideal.Gen.frame m ρ, swiglu_ref_frame, fun m ρ _ => Cert.Kernel11.Gen.frame m ρ,
  fun m ρ _ => Cert.Kernel11Ideal.Gen.frame m ρ, out_proj_ref_frame, fun m ρ _ => Cert.Kernel12.Gen.frame m ρ,
  fun m ρ _ => Cert.Kernel12Ideal.Gen.frame m ρ, merge_ref_frame, fun m ρ _ => Cert.Kernel13.Hand.frame m ρ,
  fun m ρ _ => Cert.Kernel13Ideal.Hand.frame m ρ, ffn_in_grad_ref_frame, fun m ρ _ => Cert.Kernel14.Hand.frame m ρ,
  fun m ρ _ => Cert.Kernel14Ideal.Hand.frame m ρ, ffn_out_grad_ref_frame, fun m ρ _ => Cert.Kernel15.Hand.frame m ρ,
  fun m ρ _ => Cert.Kernel15Ideal.Hand.frame m ρ, in_proj_grad_ref_frame, fun m ρ _ => Cert.Kernel16.Hand.frame m ρ,
  fun m ρ _ => Cert.Kernel16Ideal.Hand.frame m ρ, out_proj_grad_ref_frame, fun m ρ _ => Cert.Kernel17.Hand.frame m ρ,
  fun m ρ _ => Cert.Kernel17Ideal.Hand.frame m ρ, branch_a_grad_ref_frame, fun m ρ _ => Cert.Kernel18.Hand.frame m ρ,
  fun m ρ _ => Cert.Kernel18Ideal.Hand.frame m ρ, branch_b_grad_ref_frame, fun m ρ _ => Cert.Kernel19.Hand.frame m ρ,
  fun m ρ _ => Cert.Kernel19Ideal.Hand.frame m ρ, dt_proj_grad_ref_frame, fun m ρ _ => Cert.Kernel20.Gen.frame m ρ,
  fun m ρ _ => Cert.Kernel20Ideal.Gen.frame m ρ, dt_proj_ref_frame, fun m ρ _ => Cert.Kernel21.Gen.frame m ρ,
  fun m ρ _ => Cert.Kernel21Ideal.Gen.frame m ρ, adam_w_in_ref_frame, fun m ρ _ => Cert.Kernel22.Gen.frame m ρ,
  fun m ρ _ => Cert.Kernel22Ideal.Gen.frame m ρ, adam_w_branch_ref_frame, fun m ρ _ => Cert.Kernel23.Gen.frame m ρ,
  fun m ρ _ => Cert.Kernel23Ideal.Gen.frame m ρ, adam_w_out_ref_frame, fun m ρ _ => Cert.Kernel24.Gen.frame m ρ,
  fun m ρ _ => Cert.Kernel24Ideal.Gen.frame m ρ, adam_w_ffn_in_ref_frame, fun m ρ _ => Cert.Kernel25.Gen.frame m ρ,
  fun m ρ _ => Cert.Kernel25Ideal.Gen.frame m ρ, adam_w_ffn_out_ref_frame, fun m ρ _ => Cert.Kernel26.Gen.frame m ρ,
  fun m ρ _ => Cert.Kernel26Ideal.Gen.frame m ρ, adam_lru_conv_w_ref_frame, fun m ρ _ => Cert.Kernel27.Gen.frame m ρ,
  fun m ρ _ => Cert.Kernel27Ideal.Gen.frame m ρ, adam_ssd_conv_w_ref_frame, fun m ρ _ => Cert.Kernel28.Gen.frame m ρ,
  fun m ρ _ => Cert.Kernel28Ideal.Gen.frame m ρ, adam_small_ref_frame, fun m ρ _ => Cert.Kernel29.Gen.frame m ρ,
  fun m ρ _ => Cert.Kernel29Ideal.Gen.frame m ρ, fun m ρ _ => Cert.Kernel29Ideal.Gen.frame m ρ, loss_head_ref_frame,
  loss_head_ref_frame_pre, trivial, trivial, Cert.ffn_algebraic, trivial, Cert.rms_algebraic, trivial, Cert.rms_ffn_algebraic,
  trivial, Cert.branch_b_algebraic, trivial, Cert.branch_a_algebraic, trivial, Cert.gate_algebraic, trivial,
  Cert.norm_proj_algebraic, trivial, Cert.norm_ffn_algebraic, trivial, Cert.swiglu_algebraic, trivial, Cert.out_proj_algebraic,
  trivial, Cert.merge_algebraic, trivial, Cert.ffn_in_grad_algebraic, trivial, Cert.ffn_out_grad_algebraic, trivial,
  Cert.in_proj_grad_algebraic, trivial, Cert.out_proj_grad_algebraic, trivial, Cert.branch_a_grad_algebraic, trivial,
  Cert.branch_b_grad_algebraic, trivial, Cert.dt_proj_grad_algebraic, trivial, Cert.dt_proj_algebraic, trivial,
  Cert.adam_w_in_algebraic, trivial, Cert.adam_w_branch_algebraic, trivial, Cert.adam_w_out_algebraic, trivial,
  Cert.adam_w_ffn_in_algebraic, trivial, Cert.adam_w_ffn_out_algebraic, trivial, Cert.adam_lru_conv_w_algebraic, trivial,
  Cert.adam_ssd_conv_w_algebraic, trivial, Cert.adam_small_algebraic, trivial, Cert.loss_head_algebraic⟩

end Cert.Proof

end
